-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg_log2e" .f32 0xBFB8AA3B#32 ((-((Real.log 2)⁻¹) : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "neg_log2e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "neg_log2e" .f32 0xBFB8AA3B#32 ((-((Real.log 2)⁻¹) : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "log2e" .f32 0x3FB8AA3B#32 (((Real.log 2)⁻¹ : ℝ) : EReal)
  ∧ IdealRules.named_const.Statement Cert.Kernel9Ideal.κ "neg_log2e" .f32 0xBFB8AA3B#32 ((-((Real.log 2)⁻¹) : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v38_1)) (v1 : (c : Dev Cert.Kernel9Ideal.nD) → Buf (Elt Ideal) ((c.tc : Thread Cert.Kernel9Ideal.nD Cert.Kernel9Ideal.τ).loc Cert.Kernel9Ideal.main_v38_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v38_1) = v0 c
          ∧ r.2.mem ((c.tc : Thread Cert.Kernel9Ideal.nD Cert.Kernel9Ideal.τ).loc Cert.Kernel9Ideal.main_v38_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v13) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_v2) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_v21) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_v20) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  IdealRules.named_const.Statement Cert.Kernel16Ideal.κ "log2e" .f32 0x3FB8AA3B#32 (((Real.log 2)⁻¹ : ℝ) : EReal)
  ∧ IdealRules.named_const.Statement Cert.Kernel16Ideal.κ "neg_log2e" .f32 0xBFB8AA3B#32 ((-((Real.log 2)⁻¹) : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)) →
    ∃ (v0 : (c : Dev Cert.Kernel16Ideal.nD) → Buf (Elt Ideal) ((c.tc : Thread Cert.Kernel16Ideal.nD Cert.Kernel16Ideal.τ).loc Cert.Kernel16Ideal.main_v38_1)) (v1 : (c : Dev Cert.Kernel16Ideal.nD) → Buf (Elt Ideal) ((c.tc : Thread Cert.Kernel16Ideal.nD Cert.Kernel16Ideal.τ).loc Cert.Kernel16Ideal.main_v38_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v38_1) = v0 c
          ∧ r.2.mem ((c.tc : Thread Cert.Kernel16Ideal.nD Cert.Kernel16Ideal.τ).loc Cert.Kernel16Ideal.main_v38_2) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v3) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S4x4096x18432 : Shape := ⟨3, ![4, 4096, 18432]⟩
abbrev S4x4096x128 : Shape := ⟨3, ![4, 4096, 128]⟩
abbrev S1x8x8192 : Shape := ⟨3, ![1, 8, 8192]⟩
abbrev S1x8x2048 : Shape := ⟨3, ![1, 8, 2048]⟩
abbrev S1x8192x128 : Shape := ⟨3, ![1, 8192, 128]⟩
abbrev S2x4x8192x128 : Shape := ⟨4, ![2, 4, 8192, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S128x64 : Shape := ⟨2, ![128, 64]⟩
abbrev S4x8192 : Shape := ⟨2, ![4, 8192]⟩
abbrev S4x2048 : Shape := ⟨2, ![4, 2048]⟩
abbrev S2048 : Shape := ⟨1, ![2048]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S128x512 : Shape := ⟨2, ![128, 512]⟩
abbrev S1x8192 : Shape := ⟨2, ![1, 8192]⟩
abbrev S1x2048 : Shape := ⟨2, ![1, 2048]⟩
abbrev S4x4096x8192 : Shape := ⟨3, ![4, 4096, 8192]⟩
abbrev S4x8x8192 : Shape := ⟨3, ![4, 8, 8192]⟩
abbrev S4x8x2048 : Shape := ⟨3, ![4, 8, 2048]⟩
abbrev S1x128x8192 : Shape := ⟨3, ![1, 128, 8192]⟩
abbrev S1x128x2048 : Shape := ⟨3, ![1, 128, 2048]⟩
abbrev S1x128x128 : Shape := ⟨3, ![1, 128, 128]⟩
abbrev S1x1x8192x128 : Shape := ⟨4, ![1, 1, 8192, 128]⟩
abbrev S8x8192 : Shape := ⟨2, ![8, 8192]⟩
abbrev S8x2048 : Shape := ⟨2, ![8, 2048]⟩
abbrev S128x8192 : Shape := ⟨2, ![128, 8192]⟩
abbrev S128x2048 : Shape := ⟨2, ![128, 2048]⟩
abbrev S128x1024 : Shape := ⟨2, ![128, 1024]⟩
abbrev S8x1024 : Shape := ⟨2, ![8, 1024]⟩
abbrev S4x1024 : Shape := ⟨2, ![4, 1024]⟩
abbrev S1x1024 : Shape := ⟨2, ![1, 1024]⟩
abbrev S512x1024 : Shape := ⟨2, ![512, 1024]⟩
abbrev S120x1024 : Shape := ⟨2, ![120, 1024]⟩
abbrev S16x1024 : Shape := ⟨2, ![16, 1024]⟩
abbrev S1x128x512 : Shape := ⟨3, ![1, 128, 512]⟩
abbrev S8x512 : Shape := ⟨2, ![8, 512]⟩
abbrev S4x512 : Shape := ⟨2, ![4, 512]⟩
abbrev S1x512 : Shape := ⟨2, ![1, 512]⟩
abbrev S512x512 : Shape := ⟨2, ![512, 512]⟩
abbrev S120x512 : Shape := ⟨2, ![120, 512]⟩
abbrev S16x512 : Shape := ⟨2, ![16, 512]⟩
abbrev S128x256 : Shape := ⟨2, ![128, 256]⟩
abbrev S256x256 : Shape := ⟨2, ![256, 256]⟩
abbrev S256x128 : Shape := ⟨2, ![256, 128]⟩
abbrev S1x1x128x128 : Shape := ⟨4, ![1, 1, 128, 128]⟩

abbrev nBuf : Space → Nat
  | .hbm => 58
  | .vmem => 31
  | .smem => 0
  | _ => 0

abbrev bufTy : (tb : Table) → Fin (tcTables nBuf tb) → BufTy
  | .hbm, ⟨0, _⟩ => ⟨S4x4096x18432, .bf16⟩
  | .hbm, ⟨1, _⟩ => ⟨S4x4096x128, .f32⟩
  | .hbm, ⟨2, _⟩ => ⟨S1x8x8192, .f32⟩
  | .hbm, ⟨3, _⟩ => ⟨S1x8x2048, .f32⟩
  | .hbm, ⟨4, _⟩ => ⟨S1x8192x128, .f32⟩
  | .hbm, ⟨5, _⟩ => ⟨S2x4x8192x128, .f32⟩
  | .hbm, ⟨6, _⟩ => ⟨S4x10240, .f32⟩
  | .hbm, ⟨7, _⟩ => ⟨S10240, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S8192, .f32⟩
  | .hbm, ⟨12, _⟩ => ⟨S128x64, .f32⟩
  | .hbm, ⟨13, _⟩ => ⟨S8192, .f32⟩
  | .hbm, ⟨14, _⟩ => ⟨S4x8192, .f32⟩
  | .hbm, ⟨15, _⟩ => ⟨S4x2048, .f32⟩
  | .hbm, ⟨16, _⟩ => ⟨S8192, .f32⟩
  | .hbm, ⟨17, _⟩ => ⟨S2048, .f32⟩
  | .hbm, ⟨18, _⟩ => ⟨S128, .i32⟩
  | .hbm, ⟨19, _⟩ => ⟨S128x1, .i32⟩
  | .hbm, ⟨20, _⟩ => ⟨S128, .i32⟩
  | .hbm, ⟨21, _⟩ => ⟨S1x128, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x512, .i1⟩
  | .hbm, ⟨47, _⟩ => ⟨S128x512, .bf16⟩
  | .hbm, ⟨48, _⟩ => ⟨S1x8192, .f32⟩
  | .hbm, ⟨49, _⟩ => ⟨S1x2048, .f32⟩
  | .hbm, ⟨50, _⟩ => ⟨S1x128, .f32⟩
  | .hbm, ⟨51, _⟩ => ⟨S1x128, .f32⟩
  | .hbm, ⟨52, _⟩ => ⟨S1x8192, .f32⟩
  | .hbm, ⟨53, _⟩ => ⟨S1x8192, .f32⟩
  | .hbm, ⟨54, _⟩ => ⟨S4x4096x8192, .bf16⟩
  | .hbm, ⟨55, _⟩ => ⟨S4x8x8192, .f32⟩
  | .hbm, ⟨56, _⟩ => ⟨S4x8x2048, .f32⟩
  | .hbm, ⟨57, _⟩ => ⟨S2x4x8192x128, .f32⟩
  | .local _ .vmem, ⟨0, _⟩ => ⟨S1x128x8192, .bf16⟩
  | .local _ .vmem, ⟨1, _⟩ => ⟨S1x128x8192, .bf16⟩
  | .local _ .vmem, ⟨2, _⟩ => ⟨S1x128x8192, .bf16⟩
  | .local _ .vmem, ⟨3, _⟩ => ⟨S1x128x8192, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x128, .f32⟩
  | .local _ .vmem, ⟨7, _⟩ => ⟨S1x128x128, .f32⟩
  | .local _ .vmem, ⟨8, _⟩ => ⟨S1x8x8192, .f32⟩
  | .local _ .vmem, ⟨9, _⟩ => ⟨S1x8x2048, .f32⟩
  | .local _ .vmem, ⟨10, _⟩ => ⟨S1x8192x128, .f32⟩
  | .local _ .vmem, ⟨11, _⟩ => ⟨S128x512, .bf16⟩
  | .local _ .vmem, ⟨12, _⟩ => ⟨S4x8192, .f32⟩
  | .local _ .vmem, ⟨13, _⟩ => ⟨S4x2048, .f32⟩
  | .local _ .vmem, ⟨14, _⟩ => ⟨S1x8192, .f32⟩
  | .local _ .vmem, ⟨15, _⟩ => ⟨S1x2048, .f32⟩
  | .local _ .vmem, ⟨16, _⟩ => ⟨S1x128, .f32⟩
  | .local _ .vmem, ⟨17, _⟩ => ⟨S1x128, .f32⟩
  | .local _ .vmem, ⟨18, _⟩ => ⟨S1x8192, .f32⟩
  | .local _ .vmem, ⟨19, _⟩ => ⟨S1x8192, .f32⟩
  | .local _ .vmem, ⟨20, _⟩ => ⟨S1x128x8192, .bf16⟩
  | .local _ .vmem, ⟨21, _⟩ => ⟨S1x128x8192, .bf16⟩
  | .local _ .vmem, ⟨22, _⟩ => ⟨S1x8x8192, .f32⟩
  | .local _ .vmem, ⟨23, _⟩ => ⟨S1x8x8192, .f32⟩
  | .local _ .vmem, ⟨24, _⟩ => ⟨S1x8x2048, .f32⟩
  | .local _ .vmem, ⟨25, _⟩ => ⟨S1x8x2048, .f32⟩
  | .local _ .vmem, ⟨26, _⟩ => ⟨S1x1x8192x128, .f32⟩
  | .local _ .vmem, ⟨27, _⟩ => ⟨S1x1x8192x128, .f32⟩
  | .local _ .vmem, ⟨28, _⟩ => ⟨S8x8192, .f32⟩
  | .local _ .vmem, ⟨29, _⟩ => ⟨S8x2048, .f32⟩
  | .local _ .vmem, ⟨30, _⟩ => ⟨S128x8192, .f32⟩
  | _, _ => ⟨S4x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev main_v38_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v5609 : BitVec 1 := Scalar.cmpi .eq arg1 c31_i32
  let v5610 : BitVec 32 := Scalar.extui v5609
  let c0_i32_1193 : BitVec 32 := 0#32
  let v5611 : BitVec 1 := Scalar.cmpi .ne v5610 c0_i32_1193
  v5611

def k0_cond3 (i : grid0.Coords) : BitVec 1 :=
  let arg1 : BitVec 32 := BitVec.ofNat 32 (i 1).val
  let c31_i32 : BitVec 32 := 31#32
  let v5609 : BitVec 1 := Scalar.cmpi .eq arg1 c31_i32
  let v5612 : BitVec 32 := Scalar.extui v5609
  let c0_i32_1194 : BitVec 32 := 0#32
  let v5613 : BitVec 1 := Scalar.cmpi .ne v5612 c0_i32_1194
  v5613

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x8x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x8192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x128x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x8192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x8192x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S4x4096x18432 : Shape := ⟨3, ![4, 4096, 18432]⟩
abbrev S4x4096x128 : Shape := ⟨3, ![4, 4096, 128]⟩
abbrev S1x8x8192 : Shape := ⟨3, ![1, 8, 8192]⟩
abbrev S1x8x2048 : Shape := ⟨3, ![1, 8, 2048]⟩
abbrev S1x8192x128 : Shape := ⟨3, ![1, 8192, 128]⟩
abbrev S2x4x8192x128 : Shape := ⟨4, ![2, 4, 8192, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S4x4096x8192 : Shape := ⟨3, ![4, 4096, 8192]⟩
abbrev S4x4096x10240 : Shape := ⟨3, ![4, 4096, 10240]⟩
abbrev S1x3x8192 : Shape := ⟨3, ![1, 3, 8192]⟩
abbrev S1x3x2048 : Shape := ⟨3, ![1, 3, 2048]⟩
abbrev S1x3x10240 : Shape := ⟨3, ![1, 3, 10240]⟩
abbrev S4x3x10240 : Shape := ⟨3, ![4, 3, 10240]⟩
abbrev S4x4099x10240 : Shape := ⟨3, ![4, 4099, 10240]⟩
abbrev S1x10240 : Shape := ⟨2, ![1, 10240]⟩
abbrev S1x1x10240 : Shape := ⟨3, ![1, 1, 10240]⟩
abbrev S_ : Shape := ⟨0, ![]⟩
abbrev S4x4096x8x16x64 : Shape := ⟨5, ![4, 4096, 8, 16, 64]⟩
abbrev S4x4096x1024 : Shape := ⟨3, ![4, 4096, 1024]⟩
abbrev S4x4096x8x128 : Shape := ⟨4, ![4, 4096, 8, 128]⟩
abbrev S1x1x128 : Shape := ⟨3, ![1, 1, 128]⟩
abbrev S4x4096x8x16 : Shape := ⟨4, ![4, 4096, 8, 16]⟩
abbrev S4x4096x8x16x1 : Shape := ⟨5, ![4, 4096, 8, 16, 1]⟩
abbrev S1x8x16x64x128 : Shape := ⟨5, ![1, 8, 16, 64, 128]⟩
abbrev S4x8x16x64x128 : Shape := ⟨5, ![4, 8, 16, 64, 128]⟩
abbrev S4x4096x8x1024 : Shape := ⟨4, ![4, 4096, 8, 1024]⟩
abbrev S4096x4x8x16x64 : Shape := ⟨5, ![4096, 4, 8, 16, 64]⟩
abbrev S4096x4x8x16 : Shape := ⟨4, ![4096, 4, 8, 16]⟩
abbrev S4096x4x8x128 : Shape := ⟨4, ![4096, 4, 8, 128]⟩
abbrev S4096x4x8x1024 : Shape := ⟨4, ![4096, 4, 8, 1024]⟩
abbrev S4096x4x8192 : Shape := ⟨3, ![4096, 4, 8192]⟩
abbrev S1x4x8x16x64 : Shape := ⟨5, ![1, 4, 8, 16, 64]⟩
abbrev S4x8x16x64 : Shape := ⟨4, ![4, 8, 16, 64]⟩
abbrev S1x4x8x16 : Shape := ⟨4, ![1, 4, 8, 16]⟩
abbrev S4x8x16 : Shape := ⟨3, ![4, 8, 16]⟩
abbrev S1x4x8x128 : Shape := ⟨4, ![1, 4, 8, 128]⟩
abbrev S4x8x128 : Shape := ⟨3, ![4, 8, 128]⟩
abbrev S1x4x8x1024 : Shape := ⟨4, ![1, 4, 8, 1024]⟩
abbrev S4x8x1024 : Shape := ⟨3, ![4, 8, 1024]⟩
abbrev S4x8x16x1x1 : Shape := ⟨5, ![4, 8, 16, 1, 1]⟩
abbrev S4x8x16x64x1 : Shape := ⟨5, ![4, 8, 16, 64, 1]⟩
abbrev S4x8x1x1x128 : Shape := ⟨5, ![4, 8, 1, 1, 128]⟩
abbrev S8x16x1 : Shape := ⟨3, ![8, 16, 1]⟩
abbrev S1x8x16x1 : Shape := ⟨4, ![1, 8, 16, 1]⟩
abbrev S4x8 : Shape := ⟨2, ![4, 8]⟩
abbrev S4x8x1 : Shape := ⟨3, ![4, 8, 1]⟩
abbrev S4x8192 : Shape := ⟨2, ![4, 8192]⟩
abbrev S1x8192 : Shape := ⟨2, ![1, 8192]⟩
abbrev S1x4x8192 : Shape := ⟨3, ![1, 4, 8192]⟩
abbrev S4x8x10240 : Shape := ⟨3, ![4, 8, 10240]⟩
abbrev S1x4x8192x128 : Shape := ⟨4, ![1, 4, 8192, 128]⟩
abbrev S4x8x8192 : Shape := ⟨3, ![4, 8, 8192]⟩
abbrev S4x8x2048 : Shape := ⟨3, ![4, 8, 2048]⟩

abbrev nBuf : Space → Nat
  | .hbm => 212
  | .vmem => 0
  | .smem => 0
  | _ => 0

abbrev hbmTy0_0 (i : Nat) : BufTy := match i % 128 with
  | 0 => ⟨S4x4096x18432, .bf16⟩
  | 1 => ⟨S4x4096x128, .f32⟩
  | 2 => ⟨S1x8x8192, .f32⟩
  | 3 => ⟨S1x8x2048, .f32⟩
  | 4 => ⟨S1x8192x128, .f32⟩
  | 5 => ⟨S2x4x8192x128, .f32⟩
  | 6 => ⟨S4x10240, .f32⟩
  | 7 => ⟨S10240, .f32⟩
  | 8 => ⟨S128, .f32⟩
  | 9 => ⟨S128, .f32⟩
  | 10 => ⟨S128, .f32⟩
  | 11 => ⟨S8192, .f32⟩
  | 12 => ⟨S4x4096x18432, .f32⟩
  | 13 => ⟨S4x4096x8192, .f32⟩
  | 14 => ⟨S4x4096x10240, .f32⟩
  | 15 => ⟨S1x3x8192, .f32⟩
  | 16 => ⟨S1x3x2048, .f32⟩
  | 17 => ⟨S1x3x10240, .f32⟩
  | 18 => ⟨S4x3x10240, .f32⟩
  | 19 => ⟨S4x4099x10240, .f32⟩
  | 20 => ⟨S4x4096x10240, .f32⟩
  | 21 => ⟨S1x10240, .f32⟩
  | 22 => ⟨S10240, .f32⟩
  | 23 => ⟨S1x1x10240, .f32⟩
  | 24 => ⟨S4x4096x10240, .f32⟩
  | 25 => ⟨S4x4096x10240, .f32⟩
  | 26 => ⟨S4x4096x10240, .f32⟩
  | 27 => ⟨S1x10240, .f32⟩
  | 28 => ⟨S10240, .f32⟩
  | 29 => ⟨S1x1x10240, .f32⟩
  | 30 => ⟨S4x4096x10240, .f32⟩
  | 31 => ⟨S4x4096x10240, .f32⟩
  | 32 => ⟨S4x4096x10240, .f32⟩
  | 33 => ⟨S4x4096x10240, .f32⟩
  | 34 => ⟨S1x10240, .f32⟩
  | 35 => ⟨S10240, .f32⟩
  | 36 => ⟨S1x1x10240, .f32⟩
  | 37 => ⟨S4x4096x10240, .f32⟩
  | 38 => ⟨S4x4096x10240, .f32⟩
  | 39 => ⟨S4x4096x10240, .f32⟩
  | 40 => ⟨S4x4096x10240, .f32⟩
  | 41 => ⟨S1x10240, .f32⟩
  | 42 => ⟨S10240, .f32⟩
  | 43 => ⟨S1x1x10240, .f32⟩
  | 44 => ⟨S4x4096x10240, .f32⟩
  | 45 => ⟨S4x4096x10240, .f32⟩
  | 46 => ⟨S4x4096x10240, .f32⟩
  | 47 => ⟨S1x1x10240, .f32⟩
  | 48 => ⟨S4x4096x10240, .f32⟩
  | 49 => ⟨S4x4096x10240, .f32⟩
  | 50 => ⟨S4x4096x10240, .f32⟩
  | 51 => ⟨S4x4096x10240, .f32⟩
  | 52 => ⟨S_, .f32⟩
  | 53 => ⟨S4x4096x10240, .f32⟩
  | 54 => ⟨S4x4096x10240, .f32⟩
  | 55 => ⟨S_, .f32⟩
  | 56 => ⟨S4x4096x10240, .f32⟩
  | 57 => ⟨S4x4096x10240, .f32⟩
  | 58 => ⟨S4x4096x10240, .f32⟩
  | 59 => ⟨S4x4096x8192, .f32⟩
  | 60 => ⟨S4x4096x8x16x64, .f32⟩
  | 61 => ⟨S4x4096x1024, .f32⟩
  | 62 => ⟨S4x4096x8x128, .f32⟩
  | 63 => ⟨S4x4096x1024, .f32⟩
  | 64 => ⟨S4x4096x8x128, .f32⟩
  | 65 => ⟨S1x1x128, .f32⟩
  | 66 => ⟨S4x4096x128, .f32⟩
  | 67 => ⟨S4x4096x128, .f32⟩
  | 68 => ⟨S_, .f32⟩
  | 69 => ⟨S4x4096x128, .f32⟩
  | 70 => ⟨S4x4096x128, .f32⟩
  | 71 => ⟨S4x4096x128, .f32⟩
  | 72 => ⟨S4x4096x128, .f32⟩
  | 73 => ⟨S4x4096x128, .i1⟩
  | 74 => ⟨S4x4096x128, .f32⟩
  | 75 => ⟨S4x4096x128, .f32⟩
  | 76 => ⟨S4x4096x128, .f32⟩
  | 77 => ⟨S4x4096x128, .f32⟩
  | 78 => ⟨S4x4096x128, .f32⟩
  | 79 => ⟨S4x4096x128, .f32⟩
  | 80 => ⟨S4x4096x128, .f32⟩
  | 81 => ⟨S4x4096x128, .f32⟩
  | 82 => ⟨S128, .f32⟩
  | 83 => ⟨S128, .f32⟩
  | 84 => ⟨S1x1x128, .f32⟩
  | 85 => ⟨S4x4096x128, .f32⟩
  | 86 => ⟨S4x4096x128, .f32⟩
  | 87 => ⟨S4x4096x128, .f32⟩
  | 88 => ⟨S4x4096x8x16, .f32⟩
  | 89 => ⟨S4x4096x8x16, .f32⟩
  | 90 => ⟨S4x4096x8x16x1, .f32⟩
  | 91 => ⟨S4x4096x8x16x64, .f32⟩
  | 92 => ⟨S4x4096x8x16x64, .f32⟩
  | 93 => ⟨S1x8x16x64x128, .f32⟩
  | 94 => ⟨S4x8x16x64x128, .f32⟩
  | 95 => ⟨S4x4096x8x1024, .f32⟩
  | 96 => ⟨S4096x4x8x16x64, .f32⟩
  | 97 => ⟨S4096x4x8x16x64, .f32⟩
  | 98 => ⟨S4096x4x8x16, .f32⟩
  | 99 => ⟨S4096x4x8x128, .f32⟩
  | 100 => ⟨S4096x4x8x128, .f32⟩
  | 101 => ⟨S4096x4x8x1024, .f32⟩
  | 102 => ⟨S_, .bf16⟩
  | 103 => ⟨S4096x4x8192, .bf16⟩
  | 104 => ⟨S_, .i32⟩
  | 105 => ⟨S4096x4x8x16x64, .f32⟩
  | 106 => ⟨S4096x4x8x16x64, .f32⟩
  | 107 => ⟨S4096x4x8x16, .f32⟩
  | 108 => ⟨S4096x4x8x128, .f32⟩
  | 109 => ⟨S4096x4x8x128, .f32⟩
  | 110 => ⟨S4096x4x8x1024, .f32⟩
  | 111 => ⟨S128, .f32⟩
  | 112 => ⟨S8192, .f32⟩
  | 113 => ⟨S_, .i32⟩
  | 114 => ⟨S4x8x16x64x128, .f32⟩
  | 115 => ⟨S4096x4x8192, .bf16⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1x4x8x16x64, .f32⟩
  | 123 => ⟨S4x8x16x64, .f32⟩
  | 124 => ⟨S_, .i32⟩
  | 125 => ⟨S_, .i32⟩
  | 126 => ⟨S_, .i32⟩
  | 127 => ⟨S_, .i32⟩
  | _ => ⟨S4x4096x18432, .bf16⟩

abbrev hbmTy0_1 (i : Nat) : BufTy := match i % 128 with
  | 0 => ⟨S1x4x8x16x64, .f32⟩
  | 1 => ⟨S4x8x16x64, .f32⟩
  | 2 => ⟨S_, .i32⟩
  | 3 => ⟨S_, .i32⟩
  | 4 => ⟨S_, .i32⟩
  | 5 => ⟨S1x4x8x16, .f32⟩
  | 6 => ⟨S4x8x16, .f32⟩
  | 7 => ⟨S_, .i32⟩
  | 8 => ⟨S_, .i32⟩
  | 9 => ⟨S_, .i32⟩
  | 10 => ⟨S1x4x8x128, .f32⟩
  | 11 => ⟨S4x8x128, .f32⟩
  | 12 => ⟨S_, .i32⟩
  | 13 => ⟨S_, .i32⟩
  | 14 => ⟨S_, .i32⟩
  | 15 => ⟨S1x4x8x128, .f32⟩
  | 16 => ⟨S4x8x128, .f32⟩
  | 17 => ⟨S_, .i32⟩
  | 18 => ⟨S_, .i32⟩
  | 19 => ⟨S_, .i32⟩
  | 20 => ⟨S1x4x8x1024, .f32⟩
  | 21 => ⟨S4x8x1024, .f32⟩
  | 22 => ⟨S4x8x16x1x1, .f32⟩
  | 23 => ⟨S4x8x16x64x128, .f32⟩
  | 24 => ⟨S4x8x16x64x128, .f32⟩
  | 25 => ⟨S4x8x16x64x1, .f32⟩
  | 26 => ⟨S4x8x1x1x128, .f32⟩
  | 27 => ⟨S4x8x16x64x128, .f32⟩
  | 28 => ⟨S4x8x16x64x128, .f32⟩
  | 29 => ⟨S4x8x16x64x128, .f32⟩
  | 30 => ⟨S4x8x16x64x128, .f32⟩
  | 31 => ⟨S4x8x1x1x128, .f32⟩
  | 32 => ⟨S4x8x16x64x128, .f32⟩
  | 33 => ⟨S4x8x16x64x128, .f32⟩
  | 34 => ⟨S_, .f32⟩
  | 35 => ⟨S4x8x16x64, .f32⟩
  | 36 => ⟨S8x16x1, .f32⟩
  | 37 => ⟨S1x8x16x1, .f32⟩
  | 38 => ⟨S4x8x16x64, .f32⟩
  | 39 => ⟨S4x8x16x64, .f32⟩
  | 40 => ⟨S4x8x16x64, .f32⟩
  | 41 => ⟨S4x8x1024, .f32⟩
  | 42 => ⟨S4x8x1024, .f32⟩
  | 43 => ⟨S4x8x1024, .f32⟩
  | 44 => ⟨S_, .f32⟩
  | 45 => ⟨S4x8x1024, .f32⟩
  | 46 => ⟨S4x8x1024, .f32⟩
  | 47 => ⟨S_, .f32⟩
  | 48 => ⟨S4x8x1024, .f32⟩
  | 49 => ⟨S4x8x1024, .f32⟩
  | 50 => ⟨S4x8x1024, .f32⟩
  | 51 => ⟨S4x8x1024, .f32⟩
  | 52 => ⟨S4x8x1024, .f32⟩
  | 53 => ⟨S_, .f32⟩
  | 54 => ⟨S4x8, .f32⟩
  | 55 => ⟨S4x8x1, .f32⟩
  | 56 => ⟨S_, .f32⟩
  | 57 => ⟨S4x8x1, .f32⟩
  | 58 => ⟨S4x8x1, .f32⟩
  | 59 => ⟨S_, .f32⟩
  | 60 => ⟨S4x8x1, .f32⟩
  | 61 => ⟨S4x8x1, .f32⟩
  | 62 => ⟨S4x8x1, .f32⟩
  | 63 => ⟨S4x8x1024, .f32⟩
  | 64 => ⟨S4x8x1024, .f32⟩
  | 65 => ⟨S4x8192, .f32⟩
  | 66 => ⟨S1x8192, .f32⟩
  | 67 => ⟨S4x8192, .f32⟩
  | 68 => ⟨S4x8192, .f32⟩
  | 69 => ⟨S4x8192, .bf16⟩
  | 70 => ⟨S1x4x8192, .bf16⟩
  | 71 => ⟨S_, .i32⟩
  | 72 => ⟨S_, .i32⟩
  | 73 => ⟨S4096x4x8192, .bf16⟩
  | 74 => ⟨S_, .i32⟩
  | 75 => ⟨S_, .i32⟩
  | 76 => ⟨S4x4096x8192, .bf16⟩
  | 77 => ⟨S4x8x10240, .bf16⟩
  | 78 => ⟨S4x8x10240, .f32⟩
  | 79 => ⟨S1x4x8192x128, .f32⟩
  | 80 => ⟨S1x4x8192x128, .f32⟩
  | 81 => ⟨S2x4x8192x128, .f32⟩
  | 82 => ⟨S4x8x8192, .f32⟩
  | 83 => ⟨S4x8x2048, .f32⟩
  | _ => ⟨S4x4096x18432, .bf16⟩

abbrev hbmTy (i : Nat) : BufTy := match i / 128 with
  | 0 => hbmTy0_0 i
  | 1 => hbmTy0_1 i
  | _ => ⟨S4x4096x18432, .bf16⟩

abbrev bufTy : (tb : Table) → Fin (tcTables nBuf tb) → BufTy
  | .hbm, ⟨i, _⟩ => hbmTy i
  | _, _ => ⟨S4x4096x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst : Ref sig .tc := ⟨.hbm, 102, rfl⟩
abbrev main_v69 : Ref sig .tc := ⟨.hbm, 103, rfl⟩
abbrev main_c : Ref sig .tc := ⟨.hbm, 104, rfl⟩
abbrev main_v70_0 : Ref sig .tc := ⟨.hbm, 105, rfl⟩
abbrev main_v70_1 : Ref sig .tc := ⟨.hbm, 106, rfl⟩
abbrev main_v70_2 : Ref sig .tc := ⟨.hbm, 107, rfl⟩
abbrev main_v70_3 : Ref sig .tc := ⟨.hbm, 108, rfl⟩
abbrev main_v70_4 : Ref sig .tc := ⟨.hbm, 109, rfl⟩
abbrev main_v70_5 : Ref sig .tc := ⟨.hbm, 110, rfl⟩
abbrev main_v70_6 : Ref sig .tc := ⟨.hbm, 111, rfl⟩
abbrev main_v70_7 : Ref sig .tc := ⟨.hbm, 112, rfl⟩
abbrev main_v70_8 : Ref sig .tc := ⟨.hbm, 113, rfl⟩
abbrev main_v70_9 : Ref sig .tc := ⟨.hbm, 114, rfl⟩
abbrev main_v70_10 : Ref sig .tc := ⟨.hbm, 115, rfl⟩
abbrev main_while0c_c_10 : Ref sig .tc := ⟨.hbm, 116, rfl⟩
abbrev main_while0c_v79 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_c_1 : Ref sig .tc := ⟨.hbm, 120, rfl⟩
abbrev main_while0b_call2_c_2 : Ref sig .tc := ⟨.hbm, 121, rfl⟩
abbrev main_while0b_call2_v0 : Ref sig .tc := ⟨.hbm, 122, rfl⟩
abbrev main_while0b_v79 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_c_1 : Ref sig .tc := ⟨.hbm, 126, rfl⟩
abbrev main_while0b_call3_c_2 : Ref sig .tc := ⟨.hbm, 127, rfl⟩
abbrev main_while0b_call3_v0 : Ref sig .tc := ⟨.hbm, 128, rfl⟩
abbrev main_while0b_v80 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_v0 : Ref sig .tc := ⟨.hbm, 133, rfl⟩
abbrev main_while0b_v81 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_call5_c_1 : Ref sig .tc := ⟨.hbm, 137, rfl⟩
abbrev main_while0b_call5_v0 : Ref sig .tc := ⟨.hbm, 138, rfl⟩
abbrev main_while0b_v82 : Ref sig .tc := ⟨.hbm, 139, rfl⟩
abbrev main_while0b_call6_c : Ref sig .tc := ⟨.hbm, 140, rfl⟩
abbrev main_while0b_call6_c_0 : Ref sig .tc := ⟨.hbm, 141, rfl⟩
abbrev main_while0b_call6_c_1 : Ref sig .tc := ⟨.hbm, 142, rfl⟩
abbrev main_while0b_call6_v0 : Ref sig .tc := ⟨.hbm, 143, rfl⟩
abbrev main_while0b_v83 : Ref sig .tc := ⟨.hbm, 144, rfl⟩
abbrev main_while0b_call7_c : Ref sig .tc := ⟨.hbm, 145, rfl⟩
abbrev main_while0b_call7_c_0 : Ref sig .tc := ⟨.hbm, 146, rfl⟩
abbrev main_while0b_call7_c_1 : Ref sig .tc := ⟨.hbm, 147, rfl⟩
abbrev main_while0b_call7_v0 : Ref sig .tc := ⟨.hbm, 148, rfl⟩
abbrev main_while0b_v84 : Ref sig .tc := ⟨.hbm, 149, rfl⟩
abbrev main_while0b_v85 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_cst_10 : Ref sig .tc := ⟨.hbm, 162, rfl⟩
abbrev main_while0b_v97 : Ref sig .tc := ⟨.hbm, 163, rfl⟩
abbrev main_while0b_v98 : Ref sig .tc := ⟨.hbm, 164, rfl⟩
abbrev main_while0b_v99 : Ref sig .tc := ⟨.hbm, 165, rfl⟩
abbrev main_while0b_v100 : Ref sig .tc := ⟨.hbm, 166, rfl⟩
abbrev main_while0b_v101 : Ref sig .tc := ⟨.hbm, 167, rfl⟩
abbrev main_while0b_v102 : Ref sig .tc := ⟨.hbm, 168, rfl⟩
abbrev main_while0b_v103 : Ref sig .tc := ⟨.hbm, 169, rfl⟩
abbrev main_while0b_call8_v0 : Ref sig .tc := ⟨.hbm, 170, rfl⟩
abbrev main_while0b_call8_v1 : Ref sig .tc := ⟨.hbm, 171, rfl⟩
abbrev main_while0b_call8_cst : Ref sig .tc := ⟨.hbm, 172, rfl⟩
abbrev main_while0b_call8_v2 : Ref sig .tc := ⟨.hbm, 173, rfl⟩
abbrev main_while0b_call8_v3 : Ref sig .tc := ⟨.hbm, 174, rfl⟩
abbrev main_while0b_call8_cst_0 : Ref sig .tc := ⟨.hbm, 175, rfl⟩
abbrev main_while0b_call8_v4 : Ref sig .tc := ⟨.hbm, 176, rfl⟩
abbrev main_while0b_call8_v5 : Ref sig .tc := ⟨.hbm, 177, rfl⟩
abbrev main_while0b_v104 : Ref sig .tc := ⟨.hbm, 178, rfl⟩
abbrev main_while0b_v105 : Ref sig .tc := ⟨.hbm, 179, rfl⟩
abbrev main_while0b_v106 : Ref sig .tc := ⟨.hbm, 180, rfl⟩
abbrev main_while0b_cst_11 : Ref sig .tc := ⟨.hbm, 181, rfl⟩
abbrev main_while0b_v107 : Ref sig .tc := ⟨.hbm, 182, rfl⟩
abbrev main_while0b_v108 : Ref sig .tc := ⟨.hbm, 183, rfl⟩
abbrev main_while0b_cst_12 : Ref sig .tc := ⟨.hbm, 184, rfl⟩
abbrev main_while0b_v109 : Ref sig .tc := ⟨.hbm, 185, rfl⟩
abbrev main_while0b_v110 : Ref sig .tc := ⟨.hbm, 186, rfl⟩
abbrev main_while0b_cst_13 : Ref sig .tc := ⟨.hbm, 187, rfl⟩
abbrev main_while0b_v111 : Ref sig .tc := ⟨.hbm, 188, rfl⟩
abbrev main_while0b_v112 : Ref sig .tc := ⟨.hbm, 189, rfl⟩
abbrev main_while0b_v113 : Ref sig .tc := ⟨.hbm, 190, rfl⟩
abbrev main_while0b_v114 : Ref sig .tc := ⟨.hbm, 191, rfl⟩
abbrev main_while0b_v115 : Ref sig .tc := ⟨.hbm, 192, rfl⟩
abbrev main_while0b_v116 : Ref sig .tc := ⟨.hbm, 193, rfl⟩
abbrev main_while0b_v117 : Ref sig .tc := ⟨.hbm, 194, rfl⟩
abbrev main_while0b_v118 : Ref sig .tc := ⟨.hbm, 195, rfl⟩
abbrev main_while0b_v119 : Ref sig .tc := ⟨.hbm, 196, rfl⟩
abbrev main_while0b_v120 : Ref sig .tc := ⟨.hbm, 197, rfl⟩
abbrev main_while0b_call9_v0 : Ref sig .tc := ⟨.hbm, 198, rfl⟩
abbrev main_while0b_call9_c : Ref sig .tc := ⟨.hbm, 199, rfl⟩
abbrev main_while0b_call9_c_0 : Ref sig .tc := ⟨.hbm, 200, rfl⟩
abbrev main_while0b_v121 : Ref sig .tc := ⟨.hbm, 201, rfl⟩
abbrev main_while0b_c_14 : Ref sig .tc := ⟨.hbm, 202, rfl⟩
abbrev main_while0b_v122 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_v76 : Ref sig .tc := ⟨.hbm, 209, rfl⟩
abbrev main_v77 : Ref sig .tc := ⟨.hbm, 210, rfl⟩
abbrev main_v78 : Ref sig .tc := ⟨.hbm, 211, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16384x4096 : Shape := ⟨2, ![16384, 4096]⟩
abbrev S4096x18432 : Shape := ⟨2, ![4096, 18432]⟩
abbrev S4096x128 : Shape := ⟨2, ![4096, 128]⟩
abbrev S16384x18432 : Shape := ⟨2, ![16384, 18432]⟩
abbrev S16384x128 : Shape := ⟨2, ![16384, 128]⟩
abbrev S1024x4096 : Shape := ⟨2, ![1024, 4096]⟩
abbrev S4096x1024 : Shape := ⟨2, ![4096, 1024]⟩
abbrev S1024x1024 : Shape := ⟨2, ![1024, 1024]⟩
abbrev S1024x128 : Shape := ⟨2, ![1024, 128]⟩
abbrev S1024x1 : Shape := ⟨2, ![1024, 1]⟩
abbrev S1024 : Shape := ⟨1, ![1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .bf16⟩
  | .hbm, ⟨2, _⟩ => ⟨S4096x128, .bf16⟩
  | .hbm, ⟨3, _⟩ => ⟨S16384x18432, .bf16⟩
  | .hbm, ⟨4, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4096x128, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | .local _ .vmem, ⟨9, _⟩ => ⟨S1024x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel2Ideal.lean ====
def κ : String → Option EReal := fun
  | "log2e" => some (((Real.log 2)⁻¹ : ℝ) : EReal)
  | "neg_log2e" => some ((-((Real.log 2)⁻¹) : ℝ) : EReal)
  | _ => none
-- ==== Reference2Ideal.lean ====
abbrev S16384x4096 : Shape := ⟨2, ![16384, 4096]⟩
abbrev S4096x18432 : Shape := ⟨2, ![4096, 18432]⟩
abbrev S4096x128 : Shape := ⟨2, ![4096, 128]⟩
abbrev S_ : Shape := ⟨0, ![]⟩
abbrev S16384 : Shape := ⟨1, ![16384]⟩
abbrev S16384x1 : Shape := ⟨2, ![16384, 1]⟩
abbrev S16384x18432 : Shape := ⟨2, ![16384, 18432]⟩
abbrev S16384x128 : Shape := ⟨2, ![16384, 128]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .bf16⟩
  | .hbm, ⟨2, _⟩ => ⟨S4096x128, .bf16⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S4096x18432, .f32⟩
  | .hbm, ⟨18, _⟩ => ⟨S16384x18432, .f32⟩
  | .hbm, ⟨19, _⟩ => ⟨S16384x18432, .bf16⟩
  | .hbm, ⟨20, _⟩ => ⟨S4096x128, .f32⟩
  | .hbm, ⟨21, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S16384x4096 : Shape := ⟨2, ![16384, 4096]⟩
abbrev S4096x16384 : Shape := ⟨2, ![4096, 16384]⟩
abbrev S3x4096 : Shape := ⟨2, ![3, 4096]⟩
abbrev S1x8x4096 : Shape := ⟨3, ![1, 8, 4096]⟩
abbrev S16x8x4096 : Shape := ⟨3, ![16, 8, 4096]⟩
abbrev S1024x4096 : Shape := ⟨2, ![1024, 4096]⟩
abbrev S4096x256 : Shape := ⟨2, ![4096, 256]⟩
abbrev S3x256 : Shape := ⟨2, ![3, 256]⟩
abbrev S1x8x256 : Shape := ⟨3, ![1, 8, 256]⟩
abbrev S1024x256 : Shape := ⟨2, ![1024, 256]⟩
abbrev S16x8x256 : Shape := ⟨3, ![16, 8, 256]⟩
abbrev S1024x1 : Shape := ⟨2, ![1024, 1]⟩
abbrev S8x256 : Shape := ⟨2, ![8, 256]⟩
abbrev S1024 : Shape := ⟨1, ![1024]⟩
abbrev S1016x256 : Shape := ⟨2, ![1016, 256]⟩
abbrev S1x256 : Shape := ⟨2, ![1, 256]⟩

abbrev nBuf : Space → Nat
  | .hbm => 6
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S3x4096, .f32⟩
  | .hbm, ⟨3, _⟩ => ⟨S1x8x4096, .f32⟩
  | .hbm, ⟨4, _⟩ => ⟨S16384x4096, .bf16⟩
  | .hbm, ⟨5, _⟩ => ⟨S16x8x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S3x256, .f32⟩
  | .local _ .vmem, ⟨11, _⟩ => ⟨S3x256, .f32⟩
  | .local _ .vmem, ⟨12, _⟩ => ⟨S1x8x256, .f32⟩
  | .local _ .vmem, ⟨13, _⟩ => ⟨S1x8x256, .f32⟩
  | .local _ .vmem, ⟨14, _⟩ => ⟨S1024x256, .bf16⟩
  | .local _ .vmem, ⟨15, _⟩ => ⟨S1024x256, .bf16⟩
  | .local _ .vmem, ⟨16, _⟩ => ⟨S1x8x256, .f32⟩
  | .local _ .vmem, ⟨17, _⟩ => ⟨S1x8x256, .f32⟩
  | .local _ .vmem, ⟨18, _⟩ => ⟨S16x8x256, .f32⟩
  | .local _ .vmem, ⟨19, _⟩ => ⟨S1024x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v88 : Index := Scalar.indexCast arg1
  let c0_43 : Index := 0#32
  let c0_44 : Index := 0#32
  ![v88.toNat, 0, 0]
def k0_off2 (i : grid0.Coords) : Fin 3 → Nat :=
  let arg1 : BitVec 32 := BitVec.ofNat 32 (i 1).val
  let v26 : Index := Scalar.indexCast arg1
  let c0_15 : Index := 0#32
  let c0_16 : Index := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== Reference3Ideal.lean ====
abbrev S16384x4096 : Shape := ⟨2, ![16384, 4096]⟩
abbrev S4096x16384 : Shape := ⟨2, ![4096, 16384]⟩
abbrev S3x4096 : Shape := ⟨2, ![3, 4096]⟩
abbrev S1x8x4096 : Shape := ⟨3, ![1, 8, 4096]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩
abbrev S4x4096x4096 : Shape := ⟨3, ![4, 4096, 4096]⟩
abbrev S1x2x4096 : Shape := ⟨3, ![1, 2, 4096]⟩
abbrev S4x2x4096 : Shape := ⟨3, ![4, 2, 4096]⟩
abbrev S4x4098x4096 : Shape := ⟨3, ![4, 4098, 4096]⟩
abbrev S1x4096 : Shape := ⟨2, ![1, 4096]⟩
abbrev S4096 : Shape := ⟨1, ![4096]⟩
abbrev S1x1x4096 : Shape := ⟨3, ![1, 1, 4096]⟩
abbrev S16x1024x4096 : Shape := ⟨3, ![16, 1024, 4096]⟩
abbrev S16x8x4096 : Shape := ⟨3, ![16, 8, 4096]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S3x4096, .f32⟩
  | .hbm, ⟨3, _⟩ => ⟨S1x8x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S4096x16384, .f32⟩
  | .hbm, ⟨19, _⟩ => ⟨S16384x16384, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S4x4096x4096, .f32⟩
  | .hbm, ⟨26, _⟩ => ⟨S1x2x4096, .f32⟩
  | .hbm, ⟨27, _⟩ => ⟨S4x2x4096, .f32⟩
  | .hbm, ⟨28, _⟩ => ⟨S4x4098x4096, .f32⟩
  | .hbm, ⟨29, _⟩ => ⟨S4x4096x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S1x4096, .f32⟩
  | .hbm, ⟨37, _⟩ => ⟨S4096, .f32⟩
  | .hbm, ⟨38, _⟩ => ⟨S1x1x4096, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S1x4096, .f32⟩
  | .hbm, ⟨44, _⟩ => ⟨S4096, .f32⟩
  | .hbm, ⟨45, _⟩ => ⟨S1x1x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384x4096, .f32⟩
  | .hbm, ⟨56, _⟩ => ⟨S16384x4096, .f32⟩
  | .hbm, ⟨57, _⟩ => ⟨S16384x4096, .f32⟩
  | .hbm, ⟨58, _⟩ => ⟨S16384x4096, .f32⟩
  | .hbm, ⟨59, _⟩ => ⟨S16384x4096, .f32⟩
  | .hbm, ⟨60, _⟩ => ⟨S16384x4096, .f32⟩
  | .hbm, ⟨61, _⟩ => ⟨S16384x4096, .bf16⟩
  | .hbm, ⟨62, _⟩ => ⟨S16x1024x4096, .f32⟩
  | .hbm, ⟨63, _⟩ => ⟨S16x8x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel4.lean ====
abbrev S16384x8192 : Shape := ⟨2, ![16384, 8192]⟩
abbrev S8192x4096 : Shape := ⟨2, ![8192, 4096]⟩
abbrev S16384x4096 : Shape := ⟨2, ![16384, 4096]⟩
abbrev S1024x8192 : Shape := ⟨2, ![1024, 8192]⟩
abbrev S8192x256 : Shape := ⟨2, ![8192, 256]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S16384x4096, .f32⟩
  | .hbm, ⟨4, _⟩ => ⟨S16384x4096, .bf16⟩
  | .local _ .vmem, ⟨0, _⟩ => ⟨S1024x8192, .bf16⟩
  | .local _ .vmem, ⟨1, _⟩ => ⟨S1024x8192, .bf16⟩
  | .local _ .vmem, ⟨2, _⟩ => ⟨S8192x256, .bf16⟩
  | .local _ .vmem, ⟨3, _⟩ => ⟨S8192x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
def κ : String → Option EReal := fun
  | "log2e" => some (((Real.log 2)⁻¹ : ℝ) : EReal)
  | "neg_log2e" => some ((-((Real.log 2)⁻¹) : ℝ) : EReal)
  | _ => none
-- ==== Reference4Ideal.lean ====
abbrev S16384x8192 : Shape := ⟨2, ![16384, 8192]⟩
abbrev S8192x4096 : Shape := ⟨2, ![8192, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S16384x8192, .f32⟩
  | .hbm, ⟨4, _⟩ => ⟨S8192x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel5Ideal.lean ====
def κ : String → Option EReal := fun
  | "log2e" => some (((Real.log 2)⁻¹ : ℝ) : EReal)
  | "neg_log2e" => some ((-((Real.log 2)⁻¹) : ℝ) : EReal)
  | _ => none
-- ==== Reference5Ideal.lean ====
abbrev S16384x4096 : Shape := ⟨2, ![16384, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel6Ideal.lean ====
def κ : String → Option EReal := fun
  | "log2e" => some (((Real.log 2)⁻¹ : ℝ) : EReal)
  | "neg_log2e" => some ((-((Real.log 2)⁻¹) : ℝ) : EReal)
  | _ => none
-- ==== Reference6Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S9x16x16384 : Shape := ⟨3, ![9, 16, 16384]⟩
abbrev S9x8x4096 : Shape := ⟨3, ![9, 8, 4096]⟩
abbrev S3x4096 : Shape := ⟨2, ![3, 4096]⟩
abbrev S9x16x4096 : Shape := ⟨3, ![9, 16, 4096]⟩
abbrev S1x16x1024 : Shape := ⟨3, ![1, 16, 1024]⟩
abbrev S1x8x1024 : Shape := ⟨3, ![1, 8, 1024]⟩
abbrev S3x1024 : Shape := ⟨2, ![3, 1024]⟩
abbrev S8x1024 : Shape := ⟨2, ![8, 1024]⟩
abbrev S16x1024 : Shape := ⟨2, ![16, 1024]⟩
abbrev S1x1024 : Shape := ⟨2, ![1, 1024]⟩

abbrev nBuf : Space → Nat
  | .hbm => 5
  | .vmem => 17
  | .smem => 0
  | _ => 0

abbrev bufTy : (tb : Table) → Fin (tcTables nBuf tb) → BufTy
  | .hbm, ⟨0, _⟩ => ⟨S9x16x16384, .bf16⟩
  | .hbm, ⟨1, _⟩ => ⟨S9x8x4096, .f32⟩
  | .hbm, ⟨2, _⟩ => ⟨S3x4096, .f32⟩
  | .hbm, ⟨3, _⟩ => ⟨S9x16x4096, .bf16⟩
  | .hbm, ⟨4, _⟩ => ⟨S9x8x4096, .f32⟩
  | .local _ .vmem, ⟨0, _⟩ => ⟨S1x16x1024, .bf16⟩
  | .local _ .vmem, ⟨1, _⟩ => ⟨S1x16x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x8x1024, .f32⟩
  | .local _ .vmem, ⟨9, _⟩ => ⟨S1x8x1024, .f32⟩
  | .local _ .vmem, ⟨10, _⟩ => ⟨S3x1024, .f32⟩
  | .local _ .vmem, ⟨11, _⟩ => ⟨S3x1024, .f32⟩
  | .local _ .vmem, ⟨12, _⟩ => ⟨S1x16x1024, .bf16⟩
  | .local _ .vmem, ⟨13, _⟩ => ⟨S1x16x1024, .bf16⟩
  | .local _ .vmem, ⟨14, _⟩ => ⟨S1x8x1024, .f32⟩
  | .local _ .vmem, ⟨15, _⟩ => ⟨S1x8x1024, .f32⟩
  | .local _ .vmem, ⟨16, _⟩ => ⟨S8x1024, .f32⟩
  | _, _ => ⟨S9x16x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![9, 4, 1], ![false, false, false]⟩

def k0_cond2 (i : grid0.Coords) : BitVec 1 :=
  let arg2 : BitVec 32 := BitVec.ofNat 32 (i 2).val
  let c0_i32_27 : BitVec 32 := 0#32
  let v64 : BitVec 1 := Scalar.cmpi .eq arg2 c0_i32_27
  let v65 : BitVec 32 := Scalar.extui v64
  let c0_i32_28 : BitVec 32 := 0#32
  let v66 : BitVec 1 := Scalar.cmpi .ne v65 c0_i32_28
  v66

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Kernel7Ideal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== Reference7Ideal.lean ====
abbrev S9x16x16384 : Shape := ⟨3, ![9, 16, 16384]⟩
abbrev S9x8x4096 : Shape := ⟨3, ![9, 8, 4096]⟩
abbrev S3x4096 : Shape := ⟨2, ![3, 4096]⟩
abbrev S9x16x4096 : Shape := ⟨3, ![9, 16, 4096]⟩
abbrev S9x2x4096 : Shape := ⟨3, ![9, 2, 4096]⟩
abbrev S9x18x4096 : Shape := ⟨3, ![9, 18, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S9x16x16384, .bf16⟩
  | .hbm, ⟨1, _⟩ => ⟨S9x8x4096, .f32⟩
  | .hbm, ⟨2, _⟩ => ⟨S3x4096, .f32⟩
  | .hbm, ⟨3, _⟩ => ⟨S9x16x16384, .f32⟩
  | .hbm, ⟨4, _⟩ => ⟨S9x16x4096, .f32⟩
  | .hbm, ⟨5, _⟩ => ⟨S9x16x4096, .f32⟩
  | .hbm, ⟨6, _⟩ => ⟨S9x16x4096, .f32⟩
  | .hbm, ⟨7, _⟩ => ⟨S9x16x4096, .f32⟩
  | .hbm, ⟨8, _⟩ => ⟨S9x16x4096, .f32⟩
  | .hbm, ⟨9, _⟩ => ⟨S9x2x4096, .f32⟩
  | .hbm, ⟨10, _⟩ => ⟨S9x18x4096, .f32⟩
  | .hbm, ⟨11, _⟩ => ⟨S9x16x4096, .f32⟩
  | .hbm, ⟨12, _⟩ => ⟨S1x4096, .f32⟩
  | .hbm, ⟨13, _⟩ => ⟨S4096, .f32⟩
  | .hbm, ⟨14, _⟩ => ⟨S1x1x4096, .f32⟩
  | .hbm, ⟨15, _⟩ => ⟨S9x16x4096, .f32⟩
  | .hbm, ⟨16, _⟩ => ⟨S9x16x4096, .f32⟩
  | .hbm, ⟨17, _⟩ => ⟨S9x16x4096, .f32⟩
  | .hbm, ⟨18, _⟩ => ⟨S1x4096, .f32⟩
  | .hbm, ⟨19, _⟩ => ⟨S4096, .f32⟩
  | .hbm, ⟨20, _⟩ => ⟨S1x1x4096, .f32⟩
  | .hbm, ⟨21, _⟩ => ⟨S9x16x4096, .f32⟩
  | .hbm, ⟨22, _⟩ => ⟨S9x16x4096, .f32⟩
  | .hbm, ⟨23, _⟩ => ⟨S9x16x4096, .f32⟩
  | .hbm, ⟨24, _⟩ => ⟨S9x16x4096, .f32⟩
  | .hbm, ⟨25, _⟩ => ⟨S1x4096, .f32⟩
  | .hbm, ⟨26, _⟩ => ⟨S4096, .f32⟩
  | .hbm, ⟨27, _⟩ => ⟨S1x1x4096, .f32⟩
  | .hbm, ⟨28, _⟩ => ⟨S9x16x4096, .f32⟩
  | .hbm, ⟨29, _⟩ => ⟨S9x16x4096, .f32⟩
  | .hbm, ⟨30, _⟩ => ⟨S9x16x4096, .f32⟩
  | .hbm, ⟨31, _⟩ => ⟨S9x16x4096, .f32⟩
  | .hbm, ⟨32, _⟩ => ⟨S9x16x4096, .f32⟩
  | .hbm, ⟨33, _⟩ => ⟨S_, .f32⟩
  | .hbm, ⟨34, _⟩ => ⟨S9x16x4096, .f32⟩
  | .hbm, ⟨35, _⟩ => ⟨S9x16x4096, .f32⟩
  | .hbm, ⟨36, _⟩ => ⟨S_, .f32⟩
  | .hbm, ⟨37, _⟩ => ⟨S9x16x4096, .f32⟩
  | .hbm, ⟨38, _⟩ => ⟨S9x16x4096, .f32⟩
  | .hbm, ⟨39, _⟩ => ⟨S9x16x4096, .f32⟩
  | .hbm, ⟨40, _⟩ => ⟨S9x16x4096, .f32⟩
  | .hbm, ⟨41, _⟩ => ⟨S9x16x4096, .f32⟩
  | .hbm, ⟨42, _⟩ => ⟨S9x16x4096, .bf16⟩
  | .hbm, ⟨43, _⟩ => ⟨S9x8x4096, .f32⟩
  | _, _ => ⟨S9x16x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel8.lean ====
abbrev S144x4096 : Shape := ⟨2, ![144, 4096]⟩
abbrev S4096 : Shape := ⟨1, ![4096]⟩
abbrev S1x4096 : Shape := ⟨2, ![1, 4096]⟩
abbrev S144 : Shape := ⟨1, ![144]⟩
abbrev S144x1 : Shape := ⟨2, ![144, 1]⟩

abbrev nBuf : Space → Nat
  | .hbm => 4
  | .vmem => 3
  | .smem => 0
  | _ => 0

abbrev bufTy : (tb : Table) → Fin (tcTables nBuf tb) → BufTy
  | .hbm, ⟨0, _⟩ => ⟨S144x4096, .f32⟩
  | .hbm, ⟨1, _⟩ => ⟨S4096, .f32⟩
  | .hbm, ⟨2, _⟩ => ⟨S1x4096, .f32⟩
  | .hbm, ⟨3, _⟩ => ⟨S144x4096, .f32⟩
  | .local _ .vmem, ⟨0, _⟩ => ⟨S144x4096, .f32⟩
  | .local _ .vmem, ⟨1, _⟩ => ⟨S1x4096, .f32⟩
  | .local _ .vmem, ⟨2, _⟩ => ⟨S144x4096, .f32⟩
  | _, _ => ⟨S144x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S144x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S144x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Kernel8Ideal.lean ====
def κ : String → Option EReal := fun
  | "log2e" => some (((Real.log 2)⁻¹ : ℝ) : EReal)
  | "neg_log2e" => some ((-((Real.log 2)⁻¹) : ℝ) : EReal)
  | _ => none
-- ==== Reference8Ideal.lean ====
abbrev S144x4096 : Shape := ⟨2, ![144, 4096]⟩
abbrev S4096 : Shape := ⟨1, ![4096]⟩
abbrev S_ : Shape := ⟨0, ![]⟩
abbrev S144 : Shape := ⟨1, ![144]⟩
abbrev S144x1 : Shape := ⟨2, ![144, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S144x4096, .f32⟩
  | .hbm, ⟨1, _⟩ => ⟨S4096, .f32⟩
  | .hbm, ⟨2, _⟩ => ⟨S144x4096, .f32⟩
  | .hbm, ⟨3, _⟩ => ⟨S_, .f32⟩
  | .hbm, ⟨4, _⟩ => ⟨S144, .f32⟩
  | .hbm, ⟨5, _⟩ => ⟨S144x1, .f32⟩
  | .hbm, ⟨6, _⟩ => ⟨S_, .f32⟩
  | .hbm, ⟨7, _⟩ => ⟨S144x1, .f32⟩
  | .hbm, ⟨8, _⟩ => ⟨S144x1, .f32⟩
  | .hbm, ⟨9, _⟩ => ⟨S_, .f32⟩
  | .hbm, ⟨10, _⟩ => ⟨S144x1, .f32⟩
  | .hbm, ⟨11, _⟩ => ⟨S144x1, .f32⟩
  | .hbm, ⟨12, _⟩ => ⟨S144x1, .f32⟩
  | .hbm, ⟨13, _⟩ => ⟨S144x4096, .f32⟩
  | .hbm, ⟨14, _⟩ => ⟨S144x4096, .f32⟩
  | .hbm, ⟨15, _⟩ => ⟨S1x4096, .f32⟩
  | .hbm, ⟨16, _⟩ => ⟨S144x4096, .f32⟩
  | .hbm, ⟨17, _⟩ => ⟨S144x4096, .f32⟩
  | _, _ => ⟨S144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S4x4096x18432 : Shape := ⟨3, ![4, 4096, 18432]⟩
abbrev S4x4096x128 : Shape := ⟨3, ![4, 4096, 128]⟩
abbrev S1x8x8192 : Shape := ⟨3, ![1, 8, 8192]⟩
abbrev S1x8x2048 : Shape := ⟨3, ![1, 8, 2048]⟩
abbrev S1x8192x128 : Shape := ⟨3, ![1, 8192, 128]⟩
abbrev S2x4x8192x128 : Shape := ⟨4, ![2, 4, 8192, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S128x64 : Shape := ⟨2, ![128, 64]⟩
abbrev S4x8192 : Shape := ⟨2, ![4, 8192]⟩
abbrev S4x2048 : Shape := ⟨2, ![4, 2048]⟩
abbrev S2048 : Shape := ⟨1, ![2048]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S128x512 : Shape := ⟨2, ![128, 512]⟩
abbrev S1x8192 : Shape := ⟨2, ![1, 8192]⟩
abbrev S1x2048 : Shape := ⟨2, ![1, 2048]⟩
abbrev S4x4096x8192 : Shape := ⟨3, ![4, 4096, 8192]⟩
abbrev S4x8x8192 : Shape := ⟨3, ![4, 8, 8192]⟩
abbrev S4x8x2048 : Shape := ⟨3, ![4, 8, 2048]⟩
abbrev S1x128x8192 : Shape := ⟨3, ![1, 128, 8192]⟩
abbrev S1x128x2048 : Shape := ⟨3, ![1, 128, 2048]⟩
abbrev S1x128x128 : Shape := ⟨3, ![1, 128, 128]⟩
abbrev S1x1x8192x128 : Shape := ⟨4, ![1, 1, 8192, 128]⟩
abbrev S8x8192 : Shape := ⟨2, ![8, 8192]⟩
abbrev S8x2048 : Shape := ⟨2, ![8, 2048]⟩
abbrev S128x8192 : Shape := ⟨2, ![128, 8192]⟩
abbrev S128x2048 : Shape := ⟨2, ![128, 2048]⟩
abbrev S128x1024 : Shape := ⟨2, ![128, 1024]⟩
abbrev S8x1024 : Shape := ⟨2, ![8, 1024]⟩
abbrev S4x1024 : Shape := ⟨2, ![4, 1024]⟩
abbrev S1x1024 : Shape := ⟨2, ![1, 1024]⟩
abbrev S512x1024 : Shape := ⟨2, ![512, 1024]⟩
abbrev S120x1024 : Shape := ⟨2, ![120, 1024]⟩
abbrev S16x1024 : Shape := ⟨2, ![16, 1024]⟩
abbrev S1x128x512 : Shape := ⟨3, ![1, 128, 512]⟩
abbrev S8x512 : Shape := ⟨2, ![8, 512]⟩
abbrev S4x512 : Shape := ⟨2, ![4, 512]⟩
abbrev S1x512 : Shape := ⟨2, ![1, 512]⟩
abbrev S512x512 : Shape := ⟨2, ![512, 512]⟩
abbrev S120x512 : Shape := ⟨2, ![120, 512]⟩
abbrev S16x512 : Shape := ⟨2, ![16, 512]⟩
abbrev S128x256 : Shape := ⟨2, ![128, 256]⟩
abbrev S256x256 : Shape := ⟨2, ![256, 256]⟩
abbrev S256x128 : Shape := ⟨2, ![256, 128]⟩
abbrev S1x1x128x128 : Shape := ⟨4, ![1, 1, 128, 128]⟩

abbrev nBuf : Space → Nat
  | .hbm => 58
  | .vmem => 31
  | .smem => 0
  | _ => 0

abbrev bufTy : (tb : Table) → Fin (tcTables nBuf tb) → BufTy
  | .hbm, ⟨0, _⟩ => ⟨S4x4096x18432, .bf16⟩
  | .hbm, ⟨1, _⟩ => ⟨S4x4096x128, .f32⟩
  | .hbm, ⟨2, _⟩ => ⟨S1x8x8192, .f32⟩
  | .hbm, ⟨3, _⟩ => ⟨S1x8x2048, .f32⟩
  | .hbm, ⟨4, _⟩ => ⟨S1x8192x128, .f32⟩
  | .hbm, ⟨5, _⟩ => ⟨S2x4x8192x128, .f32⟩
  | .hbm, ⟨6, _⟩ => ⟨S4x10240, .f32⟩
  | .hbm, ⟨7, _⟩ => ⟨S10240, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S8192, .f32⟩
  | .hbm, ⟨12, _⟩ => ⟨S128x64, .f32⟩
  | .hbm, ⟨13, _⟩ => ⟨S8192, .f32⟩
  | .hbm, ⟨14, _⟩ => ⟨S4x8192, .f32⟩
  | .hbm, ⟨15, _⟩ => ⟨S4x2048, .f32⟩
  | .hbm, ⟨16, _⟩ => ⟨S8192, .f32⟩
  | .hbm, ⟨17, _⟩ => ⟨S2048, .f32⟩
  | .hbm, ⟨18, _⟩ => ⟨S128, .i32⟩
  | .hbm, ⟨19, _⟩ => ⟨S128x1, .i32⟩
  | .hbm, ⟨20, _⟩ => ⟨S128, .i32⟩
  | .hbm, ⟨21, _⟩ => ⟨S1x128, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x512, .i1⟩
  | .hbm, ⟨47, _⟩ => ⟨S128x512, .bf16⟩
  | .hbm, ⟨48, _⟩ => ⟨S1x8192, .f32⟩
  | .hbm, ⟨49, _⟩ => ⟨S1x2048, .f32⟩
  | .hbm, ⟨50, _⟩ => ⟨S1x128, .f32⟩
  | .hbm, ⟨51, _⟩ => ⟨S1x128, .f32⟩
  | .hbm, ⟨52, _⟩ => ⟨S1x8192, .f32⟩
  | .hbm, ⟨53, _⟩ => ⟨S1x8192, .f32⟩
  | .hbm, ⟨54, _⟩ => ⟨S4x4096x8192, .bf16⟩
  | .hbm, ⟨55, _⟩ => ⟨S4x8x8192, .f32⟩
  | .hbm, ⟨56, _⟩ => ⟨S4x8x2048, .f32⟩
  | .hbm, ⟨57, _⟩ => ⟨S2x4x8192x128, .f32⟩
  | .local _ .vmem, ⟨0, _⟩ => ⟨S1x128x8192, .bf16⟩
  | .local _ .vmem, ⟨1, _⟩ => ⟨S1x128x8192, .bf16⟩
  | .local _ .vmem, ⟨2, _⟩ => ⟨S1x128x8192, .bf16⟩
  | .local _ .vmem, ⟨3, _⟩ => ⟨S1x128x8192, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x128, .f32⟩
  | .local _ .vmem, ⟨7, _⟩ => ⟨S1x128x128, .f32⟩
  | .local _ .vmem, ⟨8, _⟩ => ⟨S1x8x8192, .f32⟩
  | .local _ .vmem, ⟨9, _⟩ => ⟨S1x8x2048, .f32⟩
  | .local _ .vmem, ⟨10, _⟩ => ⟨S1x8192x128, .f32⟩
  | .local _ .vmem, ⟨11, _⟩ => ⟨S128x512, .bf16⟩
  | .local _ .vmem, ⟨12, _⟩ => ⟨S4x8192, .f32⟩
  | .local _ .vmem, ⟨13, _⟩ => ⟨S4x2048, .f32⟩
  | .local _ .vmem, ⟨14, _⟩ => ⟨S1x8192, .f32⟩
  | .local _ .vmem, ⟨15, _⟩ => ⟨S1x2048, .f32⟩
  | .local _ .vmem, ⟨16, _⟩ => ⟨S1x128, .f32⟩
  | .local _ .vmem, ⟨17, _⟩ => ⟨S1x128, .f32⟩
  | .local _ .vmem, ⟨18, _⟩ => ⟨S1x8192, .f32⟩
  | .local _ .vmem, ⟨19, _⟩ => ⟨S1x8192, .f32⟩
  | .local _ .vmem, ⟨20, _⟩ => ⟨S1x128x8192, .bf16⟩
  | .local _ .vmem, ⟨21, _⟩ => ⟨S1x128x8192, .bf16⟩
  | .local _ .vmem, ⟨22, _⟩ => ⟨S1x8x8192, .f32⟩
  | .local _ .vmem, ⟨23, _⟩ => ⟨S1x8x8192, .f32⟩
  | .local _ .vmem, ⟨24, _⟩ => ⟨S1x8x2048, .f32⟩
  | .local _ .vmem, ⟨25, _⟩ => ⟨S1x8x2048, .f32⟩
  | .local _ .vmem, ⟨26, _⟩ => ⟨S1x1x8192x128, .f32⟩
  | .local _ .vmem, ⟨27, _⟩ => ⟨S1x1x8192x128, .f32⟩
  | .local _ .vmem, ⟨28, _⟩ => ⟨S8x8192, .f32⟩
  | .local _ .vmem, ⟨29, _⟩ => ⟨S8x2048, .f32⟩
  | .local _ .vmem, ⟨30, _⟩ => ⟨S128x8192, .f32⟩
  | _, _ => ⟨S4x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev main_v38_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v5609 : BitVec 1 := Scalar.cmpi .eq arg1 c31_i32
  let v5610 : BitVec 32 := Scalar.extui v5609
  let c0_i32_1193 : BitVec 32 := 0#32
  let v5611 : BitVec 1 := Scalar.cmpi .ne v5610 c0_i32_1193
  v5611

def k0_cond3 (i : grid0.Coords) : BitVec 1 :=
  let arg1 : BitVec 32 := BitVec.ofNat 32 (i 1).val
  let c31_i32 : BitVec 32 := 31#32
  let v5609 : BitVec 1 := Scalar.cmpi .eq arg1 c31_i32
  let v5612 : BitVec 32 := Scalar.extui v5609
  let c0_i32_1194 : BitVec 32 := 0#32
  let v5613 : BitVec 1 := Scalar.cmpi .ne v5612 c0_i32_1194
  v5613

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x8x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x8192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x128x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x8192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x8192x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Kernel9Ideal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== Reference9Ideal.lean ====
abbrev S4x4096x18432 : Shape := ⟨3, ![4, 4096, 18432]⟩
abbrev S4x4096x128 : Shape := ⟨3, ![4, 4096, 128]⟩
abbrev S1x8x8192 : Shape := ⟨3, ![1, 8, 8192]⟩
abbrev S1x8x2048 : Shape := ⟨3, ![1, 8, 2048]⟩
abbrev S1x8192x128 : Shape := ⟨3, ![1, 8192, 128]⟩
abbrev S2x4x8192x128 : Shape := ⟨4, ![2, 4, 8192, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S4x4096x10240 : Shape := ⟨3, ![4, 4096, 10240]⟩
abbrev S4x8x8192 : Shape := ⟨3, ![4, 8, 8192]⟩
abbrev S4x8x2048 : Shape := ⟨3, ![4, 8, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x18432, .bf16⟩
  | .hbm, ⟨1, _⟩ => ⟨S4x4096x128, .f32⟩
  | .hbm, ⟨2, _⟩ => ⟨S1x8x8192, .f32⟩
  | .hbm, ⟨3, _⟩ => ⟨S1x8x2048, .f32⟩
  | .hbm, ⟨4, _⟩ => ⟨S1x8192x128, .f32⟩
  | .hbm, ⟨5, _⟩ => ⟨S2x4x8192x128, .f32⟩
  | .hbm, ⟨6, _⟩ => ⟨S4x10240, .f32⟩
  | .hbm, ⟨7, _⟩ => ⟨S10240, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S8192, .f32⟩
  | .hbm, ⟨12, _⟩ => ⟨S4x4096x18432, .f32⟩
  | .hbm, ⟨13, _⟩ => ⟨S4x4096x10240, .f32⟩
  | .hbm, ⟨14, _⟩ => ⟨S4x8x8192, .f32⟩
  | .hbm, ⟨15, _⟩ => ⟨S4x8x2048, .f32⟩
  | _, _ => ⟨S4x4096x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== Kernel10.lean ====
abbrev S16384x8192 : Shape := ⟨2, ![16384, 8192]⟩
abbrev S8192x4096 : Shape := ⟨2, ![8192, 4096]⟩
abbrev S16384x4096 : Shape := ⟨2, ![16384, 4096]⟩
abbrev S2x4096x16384 : Shape := ⟨3, ![2, 4096, 16384]⟩
abbrev S4096 : Shape := ⟨1, ![4096]⟩
abbrev S2x4096x4096 : Shape := ⟨3, ![2, 4096, 4096]⟩
abbrev S4096x1 : Shape := ⟨2, ![4096, 1]⟩
abbrev S4096x16384 : Shape := ⟨2, ![4096, 16384]⟩
abbrev S4096x4096 : Shape := ⟨2, ![4096, 4096]⟩
abbrev S1024x8192 : Shape := ⟨2, ![1024, 8192]⟩
abbrev S8192x256 : Shape := ⟨2, ![8192, 256]⟩
abbrev S1024x256 : Shape := ⟨2, ![1024, 256]⟩
abbrev S1x16x16384 : Shape := ⟨3, ![1, 16, 16384]⟩
abbrev S16x1 : Shape := ⟨2, ![16, 1]⟩
abbrev S1x16x4096 : Shape := ⟨3, ![1, 16, 4096]⟩
abbrev S16x16384 : Shape := ⟨2, ![16, 16384]⟩
abbrev S16x4096 : Shape := ⟨2, ![16, 4096]⟩

abbrev nBuf : Space → Nat
  | .hbm => 11
  | .vmem => 20
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S2x4096x16384, .f32⟩
  | .hbm, ⟨4, _⟩ => ⟨S4096, .f32⟩
  | .hbm, ⟨5, _⟩ => ⟨S2x4096x4096, .f32⟩
  | .hbm, ⟨6, _⟩ => ⟨S4096x1, .f32⟩
  | .hbm, ⟨7, _⟩ => ⟨S16384x4096, .f32⟩
  | .hbm, ⟨8, _⟩ => ⟨S16384x4096, .bf16⟩
  | .hbm, ⟨9, _⟩ => ⟨S4096x16384, .bf16⟩
  | .hbm, ⟨10, _⟩ => ⟨S4096x4096, .bf16⟩
  | .local _ .vmem, ⟨0, _⟩ => ⟨S1024x8192, .bf16⟩
  | .local _ .vmem, ⟨1, _⟩ => ⟨S1024x8192, .bf16⟩
  | .local _ .vmem, ⟨2, _⟩ => ⟨S8192x256, .bf16⟩
  | .local _ .vmem, ⟨3, _⟩ => ⟨S8192x256, .bf16⟩
  | .local _ .vmem, ⟨4, _⟩ => ⟨S1024x256, .f32⟩
  | .local _ .vmem, ⟨5, _⟩ => ⟨S1024x256, .f32⟩
  | .local _ .vmem, ⟨6, _⟩ => ⟨S1x16x16384, .f32⟩
  | .local _ .vmem, ⟨7, _⟩ => ⟨S1x16x16384, .f32⟩
  | .local _ .vmem, ⟨8, _⟩ => ⟨S16x1, .f32⟩
  | .local _ .vmem, ⟨9, _⟩ => ⟨S16x1, .f32⟩
  | .local _ .vmem, ⟨10, _⟩ => ⟨S1x16x4096, .f32⟩
  | .local _ .vmem, ⟨11, _⟩ => ⟨S1x16x4096, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S16x16384, .bf16⟩
  | .local _ .vmem, ⟨17, _⟩ => ⟨S16x16384, .bf16⟩
  | .local _ .vmem, ⟨18, _⟩ => ⟨S16x4096, .bf16⟩
  | .local _ .vmem, ⟨19, _⟩ => ⟨S16x4096, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x16384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference10Ideal.lean ====
abbrev S16384x8192 : Shape := ⟨2, ![16384, 8192]⟩
abbrev S8192x4096 : Shape := ⟨2, ![8192, 4096]⟩
abbrev S16384x4096 : Shape := ⟨2, ![16384, 4096]⟩
abbrev S2x4096x16384 : Shape := ⟨3, ![2, 4096, 16384]⟩
abbrev S4096 : Shape := ⟨1, ![4096]⟩
abbrev S2x4096x4096 : Shape := ⟨3, ![2, 4096, 4096]⟩
abbrev S1x4096x16384 : Shape := ⟨3, ![1, 4096, 16384]⟩
abbrev S4096x16384 : Shape := ⟨2, ![4096, 16384]⟩
abbrev S4096x1 : Shape := ⟨2, ![4096, 1]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S2x4096x16384, .f32⟩
  | .hbm, ⟨4, _⟩ => ⟨S4096, .f32⟩
  | .hbm, ⟨5, _⟩ => ⟨S2x4096x4096, .f32⟩
  | .hbm, ⟨6, _⟩ => ⟨S16384x8192, .f32⟩
  | .hbm, ⟨7, _⟩ => ⟨S8192x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S1x4096x16384, .f32⟩
  | .hbm, ⟨12, _⟩ => ⟨S4096x16384, .f32⟩
  | .hbm, ⟨13, _⟩ => ⟨S4096x1, .f32⟩
  | .hbm, ⟨14, _⟩ => ⟨S4096x16384, .f32⟩
  | .hbm, ⟨15, _⟩ => ⟨S4096x16384, .f32⟩
  | .hbm, ⟨16, _⟩ => ⟨S4096x16384, .bf16⟩
  | .hbm, ⟨17, _⟩ => ⟨S1x4096x4096, .f32⟩
  | .hbm, ⟨18, _⟩ => ⟨S4096x4096, .f32⟩
  | .hbm, ⟨19, _⟩ => ⟨S4096x4096, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S144x8192 : Shape := ⟨2, ![144, 8192]⟩
abbrev S2x8192x4096 : Shape := ⟨3, ![2, 8192, 4096]⟩
abbrev S144x4096 : Shape := ⟨2, ![144, 4096]⟩
abbrev S8192x4096 : Shape := ⟨2, ![8192, 4096]⟩
abbrev S1x8192x256 : Shape := ⟨3, ![1, 8192, 256]⟩
abbrev S144x256 : Shape := ⟨2, ![144, 256]⟩
abbrev S8192x256 : Shape := ⟨2, ![8192, 256]⟩

abbrev nBuf : Space → Nat
  | .hbm => 6
  | .vmem => 11
  | .smem => 0
  | _ => 0

abbrev bufTy : (tb : Table) → Fin (tcTables nBuf tb) → BufTy
  | .hbm, ⟨0, _⟩ => ⟨S144x8192, .bf16⟩
  | .hbm, ⟨1, _⟩ => ⟨S2x8192x4096, .f32⟩
  | .hbm, ⟨2, _⟩ => ⟨S144x4096, .f32⟩
  | .hbm, ⟨3, _⟩ => ⟨S144x4096, .f32⟩
  | .hbm, ⟨4, _⟩ => ⟨S144x4096, .bf16⟩
  | .hbm, ⟨5, _⟩ => ⟨S8192x4096, .bf16⟩
  | .local _ .vmem, ⟨0, _⟩ => ⟨S144x8192, .bf16⟩
  | .local _ .vmem, ⟨1, _⟩ => ⟨S1x8192x256, .f32⟩
  | .local _ .vmem, ⟨2, _⟩ => ⟨S1x8192x256, .f32⟩
  | .local _ .vmem, ⟨3, _⟩ => ⟨S144x256, .f32⟩
  | .local _ .vmem, ⟨4, _⟩ => ⟨S144x256, .f32⟩
  | .local _ .vmem, ⟨5, _⟩ => ⟨S144x256, .f32⟩
  | .local _ .vmem, ⟨6, _⟩ => ⟨S144x256, .f32⟩
  | .local _ .vmem, ⟨7, _⟩ => ⟨S144x256, .bf16⟩
  | .local _ .vmem, ⟨8, _⟩ => ⟨S144x256, .bf16⟩
  | .local _ .vmem, ⟨9, _⟩ => ⟨S8192x256, .bf16⟩
  | .local _ .vmem, ⟨10, _⟩ => ⟨S8192x256, .bf16⟩
  | _, _ => ⟨S144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S144x8192 : Shape := ⟨2, ![144, 8192]⟩
abbrev S2x8192x4096 : Shape := ⟨3, ![2, 8192, 4096]⟩
abbrev S144x4096 : Shape := ⟨2, ![144, 4096]⟩
abbrev S1x8192x4096 : Shape := ⟨3, ![1, 8192, 4096]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S144x8192, .bf16⟩
  | .hbm, ⟨1, _⟩ => ⟨S2x8192x4096, .f32⟩
  | .hbm, ⟨2, _⟩ => ⟨S144x4096, .f32⟩
  | .hbm, ⟨3, _⟩ => ⟨S1x8192x4096, .f32⟩
  | .hbm, ⟨4, _⟩ => ⟨S8192x4096, .f32⟩
  | .hbm, ⟨5, _⟩ => ⟨S8192x4096, .bf16⟩
  | .hbm, ⟨6, _⟩ => ⟨S144x8192, .f32⟩
  | .hbm, ⟨7, _⟩ => ⟨S8192x4096, .f32⟩
  | .hbm, ⟨8, _⟩ => ⟨S144x4096, .f32⟩
  | .hbm, ⟨9, _⟩ => ⟨S144x4096, .f32⟩
  | .hbm, ⟨10, _⟩ => ⟨S144x4096, .bf16⟩
  | _, _ => ⟨S144x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S144x4096 : Shape := ⟨2, ![144, 4096]⟩
abbrev S2x4096x18560 : Shape := ⟨3, ![2, 4096, 18560]⟩
abbrev S4096 : Shape := ⟨1, ![4096]⟩
abbrev S4096x1 : Shape := ⟨2, ![4096, 1]⟩
abbrev S144x18432 : Shape := ⟨2, ![144, 18432]⟩
abbrev S4096x18432 : Shape := ⟨2, ![4096, 18432]⟩
abbrev S1x4096x512 : Shape := ⟨3, ![1, 4096, 512]⟩
abbrev S144x512 : Shape := ⟨2, ![144, 512]⟩
abbrev S4096x512 : Shape := ⟨2, ![4096, 512]⟩
abbrev S144 : Shape := ⟨1, ![144]⟩
abbrev S144x1 : Shape := ⟨2, ![144, 1]⟩

abbrev nBuf : Space → Nat
  | .hbm => 6
  | .vmem => 8
  | .smem => 0
  | _ => 0

abbrev bufTy : (tb : Table) → Fin (tcTables nBuf tb) → BufTy
  | .hbm, ⟨0, _⟩ => ⟨S144x4096, .bf16⟩
  | .hbm, ⟨1, _⟩ => ⟨S2x4096x18560, .f32⟩
  | .hbm, ⟨2, _⟩ => ⟨S4096, .f32⟩
  | .hbm, ⟨3, _⟩ => ⟨S4096x1, .f32⟩
  | .hbm, ⟨4, _⟩ => ⟨S144x18432, .bf16⟩
  | .hbm, ⟨5, _⟩ => ⟨S4096x18432, .bf16⟩
  | .local _ .vmem, ⟨0, _⟩ => ⟨S144x4096, .bf16⟩
  | .local _ .vmem, ⟨1, _⟩ => ⟨S1x4096x512, .f32⟩
  | .local _ .vmem, ⟨2, _⟩ => ⟨S1x4096x512, .f32⟩
  | .local _ .vmem, ⟨3, _⟩ => ⟨S4096x1, .f32⟩
  | .local _ .vmem, ⟨4, _⟩ => ⟨S144x512, .bf16⟩
  | .local _ .vmem, ⟨5, _⟩ => ⟨S144x512, .bf16⟩
  | .local _ .vmem, ⟨6, _⟩ => ⟨S4096x512, .bf16⟩
  | .local _ .vmem, ⟨7, _⟩ => ⟨S4096x512, .bf16⟩
  | _, _ => ⟨S144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S144x4096 : Shape := ⟨2, ![144, 4096]⟩
abbrev S2x4096x18560 : Shape := ⟨3, ![2, 4096, 18560]⟩
abbrev S4096 : Shape := ⟨1, ![4096]⟩
abbrev S_ : Shape := ⟨0, ![]⟩
abbrev S144 : Shape := ⟨1, ![144]⟩
abbrev S144x1 : Shape := ⟨2, ![144, 1]⟩
abbrev S1x4096 : Shape := ⟨2, ![1, 4096]⟩
abbrev S1x4096x18432 : Shape := ⟨3, ![1, 4096, 18432]⟩
abbrev S4096x18432 : Shape := ⟨2, ![4096, 18432]⟩
abbrev S144x18432 : Shape := ⟨2, ![144, 18432]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S144x4096, .bf16⟩
  | .hbm, ⟨1, _⟩ => ⟨S2x4096x18560, .f32⟩
  | .hbm, ⟨2, _⟩ => ⟨S4096, .f32⟩
  | .hbm, ⟨3, _⟩ => ⟨S144x4096, .f32⟩
  | .hbm, ⟨4, _⟩ => ⟨S144x4096, .f32⟩
  | .hbm, ⟨5, _⟩ => ⟨S_, .f32⟩
  | .hbm, ⟨6, _⟩ => ⟨S144, .f32⟩
  | .hbm, ⟨7, _⟩ => ⟨S144x1, .f32⟩
  | .hbm, ⟨8, _⟩ => ⟨S_, .f32⟩
  | .hbm, ⟨9, _⟩ => ⟨S144x1, .f32⟩
  | .hbm, ⟨10, _⟩ => ⟨S144x1, .f32⟩
  | .hbm, ⟨11, _⟩ => ⟨S_, .f32⟩
  | .hbm, ⟨12, _⟩ => ⟨S144x1, .f32⟩
  | .hbm, ⟨13, _⟩ => ⟨S144x1, .f32⟩
  | .hbm, ⟨14, _⟩ => ⟨S144x1, .f32⟩
  | .hbm, ⟨15, _⟩ => ⟨S144x4096, .f32⟩
  | .hbm, ⟨16, _⟩ => ⟨S144x4096, .f32⟩
  | .hbm, ⟨17, _⟩ => ⟨S1x4096, .f32⟩
  | .hbm, ⟨18, _⟩ => ⟨S144x4096, .f32⟩
  | .hbm, ⟨19, _⟩ => ⟨S144x4096, .f32⟩
  | .hbm, ⟨20, _⟩ => ⟨S1x4096x18432, .f32⟩
  | .hbm, ⟨21, _⟩ => ⟨S4096x18432, .f32⟩
  | .hbm, ⟨22, _⟩ => ⟨S144x18432, .f32⟩
  | .hbm, ⟨23, _⟩ => ⟨S144x18432, .bf16⟩
  | .hbm, ⟨24, _⟩ => ⟨S4096x1, .f32⟩
  | .hbm, ⟨25, _⟩ => ⟨S4096x18432, .f32⟩
  | .hbm, ⟨26, _⟩ => ⟨S4096x18432, .f32⟩
  | .hbm, ⟨27, _⟩ => ⟨S4096x18432, .bf16⟩
  | _, _ => ⟨S144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel13.lean ====
abbrev S144x4096 : Shape := ⟨2, ![144, 4096]⟩
abbrev S2x4096x18560 : Shape := ⟨3, ![2, 4096, 18560]⟩
abbrev S4096 : Shape := ⟨1, ![4096]⟩
abbrev S4096x1 : Shape := ⟨2, ![4096, 1]⟩
abbrev S144x128 : Shape := ⟨2, ![144, 128]⟩
abbrev S4096x128 : Shape := ⟨2, ![4096, 128]⟩
abbrev S1x4096x128 : Shape := ⟨3, ![1, 4096, 128]⟩
abbrev S144 : Shape := ⟨1, ![144]⟩
abbrev S144x1 : Shape := ⟨2, ![144, 1]⟩

abbrev nBuf : Space → Nat
  | .hbm => 6
  | .vmem => 5
  | .smem => 0
  | _ => 0

abbrev bufTy : (tb : Table) → Fin (tcTables nBuf tb) → BufTy
  | .hbm, ⟨0, _⟩ => ⟨S144x4096, .bf16⟩
  | .hbm, ⟨1, _⟩ => ⟨S2x4096x18560, .f32⟩
  | .hbm, ⟨2, _⟩ => ⟨S4096, .f32⟩
  | .hbm, ⟨3, _⟩ => ⟨S4096x1, .f32⟩
  | .hbm, ⟨4, _⟩ => ⟨S144x128, .f32⟩
  | .hbm, ⟨5, _⟩ => ⟨S4096x128, .bf16⟩
  | .local _ .vmem, ⟨0, _⟩ => ⟨S144x4096, .bf16⟩
  | .local _ .vmem, ⟨1, _⟩ => ⟨S1x4096x128, .f32⟩
  | .local _ .vmem, ⟨2, _⟩ => ⟨S4096x1, .f32⟩
  | .local _ .vmem, ⟨3, _⟩ => ⟨S144x128, .f32⟩
  | .local _ .vmem, ⟨4, _⟩ => ⟨S4096x128, .bf16⟩
  | _, _ => ⟨S144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c144_i32 : BitVec 32 := 144#32
  let v0 : BitVec 32 := Scalar.addi c144_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference13Ideal.lean ====
abbrev S144x4096 : Shape := ⟨2, ![144, 4096]⟩
abbrev S2x4096x18560 : Shape := ⟨3, ![2, 4096, 18560]⟩
abbrev S4096 : Shape := ⟨1, ![4096]⟩
abbrev S_ : Shape := ⟨0, ![]⟩
abbrev S144 : Shape := ⟨1, ![144]⟩
abbrev S144x1 : Shape := ⟨2, ![144, 1]⟩
abbrev S1x4096 : Shape := ⟨2, ![1, 4096]⟩
abbrev S1x4096x128 : Shape := ⟨3, ![1, 4096, 128]⟩
abbrev S4096x128 : Shape := ⟨2, ![4096, 128]⟩
abbrev S144x128 : Shape := ⟨2, ![144, 128]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S144x4096, .bf16⟩
  | .hbm, ⟨1, _⟩ => ⟨S2x4096x18560, .f32⟩
  | .hbm, ⟨2, _⟩ => ⟨S4096, .f32⟩
  | .hbm, ⟨3, _⟩ => ⟨S144x4096, .f32⟩
  | .hbm, ⟨4, _⟩ => ⟨S144x4096, .f32⟩
  | .hbm, ⟨5, _⟩ => ⟨S_, .f32⟩
  | .hbm, ⟨6, _⟩ => ⟨S144, .f32⟩
  | .hbm, ⟨7, _⟩ => ⟨S144x1, .f32⟩
  | .hbm, ⟨8, _⟩ => ⟨S_, .f32⟩
  | .hbm, ⟨9, _⟩ => ⟨S144x1, .f32⟩
  | .hbm, ⟨10, _⟩ => ⟨S144x1, .f32⟩
  | .hbm, ⟨11, _⟩ => ⟨S_, .f32⟩
  | .hbm, ⟨12, _⟩ => ⟨S144x1, .f32⟩
  | .hbm, ⟨13, _⟩ => ⟨S144x1, .f32⟩
  | .hbm, ⟨14, _⟩ => ⟨S144x1, .f32⟩
  | .hbm, ⟨15, _⟩ => ⟨S144x4096, .f32⟩
  | .hbm, ⟨16, _⟩ => ⟨S144x4096, .f32⟩
  | .hbm, ⟨17, _⟩ => ⟨S1x4096, .f32⟩
  | .hbm, ⟨18, _⟩ => ⟨S144x4096, .f32⟩
  | .hbm, ⟨19, _⟩ => ⟨S144x4096, .f32⟩
  | .hbm, ⟨20, _⟩ => ⟨S1x4096x128, .f32⟩
  | .hbm, ⟨21, _⟩ => ⟨S4096x128, .f32⟩
  | .hbm, ⟨22, _⟩ => ⟨S144x128, .f32⟩
  | .hbm, ⟨23, _⟩ => ⟨S4096x1, .f32⟩
  | .hbm, ⟨24, _⟩ => ⟨S4096x128, .f32⟩
  | .hbm, ⟨25, _⟩ => ⟨S4096x128, .f32⟩
  | .hbm, ⟨26, _⟩ => ⟨S4096x128, .bf16⟩
  | _, _ => ⟨S144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel14.lean ====
abbrev S144x4096 : Shape := ⟨2, ![144, 4096]⟩
abbrev S4096x4096 : Shape := ⟨2, ![4096, 4096]⟩
abbrev S4096x1024 : Shape := ⟨2, ![4096, 1024]⟩
abbrev S144x1024 : Shape := ⟨2, ![144, 1024]⟩

abbrev nBuf : Space → Nat
  | .hbm => 5
  | .vmem => 9
  | .smem => 0
  | _ => 0

abbrev bufTy : (tb : Table) → Fin (tcTables nBuf tb) → BufTy
  | .hbm, ⟨0, _⟩ => ⟨S144x4096, .bf16⟩
  | .hbm, ⟨1, _⟩ => ⟨S4096x4096, .bf16⟩
  | .hbm, ⟨2, _⟩ => ⟨S144x4096, .f32⟩
  | .hbm, ⟨3, _⟩ => ⟨S144x4096, .f32⟩
  | .hbm, ⟨4, _⟩ => ⟨S144x4096, .bf16⟩
  | .local _ .vmem, ⟨0, _⟩ => ⟨S144x4096, .bf16⟩
  | .local _ .vmem, ⟨1, _⟩ => ⟨S4096x1024, .bf16⟩
  | .local _ .vmem, ⟨2, _⟩ => ⟨S4096x1024, .bf16⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .bf16⟩
  | .local _ .vmem, ⟨8, _⟩ => ⟨S144x1024, .bf16⟩
  | _, _ => ⟨S144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S144x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S144x4096 : Shape := ⟨2, ![144, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S144x4096, .bf16⟩
  | .hbm, ⟨1, _⟩ => ⟨S4096x4096, .bf16⟩
  | .hbm, ⟨2, _⟩ => ⟨S144x4096, .f32⟩
  | .hbm, ⟨3, _⟩ => ⟨S144x4096, .f32⟩
  | .hbm, ⟨4, _⟩ => ⟨S4096x4096, .f32⟩
  | .hbm, ⟨5, _⟩ => ⟨S144x4096, .f32⟩
  | .hbm, ⟨6, _⟩ => ⟨S144x4096, .f32⟩
  | .hbm, ⟨7, _⟩ => ⟨S144x4096, .bf16⟩
  | _, _ => ⟨S144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S144x4096 : Shape := ⟨2, ![144, 4096]⟩
abbrev S4096x16384 : Shape := ⟨2, ![4096, 16384]⟩
abbrev S144x16384 : Shape := ⟨2, ![144, 16384]⟩
abbrev S4096x1024 : Shape := ⟨2, ![4096, 1024]⟩
abbrev S144x1024 : Shape := ⟨2, ![144, 1024]⟩
abbrev S144x1 : Shape := ⟨2, ![144, 1]⟩
abbrev S144 : Shape := ⟨1, ![144]⟩

abbrev nBuf : Space → Nat
  | .hbm => 3
  | .vmem => 6
  | .smem => 0
  | _ => 0

abbrev bufTy : (tb : Table) → Fin (tcTables nBuf tb) → BufTy
  | .hbm, ⟨0, _⟩ => ⟨S144x4096, .bf16⟩
  | .hbm, ⟨1, _⟩ => ⟨S4096x16384, .bf16⟩
  | .hbm, ⟨2, _⟩ => ⟨S144x16384, .bf16⟩
  | .local _ .vmem, ⟨0, _⟩ => ⟨S144x4096, .bf16⟩
  | .local _ .vmem, ⟨1, _⟩ => ⟨S4096x1024, .bf16⟩
  | .local _ .vmem, ⟨2, _⟩ => ⟨S4096x1024, .bf16⟩
  | .local _ .vmem, ⟨3, _⟩ => ⟨S144x1024, .bf16⟩
  | .local _ .vmem, ⟨4, _⟩ => ⟨S144x1024, .bf16⟩
  | .local _ .vmem, ⟨5, _⟩ => ⟨S144x1, .f32⟩
  | _, _ => ⟨S144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S144x4096 : Shape := ⟨2, ![144, 4096]⟩
abbrev S4096x16384 : Shape := ⟨2, ![4096, 16384]⟩
abbrev S_ : Shape := ⟨0, ![]⟩
abbrev S144 : Shape := ⟨1, ![144]⟩
abbrev S144x1 : Shape := ⟨2, ![144, 1]⟩
abbrev S144x16384 : Shape := ⟨2, ![144, 16384]⟩

abbrev nBuf : Space → Nat
  | .hbm => 19
  | .vmem => 0
  | .smem => 0
  | _ => 0

abbrev bufTy : (tb : Table) → Fin (tcTables nBuf tb) → BufTy
  | .hbm, ⟨0, _⟩ => ⟨S144x4096, .bf16⟩
  | .hbm, ⟨1, _⟩ => ⟨S4096x16384, .bf16⟩
  | .hbm, ⟨2, _⟩ => ⟨S144x4096, .f32⟩
  | .hbm, ⟨3, _⟩ => ⟨S144x4096, .f32⟩
  | .hbm, ⟨4, _⟩ => ⟨S_, .f32⟩
  | .hbm, ⟨5, _⟩ => ⟨S144, .f32⟩
  | .hbm, ⟨6, _⟩ => ⟨S144x1, .f32⟩
  | .hbm, ⟨7, _⟩ => ⟨S_, .f32⟩
  | .hbm, ⟨8, _⟩ => ⟨S144x1, .f32⟩
  | .hbm, ⟨9, _⟩ => ⟨S144x1, .f32⟩
  | .hbm, ⟨10, _⟩ => ⟨S_, .f32⟩
  | .hbm, ⟨11, _⟩ => ⟨S144x1, .f32⟩
  | .hbm, ⟨12, _⟩ => ⟨S144x1, .f32⟩
  | .hbm, ⟨13, _⟩ => ⟨S144x1, .f32⟩
  | .hbm, ⟨14, _⟩ => ⟨S144x4096, .f32⟩
  | .hbm, ⟨15, _⟩ => ⟨S144x4096, .f32⟩
  | .hbm, ⟨16, _⟩ => ⟨S4096x16384, .f32⟩
  | .hbm, ⟨17, _⟩ => ⟨S144x16384, .f32⟩
  | .hbm, ⟨18, _⟩ => ⟨S144x16384, .bf16⟩
  | _, _ => ⟨S144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S9x16x18432 : Shape := ⟨3, ![9, 16, 18432]⟩
abbrev S9x16x128 : Shape := ⟨3, ![9, 16, 128]⟩
abbrev S9x8x8192 : Shape := ⟨3, ![9, 8, 8192]⟩
abbrev S9x8x2048 : Shape := ⟨3, ![9, 8, 2048]⟩
abbrev S16x8192x128 : Shape := ⟨3, ![16, 8192, 128]⟩
abbrev S2x8x8192x128 : Shape := ⟨4, ![2, 8, 8192, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S128x64 : Shape := ⟨2, ![128, 64]⟩
abbrev S4x8192 : Shape := ⟨2, ![4, 8192]⟩
abbrev S4x2048 : Shape := ⟨2, ![4, 2048]⟩
abbrev S2048 : Shape := ⟨1, ![2048]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S128x512 : Shape := ⟨2, ![128, 512]⟩
abbrev S1x8192 : Shape := ⟨2, ![1, 8192]⟩
abbrev S1x2048 : Shape := ⟨2, ![1, 2048]⟩
abbrev S9x16x8192 : Shape := ⟨3, ![9, 16, 8192]⟩
abbrev S1x8192x128 : Shape := ⟨3, ![1, 8192, 128]⟩
abbrev S1x16x8192 : Shape := ⟨3, ![1, 16, 8192]⟩
abbrev S1x16x2048 : Shape := ⟨3, ![1, 16, 2048]⟩
abbrev S1x16x128 : Shape := ⟨3, ![1, 16, 128]⟩
abbrev S1x8x8192 : Shape := ⟨3, ![1, 8, 8192]⟩
abbrev S1x8x2048 : Shape := ⟨3, ![1, 8, 2048]⟩
abbrev S1x1x8192x128 : Shape := ⟨4, ![1, 1, 8192, 128]⟩
abbrev S8x8192 : Shape := ⟨2, ![8, 8192]⟩
abbrev S8x2048 : Shape := ⟨2, ![8, 2048]⟩
abbrev S128x8192 : Shape := ⟨2, ![128, 8192]⟩
abbrev S1x128x128 : Shape := ⟨3, ![1, 128, 128]⟩
abbrev S16x128 : Shape := ⟨2, ![16, 128]⟩
abbrev S112x128 : Shape := ⟨2, ![112, 128]⟩
abbrev S16x2048 : Shape := ⟨2, ![16, 2048]⟩
abbrev S112x2048 : Shape := ⟨2, ![112, 2048]⟩
abbrev S128x2048 : Shape := ⟨2, ![128, 2048]⟩
abbrev S128x1024 : Shape := ⟨2, ![128, 1024]⟩
abbrev S8x1024 : Shape := ⟨2, ![8, 1024]⟩
abbrev S4x1024 : Shape := ⟨2, ![4, 1024]⟩
abbrev S1x1024 : Shape := ⟨2, ![1, 1024]⟩
abbrev S512x1024 : Shape := ⟨2, ![512, 1024]⟩
abbrev S120x1024 : Shape := ⟨2, ![120, 1024]⟩
abbrev S16x1024 : Shape := ⟨2, ![16, 1024]⟩
abbrev S1x16x512 : Shape := ⟨3, ![1, 16, 512]⟩
abbrev S16x512 : Shape := ⟨2, ![16, 512]⟩
abbrev S112x512 : Shape := ⟨2, ![112, 512]⟩
abbrev S8x512 : Shape := ⟨2, ![8, 512]⟩
abbrev S4x512 : Shape := ⟨2, ![4, 512]⟩
abbrev S1x512 : Shape := ⟨2, ![1, 512]⟩
abbrev S512x512 : Shape := ⟨2, ![512, 512]⟩
abbrev S120x512 : Shape := ⟨2, ![120, 512]⟩
abbrev S128x256 : Shape := ⟨2, ![128, 256]⟩
abbrev S256x256 : Shape := ⟨2, ![256, 256]⟩
abbrev S256x128 : Shape := ⟨2, ![256, 128]⟩
abbrev S1x1x128x128 : Shape := ⟨4, ![1, 1, 128, 128]⟩

abbrev nBuf : Space → Nat
  | .hbm => 59
  | .vmem => 35
  | .smem => 0
  | _ => 0

abbrev bufTy : (tb : Table) → Fin (tcTables nBuf tb) → BufTy
  | .hbm, ⟨0, _⟩ => ⟨S9x16x18432, .bf16⟩
  | .hbm, ⟨1, _⟩ => ⟨S9x16x128, .f32⟩
  | .hbm, ⟨2, _⟩ => ⟨S9x8x8192, .f32⟩
  | .hbm, ⟨3, _⟩ => ⟨S9x8x2048, .f32⟩
  | .hbm, ⟨4, _⟩ => ⟨S16x8192x128, .f32⟩
  | .hbm, ⟨5, _⟩ => ⟨S2x8x8192x128, .f32⟩
  | .hbm, ⟨6, _⟩ => ⟨S4x10240, .f32⟩
  | .hbm, ⟨7, _⟩ => ⟨S10240, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S8192, .f32⟩
  | .hbm, ⟨12, _⟩ => ⟨S128x64, .f32⟩
  | .hbm, ⟨13, _⟩ => ⟨S8192, .f32⟩
  | .hbm, ⟨14, _⟩ => ⟨S4x8192, .f32⟩
  | .hbm, ⟨15, _⟩ => ⟨S4x2048, .f32⟩
  | .hbm, ⟨16, _⟩ => ⟨S8192, .f32⟩
  | .hbm, ⟨17, _⟩ => ⟨S2048, .f32⟩
  | .hbm, ⟨18, _⟩ => ⟨S128, .i32⟩
  | .hbm, ⟨19, _⟩ => ⟨S128x1, .i32⟩
  | .hbm, ⟨20, _⟩ => ⟨S128, .i32⟩
  | .hbm, ⟨21, _⟩ => ⟨S1x128, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x512, .i1⟩
  | .hbm, ⟨47, _⟩ => ⟨S128x512, .bf16⟩
  | .hbm, ⟨48, _⟩ => ⟨S1x8192, .f32⟩
  | .hbm, ⟨49, _⟩ => ⟨S1x2048, .f32⟩
  | .hbm, ⟨50, _⟩ => ⟨S1x128, .f32⟩
  | .hbm, ⟨51, _⟩ => ⟨S1x128, .f32⟩
  | .hbm, ⟨52, _⟩ => ⟨S1x8192, .f32⟩
  | .hbm, ⟨53, _⟩ => ⟨S1x8192, .f32⟩
  | .hbm, ⟨54, _⟩ => ⟨S9x16x8192, .bf16⟩
  | .hbm, ⟨55, _⟩ => ⟨S9x8x8192, .f32⟩
  | .hbm, ⟨56, _⟩ => ⟨S9x8x2048, .f32⟩
  | .hbm, ⟨57, _⟩ => ⟨S1x8192x128, .f32⟩
  | .hbm, ⟨58, _⟩ => ⟨S2x8x8192x128, .f32⟩
  | .local _ .vmem, ⟨0, _⟩ => ⟨S1x16x8192, .bf16⟩
  | .local _ .vmem, ⟨1, _⟩ => ⟨S1x16x8192, .bf16⟩
  | .local _ .vmem, ⟨2, _⟩ => ⟨S1x16x8192, .bf16⟩
  | .local _ .vmem, ⟨3, _⟩ => ⟨S1x16x8192, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x16x128, .f32⟩
  | .local _ .vmem, ⟨7, _⟩ => ⟨S1x16x128, .f32⟩
  | .local _ .vmem, ⟨8, _⟩ => ⟨S1x8x8192, .f32⟩
  | .local _ .vmem, ⟨9, _⟩ => ⟨S1x8x8192, .f32⟩
  | .local _ .vmem, ⟨10, _⟩ => ⟨S1x8x2048, .f32⟩
  | .local _ .vmem, ⟨11, _⟩ => ⟨S1x8x2048, .f32⟩
  | .local _ .vmem, ⟨12, _⟩ => ⟨S1x8192x128, .f32⟩
  | .local _ .vmem, ⟨13, _⟩ => ⟨S1x8192x128, .f32⟩
  | .local _ .vmem, ⟨14, _⟩ => ⟨S128x512, .bf16⟩
  | .local _ .vmem, ⟨15, _⟩ => ⟨S4x8192, .f32⟩
  | .local _ .vmem, ⟨16, _⟩ => ⟨S4x2048, .f32⟩
  | .local _ .vmem, ⟨17, _⟩ => ⟨S1x8192, .f32⟩
  | .local _ .vmem, ⟨18, _⟩ => ⟨S1x2048, .f32⟩
  | .local _ .vmem, ⟨19, _⟩ => ⟨S1x128, .f32⟩
  | .local _ .vmem, ⟨20, _⟩ => ⟨S1x128, .f32⟩
  | .local _ .vmem, ⟨21, _⟩ => ⟨S1x8192, .f32⟩
  | .local _ .vmem, ⟨22, _⟩ => ⟨S1x8192, .f32⟩
  | .local _ .vmem, ⟨23, _⟩ => ⟨S1x16x8192, .bf16⟩
  | .local _ .vmem, ⟨24, _⟩ => ⟨S1x16x8192, .bf16⟩
  | .local _ .vmem, ⟨25, _⟩ => ⟨S1x8x8192, .f32⟩
  | .local _ .vmem, ⟨26, _⟩ => ⟨S1x8x8192, .f32⟩
  | .local _ .vmem, ⟨27, _⟩ => ⟨S1x8x2048, .f32⟩
  | .local _ .vmem, ⟨28, _⟩ => ⟨S1x8x2048, .f32⟩
  | .local _ .vmem, ⟨29, _⟩ => ⟨S1x8192x128, .f32⟩
  | .local _ .vmem, ⟨30, _⟩ => ⟨S1x1x8192x128, .f32⟩
  | .local _ .vmem, ⟨31, _⟩ => ⟨S1x1x8192x128, .f32⟩
  | .local _ .vmem, ⟨32, _⟩ => ⟨S8x8192, .f32⟩
  | .local _ .vmem, ⟨33, _⟩ => ⟨S8x2048, .f32⟩
  | .local _ .vmem, ⟨34, _⟩ => ⟨S128x8192, .f32⟩
  | _, _ => ⟨S9x16x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev main_v38_3 : Ref sig .tc := ⟨.hbm, 57, rfl⟩
abbrev main_v38_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![9, 1], ![false, false]⟩

def k0_cond3 (i : grid0.Coords) : BitVec 1 :=
  let arg1 : BitVec 32 := BitVec.ofNat 32 (i 1).val
  let c0_i32_1231 : BitVec 32 := 0#32
  let v5703 : BitVec 1 := Scalar.cmpi .eq arg1 c0_i32_1231
  let v5704 : BitVec 32 := Scalar.extui v5703
  let c0_i32_1232 : BitVec 32 := 0#32
  let v5705 : BitVec 1 := Scalar.cmpi .ne v5704 c0_i32_1232
  v5705

def k0_cond4 (i : grid0.Coords) : BitVec 1 :=
  let arg1 : BitVec 32 := BitVec.ofNat 32 (i 1).val
  let c0_i32_1231 : BitVec 32 := 0#32
  let v5703 : BitVec 1 := Scalar.cmpi .eq arg1 c0_i32_1231
  let arg0 : BitVec 32 := BitVec.ofNat 32 (i 0).val
  let c0_i32_1233 : BitVec 32 := 0#32
  let v5706 : BitVec 1 := Scalar.cmpi .eq arg0 c0_i32_1233
  let v5707 : BitVec 1 := Scalar.andi v5703 v5706
  let v5708 : BitVec 32 := Scalar.extui v5707
  let c0_i32_1234 : BitVec 32 := 0#32
  let v5709 : BitVec 1 := Scalar.cmpi .ne v5708 c0_i32_1234
  v5709

def k0_cond5 (i : grid0.Coords) : BitVec 1 :=
  let arg1 : BitVec 32 := BitVec.ofNat 32 (i 1).val
  let c0_i32_1231 : BitVec 32 := 0#32
  let v5703 : BitVec 1 := Scalar.cmpi .eq arg1 c0_i32_1231
  let arg0 : BitVec 32 := BitVec.ofNat 32 (i 0).val
  let c0_i32_1235 : BitVec 32 := 0#32
  let v5710 : BitVec 1 := Scalar.cmpi .sgt arg0 c0_i32_1235
  let v5711 : BitVec 1 := Scalar.andi v5703 v5710
  let v5712 : BitVec 32 := Scalar.extui v5711
  let c0_i32_1236 : BitVec 32 := 0#32
  let v5713 : BitVec 1 := Scalar.cmpi .ne v5712 c0_i32_1236
  v5713

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![v2.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

abbrev stage0_0 : Fin 2 → Memref sig .tc .vmem S1x16x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x8192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x16x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x8192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S1x8192x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x1x8192x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Kernel16Ideal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== Reference16Ideal.lean ====
abbrev S9x16x18432 : Shape := ⟨3, ![9, 16, 18432]⟩
abbrev S9x16x128 : Shape := ⟨3, ![9, 16, 128]⟩
abbrev S9x8x8192 : Shape := ⟨3, ![9, 8, 8192]⟩
abbrev S9x8x2048 : Shape := ⟨3, ![9, 8, 2048]⟩
abbrev S16x8192x128 : Shape := ⟨3, ![16, 8192, 128]⟩
abbrev S2x8x8192x128 : Shape := ⟨4, ![2, 8, 8192, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S9x16x10240 : Shape := ⟨3, ![9, 16, 10240]⟩

abbrev nBuf : Space → Nat
  | .hbm => 16
  | .vmem => 0
  | .smem => 0
  | _ => 0

abbrev bufTy : (tb : Table) → Fin (tcTables nBuf tb) → BufTy
  | .hbm, ⟨0, _⟩ => ⟨S9x16x18432, .bf16⟩
  | .hbm, ⟨1, _⟩ => ⟨S9x16x128, .f32⟩
  | .hbm, ⟨2, _⟩ => ⟨S9x8x8192, .f32⟩
  | .hbm, ⟨3, _⟩ => ⟨S9x8x2048, .f32⟩
  | .hbm, ⟨4, _⟩ => ⟨S16x8192x128, .f32⟩
  | .hbm, ⟨5, _⟩ => ⟨S2x8x8192x128, .f32⟩
  | .hbm, ⟨6, _⟩ => ⟨S4x10240, .f32⟩
  | .hbm, ⟨7, _⟩ => ⟨S10240, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S8192, .f32⟩
  | .hbm, ⟨12, _⟩ => ⟨S9x16x18432, .f32⟩
  | .hbm, ⟨13, _⟩ => ⟨S9x16x10240, .f32⟩
  | .hbm, ⟨14, _⟩ => ⟨S9x8x8192, .f32⟩
  | .hbm, ⟨15, _⟩ => ⟨S9x8x2048, .f32⟩
  | _, _ => ⟨S9x16x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== Proof.Kernel2IdealRun.Runs.lean ====
/-
  The frame of `Kernel2Ideal`: what the runs of the body share.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Fgt

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel2`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 18) — by arithmetic of the point. -/
theorem hcond0_0 : ∀ t : Fin cfg0.N, cond0_0 (grid0.coords t) ↔ t.val % 18 = 0 :=
  (fun t => by
    have ht : t.val < 288 := Nat.lt_of_lt_of_eq t.isLt N_0
    have e0 : (grid0.coords t 0).val = t.val / 18 % 16 := Pipeline.Grid.coords_val t 0 (by decide) rfl
    have e1 : (grid0.coords t 1).val = t.val / 1 % 18 := Pipeline.Grid.coords_val t 1 (by decide) rfl
    simp only [cond0_0, k0_cond1, e0, e1]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x1 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Fgt

end
-- ==== Proof.Kernel2IdealRun.RunA.lean ====
/-
  The frame of `Kernel2Ideal`: the run of the whole body in one case of its conditions.
-/
module

public import proofs.«01_k».proof.Proof.Kernel2IdealRun.Runs

@[expose] public section

-- membership in a rectangle of production extents (`View.cover_of_tiled`): the elaborator's structural look
-- recurses once per coordinate of the long axes
set_option maxRecDepth 16384

noncomputable section

namespace Cert.Kernel2Ideal.Fgt

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 18, … 270: 16 of 288): on whole staging memrefs — the inputs' at their contents,
    the FORGOTTEN outputs' (3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S4096x128 .bf16) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1 .f32) (harg7 : arg7.IsWhole) (hc0 : cond0_0 i)
    (x0 : Vec F S1024x4096 .bf16) (x1 : Vec F S4096x1024 .bf16) (x2 : Vec F S4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_matmul_norm i arg2 harg2 arg3 harg3 arg4 harg4 arg5 harg5 arg6 harg6 arg7 harg7) K := by
    intro E K
    simp only [cc0_matmul_norm_eq_skeleton]; unfold cc0_matmul_norm_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.Kernel2Ideal.Fgt

end
-- ==== Proof.Kernel2IdealRun.RunB.lean ====
/-
  The frame of `Kernel2Ideal`: the run of the whole body in one case of its conditions.
-/
module

public import proofs.«01_k».proof.Proof.Kernel2IdealRun.RunA

@[expose] public section

-- membership in a rectangle of production extents (`View.cover_of_tiled`): the elaborator's structural look
-- recurses once per coordinate of the long axes
set_option maxRecDepth 16384

noncomputable section

namespace Cert.Kernel2Ideal.Fgt

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 287: 272 of 288): on whole staging memrefs — the inputs' at their contents,
    the FORGOTTEN outputs' (3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S4096x128 .bf16) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1 .f32) (harg7 : arg7.IsWhole) (hc0 : ¬cond0_0 i)
    (x0 : Vec F S1024x4096 .bf16) (x1 : Vec F S4096x1024 .bf16) (x2 : Vec F S4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_matmul_norm i arg2 harg2 arg3 harg3 arg4 harg4 arg5 harg5 arg6 harg6 arg7 harg7) K := by
    intro E K
    simp only [cc0_matmul_norm_eq_skeleton]; unfold cc0_matmul_norm_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.Kernel2Ideal.Fgt

end
-- ==== Proof.Kernel2IdealRun.Frame.lean ====
/-
  The frame of `Kernel2Ideal`: the proof data, the body obligation and the frame, the outputs’ contents left unstated.
-/
module

public import proofs.«01_k».proof.Proof.Kernel2IdealRun.RunB
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Fgt

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4): nothing reads what the kernel leaves in them, so nothing
    of it is named (Lib/Pipeline/Dat.lean `Dat.toRForget`). -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 288 := lt_of_lt_of_eq t.isLt (show cfg0.N = 288 from N_0)
  by_cases h0 : t.val % 18 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel2`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel2Ideal.Fgt

end
-- ==== Proof.Kernel3IdealRun.Runs.lean ====
/-
  The frame of `Kernel3Ideal`: what the runs of the body share.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Fgt

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel3`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 6 rfl).trans ((hA c 6).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0, 1, 2, 3, 4, 5, 6, 7, 8, 9, 10, 11, 12, 13, 14 or 15 (mod 64) — decided over the grid. -/
theorem hcond0_0 : ∀ t : Fin cfg0.N, cond0_0 (grid0.coords t) ↔ (t.val % 64 = 0 ∨ t.val % 64 = 1 ∨ t.val % 64 = 2 ∨ t.val % 64 = 3 ∨ t.val % 64 = 4 ∨ t.val % 64 = 5 ∨ t.val % 64 = 6 ∨ t.val % 64 = 7 ∨ t.val % 64 = 8 ∨ t.val % 64 = 9 ∨ t.val % 64 = 10 ∨ t.val % 64 = 11 ∨ t.val % 64 = 12 ∨ t.val % 64 = 13 ∨ t.val % 64 = 14 ∨ t.val % 64 = 15) :=
  (by decide +kernel : ∀ t : Fin grid0.N, cond0_0 (grid0.coords t) ↔ (t.val % 64 = 0 ∨ t.val % 64 = 1 ∨ t.val % 64 = 2 ∨ t.val % 64 = 3 ∨ t.val % 64 = 4 ∨ t.val % 64 = 5 ∨ t.val % 64 = 6 ∨ t.val % 64 = 7 ∨ t.val % 64 = 8 ∨ t.val % 64 = 9 ∨ t.val % 64 = 10 ∨ t.val % 64 = 11 ∨ t.val % 64 = 12 ∨ t.val % 64 = 13 ∨ t.val % 64 = 14 ∨ t.val % 64 = 15))

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_1 : ∀ t : Fin cfg0.N, cond0_1 (grid0.coords t) ↔ t.val % 16 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S16x8x256 .f32 := Memref.whole cc0_scratch0
abbrev scM0_1 : Memref sig .tc .vmem S1024x1 .f32 := Memref.whole cc0_scratch1
/-- The scratch `arg12` the kernel carries between points, as a view: what it holds is stated through it. -/
abbrev VS0_1 : View sig .tc .vmem S1024x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Fgt

end
-- ==== Proof.Kernel3IdealRun.RunA.lean ====
/-
  The frame of `Kernel3Ideal`: the run of the whole body in one case of its conditions.
-/
module

public import proofs.«01_k».proof.Proof.Kernel3IdealRun.Runs

@[expose] public section

-- membership in a rectangle of production extents (`View.cover_of_tiled`): the elaborator's structural look
-- recurses once per coordinate of the long axes
set_option maxRecDepth 16384

noncomputable section

namespace Cert.Kernel3Ideal.Fgt

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0, 64, 128, 192), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_A (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) :
    { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS1)) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _; iexact HS1

end Cert.Kernel3Ideal.Fgt

end
-- ==== Proof.Kernel3IdealRun.RunB.lean ====
/-
  The frame of `Kernel3Ideal`: the run of the whole body in one case of its conditions.
-/
module

public import proofs.«01_k».proof.Proof.Kernel3IdealRun.RunA

@[expose] public section

-- membership in a rectangle of production extents (`View.cover_of_tiled`): the elaborator's structural look
-- recurses once per coordinate of the long axes
set_option maxRecDepth 16384

noncomputable section

namespace Cert.Kernel3Ideal.Fgt

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken, `scf.if` 1 not taken: points 1, 2, … 207: 60 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_B (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : cond0_0 i) (hc1 : ¬cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (xs1 : Vec F S1024x1 .f32) :
    { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _; isplitr; · ipureintro; exact harg12.read_unread _
    iexact HS1

end Cert.Kernel3Ideal.Fgt

end
-- ==== Proof.Kernel3IdealRun.RunC.lean ====
/-
  The frame of `Kernel3Ideal`: the run of the whole body in one case of its conditions.
-/
module

public import proofs.«01_k».proof.Proof.Kernel3IdealRun.RunB

@[expose] public section

-- membership in a rectangle of production extents (`View.cover_of_tiled`): the elaborator's structural look
-- recurses once per coordinate of the long axes
set_option maxRecDepth 16384

noncomputable section

namespace Cert.Kernel3Ideal.Fgt

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 16, 32, … 240: 12 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_C (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : ¬cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) :
    { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS1)) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _; iexact HS1

end Cert.Kernel3Ideal.Fgt

end
-- ==== Proof.Kernel3IdealRun.RunD.lean ====
/-
  The frame of `Kernel3Ideal`: the run of the whole body in one case of its conditions.
-/
module

public import proofs.«01_k».proof.Proof.Kernel3IdealRun.RunC

@[expose] public section

-- membership in a rectangle of production extents (`View.cover_of_tiled`): the elaborator's structural look
-- recurses once per coordinate of the long axes
set_option maxRecDepth 16384

noncomputable section

namespace Cert.Kernel3Ideal.Fgt

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken: points 17, 18, … 255: 180 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_D (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : ¬cond0_0 i) (hc1 : ¬cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (xs1 : Vec F S1024x1 .f32) :
    { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _; isplitr; · ipureintro; exact harg12.read_unread _
    iexact HS1

end Cert.Kernel3Ideal.Fgt

end
-- ==== Proof.Kernel3IdealRun.Frame.lean ====
/-
  The frame of `Kernel3Ideal`: the proof data, the body obligation and the frame, the outputs’ contents left unstated.
-/
module

public import proofs.«01_k».proof.Proof.Kernel3IdealRun.RunD
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Fgt

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 1 piece of `S1024x1` tiling it (Lib/Ring.lean `Piece.tiledL`). -/
theorem scover0_A_1 (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1 S1024x1.size (by sl_kernel_rfl) y

/-- What case A leaves in scratch `arg12`: its pieces read back over junk. -/
def sout0_A_1 (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case B stores nothing into scratch `arg12`: it holds what the point before left. -/
def sout0_B_1 (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : cond0_0 i) (hc1 : ¬cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (xs1 : Vec F S1024x1 .f32) : Vec F S1024x1 .f32 := xs1

/-- Case C's pieces for scratch `arg12`, which the kernel carries between points, cover it: 1 piece of `S1024x1` tiling it (Lib/Ring.lean `Piece.tiledL`). -/
theorem scover0_C_1 (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : ¬cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6).1 S1024x1.size (by sl_kernel_rfl) y

/-- What case C leaves in scratch `arg12`: its pieces read back over junk. -/
def sout0_C_1 (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : ¬cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case D stores nothing into scratch `arg12`: it holds what the point before left. -/
def sout0_D_1 (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : ¬cond0_0 i) (hc1 : ¬cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (xs1 : Vec F S1024x1 .f32) : Vec F S1024x1 .f32 := xs1

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1 .f32
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (by (try dsimp only); omega)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : ((n + 1) % 64 = 0 ∨ (n + 1) % 64 = 1 ∨ (n + 1) % 64 = 2 ∨ (n + 1) % 64 = 3 ∨ (n + 1) % 64 = 4 ∨ (n + 1) % 64 = 5 ∨ (n + 1) % 64 = 6 ∨ (n + 1) % 64 = 7 ∨ (n + 1) % 64 = 8 ∨ (n + 1) % 64 = 9 ∨ (n + 1) % 64 = 10 ∨ (n + 1) % 64 = 11 ∨ (n + 1) % 64 = 12 ∨ (n + 1) % 64 = 13 ∨ (n + 1) % 64 = 14 ∨ (n + 1) % 64 = 15) then
      if h1 : (n + 1) % 16 = 0 then
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
      else
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))
    else
      if h1 : (n + 1) % 16 = 0 then
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
      else
        sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a point of case A: that case's contents. -/
theorem outsAt0_A (c : Dev nD) (t : Fin cfg0.N) (h0 : (t.val % 64 = 0 ∨ t.val % 64 = 1 ∨ t.val % 64 = 2 ∨ t.val % 64 = 3 ∨ t.val % 64 = 4 ∨ t.val % 64 = 5 ∨ t.val % 64 = 6 ∨ t.val % 64 = 7 ∨ t.val % 64 = 8 ∨ t.val % 64 = 9 ∨ t.val % 64 = 10 ∨ t.val % 64 = 11 ∨ t.val % 64 = 12 ∨ t.val % 64 = 13 ∨ t.val % 64 = 14 ∨ t.val % 64 = 15)) (h1 : t.val % 16 = 0) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : (t.val % 64 = 0 ∨ t.val % 64 = 1 ∨ t.val % 64 = 2 ∨ t.val % 64 = 3 ∨ t.val % 64 = 4 ∨ t.val % 64 = 5 ∨ t.val % 64 = 6 ∨ t.val % 64 = 7 ∨ t.val % 64 = 8 ∨ t.val % 64 = 9 ∨ t.val % 64 = 10 ∨ t.val % 64 = 11 ∨ t.val % 64 = 12 ∨ t.val % 64 = 13 ∨ t.val % 64 = 14 ∨ t.val % 64 = 15)) (h1 : ¬t.val % 16 = 0) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans rfl)

/-- `outsAt0` at a point of case C: that case's contents. -/
theorem outsAt0_C (c : Dev nD) (t : Fin cfg0.N) (h0 : ¬(t.val % 64 = 0 ∨ t.val % 64 = 1 ∨ t.val % 64 = 2 ∨ t.val % 64 = 3 ∨ t.val % 64 = 4 ∨ t.val % 64 = 5 ∨ t.val % 64 = 6 ∨ t.val % 64 = 7 ∨ t.val % 64 = 8 ∨ t.val % 64 = 9 ∨ t.val % 64 = 10 ∨ t.val % 64 = 11 ∨ t.val % 64 = 12 ∨ t.val % 64 = 13 ∨ t.val % 64 = 14 ∨ t.val % 64 = 15)) (h1 : t.val % 16 = 0) :
    outsAt0 m c t.val t.isLt = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact by omega)
  | succ n => exact (dif_neg h0).trans ((dif_pos h1).trans rfl)

/-- `outsAt0` at a point of case D: that case's contents, over what the point before left. -/
theorem outsAt0_D (c : Dev nD) (t : Fin cfg0.N) (h0 : ¬(t.val % 64 = 0 ∨ t.val % 64 = 1 ∨ t.val % 64 = 2 ∨ t.val % 64 = 3 ∨ t.val % 64 = 4 ∨ t.val % 64 = 5 ∨ t.val % 64 = 6 ∨ t.val % 64 = 7 ∨ t.val % 64 = 8 ∨ t.val % 64 = 9 ∨ t.val % 64 = 10 ∨ t.val % 64 = 11 ∨ t.val % 64 = 12 ∨ t.val % 64 = 13 ∨ t.val % 64 = 14 ∨ t.val % 64 = 15)) (h1 : ¬t.val % 16 = 0) :
    outsAt0 m c t.val t.isLt = sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans ((dif_neg h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)))) ∗ (∃ r, prngReg c r)) := by
  cases n with
  | zero => exact absurd rfl hz
  | succ n => rfl

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 256 := lt_of_lt_of_eq t.isLt (show cfg0.N = 256 from N_0)
  by_cases h0 : (t.val % 64 = 0 ∨ t.val % 64 = 1 ∨ t.val % 64 = 2 ∨ t.val % 64 = 3 ∨ t.val % 64 = 4 ∨ t.val % 64 = 5 ∨ t.val % 64 = 6 ∨ t.val % 64 = 7 ∨ t.val % 64 = 8 ∨ t.val % 64 = 9 ∨ t.val % 64 = 10 ∨ t.val % 64 = 11 ∨ t.val % 64 = 12 ∨ t.val % 64 = 13 ∨ t.val % 64 = 14 ∨ t.val % 64 = 15)
  · by_cases h1 : t.val % 16 = 0
    · by_cases hz : t.val = 0
      · rw [PhiS_castSucc m c t, PhiS_zero m c _ _ hz, PhiA0_eq]
        rw [outsAt0_A m c t h0 h1]
        unfold sout0_A_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, H7, H8, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · rw [PhiS_castSucc m c t, PhiS_pos m c _ _ hz]
        rw [outsAt0_A m c t h0 h1]
        unfold sout0_A_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexists _; iexact HS1
        iintro ⟨H0, H1, H2, H3, H4, H5, H6, H7, H8, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · by_cases hz : t.val = 0
      · exfalso; have hN : t.val < 256 := lt_of_lt_of_eq t.isLt (show cfg0.N = 256 from N_0); omega
      · rw [PhiS_castSucc m c t, PhiS_pos m c _ _ hz]
        rw [outsAt0_B m c t h0 h1]
        unfold sout0_B_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, H7, H8, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
  · by_cases h1 : t.val % 16 = 0
    · by_cases hz : t.val = 0
      · exfalso; have hN : t.val < 256 := lt_of_lt_of_eq t.isLt (show cfg0.N = 256 from N_0); omega
      · rw [PhiS_castSucc m c t, PhiS_pos m c _ _ hz]
        rw [outsAt0_C m c t h0 h1]
        unfold sout0_C_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexists _; iexact HS1
        iintro ⟨H0, H1, H2, H3, H4, H5, H6, H7, H8, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · by_cases hz : t.val = 0
      · exfalso; have hN : t.val < 256 := lt_of_lt_of_eq t.isLt (show cfg0.N = 256 from N_0); omega
      · rw [PhiS_castSucc m c t, PhiS_pos m c _ _ hz]
        rw [outsAt0_D m c t h0 h1]
        unfold sout0_D_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_D c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, H7, H8, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel3`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel3Ideal.Fgt

end
-- ==== Proof.Kernel16Run.RunA.lean ====
/-
  The frame of `Kernel16`: the run of the body at the first point.
-/
module

public import proofs.«01_k».proof.Proof.Kernel16Run.Runs

@[expose] public section

set_option maxRecDepth 16384

noncomputable section

namespace Cert.Kernel16.Fgt

open Cert.Kernel16.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 5436000 in
theorem kernelRun0_A (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : cond0_1 i) (hc2 : cond0_2 i) (hc3 : cond0_3 i) (hc4 : ¬cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_ssd_core i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Memref.whole main_arg5) (Memref.isWhole_whole _) arg19 harg19 arg20 harg20 arg21 harg21 arg22 harg22 arg23 harg23 arg24 harg24 arg25 harg25 arg26 harg26) K := by
    intro E K
    simp only [cc0_ssd_core_eq_skeleton]; unfold cc0_ssd_core_skel
    simp only [k0_part156_eq_skeleton, k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part157_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel16.Fgt

end
-- ==== Proof.Kernel16Run.RunB.lean ====
/-
  The frame of `Kernel16`: the run of the body at the later points.
-/
module

public import proofs.«01_k».proof.Proof.Kernel16Run.RunA

@[expose] public section

set_option maxRecDepth 16384

noncomputable section

namespace Cert.Kernel16.Fgt

open Cert.Kernel16.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 5440000 in
theorem kernelRun0_B (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : ¬cond0_1 i) (hc2 : cond0_2 i) (hc3 : ¬cond0_3 i) (hc4 : cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_ssd_core i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Memref.whole main_arg5) (Memref.isWhole_whole _) arg19 harg19 arg20 harg20 arg21 harg21 arg22 harg22 arg23 harg23 arg24 harg24 arg25 harg25 arg26 harg26) K := by
    intro E K
    simp only [cc0_ssd_core_eq_skeleton]; unfold cc0_ssd_core_skel
    simp only [k0_part156_eq_skeleton, k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part157_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part37_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel16.Fgt

end
-- ==== Proof.Kernel16Run.Frame.lean ====
/-
  The frame of `Kernel16`: the proof data, the body obligation and the frame, the outputs’ contents left unstated.
-/
module

public import proofs.«01_k».proof.Proof.Kernel16Run.RunB
public import Idealize.ShloMosaic.Lib.Claim

@[expose] public section

set_option maxRecDepth 16384

noncomputable section

namespace Cert.Kernel16.Fgt

open Cert.Kernel16.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 21 → Bool := fun w => w.val == 16 || w.val == 17 || w.val == 18 || w.val == 19 || w.val == 20

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 9 := lt_of_lt_of_eq t.isLt (show cfg0.N = 9 from N_0)
  by_cases h1 : t.val % 9 = 0
  · by_cases h3 : t.val % 9 = 0
    · by_cases h4 : 1 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ (hcond0_0 t) ((hcond0_1 t).mpr h1) (hcond0_2 t) ((hcond0_3 t).mpr h3) (fun h => h4 ((hcond0_4 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
    · exfalso; omega
  · by_cases h3 : t.val % 9 = 0
    · exfalso; omega
    · by_cases h4 : 1 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ (hcond0_0 t) (fun h => h1 ((hcond0_1 t).mp h)) (hcond0_2 t) (fun h => h3 ((hcond0_3 t).mp h)) ((hcond0_4 t).mpr h4) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        iintro ⟨H0, H1, H2, H3, H4, H5, H6, H7, H8, H9, H10, H11, H12, H13, H14, H15, H16, H17, H18, H19, H20, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel16.Fgt

end
-- ==== Proof.Kernel16IdealRun.Runs.lean ====
/-
  The frame of `Kernel16Ideal`: what the runs of the body share.
-/
module

public import proofs.«01_k».proof.Proof.Gen.Kernel16Ideal.Launch
public import proofs.«01_k».proof.Proof.Gen.Kernel16Ideal.Skeleton
public import proofs.«01_k».proof.Proof.Gen.Kernel16Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel16Ideal.Fgt

open Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dflt0_0 : (cfg0.win 0).block.Idx → Elt F (cfg0.win 0).elt := fun _ => Classical.choice inferInstance
def X0_0 (c : Dev nD) (t : Fin cfg0.N) : (cfg0.win 0).block.Idx → Elt F (cfg0.win 0).elt :=
  (cfg0.win 0).fill (cfg0.grid.coords t) dflt0_0 (iblk m c 0 t)
theorem xsize0_0 : ∀ t : Fin cfg0.N, ∀ a, (cfg0.win 0).xsize (cfg0.grid.coords t) a = (cfg0.win 0).size a := by decide +kernel
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
theorem before0_0_of {c : Dev nD} (dat : Dat τ (Elt F) Unit ℕ (UR sig nD τ) ℕ cfg0 c) (hA : dat.A 0 = V m c (Pipeline.arrRef spec0 0))
    (hafter : ∀ t, dat.after 0 t = X0_0 m c t) (t : Fin cfg0.N) (d) : dat.before 0 t d = X0_0 m c t :=
  (dat.before_in_eq_fetched 0 rfl (fun _ => rfl)
      (fun t t' h => funext fun a => congrArg (fun n => Pipeline.Clip.of n ((cfg0.win 0).size a) (S9x16x18432.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
def dflt0_1 : (cfg0.win 1).block.Idx → Elt F (cfg0.win 1).elt := fun _ => Classical.choice inferInstance
def X0_1 (c : Dev nD) (t : Fin cfg0.N) : (cfg0.win 1).block.Idx → Elt F (cfg0.win 1).elt :=
  (cfg0.win 1).fill (cfg0.grid.coords t) dflt0_1 (iblk m c 1 t)
theorem xsize0_1 : ∀ t : Fin cfg0.N, ∀ a, (cfg0.win 1).xsize (cfg0.grid.coords t) a = (cfg0.win 1).size a := by decide +kernel
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
theorem before0_1_of {c : Dev nD} (dat : Dat τ (Elt F) Unit ℕ (UR sig nD τ) ℕ cfg0 c) (hA : dat.A 1 = V m c (Pipeline.arrRef spec0 1))
    (hafter : ∀ t, dat.after 1 t = X0_1 m c t) (t : Fin cfg0.N) (d) : dat.before 1 t d = X0_1 m c t :=
  (dat.before_in_eq_fetched 1 rfl (fun _ => rfl)
      (fun t t' h => funext fun a => congrArg (fun n => Pipeline.Clip.of n ((cfg0.win 1).size a) (S9x16x18432.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1260000 in
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      (Pipeline.RDat.FramePost.arr_in h c 4 rfl).trans ((hA c 4).trans (V_main_arg2 m c)),
      (Pipeline.RDat.FramePost.arr_in h c 5 rfl).trans ((hA c 5).trans (V_main_arg3 m c)),
      (Pipeline.RDat.FramePost.arr_in h c 6 rfl).trans ((hA c 6).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (fun t => by
    have ht : t.val < 9 := Nat.lt_of_lt_of_eq t.isLt N_0
    have e0 : (grid0.coords t 0).val = t.val / 1 % 9 := Pipeline.Grid.coords_val t 0 (by decide) rfl
    have e1 : (grid0.coords t 1).val = t.val / 1 % 1 := Pipeline.Grid.coords_val t 1 (by decide) rfl
    simp only [cond0_0, e0, e1]
    word_cmp
   : ∀ t : Fin grid0.N, cond0_0 (grid0.coords t))

abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
theorem hcond0_1 : ∀ t : Fin cfg0.N, cond0_1 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    have e1 : (grid0.coords t 1).val = t.val / 1 % 1 := Pipeline.Grid.coords_val t 1 (by decide) rfl
    simp only [cond0_1, e0, e1]
    word_cmp
   : ∀ t : Fin grid0.N, cond0_1 (grid0.coords t) ↔ t.val % 9 = 0)

abbrev cond0_2 (i : grid0.Coords) : Prop := k0_cond3 i = 1#1
theorem hcond0_2 : ∀ t : Fin cfg0.N, cond0_2 (grid0.coords t) :=
  (fun t => by
    have ht : t.val < 9 := Nat.lt_of_lt_of_eq t.isLt N_0
    have e0 : (grid0.coords t 0).val = t.val / 1 % 9 := Pipeline.Grid.coords_val t 0 (by decide) rfl
    have e1 : (grid0.coords t 1).val = t.val / 1 % 1 := Pipeline.Grid.coords_val t 1 (by decide) rfl
    simp only [cond0_2, k0_cond3, e0, e1]
    word_cmp
   : ∀ t : Fin grid0.N, cond0_2 (grid0.coords t))

abbrev cond0_3 (i : grid0.Coords) : Prop := k0_cond4 i = 1#1
theorem hcond0_3 : ∀ t : Fin cfg0.N, cond0_3 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    have e1 : (grid0.coords t 1).val = t.val / 1 % 1 := Pipeline.Grid.coords_val t 1 (by decide) rfl
    simp only [cond0_3, k0_cond4, e0, e1]
    word_cmp
   : ∀ t : Fin grid0.N, cond0_3 (grid0.coords t) ↔ t.val % 9 = 0)

abbrev cond0_4 (i : grid0.Coords) : Prop := k0_cond5 i = 1#1
theorem hcond0_4 : ∀ t : Fin cfg0.N, cond0_4 (grid0.coords t) ↔ 1 ≤ t.val :=
  (by decide +kernel : ∀ t : Fin grid0.N, cond0_4 (grid0.coords t) ↔ 1 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl

abbrev conds0_A (i : grid0.Coords) : Prop := cond0_0 i ∧ cond0_1 i ∧ cond0_2 i ∧ cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
abbrev conds0_B (i : grid0.Coords) : Prop := cond0_0 i ∧ ¬cond0_1 i ∧ cond0_2 i ∧ ¬cond0_3 i ∧ cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
theorem liveAt0_17_A : ∀ t : Fin cfg0.N, cond0_0 (grid0.coords t) → cond0_1 (grid0.coords t) → cond0_2 (grid0.coords t) → cond0_3 (grid0.coords t) → ¬cond0_4 (grid0.coords t) → cfg0.idle 17 (grid0.coords t) = false :=
  fun t h0 h1 h2 h3 h4 => (by decide +kernel : ∀ t : Fin cfg0.N, conds0_A (grid0.coords t) → cfg0.idle 17 (grid0.coords t) = false) t ⟨h0, h1, h2, h3, h4⟩
theorem liveAt0_17_B : ∀ t : Fin cfg0.N, cond0_0 (grid0.coords t) → ¬cond0_1 (grid0.coords t) → cond0_2 (grid0.coords t) → ¬cond0_3 (grid0.coords t) → cond0_4 (grid0.coords t) → cfg0.idle 17 (grid0.coords t) = false :=
  fun t h0 h1 h2 h3 h4 => (by decide +kernel : ∀ t : Fin cfg0.N, conds0_B (grid0.coords t) → cfg0.idle 17 (grid0.coords t) = false) t ⟨h0, h1, h2, h3, h4⟩
theorem liveAt0_18_A : ∀ t : Fin cfg0.N, cond0_0 (grid0.coords t) → cond0_1 (grid0.coords t) → cond0_2 (grid0.coords t) → cond0_3 (grid0.coords t) → ¬cond0_4 (grid0.coords t) → cfg0.idle 18 (grid0.coords t) = false :=
  fun t h0 h1 h2 h3 h4 => (by decide +kernel : ∀ t : Fin cfg0.N, conds0_A (grid0.coords t) → cfg0.idle 18 (grid0.coords t) = false) t ⟨h0, h1, h2, h3, h4⟩
theorem liveAt0_18_B : ∀ t : Fin cfg0.N, cond0_0 (grid0.coords t) → ¬cond0_1 (grid0.coords t) → cond0_2 (grid0.coords t) → ¬cond0_3 (grid0.coords t) → cond0_4 (grid0.coords t) → cfg0.idle 18 (grid0.coords t) = false :=
  fun t h0 h1 h2 h3 h4 => (by decide +kernel : ∀ t : Fin cfg0.N, conds0_B (grid0.coords t) → cfg0.idle 18 (grid0.coords t) = false) t ⟨h0, h1, h2, h3, h4⟩

abbrev VO0_17 : View sig .tc .vmem S1x8x8192 .f32 := (Memref.whole cc0_stg17_0 : Memref sig .tc .vmem S1x8x8192 .f32).view
abbrev VO0_18 : View sig .tc .vmem S1x8x2048 .f32 := (Memref.whole cc0_stg18_0 : Memref sig .tc .vmem S1x8x2048 .f32).view
abbrev ms0_0 (t : Fin cfg0.N) : Memref sig .tc .vmem S1x16x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8192x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x8192 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8192 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8192 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x8192 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x16x8192 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x8x8192 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x8x2048 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x8192x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x8192x128 .f32 := win0_20.stage (cfg0.slots t 20)
abbrev hs0_20 (t : Fin cfg0.N) : (ms0_20 t).IsWhole := hstage0_20 ((cfg0.slots t 20).cast nbuf0_20)
abbrev scM0_0 : Memref sig .tc .vmem S8x8192 .f32 := Memref.whole cc0_scratch0
abbrev scM0_1 : Memref sig .tc .vmem S8x2048 .f32 := Memref.whole cc0_scratch1
abbrev scM0_2 : Memref sig .tc .vmem S128x8192 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel16Ideal.Fgt

end
-- ==== Proof.Kernel16IdealRun.RunA.lean ====
/-
  The frame of `Kernel16Ideal`: the run of the body at the first point.
-/
module

public import proofs.«01_k».proof.Proof.Kernel16IdealRun.Runs

@[expose] public section

set_option maxRecDepth 16384

noncomputable section

namespace Cert.Kernel16Ideal.Fgt

open Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 5436000 in
noncomputable def kernelRun0_A (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : cond0_1 i) (hc2 : cond0_2 i) (hc3 : cond0_3 i) (hc4 : ¬cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) :
    Σ' (L17 : List (View.Piece (Elt F) S1x8x8192 .f32)), Σ' (L18 : List (View.Piece (Elt F) S1x8x2048 .f32)), Σ' (LT0 : List (View.Piece (Elt F) S8x8192 .f32)), { LT1 : List (View.Piece (Elt F) S8x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ d, owns (c : Thread nD τ) arg26 fullShare d)) -∗ K ⟨⟩))
          ⊢ wp frame (wpE (defs₀ (F := F)) Variants.none c none) E (cc0_ssd_core i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Memref.whole main_arg5) (Memref.isWhole_whole _) arg19 harg19 arg20 harg20 arg21 harg21 arg22 harg22 arg23 harg23 arg24 harg24 arg25 harg25 arg26 harg26) K } := by
  refine ⟨?_, ?_, ?_, ?_, fun E K => ?run⟩
  case run =>
    simp only [cc0_ssd_core_eq_skeleton]; unfold cc0_ssd_core_skel
    simp only [k0_part156_eq_skeleton, k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part157_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _, _; isplitr; swap; · iexact H16
      ipureintro; rfl
    isplitl [H17]; · iexists _; iexact H17
    isplitl [H18]; · iexists _; iexact H18
    isplitl [H19]
    · iexists _, _; isplitr; swap; · iexact H19
      ipureintro; rfl
    isplitl [H20]
    · iexists _, _; isplitr; swap; · iexact H20
      ipureintro; rfl
    isplitl [HS0]; · iexists _; iexact HS0
    isplitl [HS1]; · iexists _; iexact HS1
    iexists _, _; isplitr; swap; · iexact HS2
    ipureintro; rfl

end Cert.Kernel16Ideal.Fgt

end
-- ==== Proof.Kernel16IdealRun.RunB.lean ====
/-
  The frame of `Kernel16Ideal`: the run of the body at the later points.
-/
module

public import proofs.«01_k».proof.Proof.Kernel16IdealRun.RunA

@[expose] public section

set_option maxRecDepth 16384

noncomputable section

namespace Cert.Kernel16Ideal.Fgt

open Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 5440000 in
noncomputable def kernelRun0_B (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : ¬cond0_1 i) (hc2 : cond0_2 i) (hc3 : ¬cond0_3 i) (hc4 : cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) :
    Σ' (L17 : List (View.Piece (Elt F) S1x8x8192 .f32)), Σ' (L18 : List (View.Piece (Elt F) S1x8x2048 .f32)), Σ' (LT0 : List (View.Piece (Elt F) S8x8192 .f32)), { LT1 : List (View.Piece (Elt F) S8x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg19 fullShare d) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ d, owns (c : Thread nD τ) arg26 fullShare d)) -∗ K ⟨⟩))
          ⊢ wp frame (wpE (defs₀ (F := F)) Variants.none c none) E (cc0_ssd_core i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Memref.whole main_arg5) (Memref.isWhole_whole _) arg19 harg19 arg20 harg20 arg21 harg21 arg22 harg22 arg23 harg23 arg24 harg24 arg25 harg25 arg26 harg26) K } := by
  refine ⟨?_, ?_, ?_, ?_, fun E K => ?run⟩
  case run =>
    simp only [cc0_ssd_core_eq_skeleton]; unfold cc0_ssd_core_skel
    simp only [k0_part156_eq_skeleton, k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part157_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part37_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _, _; isplitr; swap; · iexact H16
      ipureintro; rfl
    isplitl [H17]; · iexists _; iexact H17
    isplitl [H18]; · iexists _; iexact H18
    isplitl [H19]
    · iexists _, _; isplitr; swap; · iexact H19
      ipureintro; rfl
    isplitl [H20]
    · iexists _, _; isplitr; swap; · iexact H20
      ipureintro; rfl
    isplitl [HS0]; · iexists _; iexact HS0
    isplitl [HS1]; · iexists _; iexact HS1
    iexists _, _; isplitr; swap; · iexact HS2
    ipureintro; rfl

end Cert.Kernel16Ideal.Fgt

end
-- ==== Proof.Kernel16IdealRun.Frame.lean ====
/-
  The frame of `Kernel16Ideal`: the proof data, the body obligation and the frame; of the outputs only the convolution states are named.
-/
module

public import proofs.«01_k».proof.Proof.Kernel16IdealRun.RunB
public import Idealize.ShloMosaic.Lib.Claim

@[expose] public section

set_option maxRecDepth 16384

noncomputable section

namespace Cert.Kernel16Ideal.Fgt

open Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_17 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : cond0_1 i) (hc2 : cond0_2 i) (hc3 : cond0_3 i) (hc4 : ¬cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) (y : S1x8x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).1 S1x8x8192.size (by sl_kernel_rfl) y

def out0_A_17 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : cond0_1 i) (hc2 : cond0_2 i) (hc3 : cond0_3 i) (hc4 : ¬cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) : Vec F S1x8x8192 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).1)

theorem cover0_A_18 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : cond0_1 i) (hc2 : cond0_2 i) (hc3 : cond0_3 i) (hc4 : ¬cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) (y : S1x8x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).2.1 S1x8x2048.size (by sl_kernel_rfl) y

def out0_A_18 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : cond0_1 i) (hc2 : cond0_2 i) (hc3 : cond0_3 i) (hc4 : ¬cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) : Vec F S1x8x2048 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).2.1)

theorem cover0_B_17 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : ¬cond0_1 i) (hc2 : cond0_2 i) (hc3 : ¬cond0_3 i) (hc4 : cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) (y : S1x8x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).1 S1x8x8192.size (by sl_kernel_rfl) y

def out0_B_17 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : ¬cond0_1 i) (hc2 : cond0_2 i) (hc3 : ¬cond0_3 i) (hc4 : cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) : Vec F S1x8x8192 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).1)

theorem cover0_B_18 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : ¬cond0_1 i) (hc2 : cond0_2 i) (hc3 : ¬cond0_3 i) (hc4 : cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) (y : S1x8x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).2.1 S1x8x2048.size (by sl_kernel_rfl) y

def out0_B_18 (c : Dev nD) (i : grid0.Coords) (arg2 : Memref sig .tc .vmem S1x16x8192 .bf16) (harg2 : arg2.IsWhole) (arg3 : Memref sig .tc .vmem S1x16x8192 .bf16) (harg3 : arg3.IsWhole) (arg4 : Memref sig .tc .vmem S1x16x2048 .bf16) (harg4 : arg4.IsWhole) (arg5 : Memref sig .tc .vmem S1x16x128 .f32) (harg5 : arg5.IsWhole) (arg6 : Memref sig .tc .vmem S1x8x8192 .f32) (harg6 : arg6.IsWhole) (arg7 : Memref sig .tc .vmem S1x8x2048 .f32) (harg7 : arg7.IsWhole) (arg8 : Memref sig .tc .vmem S1x8192x128 .f32) (harg8 : arg8.IsWhole) (arg9 : Memref sig .tc .vmem S128x512 .bf16) (harg9 : arg9.IsWhole) (arg10 : Memref sig .tc .vmem S4x8192 .f32) (harg10 : arg10.IsWhole) (arg11 : Memref sig .tc .vmem S4x2048 .f32) (harg11 : arg11.IsWhole) (arg12 : Memref sig .tc .vmem S1x8192 .f32) (harg12 : arg12.IsWhole) (arg13 : Memref sig .tc .vmem S1x2048 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x8192 .f32) (harg16 : arg16.IsWhole) (arg17 : Memref sig .tc .vmem S1x8192 .f32) (harg17 : arg17.IsWhole) (arg19 : Memref sig .tc .vmem S1x16x8192 .bf16) (harg19 : arg19.IsWhole) (arg20 : Memref sig .tc .vmem S1x8x8192 .f32) (harg20 : arg20.IsWhole) (arg21 : Memref sig .tc .vmem S1x8x2048 .f32) (harg21 : arg21.IsWhole) (arg22 : Memref sig .tc .vmem S1x8192x128 .f32) (harg22 : arg22.IsWhole) (arg23 : Memref sig .tc .vmem S1x1x8192x128 .f32) (harg23 : arg23.IsWhole) (arg24 : Memref sig .tc .vmem S8x8192 .f32) (harg24 : arg24.IsWhole) (arg25 : Memref sig .tc .vmem S8x2048 .f32) (harg25 : arg25.IsWhole) (arg26 : Memref sig .tc .vmem S128x8192 .f32) (harg26 : arg26.IsWhole) (hc0 : cond0_0 i) (hc1 : ¬cond0_1 i) (hc2 : cond0_2 i) (hc3 : ¬cond0_3 i) (hc4 : cond0_4 i)
    (x0 : Vec F S1x16x8192 .bf16) (x1 : Vec F S1x16x8192 .bf16) (x2 : Vec F S1x16x2048 .bf16) (x3 : Vec F S1x16x128 .f32) (x4 : Vec F S1x8x8192 .f32) (x5 : Vec F S1x8x2048 .f32) (x6 : Vec F S1x8192x128 .f32) (x7 : Vec F S128x512 .bf16) (x8 : Vec F S4x8192 .f32) (x9 : Vec F S4x2048 .f32) (x10 : Vec F S1x8192 .f32) (x11 : Vec F S1x2048 .f32) (x12 : Vec F S1x128 .f32) (x13 : Vec F S1x128 .f32) (x14 : Vec F S1x8192 .f32) (x15 : Vec F S1x8192 .f32) : Vec F S1x8x2048 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 harg21 arg22 harg22 arg23 harg23 arg24 harg24 arg25 harg25 arg26 harg26 hc0 hc1 hc2 hc3 hc4 x0 x1 x2 x3 x4 x5 x6 x7 x8 x9 x10 x11 x12 x13 x14 x15).2.1)

def outsAt0 (c : Dev nD) : (n : ℕ) → n < cfg0.N → Vec F S1x8x8192 .f32 × Vec F S1x8x2048 .f32
  | 0, hn => (out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) (hcond0_0 ⟨0, hn⟩) ((hcond0_1 ⟨0, hn⟩).mpr (Nat.zero_mod _)) (hcond0_2 ⟨0, hn⟩) ((hcond0_3 ⟨0, hn⟩).mpr (Nat.zero_mod _)) (fun h => (fun h => by (try dsimp only at h); omega) ((hcond0_4 ⟨0, hn⟩).mp h)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) (hcond0_0 ⟨0, hn⟩) ((hcond0_1 ⟨0, hn⟩).mpr (Nat.zero_mod _)) (hcond0_2 ⟨0, hn⟩) ((hcond0_3 ⟨0, hn⟩).mpr (Nat.zero_mod _)) (fun h => (fun h => by (try dsimp only at h); omega) ((hcond0_4 ⟨0, hn⟩).mp h)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩))
  | n + 1, hn =>
    if h1 : (n + 1) % 9 = 0 then
      if h3 : (n + 1) % 9 = 0 then
        if h4 : 1 ≤ (n + 1) then
          False.elim (by have hN : n + 1 < 9 := lt_of_lt_of_eq hn (show cfg0.N = 9 from N_0); omega)
        else
          (out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (hcond0_0 ⟨n + 1, hn⟩) ((hcond0_1 ⟨n + 1, hn⟩).mpr h1) (hcond0_2 ⟨n + 1, hn⟩) ((hcond0_3 ⟨n + 1, hn⟩).mpr h3) (fun h => h4 ((hcond0_4 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (hcond0_0 ⟨n + 1, hn⟩) ((hcond0_1 ⟨n + 1, hn⟩).mpr h1) (hcond0_2 ⟨n + 1, hn⟩) ((hcond0_3 ⟨n + 1, hn⟩).mpr h3) (fun h => h4 ((hcond0_4 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩))
      else
        False.elim (by have hN : n + 1 < 9 := lt_of_lt_of_eq hn (show cfg0.N = 9 from N_0); omega)
    else
      if h3 : (n + 1) % 9 = 0 then
        False.elim (by have hN : n + 1 < 9 := lt_of_lt_of_eq hn (show cfg0.N = 9 from N_0); omega)
      else
        if h4 : 1 ≤ (n + 1) then
          (out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (hcond0_0 ⟨n + 1, hn⟩) (fun h => h1 ((hcond0_1 ⟨n + 1, hn⟩).mp h)) (hcond0_2 ⟨n + 1, hn⟩) (fun h => h3 ((hcond0_3 ⟨n + 1, hn⟩).mp h)) ((hcond0_4 ⟨n + 1, hn⟩).mpr h4) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) (hcond0_0 ⟨n + 1, hn⟩) (fun h => h1 ((hcond0_1 ⟨n + 1, hn⟩).mp h)) (hcond0_2 ⟨n + 1, hn⟩) (fun h => h3 ((hcond0_3 ⟨n + 1, hn⟩).mp h)) ((hcond0_4 ⟨n + 1, hn⟩).mpr h4) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩))
        else
          False.elim (by have hN : n + 1 < 9 := lt_of_lt_of_eq hn (show cfg0.N = 9 from N_0); omega)

theorem outsAt0_A (c : Dev nD) (t : Fin cfg0.N) (h1 : t.val % 9 = 0) (h3 : t.val % 9 = 0) (h4 : ¬1 ≤ t.val) :
    outsAt0 m c t.val t.isLt = (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) ((hcond0_1 t).mpr h1) (hcond0_2 t) ((hcond0_3 t).mpr h3) (fun h => h4 ((hcond0_4 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) ((hcond0_1 t).mpr h1) (hcond0_2 t) ((hcond0_3 t).mpr h3) (fun h => h4 ((hcond0_4 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  obtain ⟨n, hn⟩ := t
  cases n with
  | zero => exact rfl
  | succ n => exact (dif_pos h1).trans ((dif_pos h3).trans ((dif_neg h4).trans rfl))

theorem outsAt0_B (c : Dev nD) (t : Fin cfg0.N) (h1 : ¬t.val % 9 = 0) (h3 : ¬t.val % 9 = 0) (h4 : 1 ≤ t.val) :
    outsAt0 m c t.val t.isLt = (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) (fun h => h1 ((hcond0_1 t).mp h)) (hcond0_2 t) (fun h => h3 ((hcond0_3 t).mp h)) ((hcond0_4 t).mpr h4) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) (fun h => h1 ((hcond0_1 t).mp h)) (hcond0_2 t) (fun h => h3 ((hcond0_3 t).mp h)) ((hcond0_4 t).mpr h4) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  obtain ⟨n, hn⟩ := t
  cases n with
  | zero => exact (by exfalso; (try dsimp only at h1); exact absurd (Nat.zero_mod _) h1)
  | succ n => exact (dif_neg h1).trans ((dif_neg h3).trans ((dif_pos h4).trans rfl))

def forgets0 : Fin 21 → Bool := fun w => w.val == 16 || w.val == 19 || w.val == 20
theorem forgets0_17 : forgets0 (17 : Fin 21) = false := by decide
theorem forgets0_18 : forgets0 (18 : Fin 21) = false := by decide

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, _⟩ => (outsAt0 m c t.val t.isLt).1
    | ⟨18, _⟩ => (outsAt0 m c t.val t.isLt).2
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (dats m 0 c).leavesExact 17 t
    ∗ (dats m 0 c).leavesExact 18 t
    ∗ (∃ d, owns (c : Thread nD τ) (ms0_19 t) fullShare d)
    ∗ (∃ d, owns (c : Thread nD τ) (ms0_20 t) fullShare d))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 9 := lt_of_lt_of_eq t.isLt (show cfg0.N = 9 from N_0)
  by_cases h1 : t.val % 9 = 0
  · by_cases h3 : t.val % 9 = 0
    · by_cases h4 : 1 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 17 t = owns (c : Thread nD τ) (ms0_17 t) fullShare ((dats m 0 c).after 17 t) from by
      unfold Dat.leavesExact; rw [liveAt0_17_A t (hcond0_0 t) ((hcond0_1 t).mpr h1) (hcond0_2 t) ((hcond0_3 t).mpr h3) (fun h => h4 ((hcond0_4 t).mp h))], after0_17]
        rw [show (dats m 0 c).leavesExact 18 t = owns (c : Thread nD τ) (ms0_18 t) fullShare ((dats m 0 c).after 18 t) from by
      unfold Dat.leavesExact; rw [liveAt0_18_A t (hcond0_0 t) ((hcond0_1 t).mpr h1) (hcond0_2 t) ((hcond0_3 t).mpr h3) (fun h => h4 ((hcond0_4 t).mp h))], after0_18]
        rw [outsAt0_A m c t h1 h3 h4]
        unfold out0_A_17 out0_A_18; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ (hcond0_0 t) ((hcond0_1 t).mpr h1) (hcond0_2 t) ((hcond0_3 t).mpr h3) (fun h => h4 ((hcond0_4 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        iintro ⟨H0, H1, H2, H3, H4, H5, H6, H7, H8, H9, H10, H11, H12, H13, H14, H15, H16, ⟨%e17, H17⟩, ⟨%e18, H18⟩, H19, H20, ⟨%fT0, HS0⟩, ⟨%fT1, HS1⟩, HS2⟩
        isplitl [HS0 HS1 HS2 Hg]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]; · iexact H19
        iexact H20
    · exfalso; omega
  · by_cases h3 : t.val % 9 = 0
    · exfalso; omega
    · by_cases h4 : 1 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 17 t = owns (c : Thread nD τ) (ms0_17 t) fullShare ((dats m 0 c).after 17 t) from by
      unfold Dat.leavesExact; rw [liveAt0_17_B t (hcond0_0 t) (fun h => h1 ((hcond0_1 t).mp h)) (hcond0_2 t) (fun h => h3 ((hcond0_3 t).mp h)) ((hcond0_4 t).mpr h4)], after0_17]
        rw [show (dats m 0 c).leavesExact 18 t = owns (c : Thread nD τ) (ms0_18 t) fullShare ((dats m 0 c).after 18 t) from by
      unfold Dat.leavesExact; rw [liveAt0_18_B t (hcond0_0 t) (fun h => h1 ((hcond0_1 t).mp h)) (hcond0_2 t) (fun h => h3 ((hcond0_3 t).mp h)) ((hcond0_4 t).mpr h4)], after0_18]
        rw [outsAt0_B m c t h1 h3 h4]
        unfold out0_B_17 out0_B_18; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ (hcond0_0 t) (fun h => h1 ((hcond0_1 t).mp h)) (hcond0_2 t) (fun h => h3 ((hcond0_3 t).mp h)) ((hcond0_4 t).mpr h4) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        iintro ⟨H0, H1, H2, H3, H4, H5, H6, H7, H8, H9, H10, H11, H12, H13, H14, H15, H16, ⟨%e17, H17⟩, ⟨%e18, H18⟩, H19, H20, ⟨%fT0, HS0⟩, ⟨%fT1, HS1⟩, HS2⟩
        isplitl [HS0 HS1 HS2 Hg]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]; · iexact H19
        iexact H20
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel16Ideal.Fgt

end
-- ==== Proof.References.lean ====
/-
  The references' frames: each run weakened to its arguments, and there is no semaphore.
-/
module

public import proofs.«01_k».proof.Defs
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.Gen.Reference9Ideal
public import proofs.«01_k».proof.Proof.Gen.Reference9Ideal.Run
public import proofs.«01_k».proof.Proof.Gen.Reference10Ideal
public import proofs.«01_k».proof.Proof.Gen.Reference10Ideal.Run
public import proofs.«01_k».proof.Proof.Gen.Reference11Ideal
public import proofs.«01_k».proof.Proof.Gen.Reference11Ideal.Run
public import proofs.«01_k».proof.Proof.Gen.Reference12Ideal
public import proofs.«01_k».proof.Proof.Gen.Reference12Ideal.Run
public import proofs.«01_k».proof.Proof.Gen.Reference13Ideal
public import proofs.«01_k».proof.Proof.Gen.Reference13Ideal.Run
public import proofs.«01_k».proof.Proof.Gen.Reference14Ideal
public import proofs.«01_k».proof.Proof.Gen.Reference14Ideal.Run
public import proofs.«01_k».proof.Proof.Gen.Reference15Ideal
public import proofs.«01_k».proof.Proof.Gen.Reference15Ideal.Run
public import proofs.«01_k».proof.Proof.Gen.Reference16Ideal
public import proofs.«01_k».proof.Proof.Gen.Reference16Ideal.Run
public import Idealize.ShloMosaic.Lib.Quiescent

@[expose] public section

noncomputable section

namespace Cert.Proof

open Idealize.ShloMosaic Idealize.SL.Sem

theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_Reference2Ideal : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_Reference3Ideal : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_Reference4Ideal : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_Reference5Ideal : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_Reference6Ideal : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_Reference7Ideal : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem frame_Reference8Ideal : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_Reference9Ideal : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem frame_Reference10Ideal : Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem frame_Reference11Ideal : Cert.quiescent_Reference11Ideal (hReference11Ideal := Cert.Reference11Ideal.Gen.facts) := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem frame_Reference12Ideal : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem frame_Reference13Ideal : Cert.quiescent_Reference13Ideal (hReference13Ideal := Cert.Reference13Ideal.Gen.facts) := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem frame_Reference14Ideal : Cert.quiescent_Reference14Ideal (hReference14Ideal := Cert.Reference14Ideal.Gen.facts) := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem frame_Reference15Ideal : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_Reference16Ideal : Cert.quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩)
    (Cert.Reference16Ideal.Value.run (F := Ideal) m ρ)

end Cert.Proof

end
-- ==== Proof.ResValue.lean ====
/-
  The value of the output projection with its residual (`kernel4`: `_matmul_res`): both result arrays are
  `res + x·w`, the product summed over the whole contracted axis, and the reference's are the same.
-/
module

public import proofs.«01_k».proof.Proof.Gen.Kernel4Ideal.Value
public import proofs.«01_k».proof.Proof.Gen.Reference4Ideal.Run
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

theorem hz : (![0, 0] : Fin 2 → Nat) = fun _ => 0 := funext fun a => by fin_cases a <;> rfl

/-- The result: the residual plus the product, element by element. -/
def G (x : S16384x8192.Idx → EReal) (w : S8192x4096.Idx → EReal) (res : S16384x4096.Idx → EReal) :
    S16384x4096.Idx → EReal :=
  fun i => res i + ∑ k : Fin 8192, x (ix2 (i 0) k) * w (ix2 k (i 1))

/-- The result over the launch's arguments. -/
def GM (c : Dev nD) : S16384x4096.Idx → EReal :=
  G (m ((c : Thread nD τ).loc main_arg0)) (m ((c : Thread nD τ).loc main_arg1)) (m ((c : Thread nD τ).loc main_arg2))

/-- What the body computes of its three blocks. -/
theorem pay1_apply (v0 : Vec Ideal S1024x256 .f32) (v1 : Vec Ideal S1024x8192 .bf16) (v2 : Vec Ideal S8192x256 .bf16)
    (j : S1024x256.Idx) :
    k0_pay1 v0 v1 v2 j = v0 j + ∑ k : Fin 8192, v1 (ix2 (j 0) k) * v2 (ix2 k (j 1)) := by
  show v0 j + Ideal.matmul dot_S1024x8192_S8192x256_S1024x256_1_0_0_1_n_n v1 v2
    (constant (F := Ideal) S1024x256 .f32 0x00000000#32) j = _
  rw [Ideal.matmul_apply₁_of dot_S1024x8192_S8192x256_S1024x256_1_0_0_1_n_n (a := 1) rfl (K := 8192) rfl v1 v2 _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [show (constant (F := Ideal) S1024x256 .f32 0x00000000#32 : S1024x256.Idx → EReal) j = 0 from Ideal.ofBits_zero_f32, zero_add]

theorem idx : ∀ t : Fin cfg0.N, win0_0.index t 0 = t.val / 16 ∧ win0_0.index t 1 = 0 ∧ win0_1.index t 0 = 0
    ∧ win0_1.index t 1 = t.val % 16 ∧ win0_2.index t 0 = t.val / 16 ∧ win0_2.index t 1 = t.val % 16
    ∧ win0_3.index t 0 = t.val / 16 ∧ win0_3.index t 1 = t.val % 16
    ∧ win0_4.index t 0 = t.val / 16 ∧ win0_4.index t 1 = t.val % 16 := by
  decide +kernel

theorem iblk0 (c : Dev nD) (t : Fin cfg0.N) (j : S1024x8192.Idx) (i : S16384x8192.Idx)
    (h0 : (i 0).val = t.val / 16 * 1024 + (j 0).val) (h1 : (i 1).val = (j 1).val) :
    (iblk m c 0 t : Vec Ideal S1024x8192 .bf16) j = m ((c : Thread nD τ).loc main_arg0) i := by
  obtain ⟨e0, e1, -⟩ := idx t
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = (i 0).val; rw [e0, h0]; omega
  | ⟨1, _⟩ => show win0_0.index t 1 * 8192 + 1 * (j 1).val = (i 1).val; rw [e1, h1]; omega

theorem iblk1 (c : Dev nD) (t : Fin cfg0.N) (j : S8192x256.Idx) (i : S8192x4096.Idx)
    (h0 : (i 0).val = (j 0).val) (h1 : (i 1).val = t.val % 16 * 256 + (j 1).val) :
    (iblk m c 1 t : Vec Ideal S8192x256 .bf16) j = m ((c : Thread nD τ).loc main_arg1) i := by
  obtain ⟨-, -, e0, e1, -⟩ := idx t
  unfold iblk
  rw [View.read_apply]
  show V m c main_arg1 _ = m (c.tc.loc main_arg1) _
  unfold V
  congr 1
  funext a
  apply Fin.ext
  match a with
  | ⟨0, _⟩ => show win0_1.index t 0 * 8192 + 1 * (j 0).val = (i 0).val; rw [e0, h0]; omega
  | ⟨1, _⟩ => show win0_1.index t 1 * 256 + 1 * (j 1).val = (i 1).val; rw [e1, h1]; omega

theorem iblk2 (c : Dev nD) (t : Fin cfg0.N) (j : S1024x256.Idx) (i : S16384x4096.Idx)
    (h0 : (i 0).val = t.val / 16 * 1024 + (j 0).val) (h1 : (i 1).val = t.val % 16 * 256 + (j 1).val) :
    (iblk m c 2 t : Vec Ideal S1024x256 .f32) j = m ((c : Thread nD τ).loc main_arg2) i := by
  obtain ⟨-, -, -, -, e0, e1, -⟩ := idx t
  unfold iblk
  rw [View.read_apply]
  show V m c main_arg2 _ = m (c.tc.loc main_arg2) _
  unfold V
  congr 1
  funext a
  apply Fin.ext
  match a with
  | ⟨0, _⟩ => show win0_2.index t 0 * 1024 + 1 * (j 0).val = (i 0).val; rw [e0, h0]; omega
  | ⟨1, _⟩ => show win0_2.index t 1 * 256 + 1 * (j 1).val = (i 1).val; rw [e1, h1]; omega

/-- The block of the result a point computes. -/
theorem point (c : Dev nD) (t : Fin cfg0.N) (j : S1024x256.Idx) (i : S16384x4096.Idx)
    (h0 : (i 0).val = t.val / 16 * 1024 + (j 0).val) (h1 : (i 1).val = t.val % 16 * 256 + (j 1).val) :
    k0_pay1 (iblk m c 2 t : Vec Ideal S1024x256 .f32) (iblk m c 0 t : Vec Ideal S1024x8192 .bf16)
      (iblk m c 1 t : Vec Ideal S8192x256 .bf16) j = GM m c i := by
  exact (pay1_apply _ _ _ j).trans (congrArg₂ (fun a b : EReal => a + b) (iblk2 m c t j i h0 h1)
    (Finset.sum_congr rfl fun k _ => congrArg₂ (fun a b : EReal => a * b)
      (iblk0 m c t (ix2 (j 0) k) (ix2 (i 0) k) h0 rfl) (iblk1 m c t (ix2 k (j 1)) (ix2 k (i 1)) rfl h1)))

theorem out3_eq (x0 : Vec Ideal S1024x8192 .bf16) (x1 : Vec Ideal S8192x256 .bf16) (x2 : Vec Ideal S1024x256 .f32) :
    out0_3 x0 x1 x2 = k0_pay1 x2 x0 x1 := by
  unfold out0_3
  rw [View.canon_unit_zero hz, View.ld_unit_zero hz, View.ld_unit_zero hz, View.ld_unit_zero hz]

theorem out4_eq (x0 : Vec Ideal S1024x8192 .bf16) (x1 : Vec Ideal S8192x256 .bf16) (x2 : Vec Ideal S1024x256 .f32) :
    out0_4 x0 x1 x2 = k0_pay1 x2 x0 x1 := by
  unfold out0_4
  rw [View.canon_unit_zero hz, View.ld_unit_zero hz, View.ld_unit_zero hz, View.ld_unit_zero hz]
  rfl

theorem flushed3_eq (c : Dev nD) (t : Fin cfg0.N) :
    (dats m 0 c).flushed 3 t = ((cfg0.win 3).blk t).view.read (Elt Ideal) (GM m c) := by
  obtain ⟨-, -, -, -, -, -, e0, e1, -⟩ := idx t
  rw [flushed3, out3_eq]
  funext j
  rw [View.read_apply]
  refine point m c t j _ ?_ ?_
  · show win0_3.index t 0 * 1024 + 1 * (j 0).val = _; rw [e0]; omega
  · show win0_3.index t 1 * 256 + 1 * (j 1).val = _; rw [e1]; omega

theorem flushed4_eq (c : Dev nD) (t : Fin cfg0.N) :
    (dats m 0 c).flushed 4 t = ((cfg0.win 4).blk t).view.read (Elt Ideal) (GM m c) := by
  obtain ⟨-, -, -, -, -, -, -, -, e0, e1⟩ := idx t
  rw [flushed4, out4_eq]
  funext j
  rw [View.read_apply]
  refine point m c t j _ ?_ ?_
  · show win0_4.index t 0 * 1024 + 1 * (j 0).val = _; rw [e0]; omega
  · show win0_4.index t 1 * 256 + 1 * (j 1).val = _; rw [e1]; omega

/-- The point whose output block holds an element. -/
def pt (i : S16384x4096.Idx) : Fin cfg0.N :=
  ⟨(i 0).val / 1024 * 16 + (i 1).val / 256, by
    have h0 : (i 0 : Nat) < 16384 := (i 0).isLt
    have h1 : (i 1 : Nat) < 4096 := (i 1).isLt
    rw [show cfg0.N = 256 from N_0]; omega⟩

theorem pt_div (i : S16384x4096.Idx) : (pt i).val / 16 = (i 0).val / 1024 ∧ (pt i).val % 16 = (i 1).val / 256 := by
  have h1 : (i 1 : Nat) < 4096 := (i 1).isLt
  unfold pt
  dsimp only
  omega

theorem final3 (c : Dev nD) : (dats m 0 c).arrAt 3 cfg0.N = GM m c :=
  (dats m 0 c).arrAt_eq_of_cover 3 (GM m c) (fun t _ => flushed3_eq m c t) fun i =>
    ⟨pt i, flush0_3 _, by
      show i ∈ ((View.whole main_v0_0).slice (win0_3.rect (pt i))).set
      obtain ⟨-, -, -, -, -, -, e0, e1, -⟩ := idx (pt i)
      obtain ⟨p0, p1⟩ := pt_div i
      rw [View.set_slice_whole, Rect.mem_set_unit]
      intro a
      match a with
      | ⟨0, _⟩ => show win0_3.index (pt i) 0 * 1024 ≤ (i 0 : Nat) ∧ (i 0 : Nat) < win0_3.index (pt i) 0 * 1024 + 1024
                  rw [e0, p0]; omega
      | ⟨1, _⟩ => show win0_3.index (pt i) 1 * 256 ≤ (i 1 : Nat) ∧ (i 1 : Nat) < win0_3.index (pt i) 1 * 256 + 256
                  rw [e1, p1]; omega⟩

theorem final4 (c : Dev nD) : (dats m 0 c).arrAt 4 cfg0.N = GM m c :=
  (dats m 0 c).arrAt_eq_of_cover 4 (GM m c) (fun t _ => flushed4_eq m c t) fun i =>
    ⟨pt i, flush0_4 _, by
      show i ∈ ((View.whole main_v0_1).slice (win0_4.rect (pt i))).set
      obtain ⟨-, -, -, -, -, -, -, -, e0, e1⟩ := idx (pt i)
      obtain ⟨p0, p1⟩ := pt_div i
      rw [View.set_slice_whole, Rect.mem_set_unit]
      intro a
      match a with
      | ⟨0, _⟩ => show win0_4.index (pt i) 0 * 1024 ≤ (i 0 : Nat) ∧ (i 0 : Nat) < win0_4.index (pt i) 0 * 1024 + 1024
                  rw [e0, p0]; omega
      | ⟨1, _⟩ => show win0_4.index (pt i) 1 * 256 ≤ (i 1 : Nat) ∧ (i 1 : Nat) < win0_4.index (pt i) 1 * 256 + 256
                  rw [e1, p1]; omega⟩

/-- The kernel's run: both result arrays are `GM`, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans (final3 m c), (h c).2.1.trans (final4 m c), (h c).2.2⟩) (run_blocks m ρ)

end Cert.Kernel4Ideal.Value

namespace Cert.Reference4Ideal.Value

open Cert.Reference4Ideal Cert.Reference4Ideal.Gen

/-- The reference's value, element by element: the same. -/
theorem ref_eq (x : FVec Ideal S16384x8192 .f32) (w : FVec Ideal S8192x4096 .f32) (res : FVec Ideal S16384x4096 .f32) :
    addf res (Host.dotGeneral dot_S16384x8192_S8192x4096_S16384x4096_1_0_0_1_n_n none x w) = Cert.Kernel4Ideal.Value.G x w res := by
  funext i
  show res i + Ideal.matmul dot_S16384x8192_S8192x4096_S16384x4096_1_0_0_1_n_n x w (fun _ => 0) i = _
  rw [Ideal.matmul_apply₁_of dot_S16384x8192_S8192x4096_S16384x4096_1_0_0_1_n_n (a := 1) rfl (K := 8192) rfl x w _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl), zero_add]
  rfl

end Cert.Reference4Ideal.Value

end
-- ==== Proof.ResValue5.lean ====
/-
  The value of the other layer kind's output projection with its residual (`kernel5`: `_matmul_res`): both result arrays are
  `res + x·w`, the product summed over the whole contracted axis, and the reference's are the same.
-/
module

public import proofs.«01_k».proof.Proof.Gen.Kernel5Ideal.Value
public import proofs.«01_k».proof.Proof.Gen.Reference5Ideal.Run
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable (m : (ℓ : Loc nD τ sig) → Buf (Elt Ideal) ℓ)

theorem hz : (![0, 0] : Fin 2 → Nat) = fun _ => 0 := funext fun a => by fin_cases a <;> rfl

/-- The result: the residual plus the product, element by element. -/
def G (x : S16384x4096.Idx → EReal) (w : S4096x4096.Idx → EReal) (res : S16384x4096.Idx → EReal) :
    S16384x4096.Idx → EReal :=
  fun i => res i + ∑ k : Fin 4096, x (ix2 (i 0) k) * w (ix2 k (i 1))

/-- The result over the launch's arguments. -/
def GM (c : Dev nD) : S16384x4096.Idx → EReal :=
  G (m ((c : Thread nD τ).loc main_arg0)) (m ((c : Thread nD τ).loc main_arg1)) (m ((c : Thread nD τ).loc main_arg2))

/-- What the body computes of its three blocks. -/
theorem pay1_apply (v0 : Vec Ideal S1024x512 .f32) (v1 : Vec Ideal S1024x4096 .bf16) (v2 : Vec Ideal S4096x512 .bf16)
    (j : S1024x512.Idx) :
    k0_pay1 v0 v1 v2 j = v0 j + ∑ k : Fin 4096, v1 (ix2 (j 0) k) * v2 (ix2 k (j 1)) := by
  show v0 j + Ideal.matmul dot_S1024x4096_S4096x512_S1024x512_1_0_0_1_n_n v1 v2
    (constant (F := Ideal) S1024x512 .f32 0x00000000#32) j = _
  rw [Ideal.matmul_apply₁_of dot_S1024x4096_S4096x512_S1024x512_1_0_0_1_n_n (a := 1) rfl (K := 4096) rfl v1 v2 _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [show (constant (F := Ideal) S1024x512 .f32 0x00000000#32 : S1024x512.Idx → EReal) j = 0 from Ideal.ofBits_zero_f32, zero_add]

theorem idx : ∀ t : Fin cfg0.N, win0_0.index t 0 = t.val / 8 ∧ win0_0.index t 1 = 0 ∧ win0_1.index t 0 = 0
    ∧ win0_1.index t 1 = t.val % 8 ∧ win0_2.index t 0 = t.val / 8 ∧ win0_2.index t 1 = t.val % 8
    ∧ win0_3.index t 0 = t.val / 8 ∧ win0_3.index t 1 = t.val % 8
    ∧ win0_4.index t 0 = t.val / 8 ∧ win0_4.index t 1 = t.val % 8 := by
  decide +kernel

theorem iblk0 (c : Dev nD) (t : Fin cfg0.N) (j : S1024x4096.Idx) (i : S16384x4096.Idx)
    (h0 : (i 0).val = t.val / 8 * 1024 + (j 0).val) (h1 : (i 1).val = (j 1).val) :
    (iblk m c 0 t : Vec Ideal S1024x4096 .bf16) j = m ((c : Thread nD τ).loc main_arg0) i := by
  obtain ⟨e0, e1, -⟩ := idx t
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = (i 0).val; rw [e0, h0]; omega
  | ⟨1, _⟩ => show win0_0.index t 1 * 4096 + 1 * (j 1).val = (i 1).val; rw [e1, h1]; omega

theorem iblk1 (c : Dev nD) (t : Fin cfg0.N) (j : S4096x512.Idx) (i : S4096x4096.Idx)
    (h0 : (i 0).val = (j 0).val) (h1 : (i 1).val = t.val % 8 * 512 + (j 1).val) :
    (iblk m c 1 t : Vec Ideal S4096x512 .bf16) j = m ((c : Thread nD τ).loc main_arg1) i := by
  obtain ⟨-, -, e0, e1, -⟩ := idx t
  unfold iblk
  rw [View.read_apply]
  show V m c main_arg1 _ = m (c.tc.loc main_arg1) _
  unfold V
  congr 1
  funext a
  apply Fin.ext
  match a with
  | ⟨0, _⟩ => show win0_1.index t 0 * 4096 + 1 * (j 0).val = (i 0).val; rw [e0, h0]; omega
  | ⟨1, _⟩ => show win0_1.index t 1 * 512 + 1 * (j 1).val = (i 1).val; rw [e1, h1]; omega

theorem iblk2 (c : Dev nD) (t : Fin cfg0.N) (j : S1024x512.Idx) (i : S16384x4096.Idx)
    (h0 : (i 0).val = t.val / 8 * 1024 + (j 0).val) (h1 : (i 1).val = t.val % 8 * 512 + (j 1).val) :
    (iblk m c 2 t : Vec Ideal S1024x512 .f32) j = m ((c : Thread nD τ).loc main_arg2) i := by
  obtain ⟨-, -, -, -, e0, e1, -⟩ := idx t
  unfold iblk
  rw [View.read_apply]
  show V m c main_arg2 _ = m (c.tc.loc main_arg2) _
  unfold V
  congr 1
  funext a
  apply Fin.ext
  match a with
  | ⟨0, _⟩ => show win0_2.index t 0 * 1024 + 1 * (j 0).val = (i 0).val; rw [e0, h0]; omega
  | ⟨1, _⟩ => show win0_2.index t 1 * 512 + 1 * (j 1).val = (i 1).val; rw [e1, h1]; omega

/-- The block of the result a point computes. -/
theorem point (c : Dev nD) (t : Fin cfg0.N) (j : S1024x512.Idx) (i : S16384x4096.Idx)
    (h0 : (i 0).val = t.val / 8 * 1024 + (j 0).val) (h1 : (i 1).val = t.val % 8 * 512 + (j 1).val) :
    k0_pay1 (iblk m c 2 t : Vec Ideal S1024x512 .f32) (iblk m c 0 t : Vec Ideal S1024x4096 .bf16)
      (iblk m c 1 t : Vec Ideal S4096x512 .bf16) j = GM m c i := by
  exact (pay1_apply _ _ _ j).trans (congrArg₂ (fun a b : EReal => a + b) (iblk2 m c t j i h0 h1)
    (Finset.sum_congr rfl fun k _ => congrArg₂ (fun a b : EReal => a * b)
      (iblk0 m c t (ix2 (j 0) k) (ix2 (i 0) k) h0 rfl) (iblk1 m c t (ix2 k (j 1)) (ix2 k (i 1)) rfl h1)))

theorem out3_eq (x0 : Vec Ideal S1024x4096 .bf16) (x1 : Vec Ideal S4096x512 .bf16) (x2 : Vec Ideal S1024x512 .f32) :
    out0_3 x0 x1 x2 = k0_pay1 x2 x0 x1 := by
  unfold out0_3
  rw [View.canon_unit_zero hz, View.ld_unit_zero hz, View.ld_unit_zero hz, View.ld_unit_zero hz]

theorem out4_eq (x0 : Vec Ideal S1024x4096 .bf16) (x1 : Vec Ideal S4096x512 .bf16) (x2 : Vec Ideal S1024x512 .f32) :
    out0_4 x0 x1 x2 = k0_pay1 x2 x0 x1 := by
  unfold out0_4
  rw [View.canon_unit_zero hz, View.ld_unit_zero hz, View.ld_unit_zero hz, View.ld_unit_zero hz]
  rfl

theorem flushed3_eq (c : Dev nD) (t : Fin cfg0.N) :
    (dats m 0 c).flushed 3 t = ((cfg0.win 3).blk t).view.read (Elt Ideal) (GM m c) := by
  obtain ⟨-, -, -, -, -, -, e0, e1, -⟩ := idx t
  rw [flushed3, out3_eq]
  funext j
  rw [View.read_apply]
  refine point m c t j _ ?_ ?_
  · show win0_3.index t 0 * 1024 + 1 * (j 0).val = _; rw [e0]; omega
  · show win0_3.index t 1 * 512 + 1 * (j 1).val = _; rw [e1]; omega

theorem flushed4_eq (c : Dev nD) (t : Fin cfg0.N) :
    (dats m 0 c).flushed 4 t = ((cfg0.win 4).blk t).view.read (Elt Ideal) (GM m c) := by
  obtain ⟨-, -, -, -, -, -, -, -, e0, e1⟩ := idx t
  rw [flushed4, out4_eq]
  funext j
  rw [View.read_apply]
  refine point m c t j _ ?_ ?_
  · show win0_4.index t 0 * 1024 + 1 * (j 0).val = _; rw [e0]; omega
  · show win0_4.index t 1 * 512 + 1 * (j 1).val = _; rw [e1]; omega

/-- The point whose output block holds an element. -/
def pt (i : S16384x4096.Idx) : Fin cfg0.N :=
  ⟨(i 0).val / 1024 * 8 + (i 1).val / 512, by
    have h0 : (i 0 : Nat) < 16384 := (i 0).isLt
    have h1 : (i 1 : Nat) < 4096 := (i 1).isLt
    rw [show cfg0.N = 128 from N_0]; omega⟩

theorem pt_div (i : S16384x4096.Idx) : (pt i).val / 8 = (i 0).val / 1024 ∧ (pt i).val % 8 = (i 1).val / 512 := by
  have h1 : (i 1 : Nat) < 4096 := (i 1).isLt
  unfold pt
  dsimp only
  omega

theorem final3 (c : Dev nD) : (dats m 0 c).arrAt 3 cfg0.N = GM m c :=
  (dats m 0 c).arrAt_eq_of_cover 3 (GM m c) (fun t _ => flushed3_eq m c t) fun i =>
    ⟨pt i, flush0_3 _, by
      show i ∈ ((View.whole main_v0_0).slice (win0_3.rect (pt i))).set
      obtain ⟨-, -, -, -, -, -, e0, e1, -⟩ := idx (pt i)
      obtain ⟨p0, p1⟩ := pt_div i
      rw [View.set_slice_whole, Rect.mem_set_unit]
      intro a
      match a with
      | ⟨0, _⟩ => show win0_3.index (pt i) 0 * 1024 ≤ (i 0 : Nat) ∧ (i 0 : Nat) < win0_3.index (pt i) 0 * 1024 + 1024
                  rw [e0, p0]; omega
      | ⟨1, _⟩ => show win0_3.index (pt i) 1 * 512 ≤ (i 1 : Nat) ∧ (i 1 : Nat) < win0_3.index (pt i) 1 * 512 + 512
                  rw [e1, p1]; omega⟩

theorem final4 (c : Dev nD) : (dats m 0 c).arrAt 4 cfg0.N = GM m c :=
  (dats m 0 c).arrAt_eq_of_cover 4 (GM m c) (fun t _ => flushed4_eq m c t) fun i =>
    ⟨pt i, flush0_4 _, by
      show i ∈ ((View.whole main_v0_1).slice (win0_4.rect (pt i))).set
      obtain ⟨-, -, -, -, -, -, -, -, e0, e1⟩ := idx (pt i)
      obtain ⟨p0, p1⟩ := pt_div i
      rw [View.set_slice_whole, Rect.mem_set_unit]
      intro a
      match a with
      | ⟨0, _⟩ => show win0_4.index (pt i) 0 * 1024 ≤ (i 0 : Nat) ∧ (i 0 : Nat) < win0_4.index (pt i) 0 * 1024 + 1024
                  rw [e0, p0]; omega
      | ⟨1, _⟩ => show win0_4.index (pt i) 1 * 512 ≤ (i 1 : Nat) ∧ (i 1 : Nat) < win0_4.index (pt i) 1 * 512 + 512
                  rw [e1, p1]; omega⟩

/-- The kernel's run: both result arrays are `GM`, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans (final3 m c), (h c).2.1.trans (final4 m c), (h c).2.2⟩) (run_blocks m ρ)

end Cert.Kernel5Ideal.Value

namespace Cert.Reference5Ideal.Value

open Cert.Reference5Ideal Cert.Reference5Ideal.Gen

/-- The reference's value, element by element: the same. -/
theorem ref_eq (x : FVec Ideal S16384x4096 .f32) (w : FVec Ideal S4096x4096 .f32) (res : FVec Ideal S16384x4096 .f32) :
    addf res (Host.dotGeneral dot_S16384x4096_S4096x4096_S16384x4096_1_0_0_1_n_n none x w) = Cert.Kernel5Ideal.Value.G x w res := by
  funext i
  show res i + Ideal.matmul dot_S16384x4096_S4096x4096_S16384x4096_1_0_0_1_n_n x w (fun _ => 0) i = _
  rw [Ideal.matmul_apply₁_of dot_S16384x4096_S4096x4096_S16384x4096_1_0_0_1_n_n (a := 1) rfl (K := 4096) rfl x w _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl), zero_add]
  rfl

end Cert.Reference5Ideal.Value

end
-- ==== Proof.Rms.lean ====
/-
  The reciprocal root mean square of a row of 4096 numbers, as both the normalisation kernel and the fused projections
  use it, and what is known of it: it is a real number that is not negative, or zero when a number of the row is infinite.
-/
module

public import Idealize.ShloMosaic.PureOps.Ideal
public import Idealize.ShloMosaic.Lib.KernelVsHost
public import Idealize.ShloMosaic.Lib.Pointwise

@[expose] public section

noncomputable section

open Idealize.ShloMosaic

namespace Cert.Rms

/-- One over the root of the mean square plus the epsilon. -/
def sc (x : Fin 4096 → EReal) : EReal :=
  Ideal.rsqrt (Ideal.div (∑ k, x k * x k) (Ideal.ofBits .f32 0x45800000#32) + Ideal.ofBits .f32 0x3727C5AC#32)

end Cert.Rms

end
-- ==== Proof.NormValue.lean ====
/-
  The value of the root-mean-square normalisation (`kernel6`: `_rmsnorm`): every element of the result is the input's
  element times the reciprocal root mean square of its row times the weight of its column, and the reference's is the same.
-/
module

public import proofs.«01_k».proof.Proof.Gen.Kernel6Ideal.Value
public import proofs.«01_k».proof.Proof.Gen.Reference6Ideal.Run
public import proofs.«01_k».proof.Proof.Rms
public import Idealize.ShloMosaic.Lib.Pipeline.Value
public import Idealize.ShloMosaic.Lib.KernelVsHost
public import Idealize.ShloMosaic.Lib.Pointwise
public import Idealize.ShloMosaic.Lib.Claim
public import Idealize.ShloMosaic.Lib.Tactic

@[expose] public section

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.Rms

variable (m : (ℓ : Loc nD τ sig) → Buf (Elt Ideal) ℓ)

theorem hz : (![0, 0] : Fin 2 → Nat) = fun _ => 0 := funext fun a => by fin_cases a <;> rfl

/-- The result, element by element. -/
def G (x : S16384x4096.Idx → EReal) (w : S4096.Idx → EReal) : S16384x4096.Idx → EReal :=
  fun i => x i * sc (fun k => x (ix2 (i 0) k)) * w (ix1 (i 1))

/-- The result over the launch's arguments. -/
def GM (c : Dev nD) : S16384x4096.Idx → EReal :=
  G (m ((c : Thread nD τ).loc main_arg0)) (m ((c : Thread nD τ).loc main_arg1))

/-- What the body computes of its two blocks. -/
theorem pay1_apply (v0 : Vec Ideal S256x4096 .f32) (v1 : Vec Ideal S1x4096 .f32) (j : S256x4096.Idx) :
    k0_pay1 v0 v1 j = v0 j * sc (fun k => v0 (ix2 (j 0) k)) * v1 (ix2 0 (j 1)) := by
  unfold_payloads
  unfold sc
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 := by
  decide +kernel

theorem iblk0 (c : Dev nD) (t : Fin cfg0.N) (j : S256x4096.Idx) (i : S16384x4096.Idx)
    (h0 : (i 0).val = t.val * 256 + (j 0).val) (h1 : (i 1).val = (j 1).val) :
    (iblk m c 0 t : Vec Ideal S256x4096 .f32) j = m ((c : Thread nD τ).loc main_arg0) i := by
  obtain ⟨e0, e1, -⟩ := idx t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * (j 0).val = (i 0).val; rw [e0, h0]; omega
  | ⟨1, _⟩ => show win0_0.index t 1 * 4096 + 1 * (j 1).val = (i 1).val; rw [e1, h1]; omega

/-- The weight as the region finds it: the argument, its row laid out as a 1 by 4096 array. -/
theorem V_v0 (c : Dev nD) : (V m c main_v0 : S1x4096.Idx → EReal)
    = shapeCast S1x4096 (m ((c : Thread nD τ).loc main_arg1) : S4096.Idx → EReal) shapeCasts_S4096_S1x4096 := by
  show StableHlo.after hostOps0 (fun b => m (c, b)) main_v0 = _
  after_results
  rfl

theorem iblk1 (c : Dev nD) (t : Fin cfg0.N) (j : S1x4096.Idx) :
    (iblk m c 1 t : Vec Ideal S1x4096 .f32) j = m ((c : Thread nD τ).loc main_arg1) (ix1 (j 1)) := by
  obtain ⟨-, -, e0, e1, -⟩ := idx t
  unfold iblk
  rw [View.read_apply]
  show (V m c main_v0 : S1x4096.Idx → EReal) _ = m (c.tc.loc main_arg1) _
  rw [V_v0]
  refine shapeCast_apply _ _ _ _ ?_
  refine (Shape.rowMajor_val_one _).trans (Eq.trans ?_ (Shape.rowMajor_val_two _).symm)
  have hj : (j 0 : Nat) < 1 := (j 0).isLt
  show (j 1).val = (win0_1.index t 0 * 1 + 1 * (j 0).val) * 4096 + (win0_1.index t 1 * 4096 + 1 * (j 1).val)
  rw [e0, e1]; omega

/-- The block of the result a point computes. -/
theorem point (c : Dev nD) (t : Fin cfg0.N) (j : S256x4096.Idx) (i : S16384x4096.Idx)
    (h0 : (i 0).val = t.val * 256 + (j 0).val) (h1 : (i 1).val = (j 1).val) :
    k0_pay1 (iblk m c 0 t : Vec Ideal S256x4096 .f32) (iblk m c 1 t : Vec Ideal S1x4096 .f32) j = GM m c i := by
  have e : (fun k : Fin 4096 => (iblk m c 0 t : Vec Ideal S256x4096 .f32) (ix2 (j 0) k))
      = fun k => m ((c : Thread nD τ).loc main_arg0) (ix2 (i 0) k) :=
    funext fun k => iblk0 m c t (ix2 (j 0) k) (ix2 (i 0) k) h0 rfl
  have e1 : (j 1 : Fin 4096) = (i 1 : Fin 4096) := Fin.ext h1.symm
  refine (pay1_apply _ _ j).trans (congrArg₂ (fun a b : EReal => a * b)
    (congrArg₂ (fun a b : EReal => a * b) (iblk0 m c t j i h0 h1) (congrArg sc e)) ?_)
  refine (iblk1 m c t _).trans ?_
  show m ((c : Thread nD τ).loc main_arg1) (ix1 (j 1 : Fin 4096)) = m ((c : Thread nD τ).loc main_arg1) (ix1 (i 1 : Fin 4096))
  rw [e1]

theorem out2_eq (x0 : Vec Ideal S256x4096 .f32) (x1 : Vec Ideal S1x4096 .f32) :
    out0_2 x0 x1 = k0_pay1 x0 x1 := by
  unfold out0_2
  rw [View.canon_unit_zero hz, View.ld_unit_zero hz, View.ld_unit_zero hz]

theorem flushed2_eq (c : Dev nD) (t : Fin cfg0.N) :
    (dats m 0 c).flushed 2 t = ((cfg0.win 2).blk t).view.read (Elt Ideal) (GM m c) := by
  obtain ⟨-, -, -, -, e0, e1⟩ := idx t
  rw [flushed2, out2_eq]
  funext j
  rw [View.read_apply]
  refine point m c t j _ ?_ ?_
  · show win0_2.index t 0 * 256 + 1 * (j 0).val = _; rw [e0]; omega
  · show win0_2.index t 1 * 4096 + 1 * (j 1).val = _; rw [e1]; omega

/-- The point whose output block holds an element. -/
def pt (i : S16384x4096.Idx) : Fin cfg0.N :=
  ⟨(i 0).val / 256, by
    have h0 : (i 0 : Nat) < 16384 := (i 0).isLt
    rw [show cfg0.N = 64 from N_0]; omega⟩

theorem final2 (c : Dev nD) : (dats m 0 c).arrAt 2 cfg0.N = GM m c :=
  (dats m 0 c).arrAt_eq_of_cover 2 (GM m c) (fun t _ => flushed2_eq m c t) fun i =>
    ⟨pt i, flush0_2 _, by
      show i ∈ ((View.whole main_v1).slice (win0_2.rect (pt i))).set
      obtain ⟨-, -, -, -, e0, e1⟩ := idx (pt i)
      have p0 : (pt i).val = (i 0).val / 256 := rfl
      have h1 : (i 1 : Nat) < 4096 := (i 1).isLt
      rw [View.set_slice_whole, Rect.mem_set_unit]
      intro a
      match a with
      | ⟨0, _⟩ => show win0_2.index (pt i) 0 * 256 ≤ (i 0 : Nat) ∧ (i 0 : Nat) < win0_2.index (pt i) 0 * 256 + 256
                  rw [e0, p0]; omega
      | ⟨1, _⟩ => show win0_2.index (pt i) 1 * 4096 ≤ (i 1 : Nat) ∧ (i 1 : Nat) < win0_2.index (pt i) 1 * 4096 + 4096
                  rw [e1]; omega⟩

/-- The kernel's run: the result array is `GM`, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v1) = GM m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

end Cert.Kernel6Ideal.Value

namespace Cert.Reference6Ideal.Value

open Cert.Reference6Ideal Cert.Reference6Ideal.Gen Cert.Rms

/-- The reference's value, element by element: the same. -/
theorem ref_eq (x : FVec Ideal S16384x4096 .f32) (w : FVec Ideal S4096 .f32) :
    mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 w))
      = Cert.Kernel6Ideal.Value.G x w := by
  funext i
  unfold Cert.Kernel6Ideal.Value.G sc
  pointwise

end Cert.Reference6Ideal.Value

end
-- ==== Proof.Claims.lean ====
/-
  The value claims of the plain calls: the two output projections and the normalisation.
-/
module

public import proofs.«01_k».proof.Defs
public import proofs.«01_k».proof.Proof.ResValue
public import proofs.«01_k».proof.Proof.ResValue5
public import proofs.«01_k».proof.Proof.NormValue
public import proofs.«01_k».proof.Proof.Gen.Kernel4Ideal
public import proofs.«01_k».proof.Proof.Gen.Kernel5Ideal
public import proofs.«01_k».proof.Proof.Gen.Kernel6Ideal
public import proofs.«01_k».proof.Proof.Gen.Reference4Ideal
public import proofs.«01_k».proof.Proof.Gen.Reference5Ideal
public import proofs.«01_k».proof.Proof.Gen.Reference6Ideal

@[expose] public section

noncomputable section

open Idealize.ShloMosaic Idealize.ShloMosaic.TcCoe Idealize.SL.Sem

namespace Cert.Proof

/-- The projection's two results are the reference's. -/
theorem algebraic4 :
    Cert.algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Value.GM m c, fun c => Cert.Kernel4Ideal.Value.GM m c, Cert.Kernel4Ideal.Value.run_value m g, ?_⟩
  refine (θ_run _ _ _).mono (fun r h c => ?_) (Cert.Reference4Ideal.Value.run m' g')
  obtain ⟨h3, h4, hk⟩ := h c
  obtain ⟨a0, a1, a2⟩ := hargs c
  have e : Cert.Kernel4Ideal.Value.G (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)) = Cert.Kernel4Ideal.Value.GM m c := by
    rw [a0, a1, a2]; rfl
  have e' := (Cert.Reference4Ideal.Value.ref_eq _ _ _).trans e
  exact ⟨h3.trans e', h4.trans e', hk⟩

/-- The projection's two results are the reference's. -/
theorem algebraic5 :
    Cert.algebraic_Kernel5Ideal_Reference5Ideal (hKernel5Ideal := Cert.Kernel5Ideal.Gen.facts) (hReference5Ideal := Cert.Reference5Ideal.Gen.facts) := by
  intro m g m' g' _ hargs
  refine ⟨fun c => Cert.Kernel5Ideal.Value.GM m c, fun c => Cert.Kernel5Ideal.Value.GM m c, Cert.Kernel5Ideal.Value.run_value m g, ?_⟩
  refine (θ_run _ _ _).mono (fun r h c => ?_) (Cert.Reference5Ideal.Value.run m' g')
  obtain ⟨h3, h4, hk⟩ := h c
  obtain ⟨a0, a1, a2⟩ := hargs c
  have e : Cert.Kernel5Ideal.Value.G (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) = Cert.Kernel5Ideal.Value.GM m c := by
    rw [a0, a1, a2]; rfl
  have e' := (Cert.Reference5Ideal.Value.ref_eq _ _ _).trans e
  exact ⟨h3.trans e', h4.trans e', hk⟩

/-- The normalisation's result is the reference's. -/
theorem algebraic6 :
    Cert.algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.Value.GM m c, Cert.Kernel6Ideal.Value.run_value m g, ?_⟩
  refine (θ_run _ _ _).mono (fun r h c => ?_) (Cert.Reference6Ideal.Value.run m' g')
  obtain ⟨h3, hk⟩ := h c
  obtain ⟨a0, a1⟩ := hargs c
  exact ⟨h3.trans ((Cert.Reference6Ideal.Value.ref_eq _ _).trans (by rw [a0, a1]; rfl)), hk⟩

end Cert.Proof

end
-- ==== Proof.NormMul.Run.lean ====
/-
  The in-projection (`Kernel2Ideal`): the run of the body with what it leaves in each buffer named, in the case where the
  point opens a row block and in the case where it does not.
-/
module

public import proofs.«01_k».proof.Proof.Kernel2IdealRun.Runs
public import Idealize.ShloMosaic.Lib.Pipeline.Value
public import Idealize.ShloMosaic.Lib.Pipeline.TableIdle
public import Idealize.ShloMosaic.Lib.KernelVsHost

@[expose] public section

-- membership in a rectangle of production extents (`View.cover_of_tiled`): the elaborator's structural look
-- recurses once per coordinate of the long axes
set_option maxRecDepth 16384

noncomputable section

namespace Cert.Kernel2Ideal.Named

open Cert.Kernel2Ideal.Gen
open Cert.Kernel2Ideal.Fgt (cond0_0 hcond0_0)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A load of a whole memref reads its contents. -/
theorem rd {S : Shape} {sp : Space} {e : EltTy} {mr : Memref sig .tc sp S e} (h : mr.IsWhole) (X : S.Idx → Elt F e)
    {off : Fin S.rank → Nat} (h0 : off = fun _ => 0) (inb : ∀ a, off a + S.size a ≤ S.size a) :
    View.readAt (Elt F) mr.view (Rect.unit off S.size inb).toLoadRect (h.unread X) = X := by
  rw [View.readAt_eq_ld, h.read_unread, View.ld_unit_zero h0]

/-- One store through a whole memref leaves its payload. -/
theorem wr {S : Shape} {sp : Space} {e : EltTy} (mr : Memref sig .tc sp S e) (f : BufTy.Contents (Elt F) mr.view.ty)
    {off : Fin S.rank → Nat} (h0 : off = fun _ => 0) (inb : ∀ a, off a + S.size a ≤ S.size a) (w : S.Idx → Elt F e) :
    View.read (Elt F) mr.view (mr.view.writes (Elt F) f [(⟨Rect.unit off S.size inb, w⟩ : View.Piece (Elt F) S e)]) = w :=
  (View.read_writes_eq_canon _ _ _ fun y => ⟨_, List.mem_singleton_self _, View.mem_set_unit_zero h0 inb y⟩).trans
    (View.canon_unit_zero h0 inb w)

set_option maxHeartbeats 1000000 in
/-- Where the point opens a row block: the row scale goes to the scratch, the extra columns are stored, and the tile is stored. -/
theorem run_first (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S4096x128 .bf16) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1 .f32) (harg7 : arg7.IsWhole) (hc0 : cond0_0 i)
    (x0 : Vec F S1024x4096 .bf16) (x1 : Vec F S4096x1024 .bf16) (x2 : Vec F S4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay4 x0 x1 (k0_pay2 x0)) ∗ owns (c : Thread nD τ) arg6 fullShare (k0_pay3 x0 x0 x2) ∗ owns (c : Thread nD τ) arg7 fullShare (k0_pay2 x0)) -∗ K ⟨⟩))
          ⊢ wp frame (wpE (defs₀ (F := F)) Variants.none c none) E (cc0_matmul_norm i arg2 harg2 arg3 harg3 arg4 harg4 arg5 harg5 arg6 harg6 arg7 harg7) K := by
    intro E K
    simp only [cc0_matmul_norm_eq_skeleton]; unfold cc0_matmul_norm_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; refine (wr _ _ hz _ _).trans ?_; rw [rd harg2 _ hz, rd harg3 _ hz]; unfold run_first.sl.v6 run_first.sl.HS0_1; rw [rd harg2 _ hz]; exact congrArg (k0_pay4 x0 x1) (View.readCov_unit_zero _ hz _ _)
    isplitl [H4]
    · iexists _; isplitr; swap; · iexact H4
      ipureintro; refine (wr _ _ hz _ _).trans ?_; rw [rd harg2 _ hz, rd harg4 _ hz]
    iexists _; isplitr; swap; · iexact HS0
    ipureintro; unfold run_first.sl.HS0_1; refine (wr _ _ hz _ _).trans ?_; rw [rd harg2 _ hz]

set_option maxHeartbeats 1000000 in
/-- Elsewhere in a row block: the scratch is read and kept, the extra columns are not touched, and the tile is stored. -/
theorem run_next (c : Dev nD) (i : grid0.Coords) (arg2 : Memref sig .tc .vmem S1024x4096 .bf16) (harg2 : arg2.IsWhole) (arg3 : Memref sig .tc .vmem S4096x1024 .bf16) (harg3 : arg3.IsWhole) (arg4 : Memref sig .tc .vmem S4096x128 .bf16) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1 .f32) (harg7 : arg7.IsWhole) (hc0 : ¬cond0_0 i)
    (x0 : Vec F S1024x4096 .bf16) (x1 : Vec F S4096x1024 .bf16) (x2 : Vec F S4096x128 .bf16) (x4 : Vec F S1024x128 .f32) (xs : Vec F S1024x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare (k0_pay4 x0 x1 xs) ∗ owns (c : Thread nD τ) arg6 fullShare x4 ∗ owns (c : Thread nD τ) arg7 fullShare xs) -∗ K ⟨⟩))
          ⊢ wp frame (wpE (defs₀ (F := F)) Variants.none c none) E (cc0_matmul_norm i arg2 harg2 arg3 harg3 arg4 harg4 arg5 harg5 arg6 harg6 arg7 harg7) K := by
    intro E K
    simp only [cc0_matmul_norm_eq_skeleton]; unfold cc0_matmul_norm_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; refine (wr _ _ hz _ _).trans ?_; rw [rd harg2 _ hz, rd harg3 _ hz]; rw [rd harg7 _ hz]
    isplitl [H4]
    · iexists _; isplitr; · ipureintro; exact harg6.read_unread _
      iexact H4
    iexists _; isplitr; · ipureintro; exact harg7.read_unread _
    iexact HS0

end Cert.Kernel2Ideal.Named

end
-- ==== Proof.NormMul.Frame.lean ====
/-
  The in-projection (`Kernel2Ideal`) run with its two outputs named: the row scale of a row block is computed at the
  block's first point and carried in the scratch, and the extra columns are stored there and written back at its last.
-/
module

public import proofs.«01_k».proof.Proof.NormMul.Run
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Named

open Cert.Kernel2Ideal.Gen
open Cert.Kernel2Ideal.Fgt (V hmain iblk before0_0_of before0_1_of before0_2_of cond0_0 hcond0_0 liveAt0_0 liveAt0_1 liveAt0_2 ms0_0 ms0_1 ms0_2 ms0_3 ms0_4 scM0_0 PhiA0_eq)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first point of a point's row block. -/
def first (t : Fin cfg0.N) : Fin cfg0.N := ⟨t.val / 18 * 18, Nat.lt_of_le_of_lt (Nat.div_mul_le_self _ _) t.isLt⟩

theorem first_of (t : Fin cfg0.N) (h : t.val % 18 = 0) : first t = t := Fin.ext (by unfold first; dsimp only; omega)

theorem first_prev (t : Fin cfg0.N) (n : ℕ) (hn : n < cfg0.N) (e : n + 1 = t.val) (h : t.val % 18 ≠ 0) :
    first ⟨n, hn⟩ = first t := Fin.ext (by unfold first; dsimp only; omega)

/-- The row scale that the scratch holds after a point. -/
def scale (c : Dev nD) (t : Fin cfg0.N) : Vec F S1024x1 .f32 := k0_pay2 (iblk m c 0 (first t))

/-- The tile that a point stores. -/
def tile (c : Dev nD) (t : Fin cfg0.N) : Vec F S1024x1024 .bf16 := k0_pay4 (iblk m c 0 t) (iblk m c 1 t) (scale m c t)

/-- The extra columns of a point's row block. -/
def extra (c : Dev nD) (t : Fin cfg0.N) : Vec F S1024x128 .f32 :=
  k0_pay3 (iblk m c 0 (first t)) (iblk m c 0 (first t)) (iblk m c 2 (first t))

/-- What the region owns besides its windows: before the first point the scratch at anything, then at the row scale. -/
def PhiS (c : Dev nD) : (n : ℕ) → n ≤ cfg0.N → sProp 𝕄
  | 0, _ => Pipeline.ΦA spec0 c
  | n + 1, hn => iprop(owns (c : Thread nD τ) scM0_0 fullShare (scale m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (scale m c ⟨n, hn⟩) ∗ (∃ r, prngReg c r)) := rfl

theorem PhiS_pos (c : Dev nD) (n : ℕ) (h : n ≤ cfg0.N) (hz : n ≠ 0) :
    PhiS m c n h = iprop(owns (c : Thread nD τ) scM0_0 fullShare (scale m c ⟨n - 1, by omega⟩) ∗ (∃ r, prngReg c r)) := by
  cases n with
  | zero => exact absurd rfl hz
  | succ n => rfl

/-- At any point the scratch is owned at some contents. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨HS0, Hg⟩
    isplitl [HS0]
    · iexists _; iexact HS0
    iexact Hg

theorem PhiS_some (c : Dev nD) (n : ℕ) (h : n ≤ cfg0.N) :
    PhiS m c n h ⊢ (iprop((∃ d, owns (c : Thread nD τ) scM0_0 fullShare d) ∗ (∃ r, prngReg c r)) : sProp 𝕄) := by
  have e := PhiS_any m c n h
  rw [PhiA0_eq] at e
  exact e

/-- The proof data: the arrays as the region finds them, each input's buffer at its block, each output's at what the
    points so far have stored, the scratch at the row scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => tile m c t
    | ⟨4, h⟩ => extra m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tile m c t := by dsimp only [dats]
theorem after0_4 (c : Dev nD) (t : Fin cfg0.N) : (dats m 0 c).after 4 t = extra m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## When the extra columns' buffer is stored -/

theorem idle4_first (t : Fin cfg0.N) (h : t.val % 18 = 0) : cfg0.idle 4 (grid0.coords t) = false := by
  show (!(k0_cond1 (grid0.coords t) == 1#1)) = false
  rw [show k0_cond1 (grid0.coords t) = 1#1 from (hcond0_0 t).mpr h]; rfl

theorem idle4_next (t : Fin cfg0.N) (h : t.val % 18 ≠ 0) : cfg0.idle 4 (grid0.coords t) = true := by
  show (!(k0_cond1 (grid0.coords t) == 1#1)) = true
  have e : ¬ k0_cond1 (grid0.coords t) = 1#1 := fun e => h ((hcond0_0 t).mp e)
  rw [beq_eq_false_iff_ne.mpr e]; rfl

theorem flush4_last (t : Fin cfg0.N) (h : t.val % 18 = 17) : (cfg0.win 4).flush t = true := (flush0_4 t).mpr h

theorem flush4_not (t : Fin cfg0.N) (h : t.val % 18 ≠ 17) : (cfg0.win 4).flush t = false :=
  Bool.eq_false_iff.mpr fun e => h ((flush0_4 t).mp e)

theorem fresh4 : ∀ n, n ≤ cfg0.N → cfg0.fresh 4 n = (n % 18 == 0) :=
  cfg0.fresh_tab 4 (fun n => n % 18 == 0) rfl fun t => by
    show ((t.val + 1) % 18 == 0) = ((cfg0.win 4).flush t || (cfg0.idle 4 (grid0.coords t) && (t.val % 18 == 0)))
    by_cases h17 : t.val % 18 = 17
    · rw [flush4_last t h17]; exact beq_iff_eq.mpr (by omega)
    · rw [flush4_not t h17, beq_eq_false_iff_ne.mpr (by omega : (t.val + 1) % 18 ≠ 0)]
      by_cases h0 : t.val % 18 = 0
      · rw [idle4_first t h0]; rfl
      · rw [beq_eq_false_iff_ne.mpr h0, Bool.and_false]; rfl

/-- Within a row block the body finds the extra columns as the block's first point stored them. -/
theorem before0_4 (c : Dev nD) (t : Fin cfg0.N) (h : t.val % 18 ≠ 0) (d) : (dats m 0 c).before 4 t d = extra m c t := by
  have hcarry : ∀ (s : Fin cfg0.N) (_ : s.val ≠ 0), cfg0.idle 4 (cfg0.grid.coords s) = true → cfg0.fresh 4 s.val = false →
      (dats m 0 c).after 4 s = (dats m 0 c).after 4 ⟨s.val - 1, by omega⟩ := by
    intro s hs _ hf
    have h18 : s.val % 18 ≠ 0 := by
      rw [fresh4 s.val (Nat.le_of_lt s.isLt)] at hf
      exact beq_eq_false_iff_ne.mp hf
    rw [after0_4, after0_4]; unfold extra
    rw [first_prev s (s.val - 1) (by omega) (by omega) h18]
  rw [Dat.before_out_traj (dats m 0 c) 4 rfl (fun _ _ => rfl) hcarry t.val t rfl d,
    fresh4 t.val (Nat.le_of_lt t.isLt), if_neg (by simpa using h), after0_4]
  unfold extra
  rw [first_prev t (t.val - 1) (by omega) (by omega) h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The extra columns' buffer, holding what it should, is left as the pipeline wants it. -/
theorem leaves4 (c : Dev nD) (t : Fin cfg0.N) :
    owns (c : Thread nD τ) (ms0_4 t) fullShare (extra m c t) ⊢ ((dats m 0 c).leavesExact 4 t : sProp 𝕄) := by
  by_cases h0 : t.val % 18 = 0
  · rw [show (dats m 0 c).leavesExact 4 t = owns (c : Thread nD τ) (ms0_4 t) fullShare ((dats m 0 c).after 4 t) from by
      unfold Dat.leavesExact; rw [idle4_first t h0], after0_4]
  · by_cases h17 : t.val % 18 = 17
    · rw [show (dats m 0 c).leavesExact 4 t = owns (c : Thread nD τ) (ms0_4 t) fullShare ((dats m 0 c).after 4 t) from by
        unfold Dat.leavesExact; rw [idle4_next t h0, flush4_last t h17], after0_4]
    · rw [Dat.leavesExact_idle _ 4 t (idle4_next t h0) (flush4_not t h17)]
      iintro H
      iexists (extra m c t)
      rw [before0_4 m c t h0]
      iexact H

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rfl, after0_3]
  by_cases h0 : t.val % 18 = 0
  · have es : scale m c t = k0_pay2 (iblk m c 0 t) := by unfold scale; rw [first_of t h0]
    have e3 : tile m c t = k0_pay4 (iblk m c 0 t) (iblk m c 1 t) (k0_pay2 (iblk m c 0 t)) := by unfold tile; rw [es]
    have e4 : extra m c t = k0_pay3 (iblk m c 0 t) (iblk m c 0 t) (iblk m c 2 t) := by unfold extra; rw [first_of t h0]
    iintro ⟨HΦ, Ho, ⟨%d0, H0⟩, ⟨%d1, H1⟩, ⟨%d2, H2⟩, ⟨%d3, H3⟩, ⟨%d4, H4⟩⟩
    ihave HΦ := (PhiS_some m c _ _) $$ HΦ
    icases HΦ with ⟨HS0, Hg⟩
    iapply ((run_first c (grid0.coords t) _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · rw [show scale m c ⟨t.val, t.isLt⟩ = _ from es]; iexact HS0
      iexact Hg
    isplitl [Ho]; · iexact Ho
    isplitl [H0]; · iexact H0
    isplitl [H1]; · iexact H1
    isplitl [H2]; · iexact H2
    isplitl [H3]; · rw [e3]; iexact H3
    iapply (leaves4 m c t)
    rw [e4]; iexact H4
  · have hz : t.val ≠ 0 := fun e => h0 (by rw [e])
    have es : scale m c ⟨t.val - 1, by omega⟩ = scale m c t := by
      unfold scale; rw [first_prev t (t.val - 1) (by omega) (by omega) h0]
    rw [PhiS_pos m c _ _ hz, es]
    simp only [before0_4 m c t h0]
    iintro ⟨⟨HS0, Hg⟩, Ho, ⟨%d0, H0⟩, ⟨%d1, H1⟩, ⟨%d2, H2⟩, ⟨%d3, H3⟩, ⟨%d4, H4⟩⟩
    iapply ((run_next c (grid0.coords t) _ _ _ _ _ _ _ _ _ _ _ _ (fun h => h0 ((hcond0_0 t).mp h)) (iblk m c 0 t) (iblk m c 1 t) (iblk m c 2 t) (extra m c t) (scale m c t)) Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iapply (leaves4 m c t)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
theorem run_main : θ_run defs (onTc (τ := τ) (main (F := F))) (s₀ m ρ) (Pipeline.FramePost cfgs (dats m) 0 (V m)) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel2Ideal.Named

end
-- ==== Proof.RowScale.lean ====
/-
  The reciprocal root mean square of a row is a number that is not negative and not infinite, so that a product scaled
  by it is the product of the scaled row.
-/
module

public import proofs.«01_k».proof.Proof.Rms
public import Idealize.ShloMosaic.Lib.KernelVsHost
public import Idealize.ShloMosaic.Lib.Pointwise

@[expose] public section

noncomputable section

open Idealize.ShloMosaic

namespace Cert.Rms

/-- The number of columns, as the programs write it. -/
theorem width_eq : Ideal.ofBits .f32 0x45800000#32 = ((4096 : ℝ) : EReal) := by
  simp [Ideal.ofBits, Ideal.ieee, -EReal.coe_mul]; norm_num

/-- The epsilon is positive. -/
theorem eps_pos : 0 < Ideal.ofBits .f32 0x3727C5AC#32 := by
  have e : Ideal.ofBits .f32 0x3727C5AC#32 = ((10995116 / 1099511627776 : ℝ) : EReal) := by
    simp [Ideal.ofBits, Ideal.ieee, -EReal.coe_mul]; norm_num
  rw [e]
  exact_mod_cast (by norm_num : (0 : ℝ) < 10995116 / 1099511627776)

theorem square_nonneg (x : EReal) : 0 ≤ x * x := by
  rcases le_total 0 x with h | h
  · exact mul_nonneg h h
  · have e : x * x = (-x) * (-x) := by rw [neg_mul_neg]
    rw [e]
    exact mul_nonneg (EReal.neg_nonneg.mpr h) (EReal.neg_nonneg.mpr h)

/-- What the root is taken of is positive. -/
theorem mean_pos (x : Fin 4096 → EReal) :
    0 < Ideal.div (∑ k, x k * x k) (Ideal.ofBits .f32 0x45800000#32) + Ideal.ofBits .f32 0x3727C5AC#32 := by
  have h : 0 ≤ Ideal.div (∑ k, x k * x k) (Ideal.ofBits .f32 0x45800000#32) := by
    rw [width_eq]
    unfold Ideal.div
    rw [if_neg (by norm_num)]
    exact mul_nonneg (Finset.sum_nonneg fun k _ => square_nonneg (x k))
      (EReal.inv_nonneg_of_nonneg (by exact_mod_cast (by norm_num : (0 : ℝ) ≤ 4096)))
  exact lt_of_lt_of_le eps_pos (le_add_of_nonneg_left h)

theorem rsqrt_of_pos {y : EReal} (h : 0 < y) : 0 ≤ Ideal.rsqrt y ∧ Ideal.rsqrt y ≠ ⊤ := by
  induction y with
  | bot => exact absurd h (by simp)
  | top => simp
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

theorem sc_nonneg (x : Fin 4096 → EReal) : 0 ≤ sc x := (rsqrt_of_pos (mean_pos x)).1
theorem sc_ne_top (x : Fin 4096 → EReal) : sc x ≠ ⊤ := (rsqrt_of_pos (mean_pos x)).2

/-- A factor that is not negative and not infinite goes into a sum. -/
theorem sum_mul_of {ι : Type} (s : Finset ι) (f : ι → EReal) {r : EReal} (h0 : 0 ≤ r) (ht : r ≠ ⊤) :
    (∑ k ∈ s, f k) * r = ∑ k ∈ s, f k * r := by
  classical
  induction s using Finset.induction_on with
  | empty => simp
  | insert a s ha ih =>
    rw [Finset.sum_insert ha, Finset.sum_insert ha, EReal.right_distrib_of_nonneg_of_ne_top h0 ht, ih]

/-- A row's product scaled by the row's scale is the product of the scaled row. -/
theorem dot_scale (x w : Fin 4096 → EReal) :
    (∑ k, x k * w k) * sc x = ∑ k, x k * sc x * w k := by
  rw [sum_mul_of _ _ (sc_nonneg x) (sc_ne_top x)]
  exact Finset.sum_congr rfl fun k _ => mul_right_comm _ _ _

end Cert.Rms

end
-- ==== Proof.NormMul.Value.lean ====
/-
  The value of the in-projection (`kernel2`: `_matmul_norm`): every element of either result is the product of the
  normalised row with a column of the weights, and the reference's is the same.
-/
module

public import proofs.«01_k».proof.Proof.NormMul.Frame
public import proofs.«01_k».proof.Proof.RowScale
public import proofs.«01_k».proof.Proof.Gen.Reference2Ideal.Run
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Kernel2Ideal.Named Cert.Rms
open Cert.Kernel2Ideal.Fgt (V iblk)

variable (m : (ℓ : Loc nD τ sig) → Buf (Elt Ideal) ℓ)

/-- The projection: the normalised row times a column of the weights. -/
def G (h : S16384x4096.Idx → EReal) (w : S4096x18432.Idx → EReal) : S16384x18432.Idx → EReal :=
  fun i => ∑ k : Fin 4096, h (ix2 (i 0) k) * sc (fun k => h (ix2 (i 0) k)) * w (ix2 k (i 1))

/-- The extra columns: the same with the extra weights. -/
def Ge (h : S16384x4096.Idx → EReal) (w : S4096x128.Idx → EReal) : S16384x128.Idx → EReal :=
  fun i => ∑ k : Fin 4096, h (ix2 (i 0) k) * sc (fun k => h (ix2 (i 0) k)) * w (ix2 k (i 1))

/-- The two results over the launch's arguments. -/
def GM (c : Dev nD) : S16384x18432.Idx → EReal :=
  G (m ((c : Thread nD τ).loc main_arg0)) (m ((c : Thread nD τ).loc main_arg1))
def GMe (c : Dev nD) : S16384x128.Idx → EReal :=
  Ge (m ((c : Thread nD τ).loc main_arg0)) (m ((c : Thread nD τ).loc main_arg2))

/-- The row scale of a block. -/
theorem pay1_apply (x : Vec Ideal S1024x4096 .bf16) (j : S1024x1.Idx) :
    k0_pay1 x j = sc (fun k => x (ix2 (j 0) k)) := by
  unfold_payloads
  unfold sc
  pointwise

theorem pay2_apply (x : Vec Ideal S1024x4096 .bf16) (j : S1024x1.Idx) :
    k0_pay2 x j = sc (fun k => x (ix2 (j 0) k)) := by
  unfold_payloads
  unfold sc
  pointwise

/-- The tile that a point stores, from its blocks and a row scale. -/
theorem pay4_apply (x : Vec Ideal S1024x4096 .bf16) (w : Vec Ideal S4096x1024 .bf16) (r : Vec Ideal S1024x1 .f32)
    (j : S1024x1024.Idx) :
    k0_pay4 x w r j = (∑ k : Fin 4096, x (ix2 (j 0) k) * w (ix2 k (j 1))) * r (ix2 (j 0) 0) := by
  have e : broadcastTo S1024x1024 r broadcasts_S1024x1_S1024x1024 j = r (ix2 (j 0) 0) := by pointwise
  show Ideal.matmul dot_S1024x4096_S4096x1024_S1024x1024_1_0_0_1_n_n x w
    (constant (F := Ideal) S1024x1024 .f32 0x00000000#32) j * broadcastTo S1024x1024 r broadcasts_S1024x1_S1024x1024 j = _
  rw [Ideal.matmul_apply₁_of dot_S1024x4096_S4096x1024_S1024x1024_1_0_0_1_n_n (a := 1) rfl (K := 4096) rfl x w _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [show (constant (F := Ideal) S1024x1024 .f32 0x00000000#32 : S1024x1024.Idx → EReal) j = 0 from Ideal.ofBits_zero_f32, zero_add, e]

/-- The extra columns of a row block. -/
theorem pay3_apply (x : Vec Ideal S1024x4096 .bf16) (w : Vec Ideal S4096x128 .bf16) (j : S1024x128.Idx) :
    k0_pay3 x x w j = (∑ k : Fin 4096, x (ix2 (j 0) k) * w (ix2 k (j 1))) * sc (fun k => x (ix2 (j 0) k)) := by
  have e : broadcastTo S1024x128 (k0_pay1 x) broadcasts_S1024x1_S1024x128 j = k0_pay1 x (ix2 (j 0) 0) := by
    generalize k0_pay1 x = r
    pointwise
  show Ideal.matmul dot_S1024x4096_S4096x128_S1024x128_1_0_0_1_n_n x w
    (constant (F := Ideal) S1024x128 .f32 0x00000000#32) j * broadcastTo S1024x128 (k0_pay1 x) broadcasts_S1024x1_S1024x128 j = _
  rw [Ideal.matmul_apply₁_of dot_S1024x4096_S4096x128_S1024x128_1_0_0_1_n_n (a := 1) rfl (K := 4096) rfl x w _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [show (constant (F := Ideal) S1024x128 .f32 0x00000000#32 : S1024x128.Idx → EReal) j = 0 from Ideal.ofBits_zero_f32, zero_add, e,
    pay1_apply]
  rfl

theorem idx : ∀ t : Fin cfg0.N, win0_0.index t 0 = t.val / 18 ∧ win0_0.index t 1 = 0 ∧ win0_1.index t 0 = 0
    ∧ win0_1.index t 1 = t.val % 18 ∧ win0_2.index t 0 = 0 ∧ win0_2.index t 1 = 0
    ∧ win0_3.index t 0 = t.val / 18 ∧ win0_3.index t 1 = t.val % 18
    ∧ win0_4.index t 0 = t.val / 18 ∧ win0_4.index t 1 = 0 := by
  decide +kernel

theorem iblk0 (c : Dev nD) (t : Fin cfg0.N) (j : S1024x4096.Idx) (i : S16384x4096.Idx)
    (h0 : (i 0).val = t.val / 18 * 1024 + (j 0).val) (h1 : (i 1).val = (j 1).val) :
    (iblk m c 0 t : Vec Ideal S1024x4096 .bf16) j = m ((c : Thread nD τ).loc main_arg0) i := by
  obtain ⟨e0, e1, -⟩ := idx t
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = (i 0).val; rw [e0, h0]; omega
  | ⟨1, _⟩ => show win0_0.index t 1 * 4096 + 1 * (j 1).val = (i 1).val; rw [e1, h1]; omega

theorem iblk1 (c : Dev nD) (t : Fin cfg0.N) (j : S4096x1024.Idx) (i : S4096x18432.Idx)
    (h0 : (i 0).val = (j 0).val) (h1 : (i 1).val = t.val % 18 * 1024 + (j 1).val) :
    (iblk m c 1 t : Vec Ideal S4096x1024 .bf16) j = m ((c : Thread nD τ).loc main_arg1) i := by
  obtain ⟨-, -, e0, e1, -⟩ := idx t
  unfold iblk
  rw [View.read_apply]
  show V m c main_arg1 _ = m (c.tc.loc main_arg1) _
  unfold V
  congr 1
  funext a
  apply Fin.ext
  match a with
  | ⟨0, _⟩ => show win0_1.index t 0 * 4096 + 1 * (j 0).val = (i 0).val; rw [e0, h0]; omega
  | ⟨1, _⟩ => show win0_1.index t 1 * 1024 + 1 * (j 1).val = (i 1).val; rw [e1, h1]; omega

theorem iblk2 (c : Dev nD) (t : Fin cfg0.N) (j : S4096x128.Idx) (i : S4096x128.Idx)
    (h0 : (i 0).val = (j 0).val) (h1 : (i 1).val = (j 1).val) :
    (iblk m c 2 t : Vec Ideal S4096x128 .bf16) j = m ((c : Thread nD τ).loc main_arg2) i := by
  obtain ⟨-, -, -, -, e0, e1, -⟩ := idx t
  unfold iblk
  rw [View.read_apply]
  show V m c main_arg2 _ = m (c.tc.loc main_arg2) _
  unfold V
  congr 1
  funext a
  apply Fin.ext
  match a with
  | ⟨0, _⟩ => show win0_2.index t 0 * 4096 + 1 * (j 0).val = (i 0).val; rw [e0, h0]; omega
  | ⟨1, _⟩ => show win0_2.index t 1 * 128 + 1 * (j 1).val = (i 1).val; rw [e1, h1]; omega

theorem first_div (t : Fin cfg0.N) : (first t).val / 18 = t.val / 18 := by unfold first; dsimp only; omega

/-- The row scale that a point reads is its own rows'. -/
theorem scale_apply (c : Dev nD) (t : Fin cfg0.N) (p : Fin 1024) (q : Fin 16384) (h : q.val = t.val / 18 * 1024 + p.val) :
    scale m c t (ix2 p 0) = sc (fun k => m ((c : Thread nD τ).loc main_arg0) (ix2 q k)) := by
  unfold scale
  refine (pay2_apply _ _).trans (congrArg sc (funext fun k => ?_))
  exact iblk0 m c (first t) (ix2 p k) (ix2 q k) (by rw [first_div]; exact h) rfl

/-- The block of the projection that a point computes. -/
theorem point (c : Dev nD) (t : Fin cfg0.N) (j : S1024x1024.Idx) (i : S16384x18432.Idx)
    (h0 : (i 0).val = t.val / 18 * 1024 + (j 0).val) (h1 : (i 1).val = t.val % 18 * 1024 + (j 1).val) :
    tile m c t j = GM m c i := by
  unfold tile
  refine (pay4_apply _ _ _ j).trans ?_
  refine (congrArg₂ (fun a b : EReal => a * b)
    (Finset.sum_congr rfl fun k _ => congrArg₂ (fun a b : EReal => a * b)
      (iblk0 m c t (ix2 (j 0) k) (ix2 (i 0) k) h0 rfl) (iblk1 m c t (ix2 k (j 1)) (ix2 k (i 1)) rfl h1))
    (scale_apply m c t (j 0) (i 0) h0)).trans ?_
  exact dot_scale (fun k => m ((c : Thread nD τ).loc main_arg0) (ix2 (i 0) k))
    (fun k => m ((c : Thread nD τ).loc main_arg1) (ix2 k (i 1)))

/-- The extra columns of a row block. -/
theorem pointe (c : Dev nD) (t : Fin cfg0.N) (j : S1024x128.Idx) (i : S16384x128.Idx)
    (h0 : (i 0).val = t.val / 18 * 1024 + (j 0).val) (h1 : (i 1).val = (j 1).val) :
    extra m c t j = GMe m c i := by
  unfold extra
  refine (pay3_apply _ _ j).trans ?_
  have hb : ∀ k, (iblk m c 0 (first t) : Vec Ideal S1024x4096 .bf16) (ix2 (j 0) k) = m ((c : Thread nD τ).loc main_arg0) (ix2 (i 0) k) :=
    fun k => iblk0 m c (first t) (ix2 (j 0) k) (ix2 (i 0) k) (by rw [first_div]; exact h0) rfl
  refine (congrArg₂ (fun a b : EReal => a * b)
    (Finset.sum_congr rfl fun k _ => congrArg₂ (fun a b : EReal => a * b)
      (hb k) (iblk2 m c (first t) (ix2 k (j 1)) (ix2 k (i 1)) rfl h1))
    (congrArg sc (funext hb))).trans ?_
  exact dot_scale (fun k => m ((c : Thread nD τ).loc main_arg0) (ix2 (i 0) k))
    (fun k => m ((c : Thread nD τ).loc main_arg2) (ix2 k (i 1)))

theorem flushed3_eq (c : Dev nD) (t : Fin cfg0.N) :
    (dats m 0 c).flushed 3 t = ((cfg0.win 3).blk t).view.read (Elt Ideal) (GM m c) := by
  obtain ⟨-, -, -, -, -, -, e0, e1, -⟩ := idx t
  show (cfg0.win 3).cut (grid0.coords t) ((dats m 0 c).after 3 t) = _
  rw [after0_3]
  funext j
  rw [View.read_apply]
  refine point m c t j _ ?_ ?_
  · show win0_3.index t 0 * 1024 + 1 * (j 0).val = _; rw [e0]; omega
  · show win0_3.index t 1 * 1024 + 1 * (j 1).val = _; rw [e1]; omega

theorem flushed4_eq (c : Dev nD) (t : Fin cfg0.N) :
    (dats m 0 c).flushed 4 t = ((cfg0.win 4).blk t).view.read (Elt Ideal) (GMe m c) := by
  obtain ⟨-, -, -, -, -, -, -, -, e0, e1⟩ := idx t
  show (cfg0.win 4).cut (grid0.coords t) ((dats m 0 c).after 4 t) = _
  rw [after0_4]
  funext j
  rw [View.read_apply]
  refine pointe m c t j _ ?_ ?_
  · show win0_4.index t 0 * 1024 + 1 * (j 0).val = _; rw [e0]; omega
  · show win0_4.index t 1 * 128 + 1 * (j 1).val = _; rw [e1]; omega

/-- The point whose output block holds an element. -/
def pt (i : S16384x18432.Idx) : Fin cfg0.N :=
  ⟨(i 0).val / 1024 * 18 + (i 1).val / 1024, by
    have h0 : (i 0 : Nat) < 16384 := (i 0).isLt
    have h1 : (i 1 : Nat) < 18432 := (i 1).isLt
    rw [show cfg0.N = 288 from N_0]; omega⟩

theorem pt_div (i : S16384x18432.Idx) : (pt i).val / 18 = (i 0).val / 1024 ∧ (pt i).val % 18 = (i 1).val / 1024 := by
  have h1 : (i 1 : Nat) < 18432 := (i 1).isLt
  unfold pt
  dsimp only
  omega

/-- The point that writes back a row's extra columns. -/
def pte (i : S16384x128.Idx) : Fin cfg0.N :=
  ⟨(i 0).val / 1024 * 18 + 17, by
    have h0 : (i 0 : Nat) < 16384 := (i 0).isLt
    rw [show cfg0.N = 288 from N_0]; omega⟩

theorem pte_div (i : S16384x128.Idx) : (pte i).val / 18 = (i 0).val / 1024 ∧ (pte i).val % 18 = 17 := by
  unfold pte
  dsimp only
  omega

theorem final3 (c : Dev nD) : (dats m 0 c).arrAt 3 cfg0.N = GM m c :=
  (dats m 0 c).arrAt_eq_of_cover 3 (GM m c) (fun t _ => flushed3_eq m c t) fun i =>
    ⟨pt i, flush0_3 _, by
      show i ∈ ((View.whole main_v0_0).slice (win0_3.rect (pt i))).set
      obtain ⟨-, -, -, -, -, -, e0, e1, -⟩ := idx (pt i)
      obtain ⟨p0, p1⟩ := pt_div i
      rw [View.set_slice_whole, Rect.mem_set_unit]
      intro a
      match a with
      | ⟨0, _⟩ => show win0_3.index (pt i) 0 * 1024 ≤ (i 0 : Nat) ∧ (i 0 : Nat) < win0_3.index (pt i) 0 * 1024 + 1024
                  rw [e0, p0]; omega
      | ⟨1, _⟩ => show win0_3.index (pt i) 1 * 1024 ≤ (i 1 : Nat) ∧ (i 1 : Nat) < win0_3.index (pt i) 1 * 1024 + 1024
                  rw [e1, p1]; omega⟩

theorem final4 (c : Dev nD) : (dats m 0 c).arrAt 4 cfg0.N = GMe m c :=
  (dats m 0 c).arrAt_eq_of_cover 4 (GMe m c) (fun t _ => flushed4_eq m c t) fun i =>
    ⟨pte i, (flush0_4 _).mpr (pte_div i).2, by
      show i ∈ ((View.whole main_v0_1).slice (win0_4.rect (pte i))).set
      obtain ⟨-, -, -, -, -, -, -, -, e0, e1⟩ := idx (pte i)
      obtain ⟨p0, -⟩ := pte_div i
      have h1 : (i 1 : Nat) < 128 := (i 1).isLt
      rw [View.set_slice_whole, Rect.mem_set_unit]
      intro a
      match a with
      | ⟨0, _⟩ => show win0_4.index (pte i) 0 * 1024 ≤ (i 0 : Nat) ∧ (i 0 : Nat) < win0_4.index (pte i) 0 * 1024 + 1024
                  rw [e0, p0]; omega
      | ⟨1, _⟩ => show win0_4.index (pte i) 1 * 128 ≤ (i 1 : Nat) ∧ (i 1 : Nat) < win0_4.index (pte i) 1 * 128 + 128
                  rw [e1]; omega⟩

/-- The kernel's run: both result arrays named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GMe m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans (final3 m c), ((h c).1 4).trans (final4 m c),
      ((h c).1 0).trans ((dats m 0 c).arrAt_in 0 rfl cfg0.N), ((h c).1 1).trans ((dats m 0 c).arrAt_in 1 rfl cfg0.N),
      ((h c).1 2).trans ((dats m 0 c).arrAt_in 2 rfl cfg0.N)⟩) (run_main m ρ)

end Cert.Kernel2Ideal.Value

namespace Cert.Reference2Ideal.Value

open Cert.Reference2Ideal Cert.Reference2Ideal.Gen Cert.Rms

/-- The reference's normalised rows. -/
def U (h : FVec Ideal S16384x4096 .f32) : FVec Ideal S16384x4096 .f32 :=
  mulf h (broadcastInDim S16384x4096 ![0, 1] bcast_S16384x1_S16384x4096_0_1 (Host.rsqrt (addf (Host.divf (broadcastInDim S16384x1 ![0] bcast_S16384_S16384x1_0 (Host.reduceAdd (mulf h h) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))

theorem U_apply (h : FVec Ideal S16384x4096 .f32) (i : S16384x4096.Idx) :
    U h i = h i * sc (fun k => h (ix2 (i 0) k)) := by
  unfold U sc
  pointwise

theorem ref_eq (h : FVec Ideal S16384x4096 .f32) (w : FVec Ideal S4096x18432 .f32) :
    Host.dotGeneral dot_S16384x4096_S4096x18432_S16384x18432_1_0_0_1_n_n none (U h) w = Cert.Kernel2Ideal.Value.G h w := by
  funext i
  show Ideal.matmul dot_S16384x4096_S4096x18432_S16384x18432_1_0_0_1_n_n (U h) w (fun _ => 0) i = _
  rw [Ideal.matmul_apply₁_of dot_S16384x4096_S4096x18432_S16384x18432_1_0_0_1_n_n (a := 1) rfl (K := 4096) rfl (U h) w _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl), zero_add]
  exact Finset.sum_congr rfl fun k _ => congrArg (fun a : EReal => a * w (ix2 k (i 1))) (U_apply h (ix2 (i 0) k))

theorem ref_eqe (h : FVec Ideal S16384x4096 .f32) (w : FVec Ideal S4096x128 .f32) :
    Host.dotGeneral dot_S16384x4096_S4096x128_S16384x128_1_0_0_1_n_n none (U h) w = Cert.Kernel2Ideal.Value.Ge h w := by
  funext i
  show Ideal.matmul dot_S16384x4096_S4096x128_S16384x128_1_0_0_1_n_n (U h) w (fun _ => 0) i = _
  rw [Ideal.matmul_apply₁_of dot_S16384x4096_S4096x128_S16384x128_1_0_0_1_n_n (a := 1) rfl (K := 4096) rfl (U h) w _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl), zero_add]
  exact Finset.sum_congr rfl fun k _ => congrArg (fun a : EReal => a * w (ix2 k (i 1))) (U_apply h (ix2 (i 0) k))

end Cert.Reference2Ideal.Value

end
-- ==== Proof.Claims2.lean ====
/-
  The value claim of the in-projection.
-/
module

public import proofs.«01_k».proof.Defs
public import proofs.«01_k».proof.Proof.NormMul.Value
public import proofs.«01_k».proof.Proof.Gen.Kernel2Ideal
public import proofs.«01_k».proof.Proof.Gen.Reference2Ideal

@[expose] public section

noncomputable section

open Idealize.ShloMosaic Idealize.ShloMosaic.TcCoe Idealize.SL.Sem

namespace Cert.Proof

/-- The in-projection's two results are the reference's. -/
theorem algebraic2 :
    Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Value.GM m c, fun c => Cert.Kernel2Ideal.Value.GMe m c, Cert.Kernel2Ideal.Value.run_value m g, ?_⟩
  refine (θ_run _ _ _).mono (fun r h c => ?_) (Cert.Reference2Ideal.Value.run m' g')
  obtain ⟨h3, h4, hk⟩ := h c
  obtain ⟨a0, a1, a2⟩ := hargs c
  have e : Cert.Kernel2Ideal.Value.G (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) = Cert.Kernel2Ideal.Value.GM m c := by
    rw [a0, a1]; rfl
  have e' : Cert.Kernel2Ideal.Value.Ge (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg2)) = Cert.Kernel2Ideal.Value.GMe m c := by
    rw [a0, a2]; rfl
  exact ⟨h3.trans ((Cert.Reference2Ideal.Value.ref_eq _ _).trans e), h4.trans ((Cert.Reference2Ideal.Value.ref_eqe _ _).trans e'), hk⟩

end Cert.Proof

end
-- ==== Proof.ConvMul.Run.lean ====
/-
  The short convolution's projection (`Kernel3Ideal`): the run of the body with what it leaves in each buffer named, in the
  four cases: whether the point opens a stream (the halo is the history) and whether it opens a row block (the row scale is
  computed).
-/
module

public import proofs.«01_k».proof.Proof.Kernel3IdealRun.Runs
public import Idealize.ShloMosaic.Lib.Pipeline.Value
public import Idealize.ShloMosaic.Lib.WritesUnit
public import Idealize.ShloMosaic.Lib.Pointwise.Contract
public import Idealize.ShloMosaic.Lib.KernelVsHost

@[expose] public section

-- membership in a rectangle of production extents (`View.cover_of_tiled`): the elaborator's structural look
-- recurses once per coordinate of the long axes
set_option maxRecDepth 16384

noncomputable section

namespace Cert.Kernel3Ideal.Named

open Cert.Kernel3Ideal.Gen
open Cert.Kernel3Ideal.Fgt (cond0_0 hcond0_0 cond0_1 hcond0_1)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- A load of a whole memref reads its contents. -/
theorem rd {S : Shape} {sp : Space} {e : EltTy} {mr : Memref sig .tc sp S e} (h : mr.IsWhole) (X : S.Idx → Elt F e)
    {off : Fin S.rank → Nat} (h0 : off = fun _ => 0) (inb : ∀ a, off a + S.size a ≤ S.size a) :
    View.readAt (Elt F) mr.view (Rect.unit off S.size inb).toLoadRect (h.unread X) = X := by
  rw [View.readAt_eq_ld, h.read_unread, View.ld_unit_zero h0]

/-- One store through a whole memref leaves its payload. -/
theorem wr {S : Shape} {sp : Space} {e : EltTy} (mr : Memref sig .tc sp S e) (f : BufTy.Contents (Elt F) mr.view.ty)
    {off : Fin S.rank → Nat} (h0 : off = fun _ => 0) (inb : ∀ a, off a + S.size a ≤ S.size a) (w : S.Idx → Elt F e) :
    View.read (Elt F) mr.view (mr.view.writes (Elt F) f [(⟨Rect.unit off S.size inb, w⟩ : View.Piece (Elt F) S e)]) = w :=
  (View.read_writes_eq_canon _ _ _ fun y => ⟨_, List.mem_singleton_self _, View.mem_set_unit_zero h0 inb y⟩).trans
    (View.canon_unit_zero h0 inb w)

/-- A row of the halo. -/
def rowOf (X : Vec F S16x8x256 .f32) (j : Fin 16) : Vec F S1x8x256 .f32 := fun y => X (ix3 j (y 1) (y 2))

/-- The halo with one row replaced. -/
def put (X : Vec F S16x8x256 .f32) (j : Fin 16) (w : Vec F S1x8x256 .f32) : Vec F S16x8x256 .f32 :=
  fun y => if (y 0).val = j.val then w (ix3 0 (y 1) (y 2)) else X y

theorem off1_eq (i : grid0.Coords) : k0_off1 i = ![(i 1).val, 0, 0] := by
  have h : (i 1).val < 16 := (i 1).isLt
  unfold k0_off1
  funext a
  match a with
  | ⟨0, _⟩ => show (BitVec.ofNat 32 (i 1).val).toNat = (i 1).val; rw [BitVec.toNat_ofNat]; omega
  | ⟨1, _⟩ => rfl
  | ⟨2, _⟩ => rfl

theorem off2_eq (i : grid0.Coords) : k0_off2 i = ![(i 1).val, 0, 0] := off1_eq i

/-- A load of a row of the halo. -/
theorem rrow (i : grid0.Coords) {sp : Space} {mr : Memref sig .tc sp S16x8x256 .f32} (h : mr.IsWhole) (X : Vec F S16x8x256 .f32)
    {off : Fin 3 → Nat} (ho : off = ![(i 1).val, 0, 0]) (inb : ∀ a, off a + S1x8x256.size a ≤ S16x8x256.size a) :
    View.readAt (Elt F) mr.view (Rect.unit (s := S16x8x256) off S1x8x256.size inb).toLoadRect (h.unread X) = rowOf X (i 1) := by
  subst ho
  rw [View.readAt_eq_ld, h.read_unread]
  funext y
  refine congrArg X (funext fun a => Fin.ext ?_)
  match a with
  | ⟨0, _⟩ => show (i 1).val + 1 * (y 0).val = (i 1).val
              have h0 : (y 0).val < 1 := (y 0).isLt
              omega
  | ⟨1, _⟩ => show 0 + 1 * (y 1).val = (y 1).val; omega
  | ⟨2, _⟩ => show 0 + 1 * (y 2).val = (y 2).val; omega

/-- One store of a row over any earlier ones into rows that the last store covers. -/
theorem wrow (i : grid0.Coords) {sp : Space} {mr : Memref sig .tc sp S16x8x256 .f32} (f : BufTy.Contents (Elt F) mr.view.ty) (X : Vec F S16x8x256 .f32)
    {off : Fin 3 → Nat} (ho : off = ![(i 1).val, 0, 0]) (inb : ∀ a, off a + S1x8x256.size a ≤ S16x8x256.size a)
    (w : Vec F S1x8x256 .f32) (L : List (View.Piece (Elt F) S16x8x256 .f32))
    (hX : ∀ y : S16x8x256.Idx, (y 0).val ≠ (i 1).val → View.read (Elt F) mr.view (mr.view.writes (Elt F) f L) y = X y) :
    View.read (Elt F) mr.view (mr.view.writes (Elt F) f
      ((⟨Rect.unit (s := S16x8x256) off S1x8x256.size inb, w⟩ : View.Piece (Elt F) S16x8x256 .f32) :: L)) = put X (i 1) w := by
  funext y
  unfold put
  by_cases hy : (y 0).val = (i 1).val
  · rw [if_pos hy]
    exact View.read_writes_cons_unit_of_mem mr.view f inb w L y (ix3 0 (y 1) (y 2)) ho fun a => by
      match a with
      | ⟨0, _⟩ => show (y 0).val = (i 1).val + 0; omega
      | ⟨1, _⟩ => show (y 1).val = 0 + (y 1).val; omega
      | ⟨2, _⟩ => show (y 2).val = 0 + (y 2).val; omega
  · rw [if_neg hy]
    refine (View.read_writes_cons_unit_of_not_mem mr.view f inb w L y ho 0 ?_).trans (hX y hy)
    show (y 0).val < (i 1).val ∨ (i 1).val + 1 ≤ (y 0).val
    omega

/-- Over no earlier store. -/
theorem wrow1 (i : grid0.Coords) {sp : Space} {mr : Memref sig .tc sp S16x8x256 .f32} (h : mr.IsWhole) (X : Vec F S16x8x256 .f32)
    {off : Fin 3 → Nat} (ho : off = ![(i 1).val, 0, 0]) (inb : ∀ a, off a + S1x8x256.size a ≤ S16x8x256.size a)
    (w : Vec F S1x8x256 .f32) :
    View.read (Elt F) mr.view (mr.view.writes (Elt F) (h.unread X)
      [(⟨Rect.unit (s := S16x8x256) off S1x8x256.size inb, w⟩ : View.Piece (Elt F) S16x8x256 .f32)]) = put X (i 1) w :=
  wrow i _ X ho inb w [] fun y _ => congrFun (h.read_unread X) y

/-- Over an earlier store of the same row. -/
theorem wrow2 (i : grid0.Coords) {sp : Space} {mr : Memref sig .tc sp S16x8x256 .f32} (h : mr.IsWhole) (X : Vec F S16x8x256 .f32)
    {off off' : Fin 3 → Nat} (ho : off = ![(i 1).val, 0, 0]) (ho' : off' = ![(i 1).val, 0, 0])
    (inb : ∀ a, off a + S1x8x256.size a ≤ S16x8x256.size a) (inb' : ∀ a, off' a + S1x8x256.size a ≤ S16x8x256.size a)
    (w w' : Vec F S1x8x256 .f32) :
    View.read (Elt F) mr.view (mr.view.writes (Elt F) (h.unread X)
      [(⟨Rect.unit (s := S16x8x256) off S1x8x256.size inb, w⟩ : View.Piece (Elt F) S16x8x256 .f32),
       (⟨Rect.unit (s := S16x8x256) off' S1x8x256.size inb', w'⟩ : View.Piece (Elt F) S16x8x256 .f32)]) = put X (i 1) w :=
  wrow i _ X ho inb w _ fun y hy =>
    (congrFun (wrow1 i h X ho' inb' w') y).trans (if_neg hy)

set_option maxHeartbeats 2000000 in
/-- A stream's first row block at its first column block: the halo is the history, and the row scale is computed. -/
theorem run_open (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (X : Vec F S16x8x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare X ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay8 x0 (k0_pay5 x0) (k0_pay6 x0 (k0_pay5 x0) x3 x4) (k0_pay7 (k0_pay4 x6)) x5 (iota .tc S8x256 32 [0] iota_S8x256_d0_w32) 2#32 x1 x2) ∗ owns (c : Thread nD τ) arg10 fullShare (k0_pay3 (k0_pay6 x0 (k0_pay5 x0) x3 x4)) ∗ owns (c : Thread nD τ) arg11 fullShare (put X (i 1) (k0_pay2 (k0_pay6 x0 (k0_pay5 x0) x3 x4))) ∗ owns (c : Thread nD τ) arg12 fullShare (k0_pay5 x0)) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K := by
    intro E K
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1)
    sl_step
    have er : run_open.sl.r c arg2 harg2 x0 = x0 := by unfold run_open.sl.r; exact rd harg2 _ hz _
    have e17 : run_open.sl.v17 c arg2 harg2 arg12 x0 = k0_pay5 x0 := by unfold run_open.sl.v17 run_open.sl.HS1_1; rw [rd harg2 _ hz]; exact View.readCov_unit_zero _ hz _ _
    have ec : run_open.sl.r_1 c arg2 harg2 arg5 harg5 arg6 harg6 arg12 x0 x3 x4 = k0_pay6 x0 (k0_pay5 x0) x3 x4 := by unfold run_open.sl.r_1; rw [rd harg2 _ hz, e17, rd harg5 _ hz, rd harg6 _ hz]
    have ew : run_open.sl.r_3 c arg7 harg7 x5 = x5 := by unfold run_open.sl.r_3; exact rd harg7 _ hz _
    have eh : run_open.sl.r_2 c i arg8 harg8 arg11 hc0 x6 = k0_pay7 (k0_pay4 x6) := by unfold run_open.sl.r_2; refine congrArg k0_pay7 ?_; unfold run_open.sl.v27 run_open.sl.HS0_1; refine (View.readCov_cons_toLoadRect _ _ _ _).trans ?_; rw [rd harg8 _ hz3]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; refine (wr _ _ hz _ _).trans ?_; unfold run_open.sl.r_4; rw [er, e17, ec, eh, ew, rd harg3 _ hz, rd harg4 _ hz]; rfl
    isplitl [H8]
    · iexists _; isplitr; swap; · iexact H8
      ipureintro; refine (wr _ _ hz3 _ _).trans ?_; rw [ec]
    isplitl [HS0]
    · iexists _; isplitr; swap; · iexact HS0
      ipureintro; unfold run_open.sl.HS0_1; exact (wrow2 i harg11 X (off2_eq i) (off1_eq i) _ _ _ _).trans (congrArg (put X (i 1)) (congrArg k0_pay2 ec))
    iexists _; isplitr; swap; · iexact HS1
    ipureintro; unfold run_open.sl.HS1_1; refine (wr _ _ hz _ _).trans ?_; rw [rd harg2 _ hz]

set_option maxHeartbeats 2000000 in
/-- A stream's first row block at another column block: the halo is the history. -/
theorem run_stream (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : cond0_0 i) (hc1 : ¬cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (X : Vec F S16x8x256 .f32) (xs : Vec F S1024x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare X ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay8 x0 xs (k0_pay6 x0 xs x3 x4) (k0_pay7 (k0_pay4 x6)) x5 (iota .tc S8x256 32 [0] iota_S8x256_d0_w32) 2#32 x1 x2) ∗ owns (c : Thread nD τ) arg10 fullShare (k0_pay3 (k0_pay6 x0 xs x3 x4)) ∗ owns (c : Thread nD τ) arg11 fullShare (put X (i 1) (k0_pay2 (k0_pay6 x0 xs x3 x4))) ∗ owns (c : Thread nD τ) arg12 fullShare xs) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K := by
    intro E K
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
    sl_exec (disch := first | sl_exact hc0 | sl_exact hc1)
    sl_step
    have er : run_stream.sl.r c arg2 harg2 x0 = x0 := by unfold run_stream.sl.r; exact rd harg2 _ hz _
    have e17 : run_stream.sl.r_1 c arg12 harg12 xs = xs := by unfold run_stream.sl.r_1; exact rd harg12 _ hz _
    have ec : run_stream.sl.r_2 c arg2 harg2 arg5 harg5 arg6 harg6 arg12 harg12 x0 x3 x4 xs = k0_pay6 x0 xs x3 x4 := by unfold run_stream.sl.r_2; rw [rd harg2 _ hz, rd harg12 _ hz, rd harg5 _ hz, rd harg6 _ hz]
    have ew : run_stream.sl.r_4 c arg7 harg7 x5 = x5 := by unfold run_stream.sl.r_4; exact rd harg7 _ hz _
    have eh : run_stream.sl.r_3 c i arg8 harg8 arg11 hc0 x6 = k0_pay7 (k0_pay4 x6) := by unfold run_stream.sl.r_3; refine congrArg k0_pay7 ?_; unfold run_stream.sl.v27 run_stream.sl.HS0_1; refine (View.readCov_cons_toLoadRect _ _ _ _).trans ?_; rw [rd harg8 _ hz3]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; refine (wr _ _ hz _ _).trans ?_; unfold run_stream.sl.r_5; rw [er, e17, ec, eh, ew, rd harg3 _ hz, rd harg4 _ hz]; rfl
    isplitl [H8]
    · iexists _; isplitr; swap; · iexact H8
      ipureintro; refine (wr _ _ hz3 _ _).trans ?_; rw [ec]
    isplitl [HS0]
    · iexists _; isplitr; swap; · iexact HS0
      ipureintro; unfold run_stream.sl.HS0_1; exact (wrow2 i harg11 X (off2_eq i) (off1_eq i) _ _ _ _).trans (congrArg (put X (i 1)) (congrArg k0_pay2 ec))
    iexists _; isplitr; · ipureintro; exact harg12.read_unread _
    iexact HS1

set_option maxHeartbeats 2000000 in
/-- Another row block at its first column block: the row scale is computed. -/
theorem run_block (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : ¬cond0_0 i) (hc1 : cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (X : Vec F S16x8x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare X ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay8 x0 (k0_pay5 x0) (k0_pay6 x0 (k0_pay5 x0) x3 x4) (k0_pay7 (rowOf X (i 1))) x5 (iota .tc S8x256 32 [0] iota_S8x256_d0_w32) 2#32 x1 x2) ∗ owns (c : Thread nD τ) arg10 fullShare (k0_pay3 (k0_pay6 x0 (k0_pay5 x0) x3 x4)) ∗ owns (c : Thread nD τ) arg11 fullShare (put X (i 1) (k0_pay2 (k0_pay6 x0 (k0_pay5 x0) x3 x4))) ∗ owns (c : Thread nD τ) arg12 fullShare (k0_pay5 x0)) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K := by
    intro E K
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1)
    sl_step
    have er : run_block.sl.r c arg2 harg2 x0 = x0 := by unfold run_block.sl.r; exact rd harg2 _ hz _
    have e17 : run_block.sl.v17 c arg2 harg2 arg12 x0 = k0_pay5 x0 := by unfold run_block.sl.v17 run_block.sl.HS1_1; rw [rd harg2 _ hz]; exact View.readCov_unit_zero _ hz _ _
    have ec : run_block.sl.r_1 c arg2 harg2 arg5 harg5 arg6 harg6 arg12 x0 x3 x4 = k0_pay6 x0 (k0_pay5 x0) x3 x4 := by unfold run_block.sl.r_1; rw [rd harg2 _ hz, e17, rd harg5 _ hz, rd harg6 _ hz]
    have ew : run_block.sl.r_3 c arg7 harg7 x5 = x5 := by unfold run_block.sl.r_3; exact rd harg7 _ hz _
    have eh : run_block.sl.r_2 c i arg11 harg11 X = k0_pay7 (rowOf X (i 1)) := by unfold run_block.sl.r_2; rw [rrow i harg11 X (off2_eq i)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; refine (wr _ _ hz _ _).trans ?_; unfold run_block.sl.r_4; rw [er, e17, ec, eh, ew, rd harg3 _ hz, rd harg4 _ hz]; rfl
    isplitl [H8]
    · iexists _; isplitr; swap; · iexact H8
      ipureintro; refine (wr _ _ hz3 _ _).trans ?_; rw [ec]
    isplitl [HS0]
    · iexists _; isplitr; swap; · iexact HS0
      ipureintro; (exact (wrow1 i harg11 X (off2_eq i) _ _).trans (congrArg (put X (i 1)) (congrArg k0_pay2 ec)))
    iexists _; isplitr; swap; · iexact HS1
    ipureintro; unfold run_block.sl.HS1_1; refine (wr _ _ hz _ _).trans ?_; rw [rd harg2 _ hz]

set_option maxHeartbeats 2000000 in
/-- Another row block at another column block. -/
theorem run_next (c : Dev nD) (i : grid0.Coords) (arg2 : Memref sig .tc .vmem S1024x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S3x256 .f32) (harg7 : arg7.IsWhole) (arg8 : Memref sig .tc .vmem S1x8x256 .f32) (harg8 : arg8.IsWhole) (arg9 : Memref sig .tc .vmem S1024x256 .bf16) (harg9 : arg9.IsWhole) (arg10 : Memref sig .tc .vmem S1x8x256 .f32) (harg10 : arg10.IsWhole) (arg11 : Memref sig .tc .vmem S16x8x256 .f32) (harg11 : arg11.IsWhole) (arg12 : Memref sig .tc .vmem S1024x1 .f32) (harg12 : arg12.IsWhole) (hc0 : ¬cond0_0 i) (hc1 : ¬cond0_1 i)
    (x0 : Vec F S1024x4096 .bf16) (x1 : Vec F S4096x256 .bf16) (x2 : Vec F S4096x256 .bf16) (x3 : Vec F S4096x256 .bf16) (x4 : Vec F S4096x256 .bf16) (x5 : Vec F S3x256 .f32) (x6 : Vec F S1x8x256 .f32) (X : Vec F S16x8x256 .f32) (xs : Vec F S1024x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare X ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay8 x0 xs (k0_pay6 x0 xs x3 x4) (k0_pay7 (rowOf X (i 1))) x5 (iota .tc S8x256 32 [0] iota_S8x256_d0_w32) 2#32 x1 x2) ∗ owns (c : Thread nD τ) arg10 fullShare (k0_pay3 (k0_pay6 x0 xs x3 x4)) ∗ owns (c : Thread nD τ) arg11 fullShare (put X (i 1) (k0_pay2 (k0_pay6 x0 xs x3 x4))) ∗ owns (c : Thread nD τ) arg12 fullShare xs) -∗ K ⟨⟩))
          ⊢ wp frame (wpE (defs₀ (F := F)) Variants.none c none) E (cc0_gated_conv_proj i arg2 harg2 arg3 harg3 arg4 harg4 arg5 harg5 arg6 harg6 arg7 harg7 arg8 harg8 arg9 harg9 arg10 harg10 arg11 harg11 arg12 harg12) K := by
    intro E K
    simp only [cc0_gated_conv_proj_eq_skeleton]; unfold cc0_gated_conv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
    sl_exec (disch := first | sl_exact hc0 | sl_exact hc1)
    sl_step
    have er : run_next.sl.r c arg2 harg2 x0 = x0 := by unfold run_next.sl.r; exact rd harg2 _ hz _
    have e17 : run_next.sl.r_1 c arg12 harg12 xs = xs := by unfold run_next.sl.r_1; exact rd harg12 _ hz _
    have ec : run_next.sl.r_2 c arg2 harg2 arg5 harg5 arg6 harg6 arg12 harg12 x0 x3 x4 xs = k0_pay6 x0 xs x3 x4 := by unfold run_next.sl.r_2; rw [rd harg2 _ hz, rd harg12 _ hz, rd harg5 _ hz, rd harg6 _ hz]
    have ew : run_next.sl.r_4 c arg7 harg7 x5 = x5 := by unfold run_next.sl.r_4; exact rd harg7 _ hz _
    have eh : run_next.sl.r_3 c i arg11 harg11 X = k0_pay7 (rowOf X (i 1)) := by unfold run_next.sl.r_3; rw [rrow i harg11 X (off2_eq i)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; refine (wr _ _ hz _ _).trans ?_; unfold run_next.sl.r_5; rw [er, e17, ec, eh, ew, rd harg3 _ hz, rd harg4 _ hz]; rfl
    isplitl [H8]
    · iexists _; isplitr; swap; · iexact H8
      ipureintro; refine (wr _ _ hz3 _ _).trans ?_; rw [ec]
    isplitl [HS0]
    · iexists _; isplitr; swap; · iexact HS0
      ipureintro; (exact (wrow1 i harg11 X (off2_eq i) _ _).trans (congrArg (put X (i 1)) (congrArg k0_pay2 ec)))
    iexists _; isplitr; · ipureintro; exact harg12.read_unread _
    iexact HS1

end Cert.Kernel3Ideal.Named

end
-- ==== Proof.ConvMul.Frame.lean ====
/-
  The short convolution's projection (`Kernel3Ideal`) run with its two outputs named: the row scale of a row block is computed
  at the block's first point and carried in one scratch, and the last rows of every column block in the other.
-/
module

public import proofs.«01_k».proof.Proof.ConvMul.Run
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Named

open Cert.Kernel3Ideal.Gen
open Cert.Kernel3Ideal.Fgt (V hmain iblk before0_0_of before0_1_of before0_2_of before0_3_of before0_4_of before0_5_of before0_6_of cond0_0 hcond0_0 cond0_1 hcond0_1 ms0_0 ms0_1 ms0_2 ms0_3 ms0_4 ms0_5 ms0_6 ms0_7 ms0_8 scM0_0 scM0_1 PhiA0_eq)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The first point of a point's row block. -/
def first (t : Fin cfg0.N) : Fin cfg0.N := ⟨t.val / 16 * 16, Nat.lt_of_le_of_lt (Nat.div_mul_le_self _ _) t.isLt⟩

theorem first_of (t : Fin cfg0.N) (h : t.val % 16 = 0) : first t = t := Fin.ext (by unfold first; dsimp only; omega)

theorem first_prev (t : Fin cfg0.N) (n : ℕ) (hn : n < cfg0.N) (e : n + 1 = t.val) (h : t.val % 16 ≠ 0) :
    first ⟨n, hn⟩ = first t := Fin.ext (by unfold first; dsimp only; omega)

/-- The point sixteen before: the same column block of the row block before. -/
def back (t : Fin cfg0.N) : Fin cfg0.N := ⟨t.val - 16, Nat.lt_of_le_of_lt (Nat.sub_le _ _) t.isLt⟩

/-- A point's column block. -/
theorem coord1 : ∀ t : Fin cfg0.N, (grid0.coords t 1).val = t.val % 16 := by decide +kernel

/-- The column block as the halo's row. -/
def col (t : Fin cfg0.N) : Fin 16 := ⟨t.val % 16, Nat.mod_lt _ (by decide)⟩

theorem coord_col (t : Fin cfg0.N) : (grid0.coords t 1 : Fin 16) = col t := Fin.ext (coord1 t)

theorem open_iff (t : Fin cfg0.N) : cond0_0 (grid0.coords t) ↔ t.val % 64 < 16 := (hcond0_0 t).trans (by omega)

/-- The row scale that the scratch holds after a point. -/
def scale (c : Dev nD) (t : Fin cfg0.N) : Vec F S1024x1 .f32 := k0_pay5 (iblk m c 0 (first t))

/-- The gated values of a point's block, the convolution's input. -/
def cur (c : Dev nD) (t : Fin cfg0.N) : Vec F S1024x256 .f32 :=
  k0_pay6 (iblk m c 0 t) (scale m c t) (iblk m c 3 t) (iblk m c 4 t)

/-- The rows before a point's block: the history at a stream's start, else the last rows of the row block before. -/
def row (c : Dev nD) (t : Fin cfg0.N) : Vec F S1x8x256 .f32 :=
  if t.val % 64 < 16 then k0_pay4 (iblk m c 6 t) else k0_pay2 (cur m c (back t))

/-- The tile that a point stores. -/
def tile (c : Dev nD) (t : Fin cfg0.N) : Vec F S1024x256 .bf16 :=
  k0_pay8 (iblk m c 0 t) (scale m c t) (cur m c t) (k0_pay7 (row m c t)) (iblk m c 5 t)
    (iota .tc S8x256 32 [0] iota_S8x256_d0_w32) 2#32 (iblk m c 1 t) (iblk m c 2 t)

/-- The last rows of a point's block. -/
def tail (c : Dev nD) (t : Fin cfg0.N) : Vec F S1x8x256 .f32 := k0_pay3 (cur m c t)

/-- What is known of the halo before point `n`: its row of each of the last sixteen points is that point's last rows. -/
def Halo (c : Dev nD) (n : ℕ) (X : Vec F S16x8x256 .f32) : Prop :=
  ∀ s : Fin cfg0.N, s.val < n → n ≤ s.val + 16 → rowOf X (col s) = k0_pay2 (cur m c s)

theorem halo_zero (c : Dev nD) (n : ℕ) (hn : n = 0) (X : Vec F S16x8x256 .f32) : Halo m c n X :=
  fun s h _ => absurd h (by omega)

theorem rowOf_put_same (X : Vec F S16x8x256 .f32) (j : Fin 16) (w : Vec F S1x8x256 .f32) : rowOf (put X j w) j = w := by
  funext y
  unfold rowOf put
  rw [if_pos (show ((ix3 j (y 1) (y 2) : S16x8x256.Idx) 0).val = j.val from rfl)]
  refine congrArg w (funext fun a => ?_)
  match a with
  | ⟨0, _⟩ => exact Fin.ext (by show 0 = (y 0).val; have h : (y 0).val < 1 := (y 0).isLt; omega)
  | ⟨1, _⟩ => rfl
  | ⟨2, _⟩ => rfl

theorem rowOf_put_ne (X : Vec F S16x8x256 .f32) (j k : Fin 16) (h : k.val ≠ j.val) (w : Vec F S1x8x256 .f32) :
    rowOf (put X j w) k = rowOf X k := by
  funext y
  unfold rowOf put
  rw [if_neg (show ((ix3 k (y 1) (y 2) : S16x8x256.Idx) 0).val ≠ j.val from h)]

/-- A point replaces its own row of the halo. -/
theorem halo_step (c : Dev nD) (t : Fin cfg0.N) (X : Vec F S16x8x256 .f32) (h : Halo m c t.val X) :
    Halo m c (t.val + 1) (put X (grid0.coords t 1) (k0_pay2 (cur m c t))) := by
  intro s hs hs'
  rw [show (grid0.coords t 1 : Fin 16) = col t from coord_col t]
  by_cases e : s = t
  · subst e
    exact rowOf_put_same _ _ _
  · have hne : s.val ≠ t.val := fun h => e (Fin.ext h)
    rw [rowOf_put_ne X (col t) (col s) (by unfold col; dsimp only; omega)]
    exact h s (by omega) (by omega)

/-- The row of the halo that a point not at a stream's start reads. -/
theorem halo_row (c : Dev nD) (t : Fin cfg0.N) (X : Vec F S16x8x256 .f32) (h : Halo m c t.val X) (h0 : ¬ t.val % 64 < 16) :
    rowOf X (grid0.coords t 1) = row m c t := by
  rw [show (grid0.coords t 1 : Fin 16) = col t from coord_col t]
  unfold row
  rw [if_neg h0, ← h (back t) (by unfold back; dsimp only; omega) (by unfold back; dsimp only; omega)]
  exact congrArg (rowOf X) (Fin.ext (by unfold col back; dsimp only; omega))

/-- What the region owns besides its windows: before the first point the scratches at anything, then the halo at what is
    known of it and the row scale. -/
def PhiS (c : Dev nD) : (n : ℕ) → n ≤ cfg0.N → sProp 𝕄
  | 0, _ => Pipeline.ΦA spec0 c
  | n + 1, hn => iprop(((∃ X, ⌜Halo m c (n + 1) X⌝ ∗ owns (c : Thread nD τ) scM0_0 fullShare X) ∗ owns (c : Thread nD τ) scM0_1 fullShare (scale m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(((∃ X, ⌜Halo m c (n + 1) X⌝ ∗ owns (c : Thread nD τ) scM0_0 fullShare X) ∗ owns (c : Thread nD τ) scM0_1 fullShare (scale m c ⟨n, hn⟩)) ∗ (∃ r, prngReg c r)) := rfl

theorem PhiS_pos (c : Dev nD) (n : ℕ) (h : n ≤ cfg0.N) (hz : n ≠ 0) :
    PhiS m c n h = iprop(((∃ X, ⌜Halo m c n X⌝ ∗ owns (c : Thread nD τ) scM0_0 fullShare X) ∗ owns (c : Thread nD τ) scM0_1 fullShare (scale m c ⟨n - 1, by omega⟩)) ∗ (∃ r, prngReg c r)) := by
  cases n with
  | zero => exact absurd rfl hz
  | succ n => rfl

/-- At any point both scratches are owned, the halo at what is known of it. -/
theorem PhiS_some (c : Dev nD) (n : ℕ) (h : n ≤ cfg0.N) :
    PhiS m c n h ⊢ (iprop(((∃ X, ⌜Halo m c n X⌝ ∗ owns (c : Thread nD τ) scM0_0 fullShare X) ∗ (∃ d, owns (c : Thread nD τ) scM0_1 fullShare d)) ∗ (∃ r, prngReg c r)) : sProp 𝕄) := by
  by_cases hz : n = 0
  · rw [PhiS_zero m c n h hz, PhiA0_eq]
    iintro ⟨⟨⟨%X, HS0⟩, HS1⟩, Hg⟩
    isplitl [HS0 HS1]
    · isplitl [HS0]
      · iexists X; isplitr; · ipureintro; exact halo_zero m c n hz X
        iexact HS0
      iexact HS1
    iexact Hg
  · rw [PhiS_pos m c n h hz]
    iintro ⟨⟨HS0, HS1⟩, Hg⟩
    isplitl [HS0 HS1]
    · isplitl [HS0]
      · iexact HS0
      iexists _; iexact HS1
    iexact Hg

theorem PhiS_any (c : Dev nD) (n : ℕ) (h : n ≤ cfg0.N) : PhiS m c n h ⊢ Pipeline.ΦA spec0 c := by
  refine (PhiS_some m c n h).trans ?_
  rw [PhiA0_eq]
  iintro ⟨⟨⟨%X, %hX, HS0⟩, HS1⟩, Hg⟩
  isplitl [HS0 HS1]
  · isplitl [HS0]
    · iexists X; iexact HS0
    iexact HS1
  iexact Hg

/-- The proof data: the arrays as the region finds them, each input's buffer at its block, each output's at what the
    point stores, the scratches as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => tile m c t
    | ⟨8, h⟩ => tail m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = tile m c t := by dsimp only [dats]
theorem after0_8 (c : Dev nD) (t : Fin cfg0.N) : (dats m 0 c).after 8 t = tail m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  rw [show (dats m 0 c).leavesExact 0 t = owns (c : Thread nD τ) (ms0_0 t) fullShare ((dats m 0 c).after 0 t) from by
      unfold Dat.leavesExact; rfl, after0_0]
  rw [show (dats m 0 c).leavesExact 1 t = owns (c : Thread nD τ) (ms0_1 t) fullShare ((dats m 0 c).after 1 t) from by
      unfold Dat.leavesExact; rfl, after0_1]
  rw [show (dats m 0 c).leavesExact 2 t = owns (c : Thread nD τ) (ms0_2 t) fullShare ((dats m 0 c).after 2 t) from by
      unfold Dat.leavesExact; rfl, after0_2]
  rw [show (dats m 0 c).leavesExact 3 t = owns (c : Thread nD τ) (ms0_3 t) fullShare ((dats m 0 c).after 3 t) from by
      unfold Dat.leavesExact; rfl, after0_3]
  rw [show (dats m 0 c).leavesExact 4 t = owns (c : Thread nD τ) (ms0_4 t) fullShare ((dats m 0 c).after 4 t) from by
      unfold Dat.leavesExact; rfl, after0_4]
  rw [show (dats m 0 c).leavesExact 5 t = owns (c : Thread nD τ) (ms0_5 t) fullShare ((dats m 0 c).after 5 t) from by
      unfold Dat.leavesExact; rfl, after0_5]
  rw [show (dats m 0 c).leavesExact 6 t = owns (c : Thread nD τ) (ms0_6 t) fullShare ((dats m 0 c).after 6 t) from by
      unfold Dat.leavesExact; rfl, after0_6]
  rw [show (dats m 0 c).leavesExact 7 t = owns (c : Thread nD τ) (ms0_7 t) fullShare ((dats m 0 c).after 7 t) from by
      unfold Dat.leavesExact; rfl, after0_7]
  rw [show (dats m 0 c).leavesExact 8 t = owns (c : Thread nD τ) (ms0_8 t) fullShare ((dats m 0 c).after 8 t) from by
      unfold Dat.leavesExact; rfl, after0_8]
  by_cases h0 : t.val % 64 < 16
  · by_cases h1 : t.val % 16 = 0
    · have er : row m c t = k0_pay4 (iblk m c 6 t) := by unfold row; rw [if_pos h0]
      have es : scale m c t = k0_pay5 (iblk m c 0 t) := by unfold scale; rw [first_of t h1]
      have ec : cur m c t = k0_pay6 (iblk m c 0 t) (k0_pay5 (iblk m c 0 t)) (iblk m c 3 t) (iblk m c 4 t) := by unfold cur; rw [es]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HΦ := (PhiS_some m c _ _) $$ HΦ
      icases HΦ with ⟨⟨⟨%X, %hX, HS0⟩, HS1⟩, Hg⟩
      iapply ((run_open c (grid0.coords t)  _ _ _ _ _ _ _ _ _ _ _ _ _ _ _ _ _ _ _ _ _ _ ((open_iff t).mpr h0) ((hcond0_1 t).mpr h1) (iblk m c 0 t) (iblk m c 1 t) (iblk m c 2 t) (iblk m c 3 t) (iblk m c 4 t) (iblk m c 5 t) (iblk m c 6 t) X) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; isplitr; swap; · iexact HS0
            ipureintro; rw [← ec]; exact halo_step m c t X hX
          rw [show scale m c ⟨t.val, t.isLt⟩ = _ from es]; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · have e7 : tile m c t = k0_pay8 (iblk m c 0 t) (k0_pay5 (iblk m c 0 t)) (k0_pay6 (iblk m c 0 t) (k0_pay5 (iblk m c 0 t)) (iblk m c 3 t) (iblk m c 4 t)) (k0_pay7 (k0_pay4 (iblk m c 6 t))) (iblk m c 5 t) (iota .tc S8x256 32 [0] iota_S8x256_d0_w32) 2#32 (iblk m c 1 t) (iblk m c 2 t) := by
          unfold tile; rw [ec, er, es]
        rw [e7]; iexact H7
      have e8 : tail m c t = k0_pay3 (k0_pay6 (iblk m c 0 t) (k0_pay5 (iblk m c 0 t)) (iblk m c 3 t) (iblk m c 4 t)) := by unfold tail; rw [ec]
      rw [e8]; iexact H8
    · have er : row m c t = k0_pay4 (iblk m c 6 t) := by unfold row; rw [if_pos h0]
      have hz : t.val ≠ 0 := fun e => h1 (by rw [e])
      have es : scale m c ⟨t.val - 1, by omega⟩ = scale m c t := by
        unfold scale; rw [first_prev t (t.val - 1) (by omega) (by omega) h1]
      rw [PhiS_pos m c _ _ hz, es]
      have ec : cur m c t = k0_pay6 (iblk m c 0 t) (scale m c t) (iblk m c 3 t) (iblk m c 4 t) := by unfold cur; rfl
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run_stream c (grid0.coords t)  _ _ _ _ _ _ _ _ _ _ _ _ _ _ _ _ _ _ _ _ _ _ ((open_iff t).mpr h0) (fun h => h1 ((hcond0_1 t).mp h)) (iblk m c 0 t) (iblk m c 1 t) (iblk m c 2 t) (iblk m c 3 t) (iblk m c 4 t) (iblk m c 5 t) (iblk m c 6 t) X (scale m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; isplitr; swap; · iexact HS0
            ipureintro; rw [← ec]; exact halo_step m c t X hX
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · have e7 : tile m c t = k0_pay8 (iblk m c 0 t) (scale m c t) (k0_pay6 (iblk m c 0 t) (scale m c t) (iblk m c 3 t) (iblk m c 4 t)) (k0_pay7 (k0_pay4 (iblk m c 6 t))) (iblk m c 5 t) (iota .tc S8x256 32 [0] iota_S8x256_d0_w32) 2#32 (iblk m c 1 t) (iblk m c 2 t) := by
          unfold tile; rw [ec, er]
        rw [e7]; iexact H7
      have e8 : tail m c t = k0_pay3 (k0_pay6 (iblk m c 0 t) (scale m c t) (iblk m c 3 t) (iblk m c 4 t)) := by unfold tail; rw [ec]
      rw [e8]; iexact H8
  · by_cases h1 : t.val % 16 = 0
    · have es : scale m c t = k0_pay5 (iblk m c 0 t) := by unfold scale; rw [first_of t h1]
      have ec : cur m c t = k0_pay6 (iblk m c 0 t) (k0_pay5 (iblk m c 0 t)) (iblk m c 3 t) (iblk m c 4 t) := by unfold cur; rw [es]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HΦ := (PhiS_some m c _ _) $$ HΦ
      icases HΦ with ⟨⟨⟨%X, %hX, HS0⟩, HS1⟩, Hg⟩
      have er : rowOf X (grid0.coords t 1) = row m c t := halo_row m c t X hX h0
      iapply ((run_block c (grid0.coords t)  _ _ _ _ _ _ _ _ _ _ _ _ _ _ _ _ _ _ _ _ _ _ (fun h => h0 ((open_iff t).mp h)) ((hcond0_1 t).mpr h1) (iblk m c 0 t) (iblk m c 1 t) (iblk m c 2 t) (iblk m c 3 t) (iblk m c 4 t) (iblk m c 5 t) (iblk m c 6 t) X) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; isplitr; swap; · iexact HS0
            ipureintro; rw [← ec]; exact halo_step m c t X hX
          rw [show scale m c ⟨t.val, t.isLt⟩ = _ from es]; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · have e7 : tile m c t = k0_pay8 (iblk m c 0 t) (k0_pay5 (iblk m c 0 t)) (k0_pay6 (iblk m c 0 t) (k0_pay5 (iblk m c 0 t)) (iblk m c 3 t) (iblk m c 4 t)) (k0_pay7 (rowOf X (grid0.coords t 1))) (iblk m c 5 t) (iota .tc S8x256 32 [0] iota_S8x256_d0_w32) 2#32 (iblk m c 1 t) (iblk m c 2 t) := by
          unfold tile; rw [ec, er, es]
        rw [e7]; iexact H7
      have e8 : tail m c t = k0_pay3 (k0_pay6 (iblk m c 0 t) (k0_pay5 (iblk m c 0 t)) (iblk m c 3 t) (iblk m c 4 t)) := by unfold tail; rw [ec]
      rw [e8]; iexact H8
    · have hz : t.val ≠ 0 := fun e => h1 (by rw [e])
      have es : scale m c ⟨t.val - 1, by omega⟩ = scale m c t := by
        unfold scale; rw [first_prev t (t.val - 1) (by omega) (by omega) h1]
      rw [PhiS_pos m c _ _ hz, es]
      have ec : cur m c t = k0_pay6 (iblk m c 0 t) (scale m c t) (iblk m c 3 t) (iblk m c 4 t) := by unfold cur; rfl
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have er : rowOf X (grid0.coords t 1) = row m c t := halo_row m c t X hX h0
      iapply ((run_next c (grid0.coords t)  _ _ _ _ _ _ _ _ _ _ _ _ _ _ _ _ _ _ _ _ _ _ (fun h => h0 ((open_iff t).mp h)) (fun h => h1 ((hcond0_1 t).mp h)) (iblk m c 0 t) (iblk m c 1 t) (iblk m c 2 t) (iblk m c 3 t) (iblk m c 4 t) (iblk m c 5 t) (iblk m c 6 t) X (scale m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; isplitr; swap; · iexact HS0
            ipureintro; rw [← ec]; exact halo_step m c t X hX
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · have e7 : tile m c t = k0_pay8 (iblk m c 0 t) (scale m c t) (k0_pay6 (iblk m c 0 t) (scale m c t) (iblk m c 3 t) (iblk m c 4 t)) (k0_pay7 (rowOf X (grid0.coords t 1))) (iblk m c 5 t) (iota .tc S8x256 32 [0] iota_S8x256_d0_w32) 2#32 (iblk m c 1 t) (iblk m c 2 t) := by
          unfold tile; rw [ec, er]
        rw [e7]; iexact H7
      have e8 : tail m c t = k0_pay3 (k0_pay6 (iblk m c 0 t) (scale m c t) (iblk m c 3 t) (iblk m c 4 t)) := by unfold tail; rw [ec]
      rw [e8]; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
theorem run_main : θ_run defs (onTc (τ := τ) (main (F := F))) (s₀ m ρ) (Pipeline.FramePost cfgs (dats m) 0 (V m)) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Kernel3Ideal.Named

end
-- ==== Proof.ConvMul.Tile.lean ====
/-
  What the short convolution's projection computes of its blocks, element by element: the gated values, the taps of the
  convolution over them and over the rows before them, and the stored tile.
-/
module

public import proofs.«01_k».proof.Proof.ConvMul.Frame
public import proofs.«01_k».proof.Proof.RowScale
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem

namespace Cert.Kernel3Ideal.Value

open Cert.Kernel3Ideal Cert.Kernel3Ideal.Gen Cert.Kernel3Ideal.Named Cert.Rms

/-- The logistic function as both programs write it, one over one plus an exponential. -/
def sgm (x : EReal) : EReal :=
  Ideal.div (Ideal.ofBits .f32 0x3F800000#32) (Ideal.ofBits .f32 0x3F800000#32 + Ideal.exp (-x))

/-- Two to the power of minus `x` over the logarithm of two is the exponential of minus `x`. -/
theorem exp2_scaled (x : EReal) : Ideal.exp2 (x * ((-((Real.log 2)⁻¹) : ℝ) : EReal)) = Ideal.exp (-x) := by
  have hl : 0 < Real.log 2 := Real.log_pos (by norm_num)
  have hn : (-((Real.log 2)⁻¹) : ℝ) < 0 := neg_lt_zero.mpr (inv_pos.mpr hl)
  induction x with
  | bot => rw [EReal.bot_mul_coe_of_neg hn, EReal.neg_bot]; rfl
  | top => rw [EReal.top_mul_coe_of_neg hn, EReal.neg_top]; rfl
  | coe r =>
    rw [← EReal.coe_mul, ← EReal.coe_neg]
    show ((Real.rpow 2 (r * (-((Real.log 2)⁻¹))) : ℝ) : EReal) = ((Real.exp (-r) : ℝ) : EReal)
    refine congrArg _ ?_
    show (2 : ℝ) ^ (r * (-((Real.log 2)⁻¹))) = Real.exp (-r)
    rw [Real.rpow_def_of_pos (by norm_num)]
    refine congrArg Real.exp ?_
    field_simp

theorem named_log2e : Named.named (F := Ideal) κ "neg_log2e" (φ := .f32) 0xBFB8AA3B#32 = ((-((Real.log 2)⁻¹) : ℝ) : EReal) :=
  rfl

/-- The row scale of a block. -/
theorem pay5_apply (x : Vec Ideal S1024x4096 .bf16) (j : S1024x1.Idx) :
    k0_pay5 x j = sc (fun k => x (ix2 (j 0) k)) := by
  unfold_payloads
  unfold sc
  pointwise

/-- A product of a block with a block of columns. -/
theorem product_apply (x : Vec Ideal S1024x4096 .bf16) (w : Vec Ideal S4096x256 .bf16) (j : S1024x256.Idx) :
    matmul (F := Ideal) (φ₁ := .bf16) (φ₂ := .bf16) dot_S1024x4096_S4096x256_S1024x256_1_0_0_1_n_n none x w (constant (F := Ideal) S1024x256 .f32 0x00000000#32) j
      = ∑ k : Fin 4096, x (ix2 (j 0) k) * w (ix2 k (j 1)) := by
  show Ideal.matmul dot_S1024x4096_S4096x256_S1024x256_1_0_0_1_n_n x w
    (constant (F := Ideal) S1024x256 .f32 0x00000000#32) j = _
  rw [Ideal.matmul_apply₁_of dot_S1024x4096_S4096x256_S1024x256_1_0_0_1_n_n (a := 1) rfl (K := 4096) rfl x w _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [show (constant (F := Ideal) S1024x256 .f32 0x00000000#32 : S1024x256.Idx → EReal) j = 0 from Ideal.ofBits_zero_f32, zero_add]

/-- The gated values of a block. -/
theorem pay6_apply (x : Vec Ideal S1024x4096 .bf16) (r : Vec Ideal S1024x1 .f32) (wc wv : Vec Ideal S4096x256 .bf16)
    (j : S1024x256.Idx) :
    k0_pay6 x r wc wv j = ((∑ k : Fin 4096, x (ix2 (j 0) k) * wc (ix2 k (j 1)))
      * (∑ k : Fin 4096, x (ix2 (j 0) k) * wv (ix2 k (j 1)))) * (r (ix2 (j 0) 0) * r (ix2 (j 0) 0)) := by
  have e : broadcastTo S1024x256 (mulf (F := Ideal) (φ := .f32) r r) broadcasts_S1024x1_S1024x256 j = r (ix2 (j 0) 0) * r (ix2 (j 0) 0) := by pointwise
  show (matmul (F := Ideal) (φ₁ := .bf16) (φ₂ := .bf16) dot_S1024x4096_S4096x256_S1024x256_1_0_0_1_n_n none x wc (constant (F := Ideal) S1024x256 .f32 0x00000000#32) j
    * matmul (F := Ideal) (φ₁ := .bf16) (φ₂ := .bf16) dot_S1024x4096_S4096x256_S1024x256_1_0_0_1_n_n none x wv (constant (F := Ideal) S1024x256 .f32 0x00000000#32) j)
    * broadcastTo S1024x256 (mulf (F := Ideal) (φ := .f32) r r) broadcasts_S1024x1_S1024x256 j = _
  rw [product_apply, product_apply, e]

/-- Two scaled products, their product written either way. -/
theorem gate_scale (x w v : Fin 4096 → EReal) :
    ((∑ k, x k * w k) * (∑ k, x k * v k)) * (sc x * sc x) = (∑ k, x k * sc x * w k) * (∑ k, x k * sc x * v k) := by
  rw [← dot_scale, ← dot_scale, mul_mul_mul_comm]

/-- The last rows of a block. -/
theorem pay2_apply (x : Vec Ideal S1024x256 .f32) (j : S1x8x256.Idx) :
    k0_pay2 (F := Ideal) x j = x (ix2 ⟨1016 + (j 1).val, by have h : (j 1).val < 8 := (j 1).isLt; omega⟩ (j 2)) := by
  unfold_payloads
  pointwise

theorem pay3_apply (x : Vec Ideal S1024x256 .f32) (j : S1x8x256.Idx) :
    k0_pay3 (F := Ideal) x j = x (ix2 ⟨1016 + (j 1).val, by have h : (j 1).val < 8 := (j 1).isLt; omega⟩ (j 2)) := by
  unfold_payloads
  pointwise

theorem pay7_apply (x : Vec Ideal S1x8x256 .f32) (j : S8x256.Idx) : k0_pay7 (F := Ideal) x j = x (ix3 0 (j 0) (j 1)) := by
  unfold_payloads
  pointwise

theorem pay4_apply (x : Vec Ideal S1x8x256 .f32) (j : S1x8x256.Idx) : k0_pay4 (F := Ideal) x j = x (ix3 0 (j 1) (j 2)) := by
  unfold_payloads
  pointwise
  refine congrArg x (funext fun a => ?_)
  match a with
  | ⟨0, _⟩ => exact Fin.ext (by show (j 0).val = 0; have h : (j 0).val < 1 := (j 0).isLt; omega)
  | ⟨1, _⟩ => rfl
  | ⟨2, _⟩ => rfl

/-- A tap: the block moved down by `d` rows, its first `d` rows the last of the rows before. -/
def tap (d : ℕ) (hd : d ≤ 8) (x : Vec Ideal S1024x256 .f32) (h : Vec Ideal S8x256 .f32) (p : Fin 1024) (q : Fin 256) : EReal :=
  if hp : p.val < d then h (ix2 ⟨8 + p.val - d, by omega⟩ q) else x (ix2 ⟨p.val - d, by omega⟩ q)

theorem rot_big (b : BitVec 32) (d : ℕ) (hb : b.toNat = d) (hd : d ≤ 8) (x : Vec Ideal S1024x256 .f32) (p : Fin 1024) (q : Fin 256)
    (hp : ¬ p.val < d) :
    dynamicRotate 0 b none x rotates_S1024x256_d0 (ix2 p q) = x (ix2 ⟨p.val - d, by omega⟩ q) := by
  refine dynamicRotate_apply 0 b x rotates_S1024x256_d0 _ _ fun a => ?_
  match a with
  | ⟨0, _⟩ => refine Eq.trans ?_ (if_pos rfl).symm; rw [hb]; show p.val - d = (p.val + 1024 - d % 1024) % 1024; omega
  | ⟨1, _⟩ => exact (if_neg (fun h => absurd (congrArg Fin.val h) (show ¬ (1 : ℕ) = 0 by decide))).symm

theorem rot_small (b : BitVec 32) (d : ℕ) (hb : b.toNat = d) (hd : d < 8) (x : Vec Ideal S8x256 .f32) (p : Fin 8) (q : Fin 256)
    (hp : p.val < d) :
    dynamicRotate 0 b none x rotates_S8x256_d0 (ix2 p q) = x (ix2 ⟨8 + p.val - d, by omega⟩ q) := by
  refine dynamicRotate_apply 0 b x rotates_S8x256_d0 _ _ fun a => ?_
  match a with
  | ⟨0, _⟩ => refine Eq.trans ?_ (if_pos rfl).symm; rw [hb]; show 8 + p.val - d = (p.val + 8 - d % 8) % 8; omega
  | ⟨1, _⟩ => exact (if_neg (fun h => absurd (congrArg Fin.val h) (show ¬ (1 : ℕ) = 0 by decide))).symm

theorem tap_apply (b : BitVec 32) (d : ℕ) (hb : b.toNat = d) (hd : d < 8)
    (hc : ∀ p : Fin 8, IntOp.cmpi .slt (BitVec.ofNat 32 p.val) b = if p.val < d then 1#1 else 0#1)
    (x : Vec Ideal S1024x256 .f32) (h : Vec Ideal S8x256 .f32) (p : Fin 1024) (q : Fin 256) :
    concatenate S1024x256 0 [⟨S8x256, select (cmpi .slt (iota .tc S8x256 32 [0] iota_S8x256_d0_w32) (broadcast S8x256 b))
        (dynamicRotate 0 b none h rotates_S8x256_d0)
        (extractStridedSlice S8x256 ![0, 0] (dynamicRotate 0 b none x rotates_S1024x256_d0) slices_S1024x256_o0_0_S8x256)⟩,
      ⟨S1016x256, extractStridedSlice S1016x256 ![8, 0] (dynamicRotate 0 b none x rotates_S1024x256_d0) slices_S1024x256_o8_0_S1016x256⟩]
      concatenates_S8x256_S1016x256_S1024x256_d0 (ix2 p q) = tap d hd.le x h p q := by
  have hbig := rot_big b d hb hd.le x
  have hsmall := rot_small b d hb hd h
  generalize dynamicRotate 0 b none x rotates_S1024x256_d0 = X at hbig ⊢
  generalize dynamicRotate 0 b none h rotates_S8x256_d0 = H at hsmall ⊢
  unfold tap
  by_cases h8 : p.val < 8
  · have e : concatenate S1024x256 0 [⟨S8x256, select (cmpi .slt (iota .tc S8x256 32 [0] iota_S8x256_d0_w32) (broadcast S8x256 b)) H
          (extractStridedSlice S8x256 ![0, 0] X slices_S1024x256_o0_0_S8x256)⟩,
        ⟨S1016x256, extractStridedSlice S1016x256 ![8, 0] X slices_S1024x256_o8_0_S1016x256⟩]
        concatenates_S8x256_S1016x256_S1024x256_d0 (ix2 p q)
        = Scalar.select (IntOp.cmpi .slt (BitVec.ofNat 32 p.val) b) (H (ix2 ⟨p.val, h8⟩ q)) (X (ix2 p q)) := by
      pointwise
      rw [dif_pos h8]
    rw [e, hc ⟨p.val, h8⟩]
    by_cases hp : p.val < d
    · rw [if_pos hp, dif_pos hp]
      exact hsmall ⟨p.val, h8⟩ q hp
    · rw [if_neg hp, dif_neg hp]
      exact hbig p q hp
  · have e : concatenate S1024x256 0 [⟨S8x256, select (cmpi .slt (iota .tc S8x256 32 [0] iota_S8x256_d0_w32) (broadcast S8x256 b)) H
          (extractStridedSlice S8x256 ![0, 0] X slices_S1024x256_o0_0_S8x256)⟩,
        ⟨S1016x256, extractStridedSlice S1016x256 ![8, 0] X slices_S1024x256_o8_0_S1016x256⟩]
        concatenates_S8x256_S1016x256_S1024x256_d0 (ix2 p q) = X (ix2 p q) := by
      pointwise
      rw [dif_neg h8]
      exact congrArg (fun p' : Fin 1024 => X (ix2 p' q)) (Fin.ext (by show 8 + (p.val - 8) = p.val; omega))
    rw [e, dif_neg (by omega)]
    exact hbig p q (by omega)

/-- The tile from its two products, its two moved blocks and its block. -/
def out (g b t2 t1 cur : Vec Ideal S1024x256 .f32) (r : Vec Ideal S1024x1 .f32) (cw : Vec Ideal S3x256 .f32) : Vec Ideal S1024x256 .bf16 :=
  let gate := mulf g (broadcastTo S1024x256 r broadcasts_S1024x1_S1024x256)
  let one : FVec Ideal S1024x256 .f32 := broadcast S1024x256 (Scalar.ofBits (F := Ideal) .f32 0x3F800000#32)
  truncf .bf16 (mulf (mulf (mulf gate (divf one (addf one (exp2 (mulf gate (broadcast S1024x256 (Named.named (F := Ideal) κ "neg_log2e" (φ := .f32) 0xBFB8AA3B#32)))))))
      (mulf b (broadcastTo S1024x256 r broadcasts_S1024x1_S1024x256)))
    (addf (addf (mulf t2 (broadcastTo S1024x256 (extractStridedSlice S1x256 ![0, 0] cw slices_S3x256_o0_0_S1x256) broadcasts_S1x256_S1024x256))
      (mulf t1 (broadcastTo S1024x256 (extractStridedSlice S1x256 ![1, 0] cw slices_S3x256_o1_0_S1x256) broadcasts_S1x256_S1024x256)))
      (mulf cur (broadcastTo S1024x256 (extractStridedSlice S1x256 ![2, 0] cw slices_S3x256_o2_0_S1x256) broadcasts_S1x256_S1024x256)))) bitsLt_bf16_f32

theorem out_apply (g b t2 t1 cur : Vec Ideal S1024x256 .f32) (r : Vec Ideal S1024x1 .f32) (cw : Vec Ideal S3x256 .f32)
    (p : Fin 1024) (q : Fin 256) :
    out g b t2 t1 cur r cw (ix2 p q)
      = (((g (ix2 p q) * r (ix2 p 0)) * sgm (g (ix2 p q) * r (ix2 p 0))) * (b (ix2 p q) * r (ix2 p 0)))
        * ((t2 (ix2 p q) * cw (ix2 0 q) + t1 (ix2 p q) * cw (ix2 1 q)) + cur (ix2 p q) * cw (ix2 2 q)) := by
  unfold out sgm
  rw [named_log2e]
  rw [← exp2_scaled]
  pointwise
  rfl

/-- The tile of a point from its blocks. -/
theorem pay8_apply (x : Vec Ideal S1024x4096 .bf16) (r : Vec Ideal S1024x1 .f32) (cur : Vec Ideal S1024x256 .f32)
    (h : Vec Ideal S8x256 .f32) (cw : Vec Ideal S3x256 .f32) (wg wb : Vec Ideal S4096x256 .bf16) (j : S1024x256.Idx) :
    k0_pay8 x r cur h cw (iota .tc S8x256 32 [0] iota_S8x256_d0_w32) 2#32 wg wb j
      = ((((∑ k : Fin 4096, x (ix2 (j 0) k) * wg (ix2 k (j 1))) * r (ix2 (j 0) 0))
          * sgm ((∑ k : Fin 4096, x (ix2 (j 0) k) * wg (ix2 k (j 1))) * r (ix2 (j 0) 0)))
        * ((∑ k : Fin 4096, x (ix2 (j 0) k) * wb (ix2 k (j 1))) * r (ix2 (j 0) 0)))
        * ((tap 2 (by decide) cur h (j 0) (j 1) * cw (ix2 0 (j 1)) + tap 1 (by decide) cur h (j 0) (j 1) * cw (ix2 1 (j 1)))
          + cur (ix2 (j 0) (j 1)) * cw (ix2 2 (j 1))) := by
  have ej : j = ix2 (j 0) (j 1) := by funext a; match a with | ⟨0, _⟩ => rfl | ⟨1, _⟩ => rfl
  have e2 := tap_apply 2#32 2 rfl (by decide) (by decide) cur h (j 0) (j 1)
  have e1 := tap_apply 1#32 1 rfl (by decide) (by decide) cur h (j 0) (j 1)
  have eg := product_apply x wg (ix2 (j 0) (j 1))
  have eb := product_apply x wb (ix2 (j 0) (j 1))
  refine (congrArg _ ej).trans ((out_apply _ _ _ _ cur r cw (j 0) (j 1)).trans ?_)
  exact congrArg₂ (fun a b : EReal => a * b)
    (congrArg₂ (fun g b : EReal => g * r (ix2 (j 0) 0) * sgm (g * r (ix2 (j 0) 0)) * (b * r (ix2 (j 0) 0))) eg eb)
    (congrArg₂ (fun a b : EReal => a * cw (ix2 0 (j 1)) + b * cw (ix2 1 (j 1)) + cur (ix2 (j 0) (j 1)) * cw (ix2 2 (j 1))) e2 e1)

end Cert.Kernel3Ideal.Value

end
-- ==== Proof.ConvMul.Value.lean ====
/-
  The value of the short convolution's projection (`kernel3`: `_gated_conv_proj`): every element of either result is the
  reference's, the convolution's rows before a row block read from the block before or from the history.
-/
module

public import proofs.«01_k».proof.Proof.ConvMul.Tile
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Kernel3Ideal.Named Cert.Rms
open Cert.Kernel3Ideal.Fgt (V iblk)

variable (m : (ℓ : Loc nD τ sig) → Buf (Elt Ideal) ℓ)

/-- A column of one of the four parts of the projection. -/
def part (n : Fin 4) (c : Fin 4096) : Fin 16384 := ⟨n.val * 4096 + c.val, by have := n.isLt; have := c.isLt; omega⟩

/-- The projection: the normalised row times a column of the weights. -/
def P (h : S16384x4096.Idx → EReal) (w : S4096x16384.Idx → EReal) (q : Fin 16384) (c : Fin 16384) : EReal :=
  ∑ k : Fin 4096, h (ix2 q k) * sc (fun k => h (ix2 q k)) * w (ix2 k c)

/-- The gated values. -/
def C (h : S16384x4096.Idx → EReal) (w : S4096x16384.Idx → EReal) (q : Fin 16384) (c : Fin 4096) : EReal :=
  P h w q (part 2 c) * P h w q (part 3 c)

/-- The gated values `d` rows before, the history's last rows at a stream's start. -/
def T (d : ℕ) (hd : d ≤ 8) (h : S16384x4096.Idx → EReal) (w : S4096x16384.Idx → EReal) (H : S1x8x4096.Idx → EReal)
    (q : Fin 16384) (c : Fin 4096) : EReal :=
  if hq : q.val % 4096 < d then H (ix3 0 ⟨8 + q.val % 4096 - d, by omega⟩ c)
  else C h w ⟨q.val - d, Nat.lt_of_le_of_lt (Nat.sub_le _ _) q.isLt⟩ c

/-- The first result: the gate's silu times the second part times the convolution. -/
def G (h : S16384x4096.Idx → EReal) (w : S4096x16384.Idx → EReal) (cw : S3x4096.Idx → EReal) (H : S1x8x4096.Idx → EReal) :
    S16384x4096.Idx → EReal := fun i =>
  ((P h w (i 0) (part 0 (i 1)) * sgm (P h w (i 0) (part 0 (i 1)))) * P h w (i 0) (part 1 (i 1)))
    * ((T 2 (by decide) h w H (i 0) (i 1) * cw (ix2 0 (i 1)) + T 1 (by decide) h w H (i 0) (i 1) * cw (ix2 1 (i 1)))
      + C h w (i 0) (i 1) * cw (ix2 2 (i 1)))

/-- The second result: the last gated values of every row block. -/
def Ge (h : S16384x4096.Idx → EReal) (w : S4096x16384.Idx → EReal) : S16x8x4096.Idx → EReal := fun i =>
  C h w ⟨(i 0).val * 1024 + 1016 + (i 1).val, by
    have h0 : (i 0).val < 16 := (i 0).isLt
    have h1 : (i 1).val < 8 := (i 1).isLt
    omega⟩ (i 2)

/-- The two results over the launch's arguments. -/
def GM (c : Dev nD) : S16384x4096.Idx → EReal :=
  G (m ((c : Thread nD τ).loc main_arg0)) (m ((c : Thread nD τ).loc main_arg1)) (m ((c : Thread nD τ).loc main_arg2))
    (m ((c : Thread nD τ).loc main_arg3))
def GMe (c : Dev nD) : S16x8x4096.Idx → EReal :=
  Ge (m ((c : Thread nD τ).loc main_arg0)) (m ((c : Thread nD τ).loc main_arg1))

theorem idx0 : ∀ t : Fin cfg0.N, win0_0.index t 0 = t.val / 16 ∧ win0_0.index t 1 = 0 := by decide +kernel
theorem idx1 : ∀ t : Fin cfg0.N, win0_1.index t 0 = 0 ∧ win0_1.index t 1 = t.val % 16 := by decide +kernel
theorem idx2 : ∀ t : Fin cfg0.N, win0_2.index t 0 = 0 ∧ win0_2.index t 1 = 16 + t.val % 16 := by decide +kernel
theorem idx3 : ∀ t : Fin cfg0.N, win0_3.index t 0 = 0 ∧ win0_3.index t 1 = 32 + t.val % 16 := by decide +kernel
theorem idx4 : ∀ t : Fin cfg0.N, win0_4.index t 0 = 0 ∧ win0_4.index t 1 = 48 + t.val % 16 := by decide +kernel
theorem idx5 : ∀ t : Fin cfg0.N, win0_5.index t 0 = 0 ∧ win0_5.index t 1 = t.val % 16 := by decide +kernel
theorem idx6 : ∀ t : Fin cfg0.N, win0_6.index t 0 = 0 ∧ win0_6.index t 1 = 0 ∧ win0_6.index t 2 = t.val % 16 := by decide +kernel
theorem idx7 : ∀ t : Fin cfg0.N, win0_7.index t 0 = t.val / 16 ∧ win0_7.index t 1 = t.val % 16 := by decide +kernel
theorem idx8 : ∀ t : Fin cfg0.N, win0_8.index t 0 = t.val / 16 ∧ win0_8.index t 1 = 0 ∧ win0_8.index t 2 = t.val % 16 := by decide +kernel

theorem iblk0 (c : Dev nD) (t : Fin cfg0.N) (j : S1024x4096.Idx) (i : S16384x4096.Idx)
    (h0 : (i 0).val = t.val / 16 * 1024 + (j 0).val) (h1 : (i 1).val = (j 1).val) :
    (iblk m c 0 t : Vec Ideal S1024x4096 .bf16) j = m ((c : Thread nD τ).loc main_arg0) i := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = (i 0).val; rw [e0, h0]; omega
  | ⟨1, _⟩ => show win0_0.index t 1 * 4096 + 1 * (j 1).val = (i 1).val; rw [e1, h1]; omega

theorem iblk1 (c : Dev nD) (t : Fin cfg0.N) (j : S4096x256.Idx) (i : S4096x16384.Idx)
    (h0 : (i 0).val = (j 0).val) (h1 : (i 1).val = t.val % 16 * 256 + (j 1).val) :
    (iblk m c 1 t : Vec Ideal S4096x256 .bf16) j = m ((c : Thread nD τ).loc main_arg1) i := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 4096 + 1 * (j 0).val = (i 0).val; rw [e0, h0]; omega
  | ⟨1, _⟩ => show win0_1.index t 1 * 256 + 1 * (j 1).val = (i 1).val; rw [e1, h1]; omega

theorem iblk2 (c : Dev nD) (t : Fin cfg0.N) (j : S4096x256.Idx) (i : S4096x16384.Idx)
    (h0 : (i 0).val = (j 0).val) (h1 : (i 1).val = 4096 + t.val % 16 * 256 + (j 1).val) :
    (iblk m c 2 t : Vec Ideal S4096x256 .bf16) j = m ((c : Thread nD τ).loc main_arg1) i := by
  obtain ⟨e0, e1⟩ := idx2 t
  unfold iblk
  rw [View.read_apply]
  show V m c main_arg1 _ = m (c.tc.loc main_arg1) _
  unfold V
  congr 1
  funext a
  apply Fin.ext
  match a with
  | ⟨0, _⟩ => show win0_2.index t 0 * 4096 + 1 * (j 0).val = (i 0).val; rw [e0, h0]; omega
  | ⟨1, _⟩ => show win0_2.index t 1 * 256 + 1 * (j 1).val = (i 1).val; rw [e1, h1]; omega

theorem iblk3 (c : Dev nD) (t : Fin cfg0.N) (j : S4096x256.Idx) (i : S4096x16384.Idx)
    (h0 : (i 0).val = (j 0).val) (h1 : (i 1).val = 8192 + t.val % 16 * 256 + (j 1).val) :
    (iblk m c 3 t : Vec Ideal S4096x256 .bf16) j = m ((c : Thread nD τ).loc main_arg1) i := by
  obtain ⟨e0, e1⟩ := idx3 t
  unfold iblk
  rw [View.read_apply]
  show V m c main_arg1 _ = m (c.tc.loc main_arg1) _
  unfold V
  congr 1
  funext a
  apply Fin.ext
  match a with
  | ⟨0, _⟩ => show win0_3.index t 0 * 4096 + 1 * (j 0).val = (i 0).val; rw [e0, h0]; omega
  | ⟨1, _⟩ => show win0_3.index t 1 * 256 + 1 * (j 1).val = (i 1).val; rw [e1, h1]; omega

theorem iblk4 (c : Dev nD) (t : Fin cfg0.N) (j : S4096x256.Idx) (i : S4096x16384.Idx)
    (h0 : (i 0).val = (j 0).val) (h1 : (i 1).val = 12288 + t.val % 16 * 256 + (j 1).val) :
    (iblk m c 4 t : Vec Ideal S4096x256 .bf16) j = m ((c : Thread nD τ).loc main_arg1) i := by
  obtain ⟨e0, e1⟩ := idx4 t
  unfold iblk
  rw [View.read_apply]
  show V m c main_arg1 _ = m (c.tc.loc main_arg1) _
  unfold V
  congr 1
  funext a
  apply Fin.ext
  match a with
  | ⟨0, _⟩ => show win0_4.index t 0 * 4096 + 1 * (j 0).val = (i 0).val; rw [e0, h0]; omega
  | ⟨1, _⟩ => show win0_4.index t 1 * 256 + 1 * (j 1).val = (i 1).val; rw [e1, h1]; omega

theorem iblk5 (c : Dev nD) (t : Fin cfg0.N) (j : S3x256.Idx) (i : S3x4096.Idx)
    (h0 : (i 0).val = (j 0).val) (h1 : (i 1).val = t.val % 16 * 256 + (j 1).val) :
    (iblk m c 5 t : Vec Ideal S3x256 .f32) j = m ((c : Thread nD τ).loc main_arg2) i := by
  obtain ⟨e0, e1⟩ := idx5 t
  unfold iblk
  rw [View.read_apply]
  show V m c main_arg2 _ = m (c.tc.loc main_arg2) _
  unfold V
  congr 1
  funext a
  apply Fin.ext
  match a with
  | ⟨0, _⟩ => show win0_5.index t 0 * 3 + 1 * (j 0).val = (i 0).val; rw [e0, h0]; omega
  | ⟨1, _⟩ => show win0_5.index t 1 * 256 + 1 * (j 1).val = (i 1).val; rw [e1, h1]; omega

theorem iblk6 (c : Dev nD) (t : Fin cfg0.N) (j : S1x8x256.Idx) (i : S1x8x4096.Idx)
    (h0 : (i 0).val = (j 0).val) (h1 : (i 1).val = (j 1).val) (h2 : (i 2).val = t.val % 16 * 256 + (j 2).val) :
    (iblk m c 6 t : Vec Ideal S1x8x256 .f32) j = m ((c : Thread nD τ).loc main_arg3) i := by
  obtain ⟨e0, e1, e2⟩ := idx6 t
  unfold iblk
  rw [View.read_apply]
  show V m c main_arg3 _ = m (c.tc.loc main_arg3) _
  unfold V
  congr 1
  funext a
  apply Fin.ext
  match a with
  | ⟨0, _⟩ => show win0_6.index t 0 * 1 + 1 * (j 0).val = (i 0).val; rw [e0, h0]; omega
  | ⟨1, _⟩ => show win0_6.index t 1 * 8 + 1 * (j 1).val = (i 1).val; rw [e1, h1]; omega
  | ⟨2, _⟩ => show win0_6.index t 2 * 256 + 1 * (j 2).val = (i 2).val; rw [e2, h2]; omega

/-- An element of the product of a block with a block of columns. -/
def prodB (x : Vec Ideal S1024x4096 .bf16) (w : Vec Ideal S4096x256 .bf16) (p : Fin 1024) (l : Fin 256) : EReal :=
  ∑ k : Fin 4096, x (ix2 p k) * w (ix2 k l)

/-- An element of the product of the rows with the weights. -/
def prodA (h : S16384x4096.Idx → EReal) (w : S4096x16384.Idx → EReal) (q : Fin 16384) (c : Fin 16384) : EReal :=
  ∑ k : Fin 4096, h (ix2 q k) * w (ix2 k c)

theorem first_div (t : Fin cfg0.N) : (first t).val / 16 = t.val / 16 := by unfold first; dsimp only; omega

/-- The row scale that a point reads is its own rows'. -/
theorem scale_apply (c : Dev nD) (t : Fin cfg0.N) (p : Fin 1024) (q : Fin 16384) (h : q.val = t.val / 16 * 1024 + p.val) :
    scale (F := Ideal) m c t (ix2 p 0) = sc (fun k => m ((c : Thread nD τ).loc main_arg0) (ix2 q k)) := by
  unfold scale
  refine (pay5_apply _ _).trans (congrArg sc (funext fun k => ?_))
  exact iblk0 m c (first t) (ix2 p k) (ix2 q k) (by rw [first_div]; exact h) rfl

/-- A point's product with part 0. -/
theorem part0 (c : Dev nD) (t : Fin cfg0.N) (p : Fin 1024) (l : Fin 256) (q : Fin 16384) (b : Fin 4096)
    (h0 : q.val = t.val / 16 * 1024 + p.val) (h1 : b.val = t.val % 16 * 256 + l.val) :
    prodB (iblk m c 0 t) (iblk m c 1 t) p l
      = prodA (m ((c : Thread nD τ).loc main_arg0)) (m ((c : Thread nD τ).loc main_arg1)) q (part 0 b) :=
  Finset.sum_congr rfl fun k _ => congrArg₂ (fun a b : EReal => a * b)
    (iblk0 m c t (ix2 p k) (ix2 q k) h0 rfl)
    (iblk1 m c t (ix2 k l) (ix2 k (part 0 b)) rfl (by
      show 0 * 4096 + b.val = t.val % 16 * 256 + l.val
      omega))

/-- A point's product with part 1. -/
theorem part1 (c : Dev nD) (t : Fin cfg0.N) (p : Fin 1024) (l : Fin 256) (q : Fin 16384) (b : Fin 4096)
    (h0 : q.val = t.val / 16 * 1024 + p.val) (h1 : b.val = t.val % 16 * 256 + l.val) :
    prodB (iblk m c 0 t) (iblk m c 2 t) p l
      = prodA (m ((c : Thread nD τ).loc main_arg0)) (m ((c : Thread nD τ).loc main_arg1)) q (part 1 b) :=
  Finset.sum_congr rfl fun k _ => congrArg₂ (fun a b : EReal => a * b)
    (iblk0 m c t (ix2 p k) (ix2 q k) h0 rfl)
    (iblk2 m c t (ix2 k l) (ix2 k (part 1 b)) rfl (by
      show 1 * 4096 + b.val = 4096 + t.val % 16 * 256 + l.val
      omega))

/-- A point's product with part 2. -/
theorem part2 (c : Dev nD) (t : Fin cfg0.N) (p : Fin 1024) (l : Fin 256) (q : Fin 16384) (b : Fin 4096)
    (h0 : q.val = t.val / 16 * 1024 + p.val) (h1 : b.val = t.val % 16 * 256 + l.val) :
    prodB (iblk m c 0 t) (iblk m c 3 t) p l
      = prodA (m ((c : Thread nD τ).loc main_arg0)) (m ((c : Thread nD τ).loc main_arg1)) q (part 2 b) :=
  Finset.sum_congr rfl fun k _ => congrArg₂ (fun a b : EReal => a * b)
    (iblk0 m c t (ix2 p k) (ix2 q k) h0 rfl)
    (iblk3 m c t (ix2 k l) (ix2 k (part 2 b)) rfl (by
      show 2 * 4096 + b.val = 8192 + t.val % 16 * 256 + l.val
      omega))

/-- A point's product with part 3. -/
theorem part3 (c : Dev nD) (t : Fin cfg0.N) (p : Fin 1024) (l : Fin 256) (q : Fin 16384) (b : Fin 4096)
    (h0 : q.val = t.val / 16 * 1024 + p.val) (h1 : b.val = t.val % 16 * 256 + l.val) :
    prodB (iblk m c 0 t) (iblk m c 4 t) p l
      = prodA (m ((c : Thread nD τ).loc main_arg0)) (m ((c : Thread nD τ).loc main_arg1)) q (part 3 b) :=
  Finset.sum_congr rfl fun k _ => congrArg₂ (fun a b : EReal => a * b)
    (iblk0 m c t (ix2 p k) (ix2 q k) h0 rfl)
    (iblk4 m c t (ix2 k l) (ix2 k (part 3 b)) rfl (by
      show 3 * 4096 + b.val = 12288 + t.val % 16 * 256 + l.val
      omega))

/-- The gated values of a point's block. -/
theorem cur_apply (c : Dev nD) (t : Fin cfg0.N) (p : Fin 1024) (l : Fin 256) (q : Fin 16384) (b : Fin 4096)
    (h0 : q.val = t.val / 16 * 1024 + p.val) (h1 : b.val = t.val % 16 * 256 + l.val) :
    cur (F := Ideal) m c t (ix2 p l) = C (m ((c : Thread nD τ).loc main_arg0)) (m ((c : Thread nD τ).loc main_arg1)) q b := by
  unfold cur
  refine (pay6_apply _ _ _ _ (ix2 p l)).trans ?_
  have es := scale_apply m c t p q h0
  refine (congrArg₂ (fun a b : EReal => a * b)
    (congrArg₂ (fun a b : EReal => a * b) (part2 m c t p l q b h0 h1) (part3 m c t p l q b h0 h1))
    (congrArg₂ (fun a b : EReal => a * b) es es)).trans ?_
  exact gate_scale (fun k => m ((c : Thread nD τ).loc main_arg0) (ix2 q k))
    (fun k => m ((c : Thread nD τ).loc main_arg1) (ix2 k (part 2 b)))
    (fun k => m ((c : Thread nD τ).loc main_arg1) (ix2 k (part 3 b)))

/-- The last rows of the row block before. -/
theorem row_apply (c : Dev nD) (t : Fin cfg0.N) (a : Fin 8) (l : Fin 256) (b : Fin 4096) (h1 : b.val = t.val % 16 * 256 + l.val) :
    (t.val % 64 < 16 → row (F := Ideal) m c t (ix3 0 a l) = m ((c : Thread nD τ).loc main_arg3) (ix3 0 a b))
    ∧ (¬ t.val % 64 < 16 → ∀ q : Fin 16384, q.val + 8 = t.val / 16 * 1024 + a.val →
      row (F := Ideal) m c t (ix3 0 a l) = C (m ((c : Thread nD τ).loc main_arg0)) (m ((c : Thread nD τ).loc main_arg1)) q b) := by
  constructor
  · intro h
    unfold row
    rw [if_pos h]
    exact (pay4_apply _ _).trans (iblk6 m c t (ix3 0 a l) (ix3 0 a b) rfl rfl h1)
  · intro h q hq
    unfold row
    rw [if_neg h]
    refine (pay2_apply _ _).trans ?_
    refine cur_apply m c (back t) _ l q b ?_ ?_
    · show q.val = (back t).val / 16 * 1024 + (1016 + a.val)
      unfold back; dsimp only; omega
    · show b.val = (back t).val % 16 * 256 + l.val
      unfold back; dsimp only; omega

/-- A tap of a point. -/
theorem tap_eq (d : ℕ) (hd : d ≤ 8) (c : Dev nD) (t : Fin cfg0.N) (p : Fin 1024) (l : Fin 256) (q : Fin 16384) (b : Fin 4096)
    (h0 : q.val = t.val / 16 * 1024 + p.val) (h1 : b.val = t.val % 16 * 256 + l.val) :
    tap d hd (cur m c t) (k0_pay7 (row m c t)) p l
      = T d hd (m ((c : Thread nD τ).loc main_arg0)) (m ((c : Thread nD τ).loc main_arg1)) (m ((c : Thread nD τ).loc main_arg3)) q b := by
  unfold tap T
  by_cases hp : p.val < d
  · rw [dif_pos hp]
    refine (pay7_apply _ _).trans ?_
    obtain ⟨ra, rb⟩ := row_apply m c t ⟨8 + p.val - d, by omega⟩ l b h1
    by_cases h : t.val % 64 < 16
    · rw [dif_pos (by omega)]
      refine (ra h).trans ?_
      exact congrArg (fun a : Fin 8 => m ((c : Thread nD τ).loc main_arg3) (ix3 0 a b))
        (Fin.ext (by show 8 + p.val - d = 8 + q.val % 4096 - d; omega))
    · rw [dif_neg (by omega)]
      exact rb h _ (by show q.val - d + 8 = t.val / 16 * 1024 + (8 + p.val - d); omega)
  · rw [dif_neg hp, dif_neg (by omega)]
    exact cur_apply m c t _ l _ b (by show q.val - d = t.val / 16 * 1024 + (p.val - d); omega) h1

/-- The block of the first result that a point computes. -/
theorem point (c : Dev nD) (t : Fin cfg0.N) (j : S1024x256.Idx) (i : S16384x4096.Idx)
    (h0 : (i 0).val = t.val / 16 * 1024 + (j 0).val) (h1 : (i 1).val = t.val % 16 * 256 + (j 1).val) :
    tile (F := Ideal) m c t j = GM m c i := by
  unfold tile
  refine (pay8_apply _ _ _ _ _ _ _ j).trans ?_
  have es := scale_apply m c t (j 0) (i 0) h0
  have eg : prodB (iblk m c 0 t) (iblk m c 1 t) (j 0) (j 1) * scale (F := Ideal) m c t (ix2 (j 0) 0)
      = P (m ((c : Thread nD τ).loc main_arg0)) (m ((c : Thread nD τ).loc main_arg1)) (i 0) (part 0 (i 1)) :=
    (congrArg₂ (fun a b : EReal => a * b) (part0 m c t (j 0) (j 1) (i 0) (i 1) h0 h1) es).trans
      (dot_scale (fun k => m ((c : Thread nD τ).loc main_arg0) (ix2 (i 0) k)) (fun k => m ((c : Thread nD τ).loc main_arg1) (ix2 k (part 0 (i 1)))))
  have eb : prodB (iblk m c 0 t) (iblk m c 2 t) (j 0) (j 1) * scale (F := Ideal) m c t (ix2 (j 0) 0)
      = P (m ((c : Thread nD τ).loc main_arg0)) (m ((c : Thread nD τ).loc main_arg1)) (i 0) (part 1 (i 1)) :=
    (congrArg₂ (fun a b : EReal => a * b) (part1 m c t (j 0) (j 1) (i 0) (i 1) h0 h1) es).trans
      (dot_scale (fun k => m ((c : Thread nD τ).loc main_arg0) (ix2 (i 0) k)) (fun k => m ((c : Thread nD τ).loc main_arg1) (ix2 k (part 1 (i 1)))))
  have w0 := iblk5 m c t (ix2 0 (j 1)) (ix2 0 (i 1)) rfl h1
  have w1 := iblk5 m c t (ix2 1 (j 1)) (ix2 1 (i 1)) rfl h1
  have w2 := iblk5 m c t (ix2 2 (j 1)) (ix2 2 (i 1)) rfl h1
  have t2 := tap_eq m 2 (by decide) c t (j 0) (j 1) (i 0) (i 1) h0 h1
  have t1 := tap_eq m 1 (by decide) c t (j 0) (j 1) (i 0) (i 1) h0 h1
  have t0 := cur_apply m c t (j 0) (j 1) (i 0) (i 1) h0 h1
  exact congrArg₂ (fun a b : EReal => a * b)
    (congrArg₂ (fun g b : EReal => g * sgm g * b) eg eb)
    (congrArg₂ (fun a b : EReal => a + b)
      (congrArg₂ (fun a b : EReal => a + b) (congrArg₂ (fun a b : EReal => a * b) t2 w0) (congrArg₂ (fun a b : EReal => a * b) t1 w1))
      (congrArg₂ (fun a b : EReal => a * b) t0 w2))

/-- The block of the second result that a point computes. -/
theorem pointe (c : Dev nD) (t : Fin cfg0.N) (j : S1x8x256.Idx) (i : S16x8x4096.Idx)
    (h0 : (i 0).val = t.val / 16) (h1 : (i 1).val = (j 1).val) (h2 : (i 2).val = t.val % 16 * 256 + (j 2).val) :
    tail (F := Ideal) m c t j = GMe m c i := by
  unfold tail
  refine (pay3_apply _ j).trans ?_
  refine cur_apply m c t _ (j 2) _ (i 2) ?_ h2
  show (i 0).val * 1024 + 1016 + (i 1).val = t.val / 16 * 1024 + (1016 + (j 1).val)
  omega

theorem flushed7_eq (c : Dev nD) (t : Fin cfg0.N) :
    (dats (F := Ideal) m 0 c).flushed 7 t = ((cfg0.win 7).blk t).view.read (Elt Ideal) (GM m c) := by
  obtain ⟨e0, e1⟩ := idx7 t
  show (cfg0.win 7).cut (grid0.coords t) ((dats (F := Ideal) m 0 c).after 7 t) = _
  rw [after0_7]
  funext j
  rw [View.read_apply]
  refine point m c t j _ ?_ ?_
  · show win0_7.index t 0 * 1024 + 1 * (j 0).val = _; rw [e0]; omega
  · show win0_7.index t 1 * 256 + 1 * (j 1).val = _; rw [e1]; omega

theorem flushed8_eq (c : Dev nD) (t : Fin cfg0.N) :
    (dats (F := Ideal) m 0 c).flushed 8 t = ((cfg0.win 8).blk t).view.read (Elt Ideal) (GMe m c) := by
  obtain ⟨e0, e1, e2⟩ := idx8 t
  show (cfg0.win 8).cut (grid0.coords t) ((dats (F := Ideal) m 0 c).after 8 t) = _
  rw [after0_8]
  funext j
  rw [View.read_apply]
  refine pointe m c t j _ ?_ ?_ ?_
  · show win0_8.index t 0 * 1 + 1 * (j 0).val = _
    have hj : (j 0).val < 1 := (j 0).isLt
    rw [e0]; omega
  · show win0_8.index t 1 * 8 + 1 * (j 1).val = _; rw [e1]; omega
  · show win0_8.index t 2 * 256 + 1 * (j 2).val = _; rw [e2]; omega

/-- The point whose output block holds an element. -/
def pt (q : Fin 16) (b : Fin 4096) : Fin cfg0.N :=
  ⟨q.val * 16 + b.val / 256, by
    have h0 := q.isLt
    have h1 := b.isLt
    rw [show cfg0.N = 256 from N_0]; omega⟩

/-- An element's row block. -/
def rowBlock (i : S16384x4096.Idx) : Fin 16 := ⟨(i 0).val / 1024, by
  have h0 : (i 0).val < 16384 := (i 0).isLt
  omega⟩

theorem pt_div (q : Fin 16) (b : Fin 4096) : (pt q b).val / 16 = q.val ∧ (pt q b).val % 16 = b.val / 256 := by
  have h1 := b.isLt
  unfold pt
  dsimp only
  omega

theorem final7 (c : Dev nD) : (dats (F := Ideal) m 0 c).arrAt 7 cfg0.N = GM m c :=
  (dats (F := Ideal) m 0 c).arrAt_eq_of_cover 7 (GM m c) (fun t _ => flushed7_eq m c t) fun i => by
    refine ⟨pt (rowBlock i) (i 1), flush0_7 _, ?_⟩
    show i ∈ ((View.whole main_v0_0).slice (win0_7.rect (pt (rowBlock i) (i 1)))).set
    obtain ⟨e0, e1⟩ := idx7 (pt (rowBlock i) (i 1))
    obtain ⟨p0, p1⟩ := pt_div (rowBlock i) (i 1)
    rw [View.set_slice_whole, Rect.mem_set_unit]
    intro a
    match a with
    | ⟨0, _⟩ => show win0_7.index (pt (rowBlock i) (i 1)) 0 * 1024 ≤ (i 0 : Nat) ∧ (i 0 : Nat) < win0_7.index (pt (rowBlock i) (i 1)) 0 * 1024 + 1024
                rw [e0, p0]; unfold rowBlock; dsimp only; omega
    | ⟨1, _⟩ => show win0_7.index (pt (rowBlock i) (i 1)) 1 * 256 ≤ (i 1 : Nat) ∧ (i 1 : Nat) < win0_7.index (pt (rowBlock i) (i 1)) 1 * 256 + 256
                rw [e1, p1]; omega

theorem final8 (c : Dev nD) : (dats (F := Ideal) m 0 c).arrAt 8 cfg0.N = GMe m c :=
  (dats (F := Ideal) m 0 c).arrAt_eq_of_cover 8 (GMe m c) (fun t _ => flushed8_eq m c t) fun i => by
    refine ⟨pt (i 0) (i 2), flush0_8 _, ?_⟩
    show i ∈ ((View.whole main_v0_1).slice (win0_8.rect (pt (i 0) (i 2)))).set
    obtain ⟨e0, e1, e2⟩ := idx8 (pt (i 0) (i 2))
    obtain ⟨p0, p1⟩ := pt_div (i 0) (i 2)
    have h1 : (i 1 : Nat) < 8 := (i 1).isLt
    rw [View.set_slice_whole, Rect.mem_set_unit]
    intro a
    match a with
    | ⟨0, _⟩ => show win0_8.index (pt (i 0) (i 2)) 0 * 1 ≤ (i 0 : Nat) ∧ (i 0 : Nat) < win0_8.index (pt (i 0) (i 2)) 0 * 1 + 1
                rw [e0, p0]; omega
    | ⟨1, _⟩ => show win0_8.index (pt (i 0) (i 2)) 1 * 8 ≤ (i 1 : Nat) ∧ (i 1 : Nat) < win0_8.index (pt (i 0) (i 2)) 1 * 8 + 8
                rw [e1]; omega
    | ⟨2, _⟩ => show win0_8.index (pt (i 0) (i 2)) 2 * 256 ≤ (i 2 : Nat) ∧ (i 2 : Nat) < win0_8.index (pt (i 0) (i 2)) 2 * 256 + 256
                rw [e2, p1]; omega

/-- The kernel's run: both result arrays named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GMe m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 7).trans (final7 m c), ((h c).1 8).trans (final8 m c),
      ((h c).1 0).trans ((dats (F := Ideal) m 0 c).arrAt_in 0 rfl cfg0.N), ((h c).1 1).trans ((dats (F := Ideal) m 0 c).arrAt_in 1 rfl cfg0.N),
      ((h c).1 5).trans ((dats (F := Ideal) m 0 c).arrAt_in 5 rfl cfg0.N), ((h c).1 6).trans ((dats (F := Ideal) m 0 c).arrAt_in 6 rfl cfg0.N)⟩) (run_main m ρ)

end Cert.Kernel3Ideal.Value

end
-- ==== Proof.ConvMul.Ref.lean ====
/-
  The reference of the short convolution's projection, element by element.
-/
module

public import proofs.«01_k».proof.Proof.ConvMul.Value
public import proofs.«01_k».proof.Proof.Gen.Reference3Ideal.Run
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Reference3Ideal.Value

open Cert.Reference3Ideal Cert.Reference3Ideal.Gen Cert.Rms
open Cert.Kernel3Ideal.Value (part P C T G Ge sgm)

/-- The reference's normalised rows. -/
def U (h : FVec Ideal S16384x4096 .f32) : FVec Ideal S16384x4096 .f32 :=
  mulf h (broadcastInDim S16384x4096 ![0, 1] bcast_S16384x1_S16384x4096_0_1 (Host.rsqrt (addf (Host.divf (broadcastInDim S16384x1 ![0] bcast_S16384_S16384x1_0 (Host.reduceAdd (mulf h h) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))

theorem U_apply (h : FVec Ideal S16384x4096 .f32) (i : S16384x4096.Idx) :
    U h i = h i * sc (fun k => h (ix2 (i 0) k)) := by
  unfold U sc
  pointwise

/-- The reference's projection. -/
def D (h : FVec Ideal S16384x4096 .f32) (w : FVec Ideal S4096x16384 .f32) : FVec Ideal S16384x16384 .f32 :=
  Host.dotGeneral dot_S16384x4096_S4096x16384_S16384x16384_1_0_0_1_n_n none (U h) w

theorem D_apply (h : FVec Ideal S16384x4096 .f32) (w : FVec Ideal S4096x16384 .f32) (q c : Fin 16384) :
    D h w (ix2 q c) = P h w q c := by
  show Ideal.matmul dot_S16384x4096_S4096x16384_S16384x16384_1_0_0_1_n_n (U h) w (fun _ => 0) (ix2 q c) = _
  rw [Ideal.matmul_apply₁_of dot_S16384x4096_S4096x16384_S16384x16384_1_0_0_1_n_n (a := 1) rfl (K := 4096) rfl (U h) w _ (ix2 q c)
    (fun k => ix2 q k) (fun k => ix2 k c)
    (fun k => by funext a; match a with | ⟨0, _⟩ => rfl | ⟨1, _⟩ => rfl)
    (fun k => by funext a; match a with | ⟨0, _⟩ => rfl | ⟨1, _⟩ => rfl), zero_add]
  exact Finset.sum_congr rfl fun k _ => congrArg (fun a : EReal => a * w (ix2 k c)) (U_apply h (ix2 q k))

/-- The gated values over all rows. -/
def cv (D : FVec Ideal S16384x16384 .f32) : FVec Ideal S16384x4096 .f32 :=
  mulf (extractStridedSlice S16384x4096 ![0, 8192] D slices_S16384x16384_S16384x4096_0_8192) (extractStridedSlice S16384x4096 ![0, 12288] D slices_S16384x16384_S16384x4096_0_12288)

theorem cv_apply (D : FVec Ideal S16384x16384 .f32) (q : Fin 16384) (c : Fin 4096) :
    cv D (ix2 q c) = D (ix2 q (part 2 c)) * D (ix2 q (part 3 c)) := by
  have e2 : extractStridedSlice S16384x4096 ![0, 8192] D slices_S16384x16384_S16384x4096_0_8192 (ix2 q c) = D (ix2 q (part 2 c)) := by
    unfold part
    pointwise
  have e3 : extractStridedSlice S16384x4096 ![0, 12288] D slices_S16384x16384_S16384x4096_0_12288 (ix2 q c) = D (ix2 q (part 3 c)) := by
    unfold part
    pointwise
  exact congrArg₂ (fun a b : EReal => a * b) e2 e3

/-- The rows cut in streams. -/
def seqs (x : FVec Ideal S16384x4096 .f32) : FVec Ideal S4x4096x4096 .f32 := shapeCast _ x shapeCasts_S16384x4096_S4x4096x4096

theorem seqs_apply (x : FVec Ideal S16384x4096 .f32) (b : Fin 4) (s : Fin 4096) (c : Fin 4096) :
    seqs x (ix3 b s c) = x (ix2 ⟨b.val * 4096 + s.val, by have := b.isLt; have := s.isLt; omega⟩ c) := by
  unfold seqs
  pointwise

/-- Every stream with the history's last two rows before it. -/
def full (x : FVec Ideal S4x4096x4096 .f32) (H : FVec Ideal S1x8x4096 .f32) : FVec Ideal S4x4098x4096 .f32 :=
  concatenate S4x4098x4096 1 [⟨S4x2x4096, (broadcastInDim S4x2x4096 ![0, 1, 2] bcast_S1x2x4096_S4x2x4096_0_1_2 (extractStridedSlice S1x2x4096 ![0, 6, 0] H slices_S1x8x4096_S1x2x4096_0_6_0))⟩, ⟨S4x4096x4096, x⟩] concatenates_S4x2x4096_S4x4096x4096_S4x4098x4096_d1

theorem full_apply (x : FVec Ideal S4x4096x4096 .f32) (H : FVec Ideal S1x8x4096 .f32) (b : Fin 4) (s : Fin 4098) (c : Fin 4096) :
    full x H (ix3 b s c) = if hs : s.val < 2 then H (ix3 0 ⟨6 + s.val, by omega⟩ c)
      else x (ix3 b ⟨s.val - 2, by have := s.isLt; omega⟩ c) := by
  unfold full
  pointwise

/-- The convolution over the streams. -/
def conv (D : FVec Ideal S16384x16384 .f32) (cw : FVec Ideal S3x4096 .f32) (H : FVec Ideal S1x8x4096 .f32) : FVec Ideal S4x4096x4096 .f32 :=
  addf (addf (mulf (extractStridedSlice S4x4096x4096 ![0, 0, 0] (full (seqs (cv D)) H) slices_S4x4098x4096_S4x4096x4096_0_0_0) (broadcastInDim S4x4096x4096 ![0, 1, 2] bcast_S1x1x4096_S4x4096x4096_0_1_2 (broadcastInDim S1x1x4096 ![2] bcast_S4096_S1x1x4096_2 (shapeCast _ (extractStridedSlice S1x4096 ![0, 0] cw slices_S3x4096_S1x4096_0_0) shapeCasts_S1x4096_S4096)))) (mulf (extractStridedSlice S4x4096x4096 ![0, 1, 0] (full (seqs (cv D)) H) slices_S4x4098x4096_S4x4096x4096_0_1_0) (broadcastInDim S4x4096x4096 ![0, 1, 2] bcast_S1x1x4096_S4x4096x4096_0_1_2 (broadcastInDim S1x1x4096 ![2] bcast_S4096_S1x1x4096_2 (shapeCast _ (extractStridedSlice S1x4096 ![1, 0] cw slices_S3x4096_S1x4096_1_0) shapeCasts_S1x4096_S4096))))) (mulf (extractStridedSlice S4x4096x4096 ![0, 2, 0] (full (seqs (cv D)) H) slices_S4x4098x4096_S4x4096x4096_0_2_0) (broadcastInDim S4x4096x4096 ![0, 1, 2] bcast_S1x1x4096_S4x4096x4096_0_1_2 (broadcastInDim S1x1x4096 ![2] bcast_S4096_S1x1x4096_2 (shapeCast _ (extractStridedSlice S1x4096 ![2, 0] cw slices_S3x4096_S1x4096_2_0) shapeCasts_S1x4096_S4096))))

theorem conv_apply (D : FVec Ideal S16384x16384 .f32) (cw : FVec Ideal S3x4096 .f32) (H : FVec Ideal S1x8x4096 .f32)
    (b : Fin 4) (s : Fin 4096) (c : Fin 4096) :
    conv D cw H (ix3 b s c)
      = (full (seqs (cv D)) H (ix3 b ⟨s.val, by have := s.isLt; omega⟩ c) * cw (ix2 0 c)
        + full (seqs (cv D)) H (ix3 b ⟨1 + s.val, by have := s.isLt; omega⟩ c) * cw (ix2 1 c))
        + full (seqs (cv D)) H (ix3 b ⟨2 + s.val, by have := s.isLt; omega⟩ c) * cw (ix2 2 c) := by
  unfold conv
  generalize full (seqs (cv D)) H = x
  pointwise

/-- The first result over the projection. -/
def R0 (D : FVec Ideal S16384x16384 .f32) (cw : FVec Ideal S3x4096 .f32) (H : FVec Ideal S1x8x4096 .f32) : FVec Ideal S16384x4096 .bf16 :=
  truncf .bf16 (mulf (mulf (mulf (extractStridedSlice S16384x4096 ![0, 0] D slices_S16384x16384_S16384x4096_0_0) (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 0] D slices_S16384x16384_S16384x4096_0_0)))))) (extractStridedSlice S16384x4096 ![0, 4096] D slices_S16384x16384_S16384x4096_0_4096)) (shapeCast _ (conv D cw H) shapeCasts_S4x4096x4096_S16384x4096)) bitsLt_bf16_f32

theorem R0_apply (D : FVec Ideal S16384x16384 .f32) (cw : FVec Ideal S3x4096 .f32) (H : FVec Ideal S1x8x4096 .f32)
    (q : Fin 16384) (c : Fin 4096) :
    R0 D cw H (ix2 q c)
      = ((D (ix2 q (part 0 c)) * sgm (D (ix2 q (part 0 c)))) * D (ix2 q (part 1 c)))
        * conv D cw H (ix3 ⟨q.val / 4096, by have := q.isLt; omega⟩ ⟨q.val % 4096, by omega⟩ c) := by
  unfold R0 sgm part
  generalize conv D cw H = x
  pointwise

/-- The second result over the projection. -/
def R1 (D : FVec Ideal S16384x16384 .f32) : FVec Ideal S16x8x4096 .f32 :=
  extractStridedSlice S16x8x4096 ![0, 1016, 0] (shapeCast _ (seqs (cv D)) shapeCasts_S4x4096x4096_S16x1024x4096) slices_S16x1024x4096_S16x8x4096_0_1016_0

theorem R1_apply (D : FVec Ideal S16384x16384 .f32) (a : Fin 16) (s : Fin 8) (c : Fin 4096) :
    R1 D (ix3 a s c) = cv D (ix2 ⟨a.val * 1024 + 1016 + s.val, by have := a.isLt; have := s.isLt; omega⟩ c) := by
  unfold R1 seqs
  generalize cv D = x
  pointwise
  exact congrArg (fun q : Fin 16384 => x (ix2 q c)) (Fin.ext (by show a.val * 1024 + (1016 + s.val) = a.val * 1024 + 1016 + s.val; omega))

theorem cv_eq (h : FVec Ideal S16384x4096 .f32) (w : FVec Ideal S4096x16384 .f32) (q : Fin 16384) (c : Fin 4096) :
    cv (D h w) (ix2 q c) = C h w q c :=
  (cv_apply (D h w) q c).trans (congrArg₂ (fun a b : EReal => a * b) (D_apply h w q (part 2 c)) (D_apply h w q (part 3 c)))

/-- The streams with the history before them, read `d` rows back. -/
theorem full_eq (n d : ℕ) (hd : d ≤ 8) (hn : n + d = 2) (h : FVec Ideal S16384x4096 .f32) (w : FVec Ideal S4096x16384 .f32)
    (H : FVec Ideal S1x8x4096 .f32) (q : Fin 16384) (c : Fin 4096) (s : Fin 4098) (hs : s.val = n + q.val % 4096) :
    full (seqs (cv (D h w))) H (ix3 ⟨q.val / 4096, by have := q.isLt; omega⟩ s c) = T d hd h w H q c := by
  rw [full_apply]
  unfold Cert.Kernel3Ideal.Value.T
  by_cases h2 : s.val < 2
  · rw [dif_pos h2, dif_pos (by omega)]
    exact congrArg (fun a : Fin 8 => H (ix3 0 a c)) (Fin.ext (by show 6 + s.val = 8 + q.val % 4096 - d; omega))
  · rw [dif_neg h2, dif_neg (by omega)]
    refine (seqs_apply _ _ _ c).trans ((congrArg (fun a : Fin 16384 => cv (D h w) (ix2 a c)) (Fin.ext ?_)).trans (cv_eq h w _ c))
    show q.val / 4096 * 4096 + (s.val - 2) = q.val - d
    omega

theorem T_zero (h : S16384x4096.Idx → EReal) (w : S4096x16384.Idx → EReal) (H : S1x8x4096.Idx → EReal) (q : Fin 16384) (c : Fin 4096) :
    T 0 (by decide) h w H q c = C h w q c := by
  unfold Cert.Kernel3Ideal.Value.T
  rw [dif_neg (by omega)]
  rfl

theorem conv_eq (h : FVec Ideal S16384x4096 .f32) (w : FVec Ideal S4096x16384 .f32) (cw : FVec Ideal S3x4096 .f32)
    (H : FVec Ideal S1x8x4096 .f32) (q : Fin 16384) (c : Fin 4096) :
    conv (D h w) cw H (ix3 ⟨q.val / 4096, by have := q.isLt; omega⟩ ⟨q.val % 4096, by omega⟩ c)
      = (T 2 (by decide) h w H q c * cw (ix2 0 c) + T 1 (by decide) h w H q c * cw (ix2 1 c)) + C h w q c * cw (ix2 2 c) := by
  refine (conv_apply _ cw H _ _ c).trans ?_
  have f2 := full_eq 0 2 (by decide) rfl h w H q c ⟨q.val % 4096, by omega⟩ (by show q.val % 4096 = 0 + q.val % 4096; omega)
  have f1 := full_eq 1 1 (by decide) rfl h w H q c ⟨1 + q.val % 4096, by omega⟩ rfl
  have f0 := (full_eq 2 0 (by decide) rfl h w H q c ⟨2 + q.val % 4096, by omega⟩ rfl).trans (T_zero h w H q c)
  exact congrArg₂ (fun a b : EReal => a + b)
    (congrArg₂ (fun a b : EReal => a * cw (ix2 0 c) + b * cw (ix2 1 c)) f2 f1)
    (congrArg (fun a : EReal => a * cw (ix2 2 c)) f0)

theorem ref_eq (h : FVec Ideal S16384x4096 .f32) (w : FVec Ideal S4096x16384 .f32) (cw : FVec Ideal S3x4096 .f32)
    (H : FVec Ideal S1x8x4096 .f32) : R0 (D h w) cw H = G h w cw H := by
  funext i
  have ei : i = ix2 (i 0) (i 1) := by funext a; match a with | ⟨0, _⟩ => rfl | ⟨1, _⟩ => rfl
  refine (congrArg (R0 (D h w) cw H) ei).trans ((R0_apply _ cw H (i 0) (i 1)).trans ?_)
  exact congrArg₂ (fun a b : EReal => a * b)
    (congrArg₂ (fun g b : EReal => g * sgm g * b) (D_apply h w (i 0) (part 0 (i 1))) (D_apply h w (i 0) (part 1 (i 1))))
    (conv_eq h w cw H (i 0) (i 1))

theorem ref_eqe (h : FVec Ideal S16384x4096 .f32) (w : FVec Ideal S4096x16384 .f32) : R1 (D h w) = Ge h w := by
  funext i
  have ei : i = ix3 (i 0) (i 1) (i 2) := by funext a; match a with | ⟨0, _⟩ => rfl | ⟨1, _⟩ => rfl | ⟨2, _⟩ => rfl
  refine (congrArg (R1 (D h w)) ei).trans ((R1_apply _ (i 0) (i 1) (i 2)).trans ?_)
  exact cv_eq h w _ (i 2)

/-- The first result of the reference's run is the named one. -/
theorem res_eq (m : (ℓ : Loc nD τ sig) → Buf (Elt Ideal) ℓ) (c : Dev nD) :
    res_main_v46 m c = R0 (D (m ((c.tc : Thread nD τ).loc main_arg0)) (m ((c.tc : Thread nD τ).loc main_arg1)))
      (m ((c.tc : Thread nD τ).loc main_arg2)) (m ((c.tc : Thread nD τ).loc main_arg3)) := rfl

end Cert.Reference3Ideal.Value

end
-- ==== Proof.Claims3.lean ====
/-
  The value claim of the short convolution's projection.
-/
module

public import proofs.«01_k».proof.Defs
public import proofs.«01_k».proof.Proof.ConvMul.Ref
public import proofs.«01_k».proof.Proof.Gen.Kernel3Ideal
public import proofs.«01_k».proof.Proof.Gen.Reference3Ideal

@[expose] public section

noncomputable section

open Idealize.ShloMosaic Idealize.ShloMosaic.TcCoe Idealize.SL.Sem

namespace Cert.Proof

/-- The short convolution's projection's two results are the reference's. -/
theorem algebraic3 :
    Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Value.GM m c, fun c => Cert.Kernel3Ideal.Value.GMe m c, Cert.Kernel3Ideal.Value.run_value m g, ?_⟩
  refine (θ_run _ _ _).mono (fun r h c => ?_) (Cert.Reference3Ideal.Value.run m' g')
  obtain ⟨h3, h4, hk⟩ := h c
  obtain ⟨a0, a1, a2, a3⟩ := hargs c
  have e : Cert.Kernel3Ideal.Value.G (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3)) = Cert.Kernel3Ideal.Value.GM m c := by
    rw [a0, a1, a2, a3]; rfl
  have e' : Cert.Kernel3Ideal.Value.Ge (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = Cert.Kernel3Ideal.Value.GMe m c := by
    rw [a0, a1]; rfl
  exact ⟨h3.trans ((Cert.Reference3Ideal.Value.res_eq m' c).trans ((Cert.Reference3Ideal.Value.ref_eq _ _ _ _).trans e)),
    h4.trans ((Cert.Reference3Ideal.Value.ref_eqe _ _).trans e'), hk⟩

end Cert.Proof

end
-- ==== Proof.SampleConv.Tile.lean ====
/-
  What the sample batch's short convolution (`kernel7`: `_sc_core`) computes of its blocks, element by element: what its
  body leaves in the two output blocks, the gated values, the taps of the convolution over them and over the rows before
  them, and the stored tile.
-/
module

public import proofs.«01_k».proof.Proof.Gen.Kernel7Ideal.Value
public import proofs.«01_k».proof.Proof.ConvMul.Tile
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen
open Cert.Kernel3Ideal.Value (sgm exp2_scaled)

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the block of the gated, convolved values. -/
theorem outs6 (c : Dev nD) (t : Fin cfg0.N) :
    (outsAt0 m c t).1 = k0_pay1 (F := Ideal) (k0_pay5 (iblk m c 2 t) (iblk m c 3 t))
      (k0_pay6 (iblk m c 2 t) (iblk m c 3 t) (k0_pay4 (iblk m c 4 t)) (iblk m c 5 t)) (k0_pay7 (iblk m c 5 t)) (iblk m c 0 t) (iblk m c 1 t) := by
  unfold outsAt0 out0_A_6
  dsimp only
  rw [View.read_writes_eq_canon _ _ _ (cover0_A_6 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero hz3, View.readCov_unit_zero _ hz]
  simp only [View.ld_unit_zero (S := S1x16x1024) hz3, View.ld_unit_zero (S := S1x8x1024) hz3, View.ld_unit_zero (S := S3x1024) hz]

/-- What the body leaves in the block of the last rows. -/
theorem outs7 (c : Dev nD) (t : Fin cfg0.N) :
    (outsAt0 m c t).2 = k0_pay3 (F := Ideal) (k0_pay2 (k0_pay5 (iblk m c 2 t) (iblk m c 3 t))) := by
  unfold outsAt0 out0_A_7
  dsimp only
  rw [View.read_writes_eq_canon _ _ _ (cover0_A_7 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero hz3, View.readCov_cons_toLoadRect]
  simp only [View.ld_unit_zero (S := S1x16x1024) hz3]

theorem named_log2e : Named.named (F := Ideal) κ "neg_log2e" (φ := .f32) 0xBFB8AA3B#32 = ((-((Real.log 2)⁻¹) : ℝ) : EReal) :=
  rfl

/-- The gated values of a block. -/
theorem pay5_apply (u v : Vec Ideal S1x16x1024 .bf16) (p : Fin 16) (q : Fin 1024) :
    k0_pay5 (F := Ideal) u v (ix2 p q) = u (ix3 0 p q) * v (ix3 0 p q) := by
  unfold_payloads
  pointwise

/-- The last rows of a block. -/
theorem pay32_apply (x : Vec Ideal S16x1024 .f32) (s : Fin 8) (q : Fin 1024) :
    k0_pay3 (F := Ideal) (k0_pay2 (F := Ideal) x) (ix3 0 s q) = x (ix2 ⟨8 + s.val, by omega⟩ q) := by
  unfold_payloads
  pointwise

theorem pay4_apply (x : Vec Ideal S1x8x1024 .f32) (s : Fin 8) (q : Fin 1024) : k0_pay4 (F := Ideal) x (ix2 s q) = x (ix3 0 s q) := by
  unfold_payloads
  pointwise

/-- A tap: the block moved down by `d` rows, its first `d` rows the last of the rows before. -/
def tap (d : ℕ) (hd : d ≤ 8) (x : Vec Ideal S16x1024 .f32) (h : Vec Ideal S8x1024 .f32) (p : Fin 16) (q : Fin 1024) : EReal :=
  if hp : p.val < d then h (ix2 ⟨8 + p.val - d, by omega⟩ q) else x (ix2 ⟨p.val - d, by omega⟩ q)

theorem rot_big (b : BitVec 32) (d : ℕ) (hb : b.toNat = d) (hd : d ≤ 8) (x : Vec Ideal S16x1024 .f32) (p : Fin 16) (q : Fin 1024)
    (hp : ¬ p.val < d) :
    dynamicRotate 0 b none x rotates_S16x1024_d0 (ix2 p q) = x (ix2 ⟨p.val - d, by omega⟩ q) := by
  refine dynamicRotate_apply 0 b x rotates_S16x1024_d0 _ _ fun a => ?_
  match a with
  | ⟨0, _⟩ => refine Eq.trans ?_ (if_pos rfl).symm; rw [hb]; show p.val - d = (p.val + 16 - d % 16) % 16; omega
  | ⟨1, _⟩ => exact (if_neg (fun h => absurd (congrArg Fin.val h) (show ¬ (1 : ℕ) = 0 by decide))).symm

theorem rot_small (b : BitVec 32) (d : ℕ) (hb : b.toNat = d) (hd : d < 8) (x : Vec Ideal S8x1024 .f32) (p : Fin 8) (q : Fin 1024)
    (hp : p.val < d) :
    dynamicRotate 0 b none x rotates_S8x1024_d0 (ix2 p q) = x (ix2 ⟨8 + p.val - d, by omega⟩ q) := by
  refine dynamicRotate_apply 0 b x rotates_S8x1024_d0 _ _ fun a => ?_
  match a with
  | ⟨0, _⟩ => refine Eq.trans ?_ (if_pos rfl).symm; rw [hb]; show 8 + p.val - d = (p.val + 8 - d % 8) % 8; omega
  | ⟨1, _⟩ => exact (if_neg (fun h => absurd (congrArg Fin.val h) (show ¬ (1 : ℕ) = 0 by decide))).symm

theorem tap_apply (b : BitVec 32) (d : ℕ) (hb : b.toNat = d) (hd : d < 8)
    (hc : ∀ p : Fin 8, IntOp.cmpi .slt (BitVec.ofNat 32 p.val) b = if p.val < d then 1#1 else 0#1)
    (x : Vec Ideal S16x1024 .f32) (h : Vec Ideal S8x1024 .f32) (p : Fin 16) (q : Fin 1024) :
    concatenate S16x1024 0 [⟨S8x1024, select (cmpi .slt (iota .tc S8x1024 32 [0] iota_S8x1024_d0_w32) (broadcast S8x1024 b))
        (dynamicRotate 0 b none h rotates_S8x1024_d0)
        (extractStridedSlice S8x1024 ![0, 0] (dynamicRotate 0 b none x rotates_S16x1024_d0) slices_S16x1024_o0_0_S8x1024)⟩,
      ⟨S8x1024, extractStridedSlice S8x1024 ![8, 0] (dynamicRotate 0 b none x rotates_S16x1024_d0) slices_S16x1024_o8_0_S8x1024⟩]
      concatenates_S8x1024_S8x1024_S16x1024_d0 (ix2 p q) = tap d hd.le x h p q := by
  have hbig := rot_big b d hb hd.le x
  have hsmall := rot_small b d hb hd h
  generalize dynamicRotate 0 b none x rotates_S16x1024_d0 = X at hbig ⊢
  generalize dynamicRotate 0 b none h rotates_S8x1024_d0 = H at hsmall ⊢
  unfold tap
  by_cases h8 : p.val < 8
  · have e : concatenate S16x1024 0 [⟨S8x1024, select (cmpi .slt (iota .tc S8x1024 32 [0] iota_S8x1024_d0_w32) (broadcast S8x1024 b)) H
          (extractStridedSlice S8x1024 ![0, 0] X slices_S16x1024_o0_0_S8x1024)⟩,
        ⟨S8x1024, extractStridedSlice S8x1024 ![8, 0] X slices_S16x1024_o8_0_S8x1024⟩]
        concatenates_S8x1024_S8x1024_S16x1024_d0 (ix2 p q)
        = Scalar.select (IntOp.cmpi .slt (BitVec.ofNat 32 p.val) b) (H (ix2 ⟨p.val, h8⟩ q)) (X (ix2 p q)) := by
      pointwise
      rw [dif_pos h8]
    rw [e, hc ⟨p.val, h8⟩]
    by_cases hp : p.val < d
    · rw [if_pos hp, dif_pos hp]
      exact hsmall ⟨p.val, h8⟩ q hp
    · rw [if_neg hp, dif_neg hp]
      exact hbig p q hp
  · have e : concatenate S16x1024 0 [⟨S8x1024, select (cmpi .slt (iota .tc S8x1024 32 [0] iota_S8x1024_d0_w32) (broadcast S8x1024 b)) H
          (extractStridedSlice S8x1024 ![0, 0] X slices_S16x1024_o0_0_S8x1024)⟩,
        ⟨S8x1024, extractStridedSlice S8x1024 ![8, 0] X slices_S16x1024_o8_0_S8x1024⟩]
        concatenates_S8x1024_S8x1024_S16x1024_d0 (ix2 p q) = X (ix2 p q) := by
      pointwise
      rw [dif_neg h8]
      exact congrArg (fun p' : Fin 16 => X (ix2 p' q)) (Fin.ext (by show 8 + (p.val - 8) = p.val; omega))
    rw [e, dif_neg (by omega)]
    exact hbig p q (by omega)

/-- The tile from its two moved blocks, its block and the gates. -/
def out (g b : Vec Ideal S1x16x1024 .bf16) (t2 t1 cur : Vec Ideal S16x1024 .f32) (cw : Vec Ideal S3x1024 .f32) : Vec Ideal S1x16x1024 .bf16 :=
  k0_pay1 (F := Ideal) cur
    (addf (mulf t2 (broadcastTo S16x1024 (extractStridedSlice S1x1024 ![0, 0] cw slices_S3x1024_o0_0_S1x1024) broadcasts_S1x1024_S16x1024))
      (mulf t1 (broadcastTo S16x1024 (extractStridedSlice S1x1024 ![1, 0] cw slices_S3x1024_o1_0_S1x1024) broadcasts_S1x1024_S16x1024)))
    (k0_pay7 (F := Ideal) cw) g b

theorem out_apply (g b : Vec Ideal S1x16x1024 .bf16) (t2 t1 cur : Vec Ideal S16x1024 .f32) (cw : Vec Ideal S3x1024 .f32)
    (p : Fin 16) (q : Fin 1024) :
    out g b t2 t1 cur cw (ix3 0 p q)
      = ((g (ix3 0 p q) * sgm (g (ix3 0 p q))) * b (ix3 0 p q))
        * ((t2 (ix2 p q) * cw (ix2 0 q) + t1 (ix2 p q) * cw (ix2 1 q)) + cur (ix2 p q) * cw (ix2 2 q)) := by
  unfold out sgm
  unfold_payloads
  rw [named_log2e]
  rw [← exp2_scaled]
  pointwise
  rfl

/-- The tile of a point from its blocks. -/
theorem tile_apply (g b u v : Vec Ideal S1x16x1024 .bf16) (h : Vec Ideal S1x8x1024 .f32) (cw : Vec Ideal S3x1024 .f32)
    (p : Fin 16) (q : Fin 1024) :
    k0_pay1 (F := Ideal) (k0_pay5 (F := Ideal) u v) (k0_pay6 (F := Ideal) u v (k0_pay4 (F := Ideal) h) cw) (k0_pay7 (F := Ideal) cw) g b (ix3 0 p q)
      = ((g (ix3 0 p q) * sgm (g (ix3 0 p q))) * b (ix3 0 p q))
        * ((tap 2 (by decide) (k0_pay5 (F := Ideal) u v) (k0_pay4 (F := Ideal) h) p q * cw (ix2 0 q)
            + tap 1 (by decide) (k0_pay5 (F := Ideal) u v) (k0_pay4 (F := Ideal) h) p q * cw (ix2 1 q))
          + k0_pay5 (F := Ideal) u v (ix2 p q) * cw (ix2 2 q)) := by
  have e2 := tap_apply 2#32 2 rfl (by decide) (by decide) (k0_pay5 (F := Ideal) u v) (k0_pay4 (F := Ideal) h) p q
  have e1 := tap_apply 1#32 1 rfl (by decide) (by decide) (k0_pay5 (F := Ideal) u v) (k0_pay4 (F := Ideal) h) p q
  refine (out_apply g b _ _ (k0_pay5 (F := Ideal) u v) cw p q).trans ?_
  exact congrArg (fun s : EReal => g (ix3 0 p q) * sgm (g (ix3 0 p q)) * b (ix3 0 p q) * s)
    (congrArg₂ (fun x y : EReal => x * cw (ix2 0 q) + y * cw (ix2 1 q) + k0_pay5 (F := Ideal) u v (ix2 p q) * cw (ix2 2 q)) e2 e1)

end Cert.Kernel7Ideal.Value

end
-- ==== Proof.SampleConv.Value.lean ====
/-
  The value of the sample batch's short convolution (`kernel7`): from the four projections, the rows before the streams
  and the weights, every element of both results; and what its run leaves.
-/
module

public import proofs.«01_k».proof.Proof.SampleConv.Tile

@[expose] public section

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen
open Cert.Kernel3Ideal.Value (sgm)

variable (m : (ℓ : Loc nD τ sig) → Buf (Elt Ideal) ℓ)

/-- The column of one of the four projections. -/
def part (n : Fin 4) (c : Fin 4096) : Fin 16384 := ⟨n.val * 4096 + c.val, by have := n.isLt; have := c.isLt; omega⟩

/-- The gated values. -/
def C (P : S9x16x16384.Idx → EReal) (b : Fin 9) (s : Fin 16) (c : Fin 4096) : EReal :=
  P (ix3 b s (part 2 c)) * P (ix3 b s (part 3 c))

/-- The gated values `d` rows back, before the stream's first row those of the history. -/
def B (d : ℕ) (hd : d ≤ 8) (P : S9x16x16384.Idx → EReal) (H : S9x8x4096.Idx → EReal) (b : Fin 9) (s : Fin 16) (c : Fin 4096) : EReal :=
  if hs : s.val < d then H (ix3 b ⟨8 + s.val - d, by omega⟩ c) else C P b ⟨s.val - d, by omega⟩ c

/-- The gated convolution at an element. -/
def E (P : S9x16x16384.Idx → EReal) (H : S9x8x4096.Idx → EReal) (W : S3x4096.Idx → EReal) (b : Fin 9) (s : Fin 16) (c : Fin 4096) : EReal :=
  ((P (ix3 b s (part 0 c)) * sgm (P (ix3 b s (part 0 c)))) * P (ix3 b s (part 1 c)))
    * ((B 2 (by decide) P H b s c * W (ix2 0 c) + B 1 (by decide) P H b s c * W (ix2 1 c)) + C P b s c * W (ix2 2 c))

/-- The first result. -/
def G (P : S9x16x16384.Idx → EReal) (H : S9x8x4096.Idx → EReal) (W : S3x4096.Idx → EReal) : S9x16x4096.Idx → EReal :=
  fun i => E P H W (i 0) (i 1) (i 2)

/-- The second result: the last eight rows of the gated values. -/
def Ge (P : S9x16x16384.Idx → EReal) : S9x8x4096.Idx → EReal :=
  fun i => C P (i 0) ⟨8 + (i 1).val, by have h : (i 1).val < 8 := (i 1).isLt; omega⟩ (i 2)

/-- The first result over the launch's arguments. -/
def GM (c : Dev nD) : S9x16x4096.Idx → EReal :=
  G (m ((c : Thread nD τ).loc main_arg0)) (m ((c : Thread nD τ).loc main_arg1)) (m ((c : Thread nD τ).loc main_arg2))

/-- The second result over the launch's arguments. -/
def GMe (c : Dev nD) : S9x8x4096.Idx → EReal := Ge (m ((c : Thread nD τ).loc main_arg0))

/-- The stream and the first column of a point's blocks. -/
theorem idx : ∀ t : Fin cfg0.N,
    (win0_0.index t 0 = t.val / 4 ∧ win0_0.index t 1 = 0 ∧ win0_0.index t 2 = t.val % 4)
    ∧ (win0_1.index t 0 = t.val / 4 ∧ win0_1.index t 1 = 0 ∧ win0_1.index t 2 = 4 + t.val % 4)
    ∧ (win0_2.index t 0 = t.val / 4 ∧ win0_2.index t 1 = 0 ∧ win0_2.index t 2 = 8 + t.val % 4)
    ∧ (win0_3.index t 0 = t.val / 4 ∧ win0_3.index t 1 = 0 ∧ win0_3.index t 2 = 12 + t.val % 4)
    ∧ (win0_4.index t 0 = t.val / 4 ∧ win0_4.index t 1 = 0 ∧ win0_4.index t 2 = t.val % 4)
    ∧ (win0_5.index t 0 = 0 ∧ win0_5.index t 1 = t.val % 4)
    ∧ (win0_6.index t 0 = t.val / 4 ∧ win0_6.index t 1 = 0 ∧ win0_6.index t 2 = t.val % 4)
    ∧ (win0_7.index t 0 = t.val / 4 ∧ win0_7.index t 1 = 0 ∧ win0_7.index t 2 = t.val % 4) := by
  decide +kernel

theorem lt_36 (t : Fin cfg0.N) : t.val < 36 := lt_of_lt_of_eq t.isLt N_0

/-- The stream of a point. -/
def bt (t : Fin cfg0.N) : Fin 9 := ⟨t.val / 4, by have := lt_36 t; omega⟩

/-- A column of a point's blocks. -/
def ct (t : Fin cfg0.N) (q : Fin 1024) : Fin 4096 := ⟨t.val % 4 * 1024 + q.val, by have := q.isLt; omega⟩

theorem iblk0 (c : Dev nD) (t : Fin cfg0.N) (p : Fin 16) (q : Fin 1024) :
    (iblk m c 0 t : Vec Ideal S1x16x1024 .bf16) (ix3 0 p q) = m ((c : Thread nD τ).loc main_arg0) (ix3 (bt t) p (part 0 (ct t q))) := by
  obtain ⟨⟨e0, e1, e2⟩, -⟩ := idx t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 4; rw [e0]; omega
  | ⟨1, _⟩ => show win0_0.index t 1 * 16 + 1 * p.val = p.val; rw [e1]; omega
  | ⟨2, _⟩ => show win0_0.index t 2 * 1024 + 1 * q.val = 0 * 4096 + (t.val % 4 * 1024 + q.val); rw [e2]; omega

theorem iblk1 (c : Dev nD) (t : Fin cfg0.N) (p : Fin 16) (q : Fin 1024) :
    (iblk m c 1 t : Vec Ideal S1x16x1024 .bf16) (ix3 0 p q) = m ((c : Thread nD τ).loc main_arg0) (ix3 (bt t) p (part 1 (ct t q))) := by
  obtain ⟨-, ⟨e0, e1, e2⟩, -⟩ := idx t
  unfold iblk
  rw [View.read_apply]
  show V m c main_arg0 _ = m (c.tc.loc main_arg0) _
  rw [V_main_arg0]
  congr 1
  funext a
  apply Fin.ext
  match a with
  | ⟨0, _⟩ => show win0_1.index t 0 * 1 + 1 * 0 = t.val / 4; rw [e0]; omega
  | ⟨1, _⟩ => show win0_1.index t 1 * 16 + 1 * p.val = p.val; rw [e1]; omega
  | ⟨2, _⟩ => show win0_1.index t 2 * 1024 + 1 * q.val = 1 * 4096 + (t.val % 4 * 1024 + q.val); rw [e2]; omega

theorem iblk2 (c : Dev nD) (t : Fin cfg0.N) (p : Fin 16) (q : Fin 1024) :
    (iblk m c 2 t : Vec Ideal S1x16x1024 .bf16) (ix3 0 p q) = m ((c : Thread nD τ).loc main_arg0) (ix3 (bt t) p (part 2 (ct t q))) := by
  obtain ⟨-, -, ⟨e0, e1, e2⟩, -⟩ := idx t
  unfold iblk
  rw [View.read_apply]
  show V m c main_arg0 _ = m (c.tc.loc main_arg0) _
  rw [V_main_arg0]
  congr 1
  funext a
  apply Fin.ext
  match a with
  | ⟨0, _⟩ => show win0_2.index t 0 * 1 + 1 * 0 = t.val / 4; rw [e0]; omega
  | ⟨1, _⟩ => show win0_2.index t 1 * 16 + 1 * p.val = p.val; rw [e1]; omega
  | ⟨2, _⟩ => show win0_2.index t 2 * 1024 + 1 * q.val = 2 * 4096 + (t.val % 4 * 1024 + q.val); rw [e2]; omega

theorem iblk3 (c : Dev nD) (t : Fin cfg0.N) (p : Fin 16) (q : Fin 1024) :
    (iblk m c 3 t : Vec Ideal S1x16x1024 .bf16) (ix3 0 p q) = m ((c : Thread nD τ).loc main_arg0) (ix3 (bt t) p (part 3 (ct t q))) := by
  obtain ⟨-, -, -, ⟨e0, e1, e2⟩, -⟩ := idx t
  unfold iblk
  rw [View.read_apply]
  show V m c main_arg0 _ = m (c.tc.loc main_arg0) _
  rw [V_main_arg0]
  congr 1
  funext a
  apply Fin.ext
  match a with
  | ⟨0, _⟩ => show win0_3.index t 0 * 1 + 1 * 0 = t.val / 4; rw [e0]; omega
  | ⟨1, _⟩ => show win0_3.index t 1 * 16 + 1 * p.val = p.val; rw [e1]; omega
  | ⟨2, _⟩ => show win0_3.index t 2 * 1024 + 1 * q.val = 3 * 4096 + (t.val % 4 * 1024 + q.val); rw [e2]; omega

theorem iblk4 (c : Dev nD) (t : Fin cfg0.N) (p : Fin 8) (q : Fin 1024) :
    (iblk m c 4 t : Vec Ideal S1x8x1024 .f32) (ix3 0 p q) = m ((c : Thread nD τ).loc main_arg1) (ix3 (bt t) p (ct t q)) := by
  obtain ⟨-, -, -, -, ⟨e0, e1, e2⟩, -⟩ := idx t
  unfold iblk
  rw [View.read_apply]
  show V m c main_arg1 _ = m (c.tc.loc main_arg1) _
  rw [V_main_arg1]
  congr 1
  funext a
  apply Fin.ext
  match a with
  | ⟨0, _⟩ => show win0_4.index t 0 * 1 + 1 * 0 = t.val / 4; rw [e0]; omega
  | ⟨1, _⟩ => show win0_4.index t 1 * 8 + 1 * p.val = p.val; rw [e1]; omega
  | ⟨2, _⟩ => show win0_4.index t 2 * 1024 + 1 * q.val = t.val % 4 * 1024 + q.val; rw [e2]; omega

theorem iblk5 (c : Dev nD) (t : Fin cfg0.N) (p : Fin 3) (q : Fin 1024) :
    (iblk m c 5 t : Vec Ideal S3x1024 .f32) (ix2 p q) = m ((c : Thread nD τ).loc main_arg2) (ix2 p (ct t q)) := by
  obtain ⟨-, -, -, -, -, ⟨e0, e1⟩, -⟩ := idx t
  unfold iblk
  rw [View.read_apply]
  show V m c main_arg2 _ = m (c.tc.loc main_arg2) _
  rw [V_main_arg2]
  congr 1
  funext a
  apply Fin.ext
  match a with
  | ⟨0, _⟩ => show win0_5.index t 0 * 3 + 1 * p.val = p.val; rw [e0]; omega
  | ⟨1, _⟩ => show win0_5.index t 1 * 1024 + 1 * q.val = t.val % 4 * 1024 + q.val; rw [e1]; omega

/-- The gated values of a point's blocks. -/
theorem cur_eq (c : Dev nD) (t : Fin cfg0.N) (p : Fin 16) (q : Fin 1024) :
    k0_pay5 (F := Ideal) (iblk m c 2 t) (iblk m c 3 t) (ix2 p q) = C (m ((c : Thread nD τ).loc main_arg0)) (bt t) p (ct t q) :=
  (pay5_apply _ _ p q).trans (congrArg₂ (fun a b : EReal => a * b) (iblk2 m c t p q) (iblk3 m c t p q))

/-- The taps of a point's blocks. -/
theorem tap_eq (d : ℕ) (hd : d ≤ 8) (c : Dev nD) (t : Fin cfg0.N) (p : Fin 16) (q : Fin 1024) :
    tap d hd (k0_pay5 (F := Ideal) (iblk m c 2 t) (iblk m c 3 t)) (k0_pay4 (F := Ideal) (iblk m c 4 t)) p q
      = B d hd (m ((c : Thread nD τ).loc main_arg0)) (m ((c : Thread nD τ).loc main_arg1)) (bt t) p (ct t q) := by
  unfold tap B
  by_cases hp : p.val < d
  · rw [dif_pos hp, dif_pos hp]
    exact (pay4_apply _ _ q).trans (iblk4 m c t _ q)
  · rw [dif_neg hp, dif_neg hp]
    exact cur_eq m c t _ q

/-- The tile a point computes. -/
theorem point (c : Dev nD) (t : Fin cfg0.N) (p : Fin 16) (q : Fin 1024) :
    (outsAt0 m c t).1 (ix3 0 p q)
      = E (m ((c : Thread nD τ).loc main_arg0)) (m ((c : Thread nD τ).loc main_arg1)) (m ((c : Thread nD τ).loc main_arg2)) (bt t) p (ct t q) := by
  rw [outs6]
  refine (tile_apply _ _ _ _ _ _ p q).trans ?_
  unfold E
  exact congrArg₂ (fun a b : EReal => a * b)
    (congrArg₂ (fun g b : EReal => g * sgm g * b) (iblk0 m c t p q) (iblk1 m c t p q))
    (congrArg₂ (fun a b : EReal => a + b)
      (congrArg₂ (fun a b : EReal => a + b)
        (congrArg₂ (fun a b : EReal => a * b) (tap_eq m 2 _ c t p q) (iblk5 m c t 0 q))
        (congrArg₂ (fun a b : EReal => a * b) (tap_eq m 1 _ c t p q) (iblk5 m c t 1 q)))
      (congrArg₂ (fun a b : EReal => a * b) (cur_eq m c t p q) (iblk5 m c t 2 q)))

/-- The last rows a point computes. -/
theorem pointe (c : Dev nD) (t : Fin cfg0.N) (s : Fin 8) (q : Fin 1024) :
    (outsAt0 m c t).2 (ix3 0 s q) = C (m ((c : Thread nD τ).loc main_arg0)) (bt t) ⟨8 + s.val, by omega⟩ (ct t q) := by
  rw [outs7]
  exact (pay32_apply _ s q).trans (cur_eq m c t _ q)

/-- The tile a point computes for window 6, at an element of the array. -/
theorem point6 (c : Dev nD) (t : Fin cfg0.N) (j : S1x16x1024.Idx) (i : S9x16x4096.Idx)
    (h0 : (i 0).val = t.val / 4) (h1 : (i 1).val = (j 1).val) (h2 : (i 2).val = t.val % 4 * 1024 + (j 2).val) :
    (outsAt0 m c t).1 j = GM m c i := by
  have ej : j = ix3 0 (j 1) (j 2) := by
    funext a
    match a with
    | ⟨0, _⟩ => exact Fin.ext (by show (j 0).val = 0; have h : (j 0).val < 1 := (j 0).isLt; omega)
    | ⟨1, _⟩ => rfl
    | ⟨2, _⟩ => rfl
  have e0 : bt t = i 0 := Fin.ext h0.symm
  have e2 : ct t (j 2) = i 2 := Fin.ext h2.symm
  have e1 : (j 1 : Fin 16) = i 1 := Fin.ext h1.symm
  rw [ej]
  refine (point m c t (j 1) (j 2)).trans ?_
  rw [e0, e1, e2]
  rfl

theorem flushed6_eq (c : Dev nD) (t : Fin cfg0.N) :
    (dats m 0 c).flushed 6 t = ((cfg0.win 6).blk t).view.read (Elt Ideal) (GM m c) := by
  obtain ⟨-, -, -, -, -, -, ⟨e0, e1, e2⟩, -⟩ := idx t
  rw [flushed6]
  funext j
  rw [View.read_apply]
  refine point6 m c t j _ ?_ ?_ ?_
  · show win0_6.index t 0 * 1 + 1 * (j 0).val = _
    have hj : (j 0).val < 1 := (j 0).isLt
    rw [e0]; omega
  · show win0_6.index t 1 * 16 + 1 * (j 1).val = _; rw [e1]; omega
  · show win0_6.index t 2 * 1024 + 1 * (j 2).val = _; rw [e2]; omega

/-- The tile a point computes for window 7, at an element of the array. -/
theorem point7 (c : Dev nD) (t : Fin cfg0.N) (j : S1x8x1024.Idx) (i : S9x8x4096.Idx)
    (h0 : (i 0).val = t.val / 4) (h1 : (i 1).val = (j 1).val) (h2 : (i 2).val = t.val % 4 * 1024 + (j 2).val) :
    (outsAt0 m c t).2 j = GMe m c i := by
  have ej : j = ix3 0 (j 1) (j 2) := by
    funext a
    match a with
    | ⟨0, _⟩ => exact Fin.ext (by show (j 0).val = 0; have h : (j 0).val < 1 := (j 0).isLt; omega)
    | ⟨1, _⟩ => rfl
    | ⟨2, _⟩ => rfl
  have e0 : bt t = i 0 := Fin.ext h0.symm
  have e2 : ct t (j 2) = i 2 := Fin.ext h2.symm
  have e1 : (⟨8 + (j 1).val, by have h : (j 1).val < 8 := (j 1).isLt; omega⟩ : Fin 16) = ⟨8 + (i 1).val, by have h : (i 1).val < 8 := (i 1).isLt; omega⟩ :=
    Fin.ext (by show 8 + (j 1).val = 8 + (i 1).val; omega)
  rw [ej]
  refine (pointe m c t (j 1) (j 2)).trans ?_
  rw [e0, e2]
  exact congrArg (fun a : Fin 16 => C (m ((c : Thread nD τ).loc main_arg0)) (i 0) a (i 2)) e1

theorem flushed7_eq (c : Dev nD) (t : Fin cfg0.N) :
    (dats m 0 c).flushed 7 t = ((cfg0.win 7).blk t).view.read (Elt Ideal) (GMe m c) := by
  obtain ⟨-, -, -, -, -, -, -, ⟨e0, e1, e2⟩⟩ := idx t
  rw [flushed7]
  funext j
  rw [View.read_apply]
  refine point7 m c t j _ ?_ ?_ ?_
  · show win0_7.index t 0 * 1 + 1 * (j 0).val = _
    have hj : (j 0).val < 1 := (j 0).isLt
    rw [e0]; omega
  · show win0_7.index t 1 * 8 + 1 * (j 1).val = _; rw [e1]; omega
  · show win0_7.index t 2 * 1024 + 1 * (j 2).val = _; rw [e2]; omega

/-- The point whose blocks hold a column of a stream. -/
def pt (b : Fin 9) (c : Fin 4096) : Fin cfg0.N :=
  ⟨b.val * 4 + c.val / 1024, by have := b.isLt; have := c.isLt; rw [show cfg0.N = 36 from N_0]; omega⟩

theorem pt_div (b : Fin 9) (c : Fin 4096) : (pt b c).val / 4 = b.val ∧ (pt b c).val % 4 = c.val / 1024 := by
  have := c.isLt
  show (b.val * 4 + c.val / 1024) / 4 = b.val ∧ (b.val * 4 + c.val / 1024) % 4 = c.val / 1024
  omega

theorem final6 (c : Dev nD) : (dats m 0 c).arrAt 6 cfg0.N = GM m c :=
  (dats m 0 c).arrAt_eq_of_cover 6 (GM m c) (fun t _ => flushed6_eq m c t) fun i =>
    ⟨pt (i 0) (i 2), flush0_6 _, by
      show i ∈ ((View.whole main_v0_0).slice (win0_6.rect (pt (i 0) (i 2)))).set
      obtain ⟨-, -, -, -, -, -, ⟨e0, e1, e2⟩, -⟩ := idx (pt (i 0) (i 2))
      obtain ⟨p0, p1⟩ := pt_div (i 0) (i 2)
      have h1 : (i 1 : Nat) < 16 := (i 1).isLt
      rw [View.set_slice_whole, Rect.mem_set_unit]
      intro a
      match a with
      | ⟨0, _⟩ => show win0_6.index (pt (i 0) (i 2)) 0 * 1 ≤ (i 0 : Nat) ∧ (i 0 : Nat) < win0_6.index (pt (i 0) (i 2)) 0 * 1 + 1
                  rw [e0, p0]; omega
      | ⟨1, _⟩ => show win0_6.index (pt (i 0) (i 2)) 1 * 16 ≤ (i 1 : Nat) ∧ (i 1 : Nat) < win0_6.index (pt (i 0) (i 2)) 1 * 16 + 16
                  rw [e1]; omega
      | ⟨2, _⟩ => show win0_6.index (pt (i 0) (i 2)) 2 * 1024 ≤ (i 2 : Nat) ∧ (i 2 : Nat) < win0_6.index (pt (i 0) (i 2)) 2 * 1024 + 1024
                  rw [e2, p1]; omega⟩

theorem final7 (c : Dev nD) : (dats m 0 c).arrAt 7 cfg0.N = GMe m c :=
  (dats m 0 c).arrAt_eq_of_cover 7 (GMe m c) (fun t _ => flushed7_eq m c t) fun i =>
    ⟨pt (i 0) (i 2), flush0_7 _, by
      show i ∈ ((View.whole main_v0_1).slice (win0_7.rect (pt (i 0) (i 2)))).set
      obtain ⟨-, -, -, -, -, -, -, ⟨e0, e1, e2⟩⟩ := idx (pt (i 0) (i 2))
      obtain ⟨p0, p1⟩ := pt_div (i 0) (i 2)
      have h1 : (i 1 : Nat) < 8 := (i 1).isLt
      rw [View.set_slice_whole, Rect.mem_set_unit]
      intro a
      match a with
      | ⟨0, _⟩ => show win0_7.index (pt (i 0) (i 2)) 0 * 1 ≤ (i 0 : Nat) ∧ (i 0 : Nat) < win0_7.index (pt (i 0) (i 2)) 0 * 1 + 1
                  rw [e0, p0]; omega
      | ⟨1, _⟩ => show win0_7.index (pt (i 0) (i 2)) 1 * 8 ≤ (i 1 : Nat) ∧ (i 1 : Nat) < win0_7.index (pt (i 0) (i 2)) 1 * 8 + 8
                  rw [e1]; omega
      | ⟨2, _⟩ => show win0_7.index (pt (i 0) (i 2)) 2 * 1024 ≤ (i 2 : Nat) ∧ (i 2 : Nat) < win0_7.index (pt (i 0) (i 2)) 2 * 1024 + 1024
                  rw [e2, p1]; omega⟩

/-- The kernel's run: the results are `GM` and `GMe`, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GMe m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final6 m c), (h c).2.1.trans (final7 m c), (h c).2.2⟩) (run_blocks m ρ)

end Cert.Kernel7Ideal.Value

end
-- ==== Proof.SampleConv.Ref.lean ====
/-
  The reference of the sample batch's short convolution, element by element.
-/
module

public import proofs.«01_k».proof.Proof.SampleConv.Value
public import proofs.«01_k».proof.Proof.Gen.Reference7Ideal.Run

@[expose] public section

noncomputable section

open Idealize.ShloMosaic Idealize.ShloMosaic.TcCoe Idealize.SL.Sem

namespace Cert.Reference7Ideal.Value

open Cert.Reference7Ideal Cert.Reference7Ideal.Gen
open Cert.Kernel7Ideal.Value (part C B E G Ge)
open Cert.Kernel3Ideal.Value (sgm)

/-- The gated values over all rows. -/
def cv (P : FVec Ideal S9x16x16384 .f32) : FVec Ideal S9x16x4096 .f32 :=
  mulf (extractStridedSlice S9x16x4096 ![0, 0, 8192] P slices_S9x16x16384_S9x16x4096_0_0_8192) (extractStridedSlice S9x16x4096 ![0, 0, 12288] P slices_S9x16x16384_S9x16x4096_0_0_12288)

theorem cv_apply (P : FVec Ideal S9x16x16384 .f32) (b : Fin 9) (s : Fin 16) (c : Fin 4096) :
    cv P (ix3 b s c) = C P b s c := by
  unfold cv C part
  pointwise

/-- Every stream with the history's last two rows before it. -/
def full (x : FVec Ideal S9x16x4096 .f32) (H : FVec Ideal S9x8x4096 .f32) : FVec Ideal S9x18x4096 .f32 :=
  concatenate S9x18x4096 1 [⟨S9x2x4096, (extractStridedSlice S9x2x4096 ![0, 6, 0] H slices_S9x8x4096_S9x2x4096_0_6_0)⟩, ⟨S9x16x4096, x⟩] concatenates_S9x2x4096_S9x16x4096_S9x18x4096_d1

theorem full_apply (x : FVec Ideal S9x16x4096 .f32) (H : FVec Ideal S9x8x4096 .f32) (b : Fin 9) (s : Fin 18) (c : Fin 4096) :
    full x H (ix3 b s c) = if hs : s.val < 2 then H (ix3 b ⟨6 + s.val, by omega⟩ c)
      else x (ix3 b ⟨s.val - 2, by have := s.isLt; omega⟩ c) := by
  unfold full
  pointwise

/-- The convolution over the streams. -/
def conv (X : FVec Ideal S9x18x4096 .f32) (W : FVec Ideal S3x4096 .f32) : FVec Ideal S9x16x4096 .f32 :=
  addf (addf (mulf (extractStridedSlice S9x16x4096 ![0, 0, 0] X slices_S9x18x4096_S9x16x4096_0_0_0) (broadcastInDim S9x16x4096 ![0, 1, 2] bcast_S1x1x4096_S9x16x4096_0_1_2 (broadcastInDim S1x1x4096 ![2] bcast_S4096_S1x1x4096_2 (shapeCast _ (extractStridedSlice S1x4096 ![0, 0] W slices_S3x4096_S1x4096_0_0) shapeCasts_S1x4096_S4096)))) (mulf (extractStridedSlice S9x16x4096 ![0, 1, 0] X slices_S9x18x4096_S9x16x4096_0_1_0) (broadcastInDim S9x16x4096 ![0, 1, 2] bcast_S1x1x4096_S9x16x4096_0_1_2 (broadcastInDim S1x1x4096 ![2] bcast_S4096_S1x1x4096_2 (shapeCast _ (extractStridedSlice S1x4096 ![1, 0] W slices_S3x4096_S1x4096_1_0) shapeCasts_S1x4096_S4096))))) (mulf (extractStridedSlice S9x16x4096 ![0, 2, 0] X slices_S9x18x4096_S9x16x4096_0_2_0) (broadcastInDim S9x16x4096 ![0, 1, 2] bcast_S1x1x4096_S9x16x4096_0_1_2 (broadcastInDim S1x1x4096 ![2] bcast_S4096_S1x1x4096_2 (shapeCast _ (extractStridedSlice S1x4096 ![2, 0] W slices_S3x4096_S1x4096_2_0) shapeCasts_S1x4096_S4096))))

theorem conv_apply (X : FVec Ideal S9x18x4096 .f32) (W : FVec Ideal S3x4096 .f32) (b : Fin 9) (s : Fin 16) (c : Fin 4096) :
    conv X W (ix3 b s c)
      = (X (ix3 b ⟨s.val, by omega⟩ c) * W (ix2 0 c) + X (ix3 b ⟨1 + s.val, by omega⟩ c) * W (ix2 1 c))
        + X (ix3 b ⟨2 + s.val, by omega⟩ c) * W (ix2 2 c) := by
  unfold conv
  pointwise

/-- The first result. -/
def R0 (P : FVec Ideal S9x16x16384 .f32) (H : FVec Ideal S9x8x4096 .f32) (W : FVec Ideal S3x4096 .f32) : FVec Ideal S9x16x4096 .bf16 :=
  truncf .bf16 (mulf (mulf (mulf (extractStridedSlice S9x16x4096 ![0, 0, 0] P slices_S9x16x16384_S9x16x4096_0_0_0) (Host.divf (broadcastInDim S9x16x4096 ![] bcast_S_S9x16x4096 (constant S_ .f32 0x3F800000#32)) (addf (broadcastInDim S9x16x4096 ![] bcast_S_S9x16x4096 (constant S_ .f32 0x3F800000#32)) (Host.exp (Host.negf (extractStridedSlice S9x16x4096 ![0, 0, 0] P slices_S9x16x16384_S9x16x4096_0_0_0)))))) (extractStridedSlice S9x16x4096 ![0, 0, 4096] P slices_S9x16x16384_S9x16x4096_0_0_4096)) (conv (full (cv P) H) W)) bitsLt_bf16_f32

theorem R0_apply (P : FVec Ideal S9x16x16384 .f32) (H : FVec Ideal S9x8x4096 .f32) (W : FVec Ideal S3x4096 .f32)
    (b : Fin 9) (s : Fin 16) (c : Fin 4096) :
    R0 P H W (ix3 b s c)
      = ((P (ix3 b s (part 0 c)) * sgm (P (ix3 b s (part 0 c)))) * P (ix3 b s (part 1 c)))
        * conv (full (cv P) H) W (ix3 b s c) := by
  unfold R0 sgm part
  generalize conv (full (cv P) H) W = x
  pointwise

/-- The second result. -/
def R1 (P : FVec Ideal S9x16x16384 .f32) : FVec Ideal S9x8x4096 .f32 :=
  extractStridedSlice S9x8x4096 ![0, 8, 0] (cv P) slices_S9x16x4096_S9x8x4096_0_8_0

theorem R1_apply (P : FVec Ideal S9x16x16384 .f32) (b : Fin 9) (s : Fin 8) (c : Fin 4096) :
    R1 P (ix3 b s c) = cv P (ix3 b ⟨8 + s.val, by omega⟩ c) := by
  unfold R1
  generalize cv P = x
  pointwise

/-- The streams with the history before them, read `d` rows back. -/
theorem full_eq (n d : ℕ) (hd : d ≤ 8) (hn : n + d = 2) (P : FVec Ideal S9x16x16384 .f32) (H : FVec Ideal S9x8x4096 .f32)
    (b : Fin 9) (s : Fin 16) (c : Fin 4096) (u : Fin 18) (hu : u.val = n + s.val) :
    full (cv P) H (ix3 b u c) = B d hd P H b s c := by
  rw [full_apply]
  unfold Cert.Kernel7Ideal.Value.B
  by_cases h2 : u.val < 2
  · rw [dif_pos h2, dif_pos (by omega)]
    exact congrArg (fun a : Fin 8 => H (ix3 b a c)) (Fin.ext (by show 6 + u.val = 8 + s.val - d; omega))
  · rw [dif_neg h2, dif_neg (by omega)]
    refine (cv_apply P b _ c).trans (congrArg (fun a : Fin 16 => C P b a c) (Fin.ext ?_))
    show u.val - 2 = s.val - d
    omega

theorem B_zero (P : S9x16x16384.Idx → EReal) (H : S9x8x4096.Idx → EReal) (b : Fin 9) (s : Fin 16) (c : Fin 4096) :
    B 0 (by decide) P H b s c = C P b s c := by
  unfold Cert.Kernel7Ideal.Value.B
  rw [dif_neg (by omega)]
  rfl

theorem conv_eq (P : FVec Ideal S9x16x16384 .f32) (H : FVec Ideal S9x8x4096 .f32) (W : FVec Ideal S3x4096 .f32)
    (b : Fin 9) (s : Fin 16) (c : Fin 4096) :
    conv (full (cv P) H) W (ix3 b s c)
      = (B 2 (by decide) P H b s c * W (ix2 0 c) + B 1 (by decide) P H b s c * W (ix2 1 c)) + C P b s c * W (ix2 2 c) := by
  refine (conv_apply _ W b s c).trans ?_
  have f2 := full_eq 0 2 (by decide) rfl P H b s c ⟨s.val, by omega⟩ (by show s.val = 0 + s.val; omega)
  have f1 := full_eq 1 1 (by decide) rfl P H b s c ⟨1 + s.val, by omega⟩ rfl
  have f0 := (full_eq 2 0 (by decide) rfl P H b s c ⟨2 + s.val, by omega⟩ rfl).trans (B_zero P H b s c)
  exact congrArg₂ (fun a b : EReal => a + b)
    (congrArg₂ (fun a b : EReal => a * W (ix2 0 c) + b * W (ix2 1 c)) f2 f1)
    (congrArg (fun a : EReal => a * W (ix2 2 c)) f0)

/-- The reference's first result, element by element: the kernel's. -/
theorem ref_eq (P : FVec Ideal S9x16x16384 .f32) (H : FVec Ideal S9x8x4096 .f32) (W : FVec Ideal S3x4096 .f32) :
    R0 P H W = G P H W := by
  funext i
  have ei : i = ix3 (i 0) (i 1) (i 2) := by funext a; match a with | ⟨0, _⟩ => rfl | ⟨1, _⟩ => rfl | ⟨2, _⟩ => rfl
  refine (congrArg (R0 P H W) ei).trans ((R0_apply P H W (i 0) (i 1) (i 2)).trans ?_)
  exact congrArg (fun x : EReal => P (ix3 (i 0) (i 1) (part 0 (i 2))) * sgm (P (ix3 (i 0) (i 1) (part 0 (i 2)))) * P (ix3 (i 0) (i 1) (part 1 (i 2))) * x)
    (conv_eq P H W (i 0) (i 1) (i 2))

/-- The reference's second result, element by element: the kernel's. -/
theorem ref_eqe (P : FVec Ideal S9x16x16384 .f32) : R1 P = Ge P := by
  funext i
  have ei : i = ix3 (i 0) (i 1) (i 2) := by funext a; match a with | ⟨0, _⟩ => rfl | ⟨1, _⟩ => rfl | ⟨2, _⟩ => rfl
  exact (congrArg (R1 P) ei).trans ((R1_apply P (i 0) (i 1) (i 2)).trans (cv_apply P (i 0) _ (i 2)))

end Cert.Reference7Ideal.Value

end
-- ==== Proof.NormValue8.lean ====
/-
  The value of the root-mean-square normalisation of the sample batch (`kernel8`: `_rmsnorm`): every element of the result is the input's
  element times the reciprocal root mean square of its row times the weight of its column, and the reference's is the same.
-/
module

public import proofs.«01_k».proof.Proof.Gen.Kernel8Ideal.Value
public import proofs.«01_k».proof.Proof.Gen.Reference8Ideal.Run
public import proofs.«01_k».proof.Proof.Rms
public import Idealize.ShloMosaic.Lib.Pipeline.Value
public import Idealize.ShloMosaic.Lib.KernelVsHost
public import Idealize.ShloMosaic.Lib.Pointwise
public import Idealize.ShloMosaic.Lib.Claim
public import Idealize.ShloMosaic.Lib.Tactic

@[expose] public section

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Rms

variable (m : (ℓ : Loc nD τ sig) → Buf (Elt Ideal) ℓ)

theorem hz : (![0, 0] : Fin 2 → Nat) = fun _ => 0 := funext fun a => by fin_cases a <;> rfl

/-- The result, element by element. -/
def G (x : S144x4096.Idx → EReal) (w : S4096.Idx → EReal) : S144x4096.Idx → EReal :=
  fun i => x i * sc (fun k => x (ix2 (i 0) k)) * w (ix1 (i 1))

/-- The result over the launch's arguments. -/
def GM (c : Dev nD) : S144x4096.Idx → EReal :=
  G (m ((c : Thread nD τ).loc main_arg0)) (m ((c : Thread nD τ).loc main_arg1))

/-- What the body computes of its two blocks. -/
theorem pay1_apply (v0 : Vec Ideal S144x4096 .f32) (v1 : Vec Ideal S1x4096 .f32) (j : S144x4096.Idx) :
    k0_pay1 v0 v1 j = v0 j * sc (fun k => v0 (ix2 (j 0) k)) * v1 (ix2 0 (j 1)) := by
  unfold_payloads
  unfold sc
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 := by
  decide +kernel

theorem iblk0 (c : Dev nD) (t : Fin cfg0.N) (j : S144x4096.Idx) (i : S144x4096.Idx)
    (h0 : (i 0).val = t.val * 144 + (j 0).val) (h1 : (i 1).val = (j 1).val) :
    (iblk m c 0 t : Vec Ideal S144x4096 .f32) j = m ((c : Thread nD τ).loc main_arg0) i := by
  obtain ⟨e0, e1, -⟩ := idx t
  unfold iblk
  rw [View.read_apply]
  show V m c main_arg0 _ = m (c.tc.loc main_arg0) _
  rw [V_main_arg0]
  congr 1
  funext a
  apply Fin.ext
  match a with
  | ⟨0, _⟩ => show win0_0.index t 0 * 144 + 1 * (j 0).val = (i 0).val; rw [e0, h0]; omega
  | ⟨1, _⟩ => show win0_0.index t 1 * 4096 + 1 * (j 1).val = (i 1).val; rw [e1, h1]; omega

/-- The weight as the region finds it: the argument, its row laid out as a 1 by 4096 array. -/
theorem V_v0 (c : Dev nD) : (V m c main_v0 : S1x4096.Idx → EReal)
    = shapeCast S1x4096 (m ((c : Thread nD τ).loc main_arg1) : S4096.Idx → EReal) shapeCasts_S4096_S1x4096 := by
  show StableHlo.after hostOps0 (fun b => m (c, b)) main_v0 = _
  after_results
  rfl

theorem iblk1 (c : Dev nD) (t : Fin cfg0.N) (j : S1x4096.Idx) :
    (iblk m c 1 t : Vec Ideal S1x4096 .f32) j = m ((c : Thread nD τ).loc main_arg1) (ix1 (j 1)) := by
  obtain ⟨-, -, e0, e1, -⟩ := idx t
  unfold iblk
  rw [View.read_apply]
  show (V m c main_v0 : S1x4096.Idx → EReal) _ = m (c.tc.loc main_arg1) _
  rw [V_v0]
  refine shapeCast_apply _ _ _ _ ?_
  refine (Shape.rowMajor_val_one _).trans (Eq.trans ?_ (Shape.rowMajor_val_two _).symm)
  have hj : (j 0 : Nat) < 1 := (j 0).isLt
  show (j 1).val = (win0_1.index t 0 * 1 + 1 * (j 0).val) * 4096 + (win0_1.index t 1 * 4096 + 1 * (j 1).val)
  rw [e0, e1]; omega

/-- The block of the result a point computes. -/
theorem point (c : Dev nD) (t : Fin cfg0.N) (j : S144x4096.Idx) (i : S144x4096.Idx)
    (h0 : (i 0).val = t.val * 144 + (j 0).val) (h1 : (i 1).val = (j 1).val) :
    k0_pay1 (iblk m c 0 t : Vec Ideal S144x4096 .f32) (iblk m c 1 t : Vec Ideal S1x4096 .f32) j = GM m c i := by
  have e : (fun k : Fin 4096 => (iblk m c 0 t : Vec Ideal S144x4096 .f32) (ix2 (j 0) k))
      = fun k => m ((c : Thread nD τ).loc main_arg0) (ix2 (i 0) k) :=
    funext fun k => iblk0 m c t (ix2 (j 0) k) (ix2 (i 0) k) h0 rfl
  have e1 : (j 1 : Fin 4096) = (i 1 : Fin 4096) := Fin.ext h1.symm
  refine (pay1_apply _ _ j).trans (congrArg₂ (fun a b : EReal => a * b)
    (congrArg₂ (fun a b : EReal => a * b) (iblk0 m c t j i h0 h1) (congrArg sc e)) ?_)
  refine (iblk1 m c t _).trans ?_
  show m ((c : Thread nD τ).loc main_arg1) (ix1 (j 1 : Fin 4096)) = m ((c : Thread nD τ).loc main_arg1) (ix1 (i 1 : Fin 4096))
  rw [e1]

theorem out2_eq (x0 : Vec Ideal S144x4096 .f32) (x1 : Vec Ideal S1x4096 .f32) :
    out0_2 x0 x1 = k0_pay1 x0 x1 := by
  unfold out0_2
  rw [View.canon_unit_zero hz, View.ld_unit_zero hz, View.ld_unit_zero hz]

theorem flushed2_eq (c : Dev nD) (t : Fin cfg0.N) :
    (dats m 0 c).flushed 2 t = ((cfg0.win 2).blk t).view.read (Elt Ideal) (GM m c) := by
  obtain ⟨-, -, -, -, e0, e1⟩ := idx t
  rw [flushed2, out2_eq]
  funext j
  rw [View.read_apply]
  refine point m c t j _ ?_ ?_
  · show win0_2.index t 0 * 144 + 1 * (j 0).val = _; rw [e0]; omega
  · show win0_2.index t 1 * 4096 + 1 * (j 1).val = _; rw [e1]; omega

/-- The point whose output block holds an element. -/
def pt (i : S144x4096.Idx) : Fin cfg0.N :=
  ⟨(i 0).val / 144, by
    have h0 : (i 0 : Nat) < 144 := (i 0).isLt
    rw [show cfg0.N = 1 from N_0]; omega⟩

theorem final2 (c : Dev nD) : (dats m 0 c).arrAt 2 cfg0.N = GM m c :=
  (dats m 0 c).arrAt_eq_of_cover 2 (GM m c) (fun t _ => flushed2_eq m c t) fun i =>
    ⟨pt i, flush0_2 _, by
      show i ∈ ((View.whole main_v1).slice (win0_2.rect (pt i))).set
      obtain ⟨-, -, -, -, e0, e1⟩ := idx (pt i)
      have p0 : (pt i).val = (i 0).val / 144 := rfl
      have h1 : (i 1 : Nat) < 4096 := (i 1).isLt
      rw [View.set_slice_whole, Rect.mem_set_unit]
      intro a
      match a with
      | ⟨0, _⟩ => show win0_2.index (pt i) 0 * 144 ≤ (i 0 : Nat) ∧ (i 0 : Nat) < win0_2.index (pt i) 0 * 144 + 144
                  rw [e0, p0]; omega
      | ⟨1, _⟩ => show win0_2.index (pt i) 1 * 4096 ≤ (i 1 : Nat) ∧ (i 1 : Nat) < win0_2.index (pt i) 1 * 4096 + 4096
                  rw [e1]; omega⟩

/-- The kernel's run: the result array is `GM`, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v1) = GM m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

end Cert.Kernel8Ideal.Value

namespace Cert.Reference8Ideal.Value

open Cert.Reference8Ideal Cert.Reference8Ideal.Gen Cert.Rms

/-- The reference's value, element by element: the same. -/
theorem ref_eq (x : FVec Ideal S144x4096 .f32) (w : FVec Ideal S4096 .f32) :
    mulf (mulf x (broadcastInDim S144x4096 ![0, 1] bcast_S144x1_S144x4096_0_1 (Host.rsqrt (addf (Host.divf (broadcastInDim S144x1 ![0] bcast_S144_S144x1_0 (Host.reduceAdd (mulf x x) (constant S_ .f32 0x00000000#32) reducesTo_S144x4096_S144_d1 h_S_)) (broadcastInDim S144x1 ![] bcast_S_S144x1 (constant S_ .f32 0x45800000#32))) (broadcastInDim S144x1 ![] bcast_S_S144x1 (constant S_ .f32 0x3727C5AC#32)))))) (broadcastInDim S144x4096 ![0, 1] bcast_S1x4096_S144x4096_0_1 (broadcastInDim S1x4096 ![1] bcast_S4096_S1x4096_1 w))
      = Cert.Kernel8Ideal.Value.G x w := by
  funext i
  unfold Cert.Kernel8Ideal.Value.G sc
  pointwise

end Cert.Reference8Ideal.Value

end
-- ==== Proof.Claims7.lean ====
/-
  The value claims of the sample batch's short convolution and of its normalisation.
-/
module

public import proofs.«01_k».proof.Defs
public import proofs.«01_k».proof.Proof.SampleConv.Ref
public import proofs.«01_k».proof.Proof.NormValue8
public import proofs.«01_k».proof.Proof.Gen.Kernel7Ideal
public import proofs.«01_k».proof.Proof.Gen.Reference7Ideal
public import proofs.«01_k».proof.Proof.Gen.Kernel8Ideal
public import proofs.«01_k».proof.Proof.Gen.Reference8Ideal

@[expose] public section

noncomputable section

open Idealize.ShloMosaic Idealize.ShloMosaic.TcCoe Idealize.SL.Sem

namespace Cert.Proof

/-- The sample batch's short convolution's two results are the reference's. -/
theorem algebraic7 :
    Cert.algebraic_Kernel7Ideal_Reference7Ideal (hKernel7Ideal := Cert.Kernel7Ideal.Gen.facts) (hReference7Ideal := Cert.Reference7Ideal.Gen.facts) := by
  intro m g m' g' _ hargs
  refine ⟨fun c => Cert.Kernel7Ideal.Value.GM m c, fun c => Cert.Kernel7Ideal.Value.GMe m c, Cert.Kernel7Ideal.Value.run_value m g, ?_⟩
  refine (θ_run _ _ _).mono (fun r h c => ?_) (Cert.Reference7Ideal.Value.run m' g')
  obtain ⟨h3, h4, hk⟩ := h c
  obtain ⟨a0, a1, a2⟩ := hargs c
  have e : Cert.Kernel7Ideal.Value.G (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))
      = Cert.Kernel7Ideal.Value.GM m c := by
    rw [a0, a1, a2]; rfl
  have e' : Cert.Kernel7Ideal.Value.Ge (m' ((c.tc : Thread Cert.Reference7Ideal.nD Cert.Reference7Ideal.τ).loc Cert.Reference7Ideal.main_arg0)) = Cert.Kernel7Ideal.Value.GMe m c := by
    rw [a0]; rfl
  have h0 : r.2.mem ((c.tc : Thread Cert.Reference7Ideal.nD Cert.Reference7Ideal.τ).loc Cert.Reference7Ideal.main_v31)
      = Cert.Reference7Ideal.Value.R0 (extf .f32 (m' ((c.tc : Thread Cert.Reference7Ideal.nD Cert.Reference7Ideal.τ).loc Cert.Reference7Ideal.main_arg0)) Cert.Reference7Ideal.Gen.bitsLt_bf16_f32) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) := h3
  have h1 : r.2.mem ((c.tc : Thread Cert.Reference7Ideal.nD Cert.Reference7Ideal.τ).loc Cert.Reference7Ideal.main_v32)
      = Cert.Reference7Ideal.Value.R1 (extf .f32 (m' ((c.tc : Thread Cert.Reference7Ideal.nD Cert.Reference7Ideal.τ).loc Cert.Reference7Ideal.main_arg0)) Cert.Reference7Ideal.Gen.bitsLt_bf16_f32) := h4
  exact ⟨h0.trans ((Cert.Reference7Ideal.Value.ref_eq _ _ _).trans e), h1.trans ((Cert.Reference7Ideal.Value.ref_eqe _).trans e'), hk⟩

/-- The sample batch's normalisation's result is the reference's. -/
theorem algebraic8 :
    Cert.algebraic_Kernel8Ideal_Reference8Ideal (hKernel8Ideal := Cert.Kernel8Ideal.Gen.facts) (hReference8Ideal := Cert.Reference8Ideal.Gen.facts) := by
  intro m g m' g' _ hargs
  refine ⟨fun c => Cert.Kernel8Ideal.Value.GM m c, Cert.Kernel8Ideal.Value.run_value m g, ?_⟩
  refine (θ_run _ _ _).mono (fun r h c => ?_) (Cert.Reference8Ideal.Value.run m' g')
  obtain ⟨h3, hk⟩ := h c
  obtain ⟨a0, a1⟩ := hargs c
  exact ⟨h3.trans ((Cert.Reference8Ideal.Value.ref_eq _ _).trans (by rw [a0, a1]; rfl)), hk⟩

end Cert.Proof

end
-- ==== Proof.SsdTail.Tile.lean ====
/-
  What the SSD call leaves of its convolutions' inputs: the last rows of the last block of every stream.
-/
module

public import proofs.«01_k».proof.Proof.Gen.Kernel9Ideal.Value
public import Idealize.ShloMosaic.Lib.Pipeline.Value
public import Idealize.ShloMosaic.Lib.KernelVsHost
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- Stores that cover a view and agree with one function, read back whole. -/
theorem readCov_whole {κ : Kind} {sp : Space} {S : Shape} {e : EltTy} (v : View sig κ sp S e) (L : List (View.Piece (Elt Ideal) S e)) (G : S.Idx → Elt Ideal e)
    {off : Fin S.rank → Nat} (h : off = fun _ => 0) (inb : ∀ a, off a + S.size a ≤ S.size a)
    (hp : ∀ p ∈ L, ∀ x : p.1.shape.Idx, p.2 x = G (p.1.emb x)) (hc : ∀ y : S.Idx, ∃ p ∈ L, y ∈ p.1.set) :
    v.readCov L (Rect.unit off S.size inb).toLoadRect = G := by
  subst h
  funext y
  have ey : (Rect.unit (s := S) (fun _ => 0) S.size inb).idx y = y := funext fun a => Fin.ext (by
    show 0 + 1 * (y a).val = (y a).val; omega)
  show v.read (Elt Ideal) (v.writes (Elt Ideal) v.junk L) ((Rect.unit (s := S) (fun _ => 0) S.size inb).idx y) = G y
  rw [ey]
  exact View.read_writes_apply_of_pieces v _ G L hp y (hc y)

/-- The last eight rows of a block of the first convolution's input. -/
def tailX (X : Vec Ideal S1x128x8192 .bf16) : Vec Ideal S8x8192 .f32 := fun y => X (ix3 0 ⟨112 + (8 + (y 0).val), by have h : (y 0).val < 8 := (y 0).isLt; omega⟩ (y 1))

/-- The last eight rows of a block of the second convolution's input. -/
def tailBC (X : Vec Ideal S1x128x2048 .bf16) : Vec Ideal S8x2048 .f32 := fun y => X (ix3 0 ⟨112 + (8 + (y 0).val), by have h : (y 0).val < 8 := (y 0).isLt; omega⟩ (y 1))

/-- One of the sixteen stores of the first convolution's rows. -/
theorem pieceX (o : ℕ) (X : Vec Ideal S1x128x8192 .bf16) (inb : ∀ a, (![0, 0, o] : Fin 3 → Nat) a + S1x128x512.size a ≤ S1x128x8192.size a)
    (inb' : ∀ a, (![0, o] : Fin 2 → Nat) a + S8x512.size a ≤ S8x8192.size a) (h) (x : S8x512.Idx) :
    k0_pay168 (F := Ideal) (shapeCast S128x512 (View.ld X (Rect.unit ![0, 0, o] S1x128x512.size inb)) h) x
      = tailX X ((Rect.unit (s := S8x8192) ![0, o] S8x512.size inb').emb x) := by
  have ex : x = ix2 (x 0) (x 1) := by funext a; match a with | ⟨0, _⟩ => rfl | ⟨1, _⟩ => rfl
  have hp : ∀ (v : Vec Ideal S1x128x512 .bf16) (p : Fin 8) (q : Fin 512),
      k0_pay168 (F := Ideal) (shapeCast S128x512 v h) (ix2 p q) = v (ix3 0 ⟨112 + (8 + p.val), by omega⟩ q) := by
    intro v p q
    unfold_payloads
    pointwise
  rw [ex]
  refine (hp _ (x 0) (x 1)).trans ?_
  refine congrArg X (funext fun a => ?_)
  match a with
  | ⟨0, _⟩ => rfl
  | ⟨1, _⟩ => exact Fin.ext (by show 0 + 1 * (112 + (8 + (x 0).val)) = 112 + (8 + (0 + 1 * (x 0).val)); omega)
  | ⟨2, _⟩ => exact Fin.ext (by show o + 1 * (x 1).val = o + 1 * (x 1).val; rfl)

/-- The two stores of the second convolution's rows. -/
theorem pieceBC1 (X : Vec Ideal S1x128x2048 .bf16) (h h') (inb : ∀ a, (![0, 1024] : Fin 2 → Nat) a + S8x1024.size a ≤ S8x2048.size a) (x : S8x1024.Idx) :
    shapeCast S8x1024 (k0_pay152 (F := Ideal) (k0_pay148 (F := Ideal) (shapeCast S128x2048 X h))) h' x
      = tailBC X ((Rect.unit (s := S8x2048) ![0, 1024] S8x1024.size inb).emb x) := by
  have ex : x = ix2 (x 0) (x 1) := by funext a; match a with | ⟨0, _⟩ => rfl | ⟨1, _⟩ => rfl
  have hp : ∀ (p : Fin 8) (q : Fin 1024), shapeCast S8x1024 (k0_pay152 (F := Ideal) (k0_pay148 (F := Ideal) (shapeCast S128x2048 X h))) h' (ix2 p q)
      = X (ix3 0 ⟨112 + (8 + p.val), by omega⟩ ⟨1024 + q.val, by omega⟩) := by
    intro p q
    unfold_payloads
    pointwise
  rw [ex]
  refine (hp (x 0) (x 1)).trans ?_
  refine congrArg X (funext fun a => ?_)
  match a with
  | ⟨0, _⟩ => rfl
  | ⟨1, _⟩ => exact Fin.ext (by show 112 + (8 + (x 0).val) = 112 + (8 + (0 + 1 * (x 0).val)); omega)
  | ⟨2, _⟩ => exact Fin.ext (by show 1024 + (x 1).val = 1024 + 1 * (x 1).val; omega)

theorem pieceBC0 (X : Vec Ideal S1x128x2048 .bf16) (h h' h'') (inb : ∀ a, (![0, 0] : Fin 2 → Nat) a + S8x1024.size a ≤ S8x2048.size a) (x : S8x1024.Idx) :
    shapeCast S8x1024 (k0_pay146 (F := Ideal) (extractStridedSlice S128x1024 ![0, 0] (shapeCast S128x2048 X h) h'')) h' x
      = tailBC X ((Rect.unit (s := S8x2048) ![0, 0] S8x1024.size inb).emb x) := by
  have ex : x = ix2 (x 0) (x 1) := by funext a; match a with | ⟨0, _⟩ => rfl | ⟨1, _⟩ => rfl
  have hp : ∀ (p : Fin 8) (q : Fin 1024), shapeCast S8x1024 (k0_pay146 (F := Ideal) (extractStridedSlice S128x1024 ![0, 0] (shapeCast S128x2048 X h) h'')) h' (ix2 p q)
      = X (ix3 0 ⟨112 + (8 + p.val), by omega⟩ ⟨q.val, by omega⟩) := by
    intro p q
    unfold_payloads
    pointwise
  rw [ex]
  refine (hp (x 0) (x 1)).trans ?_
  refine congrArg X (funext fun a => ?_)
  match a with
  | ⟨0, _⟩ => rfl
  | ⟨1, _⟩ => exact Fin.ext (by show 112 + (8 + (x 0).val) = 112 + (8 + (0 + 1 * (x 0).val)); omega)
  | ⟨2, _⟩ => exact Fin.ext (by show (x 1).val = 0 + 1 * (x 1).val; omega)

/-- The rows left for the first convolution. -/
theorem outs17 (c : Dev nD) (t : Fin cfg0.N) (h0 : ¬t.val % 32 = 0) (h1 : t.val % 32 = 31) :
    (outsAt0 m c t.val t.isLt).2.1 = k0_pay2 (F := Ideal) (tailX (X0_1 m c t)) := by
  rw [outsAt0_C m c t h0 h1 h1]
  dsimp only
  unfold out0_C_17
  rw [View.read_writes_eq_canon _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_1 t).read_unread]
  refine (View.canon_unit_zero (S := S1x8x8192) hz3 _ _).trans ?_
  refine congrArg (k0_pay2 (F := Ideal)) ?_
  refine (readCov_whole (S := S8x8192) _ _ (tailX (X0_1 m c t)) hz _ ?_ ?_)
  rotate_left
  · exact View.cover_of_tiledL (s := S8x8192) _ S8x512.size (by sl_kernel_rfl)
  refine List.forall_mem_cons.mpr ⟨fun x => pieceX 7680 (X0_1 m c t) _ (by decide) _ x, ?_⟩
  refine List.forall_mem_cons.mpr ⟨fun x => pieceX 7168 (X0_1 m c t) _ (by decide) _ x, ?_⟩
  refine List.forall_mem_cons.mpr ⟨fun x => pieceX 6656 (X0_1 m c t) _ (by decide) _ x, ?_⟩
  refine List.forall_mem_cons.mpr ⟨fun x => pieceX 6144 (X0_1 m c t) _ (by decide) _ x, ?_⟩
  refine List.forall_mem_cons.mpr ⟨fun x => pieceX 5632 (X0_1 m c t) _ (by decide) _ x, ?_⟩
  refine List.forall_mem_cons.mpr ⟨fun x => pieceX 5120 (X0_1 m c t) _ (by decide) _ x, ?_⟩
  refine List.forall_mem_cons.mpr ⟨fun x => pieceX 4608 (X0_1 m c t) _ (by decide) _ x, ?_⟩
  refine List.forall_mem_cons.mpr ⟨fun x => pieceX 4096 (X0_1 m c t) _ (by decide) _ x, ?_⟩
  refine List.forall_mem_cons.mpr ⟨fun x => pieceX 3584 (X0_1 m c t) _ (by decide) _ x, ?_⟩
  refine List.forall_mem_cons.mpr ⟨fun x => pieceX 3072 (X0_1 m c t) _ (by decide) _ x, ?_⟩
  refine List.forall_mem_cons.mpr ⟨fun x => pieceX 2560 (X0_1 m c t) _ (by decide) _ x, ?_⟩
  refine List.forall_mem_cons.mpr ⟨fun x => pieceX 2048 (X0_1 m c t) _ (by decide) _ x, ?_⟩
  refine List.forall_mem_cons.mpr ⟨fun x => pieceX 1536 (X0_1 m c t) _ (by decide) _ x, ?_⟩
  refine List.forall_mem_cons.mpr ⟨fun x => pieceX 1024 (X0_1 m c t) _ (by decide) _ x, ?_⟩
  refine List.forall_mem_cons.mpr ⟨fun x => pieceX 512 (X0_1 m c t) _ (by decide) _ x, ?_⟩
  refine List.forall_mem_cons.mpr ⟨fun x => pieceX 0 (X0_1 m c t) _ (by decide) _ x, ?_⟩
  exact List.forall_mem_nil _

theorem pay2_apply (v : Vec Ideal S8x8192 .f32) (s : Fin 8) (q : Fin 8192) : k0_pay2 (F := Ideal) v (ix3 0 s q) = v (ix2 s q) := by
  unfold_payloads
  pointwise

theorem tail17 (c : Dev nD) (t : Fin cfg0.N) (h0 : ¬t.val % 32 = 0) (h1 : t.val % 32 = 31) (s : Fin 8) (q : Fin 8192) :
    (outsAt0 m c t.val t.isLt).2.1 (ix3 0 s q) = (X0_1 m c t : Vec Ideal S1x128x8192 .bf16) (ix3 0 ⟨112 + (8 + s.val), by omega⟩ q) :=
  (congrFun (outs17 m c t h0 h1) (ix3 0 s q)).trans (pay2_apply _ s q)

/-- The rows left for the second convolution. -/
theorem outs18 (c : Dev nD) (t : Fin cfg0.N) (h0 : ¬t.val % 32 = 0) (h1 : t.val % 32 = 31) :
    (outsAt0 m c t.val t.isLt).2.2.1 = k0_pay3 (F := Ideal) (tailBC (iblk m c 2 t)) := by
  rw [outsAt0_C m c t h0 h1 h1]
  dsimp only
  unfold out0_C_18
  rw [View.read_writes_eq_canon _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_2 t).read_unread]
  refine (View.canon_unit_zero (S := S1x8x2048) hz3 _ _).trans ?_
  refine congrArg (k0_pay3 (F := Ideal)) ?_
  refine (readCov_whole (S := S8x2048) _ _ (tailBC (iblk m c 2 t)) hz _ ?_ ?_)
  rotate_left
  · exact View.cover_of_tiledL (s := S8x2048) _ S8x1024.size (by sl_kernel_rfl)
  simp only [View.ld_unit_zero (S := S1x128x2048) hz3]
  refine List.forall_mem_cons.mpr ⟨fun x => pieceBC1 (iblk m c 2 t) _ _ (by decide) x, ?_⟩
  refine List.forall_mem_cons.mpr ⟨fun x => pieceBC0 (iblk m c 2 t) _ _ (by decide) (by decide) x, ?_⟩
  exact List.forall_mem_nil _

theorem pay3_apply (v : Vec Ideal S8x2048 .f32) (s : Fin 8) (q : Fin 2048) : k0_pay3 (F := Ideal) v (ix3 0 s q) = v (ix2 s q) := by
  unfold_payloads
  pointwise

theorem tail18 (c : Dev nD) (t : Fin cfg0.N) (h0 : ¬t.val % 32 = 0) (h1 : t.val % 32 = 31) (s : Fin 8) (q : Fin 2048) :
    (outsAt0 m c t.val t.isLt).2.2.1 (ix3 0 s q) = (iblk m c 2 t : Vec Ideal S1x128x2048 .bf16) (ix3 0 ⟨112 + (8 + s.val), by omega⟩ q) :=
  (congrFun (outs18 m c t h0 h1) (ix3 0 s q)).trans (pay3_apply _ s q)

end Cert.Kernel9Ideal.Value

end
-- ==== Proof.SsdTail.Value.lean ====
/-
  What the SSD call leaves of its convolutions' inputs (`kernel9`), element by element, and what its run leaves.
-/
module

public import proofs.«01_k».proof.Proof.SsdTail.Tile

@[expose] public section

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

variable (m : (ℓ : Loc nD τ sig) → Buf (Elt Ideal) ℓ)

/-- The first result: the last eight rows of the first convolution's input. -/
def Gx (P : S4x4096x18432.Idx → EReal) : S4x8x8192.Idx → EReal :=
  fun i => P (ix3 (i 0) ⟨4088 + (i 1).val, by have h : (i 1).val < 8 := (i 1).isLt; omega⟩
    ⟨8192 + (i 2).val, by have h : (i 2).val < 8192 := (i 2).isLt; omega⟩)

/-- The second result: the last eight rows of the second convolution's input. -/
def Gbc (P : S4x4096x18432.Idx → EReal) : S4x8x2048.Idx → EReal :=
  fun i => P (ix3 (i 0) ⟨4088 + (i 1).val, by have h : (i 1).val < 8 := (i 1).isLt; omega⟩
    ⟨8192 + (8192 + (i 2).val), by have h : (i 2).val < 2048 := (i 2).isLt; omega⟩)

/-- The first result over the launch's arguments. -/
def GxM (c : Dev nD) : S4x8x8192.Idx → EReal := Gx (m ((c : Thread nD τ).loc main_arg0))

/-- The second result over the launch's arguments. -/
def GbcM (c : Dev nD) : S4x8x2048.Idx → EReal := Gbc (m ((c : Thread nD τ).loc main_arg0))

theorem idx1 : ∀ t : Fin cfg0.N, win0_1.index t 0 = t.val / 32 ∧ win0_1.index t 1 = t.val % 32 ∧ win0_1.index t 2 = 1 := by
  decide +kernel

theorem idx2 : ∀ t : Fin cfg0.N, win0_2.index t 0 = t.val / 32 ∧ win0_2.index t 1 = t.val % 32 ∧ win0_2.index t 2 = 8 := by
  decide +kernel

theorem idx17 : ∀ t : Fin cfg0.N, win0_17.index t 0 = t.val / 32 ∧ win0_17.index t 1 = 0 ∧ win0_17.index t 2 = 0 := by
  decide +kernel

theorem idx18 : ∀ t : Fin cfg0.N, win0_18.index t 0 = t.val / 32 ∧ win0_18.index t 1 = 0 ∧ win0_18.index t 2 = 0 := by
  decide +kernel

theorem lt_128 (t : Fin cfg0.N) : t.val < 128 := lt_of_lt_of_eq t.isLt N_0

theorem xblk (c : Dev nD) (t : Fin cfg0.N) (p : Fin 128) (q : Fin 8192) :
    (X0_1 m c t : Vec Ideal S1x128x8192 .bf16) (ix3 0 p q)
      = m ((c : Thread nD τ).loc main_arg0) (ix3 ⟨t.val / 32, by have := lt_128 t; omega⟩ ⟨t.val % 32 * 128 + p.val, by omega⟩ ⟨8192 + q.val, by omega⟩) := by
  obtain ⟨e0, e1, e2⟩ := idx1 t
  unfold X0_1 Pipeline.Window.fill
  rw [dif_pos (moved0_1 t _)]
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_1.index t 0 * 1 + 1 * 0 = t.val / 32; rw [e0]; omega
  | ⟨1, _⟩ => show win0_1.index t 1 * 128 + 1 * p.val = t.val % 32 * 128 + p.val; rw [e1]; omega
  | ⟨2, _⟩ => show win0_1.index t 2 * 8192 + 1 * q.val = 8192 + q.val; rw [e2]; omega

theorem bcblk (c : Dev nD) (t : Fin cfg0.N) (p : Fin 128) (q : Fin 2048) :
    (iblk m c 2 t : Vec Ideal S1x128x2048 .bf16) (ix3 0 p q)
      = m ((c : Thread nD τ).loc main_arg0) (ix3 ⟨t.val / 32, by have := lt_128 t; omega⟩ ⟨t.val % 32 * 128 + p.val, by omega⟩ ⟨8192 + (8192 + q.val), by omega⟩) := by
  obtain ⟨e0, e1, e2⟩ := idx2 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_2.index t 0 * 1 + 1 * 0 = t.val / 32; rw [e0]; omega
  | ⟨1, _⟩ => show win0_2.index t 1 * 128 + 1 * p.val = t.val % 32 * 128 + p.val; rw [e1]; omega
  | ⟨2, _⟩ => show win0_2.index t 2 * 2048 + 1 * q.val = 8192 + (8192 + q.val); rw [e2]; omega

/-- A stream's last point. -/
def pt (b : Fin 4) : Fin cfg0.N :=
  ⟨b.val * 32 + 31, by have := b.isLt; rw [show cfg0.N = 128 from N_0]; omega⟩

theorem pt_mod (b : Fin 4) : (pt b).val / 32 = b.val ∧ (pt b).val % 32 = 31 := by
  show (b.val * 32 + 31) / 32 = b.val ∧ (b.val * 32 + 31) % 32 = 31
  omega

/-- The last rows a stream's last point leaves for window 17, at an element of the array. -/
theorem point17 (c : Dev nD) (t : Fin cfg0.N) (h31 : t.val % 32 = 31) (j : S1x8x8192.Idx) (i : S4x8x8192.Idx)
    (h0 : (i 0).val = t.val / 32) (h1 : (i 1).val = (j 1).val) (h2 : (i 2).val = (j 2).val) :
    (outsAt0 m c t.val t.isLt).2.1 j = GxM m c i := by
  have ej : j = ix3 0 (j 1) (j 2) := by
    funext a
    match a with
    | ⟨0, _⟩ => exact Fin.ext (by show (j 0).val = 0; have h : (j 0).val < 1 := (j 0).isLt; omega)
    | ⟨1, _⟩ => rfl
    | ⟨2, _⟩ => rfl
  have hj : (j 1).val < 8 := (j 1).isLt
  rw [ej]
  refine (tail17 m c t (by omega) h31 (j 1) (j 2)).trans ((xblk m c t _ (j 2)).trans ?_)
  show m (c.tc.loc main_arg0) _ = m (c.tc.loc main_arg0) _
  refine congrArg (m (c.tc.loc main_arg0)) (funext fun a => ?_)
  match a with
  | ⟨0, _⟩ => exact Fin.ext h0.symm
  | ⟨1, _⟩ => exact Fin.ext (by show t.val % 32 * 128 + (112 + (8 + (j 1).val)) = 4088 + (i 1).val; omega)
  | ⟨2, _⟩ => exact Fin.ext (by show 8192 + (j 2).val = 8192 + (i 2).val; omega)

theorem flushed17_eq (c : Dev nD) (t : Fin cfg0.N) (h31 : t.val % 32 = 31) :
    (dats m 0 c).flushed 17 t = ((cfg0.win 17).blk t).view.read (Elt Ideal) (GxM m c) := by
  obtain ⟨e0, e1, e2⟩ := idx17 t
  rw [flushed17]
  funext j
  rw [View.read_apply]
  refine point17 m c t h31 j _ ?_ ?_ ?_
  · show win0_17.index t 0 * 1 + 1 * (j 0).val = _
    have hj : (j 0).val < 1 := (j 0).isLt
    rw [e0]; omega
  · show win0_17.index t 1 * 8 + 1 * (j 1).val = _; rw [e1]; omega
  · show win0_17.index t 2 * 8192 + 1 * (j 2).val = _; rw [e2]; omega

theorem final17 (c : Dev nD) : (dats m 0 c).arrAt 17 cfg0.N = GxM m c :=
  (dats m 0 c).arrAt_eq_of_cover 17 (GxM m c) (fun t hf => flushed17_eq m c t ((flush0_17 t).mp hf)) fun i => by
    refine ⟨pt (i 0), (flush0_17 _).mpr (pt_mod (i 0)).2, ?_⟩
    show i ∈ ((View.whole main_v38_1).slice (win0_17.rect (pt (i 0)))).set
    obtain ⟨e0, e1, e2⟩ := idx17 (pt (i 0))
    obtain ⟨p0, p1⟩ := pt_mod (i 0)
    have h1 : (i 1 : Nat) < 8 := (i 1).isLt
    have h2 : (i 2 : Nat) < 8192 := (i 2).isLt
    rw [View.set_slice_whole, Rect.mem_set_unit]
    intro a
    match a with
    | ⟨0, _⟩ => show win0_17.index (pt (i 0)) 0 * 1 ≤ (i 0 : Nat) ∧ (i 0 : Nat) < win0_17.index (pt (i 0)) 0 * 1 + 1
                rw [e0, p0]; omega
    | ⟨1, _⟩ => show win0_17.index (pt (i 0)) 1 * 8 ≤ (i 1 : Nat) ∧ (i 1 : Nat) < win0_17.index (pt (i 0)) 1 * 8 + 8
                rw [e1]; omega
    | ⟨2, _⟩ => show win0_17.index (pt (i 0)) 2 * 8192 ≤ (i 2 : Nat) ∧ (i 2 : Nat) < win0_17.index (pt (i 0)) 2 * 8192 + 8192
                rw [e2]; omega

/-- The last rows a stream's last point leaves for window 18, at an element of the array. -/
theorem point18 (c : Dev nD) (t : Fin cfg0.N) (h31 : t.val % 32 = 31) (j : S1x8x2048.Idx) (i : S4x8x2048.Idx)
    (h0 : (i 0).val = t.val / 32) (h1 : (i 1).val = (j 1).val) (h2 : (i 2).val = (j 2).val) :
    (outsAt0 m c t.val t.isLt).2.2.1 j = GbcM m c i := by
  have ej : j = ix3 0 (j 1) (j 2) := by
    funext a
    match a with
    | ⟨0, _⟩ => exact Fin.ext (by show (j 0).val = 0; have h : (j 0).val < 1 := (j 0).isLt; omega)
    | ⟨1, _⟩ => rfl
    | ⟨2, _⟩ => rfl
  have hj : (j 1).val < 8 := (j 1).isLt
  rw [ej]
  refine (tail18 m c t (by omega) h31 (j 1) (j 2)).trans ((bcblk m c t _ (j 2)).trans ?_)
  show m (c.tc.loc main_arg0) _ = m (c.tc.loc main_arg0) _
  refine congrArg (m (c.tc.loc main_arg0)) (funext fun a => ?_)
  match a with
  | ⟨0, _⟩ => exact Fin.ext h0.symm
  | ⟨1, _⟩ => exact Fin.ext (by show t.val % 32 * 128 + (112 + (8 + (j 1).val)) = 4088 + (i 1).val; omega)
  | ⟨2, _⟩ => exact Fin.ext (by show 8192 + (8192 + (j 2).val) = 8192 + (8192 + (i 2).val); omega)

theorem flushed18_eq (c : Dev nD) (t : Fin cfg0.N) (h31 : t.val % 32 = 31) :
    (dats m 0 c).flushed 18 t = ((cfg0.win 18).blk t).view.read (Elt Ideal) (GbcM m c) := by
  obtain ⟨e0, e1, e2⟩ := idx18 t
  rw [flushed18]
  funext j
  rw [View.read_apply]
  refine point18 m c t h31 j _ ?_ ?_ ?_
  · show win0_18.index t 0 * 1 + 1 * (j 0).val = _
    have hj : (j 0).val < 1 := (j 0).isLt
    rw [e0]; omega
  · show win0_18.index t 1 * 8 + 1 * (j 1).val = _; rw [e1]; omega
  · show win0_18.index t 2 * 2048 + 1 * (j 2).val = _; rw [e2]; omega

theorem final18 (c : Dev nD) : (dats m 0 c).arrAt 18 cfg0.N = GbcM m c :=
  (dats m 0 c).arrAt_eq_of_cover 18 (GbcM m c) (fun t hf => flushed18_eq m c t ((flush0_18 t).mp hf)) fun i => by
    refine ⟨pt (i 0), (flush0_18 _).mpr (pt_mod (i 0)).2, ?_⟩
    show i ∈ ((View.whole main_v38_2).slice (win0_18.rect (pt (i 0)))).set
    obtain ⟨e0, e1, e2⟩ := idx18 (pt (i 0))
    obtain ⟨p0, p1⟩ := pt_mod (i 0)
    have h1 : (i 1 : Nat) < 8 := (i 1).isLt
    have h2 : (i 2 : Nat) < 2048 := (i 2).isLt
    rw [View.set_slice_whole, Rect.mem_set_unit]
    intro a
    match a with
    | ⟨0, _⟩ => show win0_18.index (pt (i 0)) 0 * 1 ≤ (i 0 : Nat) ∧ (i 0 : Nat) < win0_18.index (pt (i 0)) 0 * 1 + 1
                rw [e0, p0]; omega
    | ⟨1, _⟩ => show win0_18.index (pt (i 0)) 1 * 8 ≤ (i 1 : Nat) ∧ (i 1 : Nat) < win0_18.index (pt (i 0)) 1 * 8 + 8
                rw [e1]; omega
    | ⟨2, _⟩ => show win0_18.index (pt (i 0)) 2 * 2048 ≤ (i 2 : Nat) ∧ (i 2 : Nat) < win0_18.index (pt (i 0)) 2 * 2048 + 2048
                rw [e2]; omega

/-- The kernel's run: the two results named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v38_1) = GxM m c
      ∧ r.2.mem ((c : Thread nD τ).loc main_v38_2) = GbcM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).2.1.trans (final17 m c), (h c).2.2.1.trans (final18 m c), (h c).2.2.2.2⟩) (run_blocks m ρ)

end Cert.Kernel9Ideal.Value

end
-- ==== Proof.Claims9.lean ====
/-
  The value claim of the convolution states the SSD call leaves.
-/
module

public import proofs.«01_k».proof.Defs
public import proofs.«01_k».proof.Proof.SsdTail.Value
public import proofs.«01_k».proof.Proof.Gen.Kernel9Ideal
public import proofs.«01_k».proof.Proof.Gen.Reference9Ideal
public import proofs.«01_k».proof.Proof.Gen.Reference9Ideal.Run

@[expose] public section

noncomputable section

open Idealize.ShloMosaic Idealize.ShloMosaic.TcCoe Idealize.SL.Sem

namespace Cert.Reference9Ideal.Value

open Cert.Reference9Ideal Cert.Reference9Ideal.Gen

/-- The reference's first result. -/
def R0 (P : FVec Ideal S4x4096x18432 .f32) : FVec Ideal S4x8x8192 .f32 :=
  extractStridedSlice S4x8x8192 ![0, 4088, 0] (extractStridedSlice S4x4096x10240 ![0, 0, 8192] P slices_S4x4096x18432_S4x4096x10240_0_0_8192) slices_S4x4096x10240_S4x8x8192_0_4088_0

/-- The reference's second result. -/
def R1 (P : FVec Ideal S4x4096x18432 .f32) : FVec Ideal S4x8x2048 .f32 :=
  extractStridedSlice S4x8x2048 ![0, 4088, 8192] (extractStridedSlice S4x4096x10240 ![0, 0, 8192] P slices_S4x4096x18432_S4x4096x10240_0_0_8192) slices_S4x4096x10240_S4x8x2048_0_4088_8192

theorem R0_apply (P : FVec Ideal S4x4096x18432 .f32) (b : Fin 4) (s : Fin 8) (q : Fin 8192) :
    R0 P (ix3 b s q) = P (ix3 b ⟨4088 + s.val, by omega⟩ ⟨8192 + q.val, by omega⟩) := by
  unfold R0
  pointwise

theorem R1_apply (P : FVec Ideal S4x4096x18432 .f32) (b : Fin 4) (s : Fin 8) (q : Fin 2048) :
    R1 P (ix3 b s q) = P (ix3 b ⟨4088 + s.val, by omega⟩ ⟨8192 + (8192 + q.val), by omega⟩) := by
  unfold R1
  pointwise

theorem ref_eqx (P : FVec Ideal S4x4096x18432 .f32) : R0 P = Cert.Kernel9Ideal.Value.Gx P := by
  funext i
  have ei : i = ix3 (i 0) (i 1) (i 2) := by funext a; match a with | ⟨0, _⟩ => rfl | ⟨1, _⟩ => rfl | ⟨2, _⟩ => rfl
  exact (congrArg (R0 P) ei).trans (R0_apply P (i 0) (i 1) (i 2))

theorem ref_eqbc (P : FVec Ideal S4x4096x18432 .f32) : R1 P = Cert.Kernel9Ideal.Value.Gbc P := by
  funext i
  have ei : i = ix3 (i 0) (i 1) (i 2) := by funext a; match a with | ⟨0, _⟩ => rfl | ⟨1, _⟩ => rfl | ⟨2, _⟩ => rfl
  exact (congrArg (R1 P) ei).trans (R1_apply P (i 0) (i 1) (i 2))

end Cert.Reference9Ideal.Value

namespace Cert.Proof

/-- The convolution states the SSD call leaves are the reference's. -/
theorem algebraic9 :
    Cert.algebraic_Kernel9Ideal_Reference9Ideal (hKernel9Ideal := Cert.Kernel9Ideal.Gen.facts) (hReference9Ideal := Cert.Reference9Ideal.Gen.facts) := by
  intro m g m' g' _ hargs
  refine ⟨fun c => Cert.Kernel9Ideal.Value.GxM m c, fun c => Cert.Kernel9Ideal.Value.GbcM m c, Cert.Kernel9Ideal.Value.run_value m g, ?_⟩
  refine (θ_run _ _ _).mono (fun r h c => ?_) (Cert.Reference9Ideal.Value.run m' g')
  obtain ⟨h3, h4, hk⟩ := h c
  have a0 := (hargs c).1
  have e : Cert.Kernel9Ideal.Value.Gx (m' ((c.tc : Thread Cert.Reference9Ideal.nD Cert.Reference9Ideal.τ).loc Cert.Reference9Ideal.main_arg0)) = Cert.Kernel9Ideal.Value.GxM m c := by
    rw [a0]; rfl
  have e' : Cert.Kernel9Ideal.Value.Gbc (m' ((c.tc : Thread Cert.Reference9Ideal.nD Cert.Reference9Ideal.τ).loc Cert.Reference9Ideal.main_arg0)) = Cert.Kernel9Ideal.Value.GbcM m c := by
    rw [a0]; rfl
  have h0 : r.2.mem ((c.tc : Thread Cert.Reference9Ideal.nD Cert.Reference9Ideal.τ).loc Cert.Reference9Ideal.main_v2)
      = Cert.Reference9Ideal.Value.R0 (extf .f32 (m' ((c.tc : Thread Cert.Reference9Ideal.nD Cert.Reference9Ideal.τ).loc Cert.Reference9Ideal.main_arg0)) Cert.Reference9Ideal.Gen.bitsLt_bf16_f32) := h3
  have h1 : r.2.mem ((c.tc : Thread Cert.Reference9Ideal.nD Cert.Reference9Ideal.τ).loc Cert.Reference9Ideal.main_v3)
      = Cert.Reference9Ideal.Value.R1 (extf .f32 (m' ((c.tc : Thread Cert.Reference9Ideal.nD Cert.Reference9Ideal.τ).loc Cert.Reference9Ideal.main_arg0)) Cert.Reference9Ideal.Gen.bitsLt_bf16_f32) := h4
  exact ⟨h0.trans ((Cert.Reference9Ideal.Value.ref_eqx _).trans e), h1.trans ((Cert.Reference9Ideal.Value.ref_eqbc _).trans e'), hk⟩

end Cert.Proof

end
-- ==== Proof.SideCasts.lean ====
/-
  The value of the output projection with its residual and the casts it does on the side (`kernel10`: `_matmul_res`): two result
  arrays are `res + x·w`, two are the next layer's weights, and the reference's are the same.
-/
module

public import proofs.«01_k».proof.Proof.Gen.Kernel10Ideal.Value
public import proofs.«01_k».proof.Proof.Gen.Reference10Ideal.Run
public import Idealize.ShloMosaic.Lib.Pipeline.Value
public import Idealize.ShloMosaic.Lib.KernelVsHost
public import Idealize.ShloMosaic.Lib.Pointwise
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The result: the residual plus the product, element by element. -/
def G (x : S16384x8192.Idx → EReal) (w : S8192x4096.Idx → EReal) (res : S16384x4096.Idx → EReal) : S16384x4096.Idx → EReal :=
  fun i => res i + ∑ k : Fin 8192, x (ix2 (i 0) k) * w (ix2 k (i 1))

/-- The next layer's input weights, their rows times the norm's weights. -/
def Gi (w : S2x4096x16384.Idx → EReal) (n : S4096.Idx → EReal) : S4096x16384.Idx → EReal := fun i => w (ix3 0 (i 0) (i 1)) * n (ix1 (i 0))

/-- The next layer's output weights. -/
def Go (w : S2x4096x4096.Idx → EReal) : S4096x4096.Idx → EReal := fun i => w (ix3 0 (i 0) (i 1))

/-- The results over the launch's arguments. -/
def GM (c : Dev nD) : S16384x4096.Idx → EReal :=
  G (m ((c : Thread nD τ).loc main_arg0)) (m ((c : Thread nD τ).loc main_arg1)) (m ((c : Thread nD τ).loc main_arg2))
def GiM (c : Dev nD) : S4096x16384.Idx → EReal := Gi (m ((c : Thread nD τ).loc main_arg3)) (m ((c : Thread nD τ).loc main_arg4))
def GoM (c : Dev nD) : S4096x4096.Idx → EReal := Go (m ((c : Thread nD τ).loc main_arg5))

/-- What the body computes of its blocks. -/
theorem pay1_apply (v0 : Vec Ideal S1024x256 .f32) (v1 : Vec Ideal S1024x8192 .bf16) (v2 : Vec Ideal S8192x256 .bf16) (j : S1024x256.Idx) :
    k0_pay1 v0 v1 v2 j = v0 j + ∑ k : Fin 8192, v1 (ix2 (j 0) k) * v2 (ix2 k (j 1)) := by
  show v0 j + Ideal.matmul dot_S1024x8192_S8192x256_S1024x256_1_0_0_1_n_n v1 v2
    (constant (F := Ideal) S1024x256 .f32 0x00000000#32) j = _
  rw [Ideal.matmul_apply₁_of dot_S1024x8192_S8192x256_S1024x256_1_0_0_1_n_n (a := 1) rfl (K := 8192) rfl v1 v2 _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [(show (constant (F := Ideal) S1024x256 .f32 0x00000000#32 : S1024x256.Idx → EReal) j = 0 from Ideal.ofBits_zero_f32), zero_add]

theorem pay3_apply (v8 : Vec Ideal S1x16x16384 .f32) (v10 : Vec Ideal S16x1 .f32) (p : Fin 16) (q : Fin 16384) :
    k0_pay3 v8 v10 (ix2 p q) = v8 (ix3 0 p q) * v10 (ix2 p 0) := by
  unfold_payloads
  pointwise

theorem pay4_apply (v16 : Vec Ideal S1x16x4096 .f32) (p : Fin 16) (q : Fin 4096) :
    k0_pay4 v16 (ix2 p q) = v16 (ix3 0 p q) := by
  unfold_payloads
  pointwise

theorem idx0 : ∀ t : Fin cfg0.N, win0_0.index t 0 = t.val / 16 ∧ win0_0.index t 1 = 0 := by
  decide +kernel

theorem idx1 : ∀ t : Fin cfg0.N, win0_1.index t 0 = 0 ∧ win0_1.index t 1 = t.val % 16 := by
  decide +kernel

theorem idx2 : ∀ t : Fin cfg0.N, win0_2.index t 0 = t.val / 16 ∧ win0_2.index t 1 = t.val % 16 := by
  decide +kernel

theorem idx3 : ∀ t : Fin cfg0.N, win0_3.index t 0 = 0 ∧ win0_3.index t 1 = t.val ∧ win0_3.index t 2 = 0 := by
  decide +kernel

theorem idx4 : ∀ t : Fin cfg0.N, win0_4.index t 0 = t.val ∧ win0_4.index t 1 = 0 := by
  decide +kernel

theorem idx5 : ∀ t : Fin cfg0.N, win0_5.index t 0 = 0 ∧ win0_5.index t 1 = t.val ∧ win0_5.index t 2 = 0 := by
  decide +kernel

theorem idx6 : ∀ t : Fin cfg0.N, win0_6.index t 0 = t.val / 16 ∧ win0_6.index t 1 = t.val % 16 := by
  decide +kernel

theorem idx7 : ∀ t : Fin cfg0.N, win0_7.index t 0 = t.val / 16 ∧ win0_7.index t 1 = t.val % 16 := by
  decide +kernel

theorem idx8 : ∀ t : Fin cfg0.N, win0_8.index t 0 = t.val ∧ win0_8.index t 1 = 0 := by
  decide +kernel

theorem idx9 : ∀ t : Fin cfg0.N, win0_9.index t 0 = t.val ∧ win0_9.index t 1 = 0 := by
  decide +kernel

theorem iblk0 (c : Dev nD) (t : Fin cfg0.N) (j : S1024x8192.Idx) (i : S16384x8192.Idx)
    (h0 : (i 0).val = t.val / 16 * 1024 + (j 0).val) (h1 : (i 1).val = (j 1).val) :
    (iblk m c 0 t : Vec Ideal S1024x8192 .bf16) j = m ((c : Thread nD τ).loc main_arg0) i := by
  obtain ⟨e0, e1⟩ := idx0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1024 + 1 * (j 0).val = (i 0).val; rw [e0, h0]; omega
  | ⟨1, _⟩ => show win0_0.index t 1 * 8192 + 1 * (j 1).val = (i 1).val; rw [e1, h1]; omega

theorem iblk1 (c : Dev nD) (t : Fin cfg0.N) (j : S8192x256.Idx) (i : S8192x4096.Idx)
    (h0 : (i 0).val = (j 0).val) (h1 : (i 1).val = t.val % 16 * 256 + (j 1).val) :
    (iblk m c 1 t : Vec Ideal S8192x256 .bf16) j = m ((c : Thread nD τ).loc main_arg1) i := by
  obtain ⟨e0, e1⟩ := idx1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 8192 + 1 * (j 0).val = (i 0).val; rw [e0, h0]; omega
  | ⟨1, _⟩ => show win0_1.index t 1 * 256 + 1 * (j 1).val = (i 1).val; rw [e1, h1]; omega

theorem iblk2 (c : Dev nD) (t : Fin cfg0.N) (j : S1024x256.Idx) (i : S16384x4096.Idx)
    (h0 : (i 0).val = t.val / 16 * 1024 + (j 0).val) (h1 : (i 1).val = t.val % 16 * 256 + (j 1).val) :
    (iblk m c 2 t : Vec Ideal S1024x256 .f32) j = m ((c : Thread nD τ).loc main_arg2) i := by
  obtain ⟨e0, e1⟩ := idx2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 1024 + 1 * (j 0).val = (i 0).val; rw [e0, h0]; omega
  | ⟨1, _⟩ => show win0_2.index t 1 * 256 + 1 * (j 1).val = (i 1).val; rw [e1, h1]; omega

theorem iblk3 (c : Dev nD) (t : Fin cfg0.N) (j : S1x16x16384.Idx) (i : S2x4096x16384.Idx)
    (h0 : (i 0).val = (j 0).val) (h1 : (i 1).val = t.val * 16 + (j 1).val) (h2 : (i 2).val = (j 2).val) :
    (iblk m c 3 t : Vec Ideal S1x16x16384 .f32) j = m ((c : Thread nD τ).loc main_arg3) i := by
  obtain ⟨e0, e1, e2⟩ := idx3 t
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ => show win0_3.index t 0 * 1 + 1 * (j 0).val = (i 0).val; rw [e0, h0]; omega
  | ⟨1, _⟩ => show win0_3.index t 1 * 16 + 1 * (j 1).val = (i 1).val; rw [e1, h1]; omega
  | ⟨2, _⟩ => show win0_3.index t 2 * 16384 + 1 * (j 2).val = (i 2).val; rw [e2, h2]; omega

/-- The norm's weights as the region finds them: the argument, laid out as a column. -/
theorem V_v0 (c : Dev nD) : (V m c main_v0 : S4096x1.Idx → EReal)
    = shapeCast S4096x1 (m ((c : Thread nD τ).loc main_arg4) : S4096.Idx → EReal) shapeCasts_S4096_S4096x1 := by
  show StableHlo.after hostOps0 (fun b => m (c, b)) main_v0 = _
  after_results
  rfl

theorem iblk4 (c : Dev nD) (t : Fin cfg0.N) (j : S16x1.Idx) (k : Fin 4096) (hk : k.val = t.val * 16 + (j 0).val) :
    (iblk m c 4 t : Vec Ideal S16x1 .f32) j = m ((c : Thread nD τ).loc main_arg4) (ix1 k) := by
  obtain ⟨e0, e1⟩ := idx4 t
  unfold iblk
  rw [View.read_apply]
  show (V m c main_v0 : S4096x1.Idx → EReal) _ = m (c.tc.loc main_arg4) _
  rw [V_v0]
  refine shapeCast_apply _ _ _ _ ?_
  refine (Shape.rowMajor_val_one _).trans (Eq.trans ?_ (Shape.rowMajor_val_two _).symm)
  have hj : (j 1 : Nat) < 1 := (j 1).isLt
  show k.val = (win0_4.index t 0 * 16 + 1 * (j 0).val) * 1 + (win0_4.index t 1 * 1 + 1 * (j 1).val)
  rw [e0, e1, hk]; omega

theorem iblk5 (c : Dev nD) (t : Fin cfg0.N) (j : S1x16x4096.Idx) (i : S2x4096x4096.Idx)
    (h0 : (i 0).val = (j 0).val) (h1 : (i 1).val = t.val * 16 + (j 1).val) (h2 : (i 2).val = (j 2).val) :
    (iblk m c 5 t : Vec Ideal S1x16x4096 .f32) j = m ((c : Thread nD τ).loc main_arg5) i := by
  obtain ⟨e0, e1, e2⟩ := idx5 t
  unfold iblk
  rw [View.read_apply]
  show V m c main_arg5 _ = m (c.tc.loc main_arg5) _
  rw [V_main_arg5]
  refine congrArg (m (c.tc.loc main_arg5)) (funext fun a => Fin.ext ?_)
  match a with
  | ⟨0, _⟩ => show win0_5.index t 0 * 1 + 1 * (j 0).val = (i 0).val; rw [e0, h0]; omega
  | ⟨1, _⟩ => show win0_5.index t 1 * 16 + 1 * (j 1).val = (i 1).val; rw [e1, h1]; omega
  | ⟨2, _⟩ => show win0_5.index t 2 * 4096 + 1 * (j 2).val = (i 2).val; rw [e2, h2]; omega

/-- The block of the result a point computes. -/
theorem point (c : Dev nD) (t : Fin cfg0.N) (j : S1024x256.Idx) (i : S16384x4096.Idx)
    (h0 : (i 0).val = t.val / 16 * 1024 + (j 0).val) (h1 : (i 1).val = t.val % 16 * 256 + (j 1).val) :
    k0_pay1 (iblk m c 2 t : Vec Ideal S1024x256 .f32) (iblk m c 0 t : Vec Ideal S1024x8192 .bf16)
      (iblk m c 1 t : Vec Ideal S8192x256 .bf16) j = GM m c i := by
  exact (pay1_apply _ _ _ j).trans (congrArg₂ (fun a b : EReal => a + b) (iblk2 m c t j i h0 h1)
    (Finset.sum_congr rfl fun k _ => congrArg₂ (fun a b : EReal => a * b)
      (iblk0 m c t (ix2 (j 0) k) (ix2 (i 0) k) h0 rfl) (iblk1 m c t (ix2 k (j 1)) (ix2 k (i 1)) rfl h1)))

/-- The block of the next layer's input weights a point stores. -/
theorem pointi (c : Dev nD) (t : Fin cfg0.N) (j : S16x16384.Idx) (i : S4096x16384.Idx)
    (h0 : (i 0).val = t.val * 16 + (j 0).val) (h1 : (i 1).val = (j 1).val) :
    k0_pay3 (iblk m c 3 t : Vec Ideal S1x16x16384 .f32) (iblk m c 4 t : Vec Ideal S16x1 .f32) j = GiM m c i := by
  have ej : j = ix2 (j 0) (j 1) := by funext a; match a with | ⟨0, _⟩ => rfl | ⟨1, _⟩ => rfl
  exact (congrArg (k0_pay3 (iblk m c 3 t : Vec Ideal S1x16x16384 .f32) (iblk m c 4 t : Vec Ideal S16x1 .f32)) ej).trans
    ((pay3_apply _ _ (j 0) (j 1)).trans (congrArg₂ (fun a b : EReal => a * b)
      (iblk3 m c t (ix3 0 (j 0) (j 1)) (ix3 0 (i 0) (i 1)) rfl h0 h1) (iblk4 m c t (ix2 (j 0) 0) (i 0) h0)))

/-- The block of the next layer's output weights a point stores. -/
theorem pointo (c : Dev nD) (t : Fin cfg0.N) (j : S16x4096.Idx) (i : S4096x4096.Idx)
    (h0 : (i 0).val = t.val * 16 + (j 0).val) (h1 : (i 1).val = (j 1).val) :
    k0_pay4 (iblk m c 5 t : Vec Ideal S1x16x4096 .f32) j = GoM m c i := by
  have ej : j = ix2 (j 0) (j 1) := by funext a; match a with | ⟨0, _⟩ => rfl | ⟨1, _⟩ => rfl
  exact (congrArg (k0_pay4 (iblk m c 5 t : Vec Ideal S1x16x4096 .f32)) ej).trans
    ((pay4_apply _ (j 0) (j 1)).trans (iblk5 m c t (ix3 0 (j 0) (j 1)) (ix3 0 (i 0) (i 1)) rfl h0 h1))

theorem out6_eq (x0 : Vec Ideal S1024x8192 .bf16) (x1 : Vec Ideal S8192x256 .bf16) (x2 : Vec Ideal S1024x256 .f32) (x3 : Vec Ideal S1x16x16384 .f32)
    (x4 : Vec Ideal S16x1 .f32) (x5 : Vec Ideal S1x16x4096 .f32) :
    out0_6 x0 x1 x2 x3 x4 x5 = k0_pay1 x2 x0 x1 := by
  unfold out0_6
  rw [View.canon_unit_zero hz, View.ld_unit_zero hz, View.ld_unit_zero hz, View.ld_unit_zero hz]

theorem out7_eq (x0 : Vec Ideal S1024x8192 .bf16) (x1 : Vec Ideal S8192x256 .bf16) (x2 : Vec Ideal S1024x256 .f32) (x3 : Vec Ideal S1x16x16384 .f32)
    (x4 : Vec Ideal S16x1 .f32) (x5 : Vec Ideal S1x16x4096 .f32) :
    out0_7 x0 x1 x2 x3 x4 x5 = k0_pay1 x2 x0 x1 := by
  unfold out0_7
  rw [View.canon_unit_zero hz, View.ld_unit_zero hz, View.ld_unit_zero hz, View.ld_unit_zero hz]
  rfl

theorem out8_eq (x0 : Vec Ideal S1024x8192 .bf16) (x1 : Vec Ideal S8192x256 .bf16) (x2 : Vec Ideal S1024x256 .f32) (x3 : Vec Ideal S1x16x16384 .f32)
    (x4 : Vec Ideal S16x1 .f32) (x5 : Vec Ideal S1x16x4096 .f32) :
    out0_8 x0 x1 x2 x3 x4 x5 = k0_pay3 x3 x4 := by
  unfold out0_8
  rw [View.canon_unit_zero hz, View.ld_unit_zero hz3, View.ld_unit_zero hz]

theorem out9_eq (x0 : Vec Ideal S1024x8192 .bf16) (x1 : Vec Ideal S8192x256 .bf16) (x2 : Vec Ideal S1024x256 .f32) (x3 : Vec Ideal S1x16x16384 .f32)
    (x4 : Vec Ideal S16x1 .f32) (x5 : Vec Ideal S1x16x4096 .f32) :
    out0_9 x0 x1 x2 x3 x4 x5 = k0_pay4 x5 := by
  unfold out0_9
  rw [View.canon_unit_zero hz, View.ld_unit_zero hz3]

theorem flushed6_eq (c : Dev nD) (t : Fin cfg0.N) :
    (dats m 0 c).flushed 6 t = ((cfg0.win 6).blk t).view.read (Elt Ideal) (GM m c) := by
  obtain ⟨e0, e1⟩ := idx6 t
  rw [flushed6, out6_eq]
  funext j
  rw [View.read_apply]
  refine point m c t j _ ?_ ?_
  · show win0_6.index t 0 * 1024 + 1 * (j 0).val = _; rw [e0]; omega
  · show win0_6.index t 1 * 256 + 1 * (j 1).val = _; rw [e1]; omega

theorem flushed7_eq (c : Dev nD) (t : Fin cfg0.N) :
    (dats m 0 c).flushed 7 t = ((cfg0.win 7).blk t).view.read (Elt Ideal) (GM m c) := by
  obtain ⟨e0, e1⟩ := idx7 t
  rw [flushed7, out7_eq]
  funext j
  rw [View.read_apply]
  refine point m c t j _ ?_ ?_
  · show win0_7.index t 0 * 1024 + 1 * (j 0).val = _; rw [e0]; omega
  · show win0_7.index t 1 * 256 + 1 * (j 1).val = _; rw [e1]; omega

theorem flushed8_eq (c : Dev nD) (t : Fin cfg0.N) :
    (dats m 0 c).flushed 8 t = ((cfg0.win 8).blk t).view.read (Elt Ideal) (GiM m c) := by
  obtain ⟨e0, e1⟩ := idx8 t
  rw [flushed8, out8_eq]
  funext j
  rw [View.read_apply]
  refine pointi m c t j _ ?_ ?_
  · show win0_8.index t 0 * 16 + 1 * (j 0).val = _; rw [e0]; omega
  · show win0_8.index t 1 * 16384 + 1 * (j 1).val = _; rw [e1]; omega

theorem flushed9_eq (c : Dev nD) (t : Fin cfg0.N) :
    (dats m 0 c).flushed 9 t = ((cfg0.win 9).blk t).view.read (Elt Ideal) (GoM m c) := by
  obtain ⟨e0, e1⟩ := idx9 t
  rw [flushed9, out9_eq]
  funext j
  rw [View.read_apply]
  refine pointo m c t j _ ?_ ?_
  · show win0_9.index t 0 * 16 + 1 * (j 0).val = _; rw [e0]; omega
  · show win0_9.index t 1 * 4096 + 1 * (j 1).val = _; rw [e1]; omega

/-- The point whose output block holds an element. -/
def pt (i : S16384x4096.Idx) : Fin cfg0.N :=
  ⟨(i 0).val / 1024 * 16 + (i 1).val / 256, by
    have h0 : (i 0 : Nat) < 16384 := (i 0).isLt
    have h1 : (i 1 : Nat) < 4096 := (i 1).isLt
    rw [show cfg0.N = 256 from N_0]; omega⟩

theorem pt_div (i : S16384x4096.Idx) : (pt i).val / 16 = (i 0).val / 1024 ∧ (pt i).val % 16 = (i 1).val / 256 := by
  have h0 : (i 0 : Nat) < 16384 := (i 0).isLt
  have h1 : (i 1 : Nat) < 4096 := (i 1).isLt
  unfold pt
  dsimp only
  omega

/-- The point whose output block holds an element. -/
def pti (i : S4096x16384.Idx) : Fin cfg0.N :=
  ⟨(i 0).val / 16, by
    have h0 : (i 0 : Nat) < 4096 := (i 0).isLt
    have h1 : (i 1 : Nat) < 16384 := (i 1).isLt
    rw [show cfg0.N = 256 from N_0]; omega⟩

theorem pti_div (i : S4096x16384.Idx) : (pti i).val = (i 0).val / 16 := by
  have h0 : (i 0 : Nat) < 4096 := (i 0).isLt
  have h1 : (i 1 : Nat) < 16384 := (i 1).isLt
  rfl

/-- The point whose output block holds an element. -/
def pto (i : S4096x4096.Idx) : Fin cfg0.N :=
  ⟨(i 0).val / 16, by
    have h0 : (i 0 : Nat) < 4096 := (i 0).isLt
    have h1 : (i 1 : Nat) < 4096 := (i 1).isLt
    rw [show cfg0.N = 256 from N_0]; omega⟩

theorem pto_div (i : S4096x4096.Idx) : (pto i).val = (i 0).val / 16 := by
  have h0 : (i 0 : Nat) < 4096 := (i 0).isLt
  have h1 : (i 1 : Nat) < 4096 := (i 1).isLt
  rfl

theorem final6 (c : Dev nD) : (dats m 0 c).arrAt 6 cfg0.N = GM m c :=
  (dats m 0 c).arrAt_eq_of_cover 6 (GM m c) (fun t _ => flushed6_eq m c t) fun i =>
    ⟨pt i, flush0_6 _, by
      show i ∈ ((View.whole main_v1_0).slice (win0_6.rect (pt i))).set
      obtain ⟨e0, e1⟩ := idx6 (pt i)
      have p := pt_div i
      have h0 : (i 0 : Nat) < 16384 := (i 0).isLt
      have h1 : (i 1 : Nat) < 4096 := (i 1).isLt
      rw [View.set_slice_whole, Rect.mem_set_unit]
      intro a
      match a with
      | ⟨0, _⟩ => show win0_6.index (pt i) 0 * 1024 ≤ (i 0 : Nat) ∧ (i 0 : Nat) < win0_6.index (pt i) 0 * 1024 + 1024
                  rw [e0]; omega
      | ⟨1, _⟩ => show win0_6.index (pt i) 1 * 256 ≤ (i 1 : Nat) ∧ (i 1 : Nat) < win0_6.index (pt i) 1 * 256 + 256
                  rw [e1]; omega⟩

theorem final7 (c : Dev nD) : (dats m 0 c).arrAt 7 cfg0.N = GM m c :=
  (dats m 0 c).arrAt_eq_of_cover 7 (GM m c) (fun t _ => flushed7_eq m c t) fun i =>
    ⟨pt i, flush0_7 _, by
      show i ∈ ((View.whole main_v1_1).slice (win0_7.rect (pt i))).set
      obtain ⟨e0, e1⟩ := idx7 (pt i)
      have p := pt_div i
      have h0 : (i 0 : Nat) < 16384 := (i 0).isLt
      have h1 : (i 1 : Nat) < 4096 := (i 1).isLt
      rw [View.set_slice_whole, Rect.mem_set_unit]
      intro a
      match a with
      | ⟨0, _⟩ => show win0_7.index (pt i) 0 * 1024 ≤ (i 0 : Nat) ∧ (i 0 : Nat) < win0_7.index (pt i) 0 * 1024 + 1024
                  rw [e0]; omega
      | ⟨1, _⟩ => show win0_7.index (pt i) 1 * 256 ≤ (i 1 : Nat) ∧ (i 1 : Nat) < win0_7.index (pt i) 1 * 256 + 256
                  rw [e1]; omega⟩

theorem final8 (c : Dev nD) : (dats m 0 c).arrAt 8 cfg0.N = GiM m c :=
  (dats m 0 c).arrAt_eq_of_cover 8 (GiM m c) (fun t _ => flushed8_eq m c t) fun i =>
    ⟨pti i, flush0_8 _, by
      show i ∈ ((View.whole main_v1_2).slice (win0_8.rect (pti i))).set
      obtain ⟨e0, e1⟩ := idx8 (pti i)
      have p := pti_div i
      have h0 : (i 0 : Nat) < 4096 := (i 0).isLt
      have h1 : (i 1 : Nat) < 16384 := (i 1).isLt
      rw [View.set_slice_whole, Rect.mem_set_unit]
      intro a
      match a with
      | ⟨0, _⟩ => show win0_8.index (pti i) 0 * 16 ≤ (i 0 : Nat) ∧ (i 0 : Nat) < win0_8.index (pti i) 0 * 16 + 16
                  rw [e0]; omega
      | ⟨1, _⟩ => show win0_8.index (pti i) 1 * 16384 ≤ (i 1 : Nat) ∧ (i 1 : Nat) < win0_8.index (pti i) 1 * 16384 + 16384
                  rw [e1]; omega⟩

theorem final9 (c : Dev nD) : (dats m 0 c).arrAt 9 cfg0.N = GoM m c :=
  (dats m 0 c).arrAt_eq_of_cover 9 (GoM m c) (fun t _ => flushed9_eq m c t) fun i =>
    ⟨pto i, flush0_9 _, by
      show i ∈ ((View.whole main_v1_3).slice (win0_9.rect (pto i))).set
      obtain ⟨e0, e1⟩ := idx9 (pto i)
      have p := pto_div i
      have h0 : (i 0 : Nat) < 4096 := (i 0).isLt
      have h1 : (i 1 : Nat) < 4096 := (i 1).isLt
      rw [View.set_slice_whole, Rect.mem_set_unit]
      intro a
      match a with
      | ⟨0, _⟩ => show win0_9.index (pto i) 0 * 16 ≤ (i 0 : Nat) ∧ (i 0 : Nat) < win0_9.index (pto i) 0 * 16 + 16
                  rw [e0]; omega
      | ⟨1, _⟩ => show win0_9.index (pto i) 1 * 4096 ≤ (i 1 : Nat) ∧ (i 1 : Nat) < win0_9.index (pto i) 1 * 4096 + 4096
                  rw [e1]; omega⟩

/-- The kernel's run: the results named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v1_0) = GM m c
      ∧ r.2.mem ((c : Thread nD τ).loc main_v1_1) = GM m c
      ∧ r.2.mem ((c : Thread nD τ).loc main_v1_2) = GiM m c
      ∧ r.2.mem ((c : Thread nD τ).loc main_v1_3) = GoM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c), (h c).2.2.2.1.trans (final9 m c), (h c).2.2.2.2⟩) (run_blocks m ρ)

end Cert.Kernel10Ideal.Value

namespace Cert.Reference10Ideal.Value

open Cert.Reference10Ideal Cert.Reference10Ideal.Gen

/-- The reference's input weights. -/
def Wi (w : FVec Ideal S2x4096x16384 .f32) (n : FVec Ideal S4096 .f32) : FVec Ideal S4096x16384 .f32 :=
  mulf (shapeCast _ (extractStridedSlice S1x4096x16384 ![0, 0, 0] w slices_S2x4096x16384_S1x4096x16384_0_0_0) shapeCasts_S1x4096x16384_S4096x16384) (broadcastInDim S4096x16384 ![0, 1] bcast_S4096x1_S4096x16384_0_1 (broadcastInDim S4096x1 ![0] bcast_S4096_S4096x1_0 n))

theorem Wi_apply (w : FVec Ideal S2x4096x16384 .f32) (n : FVec Ideal S4096 .f32) (p : Fin 4096) (q : Fin 16384) :
    Wi w n (ix2 p q) = w (ix3 0 p q) * n (ix1 p) := by
  unfold Wi
  pointwise

theorem Wi_eq (w : FVec Ideal S2x4096x16384 .f32) (n : FVec Ideal S4096 .f32) : Wi w n = Cert.Kernel10Ideal.Value.Gi w n := by
  funext i
  have ei : i = ix2 (i 0) (i 1) := by funext a; match a with | ⟨0, _⟩ => rfl | ⟨1, _⟩ => rfl
  exact (congrArg (Wi w n) ei).trans (Wi_apply w n (i 0) (i 1))

/-- The reference's output weights. -/
def Wo (w : FVec Ideal S2x4096x4096 .f32) : FVec Ideal S4096x4096 .f32 :=
  shapeCast _ (extractStridedSlice S1x4096x4096 ![0, 0, 0] w slices_S2x4096x4096_S1x4096x4096_0_0_0) shapeCasts_S1x4096x4096_S4096x4096

theorem Wo_apply (w : FVec Ideal S2x4096x4096 .f32) (p : Fin 4096) (q : Fin 4096) :
    Wo w (ix2 p q) = w (ix3 0 p q) := by
  unfold Wo
  pointwise

theorem Wo_eq (w : FVec Ideal S2x4096x4096 .f32) : Wo w = Cert.Kernel10Ideal.Value.Go w := by
  funext i
  have ei : i = ix2 (i 0) (i 1) := by funext a; match a with | ⟨0, _⟩ => rfl | ⟨1, _⟩ => rfl
  exact (congrArg (Wo w) ei).trans (Wo_apply w (i 0) (i 1))

/-- The reference's value, element by element: the same. -/
theorem ref_eq (x : FVec Ideal S16384x8192 .f32) (w : FVec Ideal S8192x4096 .f32) (res : FVec Ideal S16384x4096 .f32) :
    addf res (Host.dotGeneral dot_S16384x8192_S8192x4096_S16384x4096_1_0_0_1_n_n none x w) = Cert.Kernel10Ideal.Value.G x w res := by
  funext i
  show res i + Ideal.matmul dot_S16384x8192_S8192x4096_S16384x4096_1_0_0_1_n_n x w (fun _ => 0) i = _
  rw [Ideal.matmul_apply₁_of dot_S16384x8192_S8192x4096_S16384x4096_1_0_0_1_n_n (a := 1) rfl (K := 8192) rfl x w _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl)]
  rw [zero_add]
  rfl

end Cert.Reference10Ideal.Value

end
-- ==== Proof.SampleRes.lean ====
/-
  The value of the sample batch's output projection with its residual (`kernel11`: `_matmul_cast_res`): both result arrays are
  `res + x·w`, the third is the layer's weights, and the reference's are the same.
-/
module

public import proofs.«01_k».proof.Proof.Gen.Kernel11Ideal.Value
public import proofs.«01_k».proof.Proof.Gen.Reference11Ideal.Run
public import Idealize.ShloMosaic.Lib.Pipeline.Value
public import Idealize.ShloMosaic.Lib.KernelVsHost
public import Idealize.ShloMosaic.Lib.Pointwise
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The result: the residual plus the product, element by element. -/
def G (x : S144x8192.Idx → EReal) (w : S2x8192x4096.Idx → EReal) (res : S144x4096.Idx → EReal) : S144x4096.Idx → EReal :=
  fun i => res i + ∑ k : Fin 8192, x (ix2 (i 0) k) * w (ix3 0 k (i 1))

/-- The layer's weights. -/
def Gw (w : S2x8192x4096.Idx → EReal) : S8192x4096.Idx → EReal := fun i => w (ix3 0 (i 0) (i 1))

/-- The results over the launch's arguments. -/
def GM (c : Dev nD) : S144x4096.Idx → EReal :=
  G (m ((c : Thread nD τ).loc main_arg0)) (m ((c : Thread nD τ).loc main_arg1)) (m ((c : Thread nD τ).loc main_arg2))
def GwM (c : Dev nD) : S8192x4096.Idx → EReal := Gw (m ((c : Thread nD τ).loc main_arg1))

/-- What the body computes of its blocks. -/
theorem pay1_apply (v0 : Vec Ideal S1x8192x256 .f32) (p : Fin 8192) (q : Fin 256) :
    k0_pay1 v0 (ix2 p q) = v0 (ix3 0 p q) := by
  unfold_payloads
  pointwise

theorem pay2_apply (v0 : Vec Ideal S1x8192x256 .f32) (v4 : Vec Ideal S144x256 .f32) (v5 : Vec Ideal S144x8192 .bf16) (j : S144x256.Idx) :
    k0_pay2 v0 v4 v5 j = v4 j + ∑ k : Fin 8192, v5 (ix2 (j 0) k) * v0 (ix3 0 k (j 1)) := by
  show v4 j + Ideal.matmul dot_S144x8192_S8192x256_S144x256_1_0_0_1_n_n v5 (k0_pay1 v0)
    (constant (F := Ideal) S144x256 .f32 0x00000000#32) j = _
  rw [Ideal.matmul_apply₁_of dot_S144x8192_S8192x256_S144x256_1_0_0_1_n_n (a := 1) rfl (K := 8192) rfl v5 (k0_pay1 v0) _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [(show (constant (F := Ideal) S144x256 .f32 0x00000000#32 : S144x256.Idx → EReal) j = 0 from Ideal.ofBits_zero_f32), zero_add]
  exact congrArg (fun a : EReal => v4 j + a) (Finset.sum_congr rfl fun k _ =>
    congrArg (fun a : EReal => v5 (ix2 (j 0) k) * a) (pay1_apply v0 k (j 1)))

theorem idx0 : ∀ t : Fin cfg0.N, win0_0.index t 0 = 0 ∧ win0_0.index t 1 = 0 := by
  decide +kernel

theorem idx1 : ∀ t : Fin cfg0.N, win0_1.index t 0 = 0 ∧ win0_1.index t 1 = 0 ∧ win0_1.index t 2 = t.val := by
  decide +kernel

theorem idx2 : ∀ t : Fin cfg0.N, win0_2.index t 0 = 0 ∧ win0_2.index t 1 = t.val := by
  decide +kernel

theorem idx3 : ∀ t : Fin cfg0.N, win0_3.index t 0 = 0 ∧ win0_3.index t 1 = t.val := by
  decide +kernel

theorem idx4 : ∀ t : Fin cfg0.N, win0_4.index t 0 = 0 ∧ win0_4.index t 1 = t.val := by
  decide +kernel

theorem idx5 : ∀ t : Fin cfg0.N, win0_5.index t 0 = 0 ∧ win0_5.index t 1 = t.val := by
  decide +kernel

theorem iblk0 (c : Dev nD) (t : Fin cfg0.N) (j : S144x8192.Idx) (i : S144x8192.Idx)
    (h0 : (i 0).val = (j 0).val) (h1 : (i 1).val = (j 1).val) :
    (iblk m c 0 t : Vec Ideal S144x8192 .bf16) j = m ((c : Thread nD τ).loc main_arg0) i := by
  obtain ⟨e0, e1⟩ := idx0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 144 + 1 * (j 0).val = (i 0).val; rw [e0, h0]; omega
  | ⟨1, _⟩ => show win0_0.index t 1 * 8192 + 1 * (j 1).val = (i 1).val; rw [e1, h1]; omega

theorem iblk1 (c : Dev nD) (t : Fin cfg0.N) (j : S1x8192x256.Idx) (i : S2x8192x4096.Idx)
    (h0 : (i 0).val = (j 0).val) (h1 : (i 1).val = (j 1).val) (h2 : (i 2).val = t.val * 256 + (j 2).val) :
    (iblk m c 1 t : Vec Ideal S1x8192x256 .f32) j = m ((c : Thread nD τ).loc main_arg1) i := by
  obtain ⟨e0, e1, e2⟩ := idx1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1 + 1 * (j 0).val = (i 0).val; rw [e0, h0]; omega
  | ⟨1, _⟩ => show win0_1.index t 1 * 8192 + 1 * (j 1).val = (i 1).val; rw [e1, h1]; omega
  | ⟨2, _⟩ => show win0_1.index t 2 * 256 + 1 * (j 2).val = (i 2).val; rw [e2, h2]; omega

theorem iblk2 (c : Dev nD) (t : Fin cfg0.N) (j : S144x256.Idx) (i : S144x4096.Idx)
    (h0 : (i 0).val = (j 0).val) (h1 : (i 1).val = t.val * 256 + (j 1).val) :
    (iblk m c 2 t : Vec Ideal S144x256 .f32) j = m ((c : Thread nD τ).loc main_arg2) i := by
  obtain ⟨e0, e1⟩ := idx2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 144 + 1 * (j 0).val = (i 0).val; rw [e0, h0]; omega
  | ⟨1, _⟩ => show win0_2.index t 1 * 256 + 1 * (j 1).val = (i 1).val; rw [e1, h1]; omega

/-- The block of the result a point computes. -/
theorem point (c : Dev nD) (t : Fin cfg0.N) (j : S144x256.Idx) (i : S144x4096.Idx)
    (h0 : (i 0).val = (j 0).val) (h1 : (i 1).val = t.val * 256 + (j 1).val) :
    k0_pay2 (iblk m c 1 t : Vec Ideal S1x8192x256 .f32) (iblk m c 2 t : Vec Ideal S144x256 .f32)
      (iblk m c 0 t : Vec Ideal S144x8192 .bf16) j = GM m c i := by
  exact (pay2_apply _ _ _ j).trans (congrArg₂ (fun a b : EReal => a + b) (iblk2 m c t j i h0 h1)
    (Finset.sum_congr rfl fun k _ => congrArg₂ (fun a b : EReal => a * b)
      (iblk0 m c t (ix2 (j 0) k) (ix2 (i 0) k) h0 rfl) (iblk1 m c t (ix3 0 k (j 1)) (ix3 0 k (i 1)) rfl rfl h1)))

/-- The block of the weights a point stores. -/
theorem pointw (c : Dev nD) (t : Fin cfg0.N) (j : S8192x256.Idx) (i : S8192x4096.Idx)
    (h0 : (i 0).val = (j 0).val) (h1 : (i 1).val = t.val * 256 + (j 1).val) :
    k0_pay1 (iblk m c 1 t : Vec Ideal S1x8192x256 .f32) j = GwM m c i := by
  have ej : j = ix2 (j 0) (j 1) := by funext a; match a with | ⟨0, _⟩ => rfl | ⟨1, _⟩ => rfl
  exact (congrArg (k0_pay1 (iblk m c 1 t : Vec Ideal S1x8192x256 .f32)) ej).trans ((pay1_apply _ (j 0) (j 1)).trans
    (iblk1 m c t (ix3 0 (j 0) (j 1)) (ix3 0 (i 0) (i 1)) rfl h0 h1))

theorem out3_eq (x0 : Vec Ideal S144x8192 .bf16) (x1 : Vec Ideal S1x8192x256 .f32) (x2 : Vec Ideal S144x256 .f32) :
    out0_3 x0 x1 x2 = k0_pay2 x1 x2 x0 := by
  unfold out0_3
  rw [View.canon_unit_zero hz, View.ld_unit_zero hz3, View.ld_unit_zero hz, View.ld_unit_zero hz]

theorem out4_eq (x0 : Vec Ideal S144x8192 .bf16) (x1 : Vec Ideal S1x8192x256 .f32) (x2 : Vec Ideal S144x256 .f32) :
    out0_4 x0 x1 x2 = k0_pay2 x1 x2 x0 := by
  unfold out0_4
  rw [View.canon_unit_zero hz, View.ld_unit_zero hz3, View.ld_unit_zero hz, View.ld_unit_zero hz]
  rfl

theorem out5_eq (x0 : Vec Ideal S144x8192 .bf16) (x1 : Vec Ideal S1x8192x256 .f32) (x2 : Vec Ideal S144x256 .f32) :
    out0_5 x0 x1 x2 = k0_pay1 x1 := by
  unfold out0_5
  rw [View.canon_unit_zero hz, View.ld_unit_zero hz3]

theorem flushed3_eq (c : Dev nD) (t : Fin cfg0.N) :
    (dats m 0 c).flushed 3 t = ((cfg0.win 3).blk t).view.read (Elt Ideal) (GM m c) := by
  obtain ⟨e0, e1⟩ := idx3 t
  rw [flushed3, out3_eq]
  funext j
  rw [View.read_apply]
  refine point m c t j _ ?_ ?_
  · show win0_3.index t 0 * 144 + 1 * (j 0).val = _; rw [e0]; omega
  · show win0_3.index t 1 * 256 + 1 * (j 1).val = _; rw [e1]; omega

theorem flushed4_eq (c : Dev nD) (t : Fin cfg0.N) :
    (dats m 0 c).flushed 4 t = ((cfg0.win 4).blk t).view.read (Elt Ideal) (GM m c) := by
  obtain ⟨e0, e1⟩ := idx4 t
  rw [flushed4, out4_eq]
  funext j
  rw [View.read_apply]
  refine point m c t j _ ?_ ?_
  · show win0_4.index t 0 * 144 + 1 * (j 0).val = _; rw [e0]; omega
  · show win0_4.index t 1 * 256 + 1 * (j 1).val = _; rw [e1]; omega

theorem flushed5_eq (c : Dev nD) (t : Fin cfg0.N) :
    (dats m 0 c).flushed 5 t = ((cfg0.win 5).blk t).view.read (Elt Ideal) (GwM m c) := by
  obtain ⟨e0, e1⟩ := idx5 t
  rw [flushed5, out5_eq]
  funext j
  rw [View.read_apply]
  refine pointw m c t j _ ?_ ?_
  · show win0_5.index t 0 * 8192 + 1 * (j 0).val = _; rw [e0]; omega
  · show win0_5.index t 1 * 256 + 1 * (j 1).val = _; rw [e1]; omega

/-- The point whose output block holds an element. -/
def pt (i : S144x4096.Idx) : Fin cfg0.N :=
  ⟨(i 1).val / 256, by
    have h0 : (i 0 : Nat) < 144 := (i 0).isLt
    have h1 : (i 1 : Nat) < 4096 := (i 1).isLt
    rw [show cfg0.N = 16 from N_0]; omega⟩

theorem pt_div (i : S144x4096.Idx) : (pt i).val = (i 1).val / 256 := by
  have h0 : (i 0 : Nat) < 144 := (i 0).isLt
  have h1 : (i 1 : Nat) < 4096 := (i 1).isLt
  rfl

/-- The point whose output block holds an element. -/
def ptw (i : S8192x4096.Idx) : Fin cfg0.N :=
  ⟨(i 1).val / 256, by
    have h0 : (i 0 : Nat) < 8192 := (i 0).isLt
    have h1 : (i 1 : Nat) < 4096 := (i 1).isLt
    rw [show cfg0.N = 16 from N_0]; omega⟩

theorem ptw_div (i : S8192x4096.Idx) : (ptw i).val = (i 1).val / 256 := by
  have h0 : (i 0 : Nat) < 8192 := (i 0).isLt
  have h1 : (i 1 : Nat) < 4096 := (i 1).isLt
  rfl

theorem final3 (c : Dev nD) : (dats m 0 c).arrAt 3 cfg0.N = GM m c :=
  (dats m 0 c).arrAt_eq_of_cover 3 (GM m c) (fun t _ => flushed3_eq m c t) fun i =>
    ⟨pt i, flush0_3 _, by
      show i ∈ ((View.whole main_v0_0).slice (win0_3.rect (pt i))).set
      obtain ⟨e0, e1⟩ := idx3 (pt i)
      have p := pt_div i
      have h0 : (i 0 : Nat) < 144 := (i 0).isLt
      have h1 : (i 1 : Nat) < 4096 := (i 1).isLt
      rw [View.set_slice_whole, Rect.mem_set_unit]
      intro a
      match a with
      | ⟨0, _⟩ => show win0_3.index (pt i) 0 * 144 ≤ (i 0 : Nat) ∧ (i 0 : Nat) < win0_3.index (pt i) 0 * 144 + 144
                  rw [e0]; omega
      | ⟨1, _⟩ => show win0_3.index (pt i) 1 * 256 ≤ (i 1 : Nat) ∧ (i 1 : Nat) < win0_3.index (pt i) 1 * 256 + 256
                  rw [e1]; omega⟩

theorem final4 (c : Dev nD) : (dats m 0 c).arrAt 4 cfg0.N = GM m c :=
  (dats m 0 c).arrAt_eq_of_cover 4 (GM m c) (fun t _ => flushed4_eq m c t) fun i =>
    ⟨pt i, flush0_4 _, by
      show i ∈ ((View.whole main_v0_1).slice (win0_4.rect (pt i))).set
      obtain ⟨e0, e1⟩ := idx4 (pt i)
      have p := pt_div i
      have h0 : (i 0 : Nat) < 144 := (i 0).isLt
      have h1 : (i 1 : Nat) < 4096 := (i 1).isLt
      rw [View.set_slice_whole, Rect.mem_set_unit]
      intro a
      match a with
      | ⟨0, _⟩ => show win0_4.index (pt i) 0 * 144 ≤ (i 0 : Nat) ∧ (i 0 : Nat) < win0_4.index (pt i) 0 * 144 + 144
                  rw [e0]; omega
      | ⟨1, _⟩ => show win0_4.index (pt i) 1 * 256 ≤ (i 1 : Nat) ∧ (i 1 : Nat) < win0_4.index (pt i) 1 * 256 + 256
                  rw [e1]; omega⟩

theorem final5 (c : Dev nD) : (dats m 0 c).arrAt 5 cfg0.N = GwM m c :=
  (dats m 0 c).arrAt_eq_of_cover 5 (GwM m c) (fun t _ => flushed5_eq m c t) fun i =>
    ⟨ptw i, flush0_5 _, by
      show i ∈ ((View.whole main_v0_2).slice (win0_5.rect (ptw i))).set
      obtain ⟨e0, e1⟩ := idx5 (ptw i)
      have p := ptw_div i
      have h0 : (i 0 : Nat) < 8192 := (i 0).isLt
      have h1 : (i 1 : Nat) < 4096 := (i 1).isLt
      rw [View.set_slice_whole, Rect.mem_set_unit]
      intro a
      match a with
      | ⟨0, _⟩ => show win0_5.index (ptw i) 0 * 8192 ≤ (i 0 : Nat) ∧ (i 0 : Nat) < win0_5.index (ptw i) 0 * 8192 + 8192
                  rw [e0]; omega
      | ⟨1, _⟩ => show win0_5.index (ptw i) 1 * 256 ≤ (i 1 : Nat) ∧ (i 1 : Nat) < win0_5.index (ptw i) 1 * 256 + 256
                  rw [e1]; omega⟩

/-- The kernel's run: the results named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GM m c
      ∧ r.2.mem ((c : Thread nD τ).loc main_v0_2) = GwM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2⟩) (run_blocks m ρ)

end Cert.Kernel11Ideal.Value

namespace Cert.Reference11Ideal.Value

open Cert.Reference11Ideal Cert.Reference11Ideal.Gen

/-- The reference's weights. -/
def W (w : FVec Ideal S2x8192x4096 .f32) : FVec Ideal S8192x4096 .f32 :=
  shapeCast _ (extractStridedSlice S1x8192x4096 ![0, 0, 0] w slices_S2x8192x4096_S1x8192x4096_0_0_0) shapeCasts_S1x8192x4096_S8192x4096

theorem W_apply (w : FVec Ideal S2x8192x4096 .f32) (p : Fin 8192) (q : Fin 4096) :
    W w (ix2 p q) = w (ix3 0 p q) := by
  unfold W
  pointwise

theorem W_eq (w : FVec Ideal S2x8192x4096 .f32) : W w = Cert.Kernel11Ideal.Value.Gw w := by
  funext i
  have ei : i = ix2 (i 0) (i 1) := by funext a; match a with | ⟨0, _⟩ => rfl | ⟨1, _⟩ => rfl
  exact (congrArg (W w) ei).trans (W_apply w (i 0) (i 1))

/-- The reference's value, element by element: the same. -/
theorem ref_eq (x : FVec Ideal S144x8192 .f32) (w : FVec Ideal S2x8192x4096 .f32) (res : FVec Ideal S144x4096 .f32) :
    addf res (Host.dotGeneral dot_S144x8192_S8192x4096_S144x4096_1_0_0_1_n_n none x (W w)) = Cert.Kernel11Ideal.Value.G x w res := by
  funext i
  show res i + Ideal.matmul dot_S144x8192_S8192x4096_S144x4096_1_0_0_1_n_n x (W w) (fun _ => 0) i = _
  rw [Ideal.matmul_apply₁_of dot_S144x8192_S8192x4096_S144x4096_1_0_0_1_n_n (a := 1) rfl (K := 8192) rfl x (W w) _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl)]
  rw [zero_add]
  exact congrArg (fun a : EReal => res i + a) (Finset.sum_congr rfl fun k _ =>
    congrArg (fun a : EReal => x (ix2 (i 0) k) * a) (W_apply w k (i 1)))

end Cert.Reference11Ideal.Value

end
-- ==== Proof.SampleNorm.lean ====
/-
  The value of the sample batch's input projection (`kernel12`: `_matmul_cast_norm`): one result is the product of the normalised rows
  with the layer's weights, the other the weights times the norm's, and the reference's are the same.
-/
module

public import proofs.«01_k».proof.Proof.Gen.Kernel12Ideal.Value
public import proofs.«01_k».proof.Proof.Gen.Reference12Ideal.Run
public import proofs.«01_k».proof.Proof.RowScale
public import Idealize.ShloMosaic.Lib.Pipeline.Value
public import Idealize.ShloMosaic.Lib.KernelVsHost
public import Idealize.ShloMosaic.Lib.Pointwise
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen Cert.Rms

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- A column of the projection, in the weights. -/
def col (q : Fin 18432) : Fin 18560 := ⟨q.val, by omega⟩

/-- The projection, element by element. -/
def G (h : S144x4096.Idx → EReal) (w : S2x4096x18560.Idx → EReal) (n : S4096.Idx → EReal) : S144x18432.Idx → EReal :=
  fun i => ∑ k : Fin 4096, h (ix2 (i 0) k) * sc (fun l => h (ix2 (i 0) l)) * n (ix1 k) * w (ix3 0 k (col (i 1)))

/-- The layer's weights, their rows times the norm's weights. -/
def Gw (w : S2x4096x18560.Idx → EReal) (n : S4096.Idx → EReal) : S4096x18432.Idx → EReal :=
  fun i => w (ix3 0 (i 0) (col (i 1))) * n (ix1 (i 0))

/-- The results over the launch's arguments. -/
def GM (c : Dev nD) : S144x18432.Idx → EReal :=
  G (m ((c : Thread nD τ).loc main_arg0)) (m ((c : Thread nD τ).loc main_arg1)) (m ((c : Thread nD τ).loc main_arg2))
def GwM (c : Dev nD) : S4096x18432.Idx → EReal := Gw (m ((c : Thread nD τ).loc main_arg1)) (m ((c : Thread nD τ).loc main_arg2))

/-- The scale goes into the sum, next to the row. -/
theorem scale_in (x w n : Fin 4096 → EReal) :
    (∑ k, x k * (w k * n k)) * sc x = ∑ k, x k * sc x * n k * w k := by
  rw [dot_scale x fun k => w k * n k]
  exact Finset.sum_congr rfl fun k _ => by rw [mul_assoc (x k * sc x), mul_comm (n k)]

/-- The weights the body multiplies with. -/
theorem pay1_apply (v0 : Vec Ideal S1x4096x512 .f32) (v2 : Vec Ideal S4096x1 .f32) (p : Fin 4096) (q : Fin 512) :
    k0_pay1 v0 v2 (ix2 p q) = v0 (ix3 0 p q) * v2 (ix2 p 0) := by
  unfold_payloads
  pointwise

/-- What the body computes of a block and its weights. -/
def prod (x : FVec Ideal S144x4096 .bf16) (w : FVec Ideal S4096x512 .bf16) : FVec Ideal S144x512 .f32 :=
  matmul dot_S144x4096_S4096x512_S144x512_1_0_0_1_n_n none x w (constant S144x512 .f32 0x00000000#32)

theorem prod_apply (x : FVec Ideal S144x4096 .bf16) (w : FVec Ideal S4096x512 .bf16) (j : S144x512.Idx) :
    prod x w j = ∑ k : Fin 4096, x (ix2 (j 0) k) * w (ix2 k (j 1)) := by
  show Ideal.matmul dot_S144x4096_S4096x512_S144x512_1_0_0_1_n_n x w
    (constant (F := Ideal) S144x512 .f32 0x00000000#32) j = _
  rw [Ideal.matmul_apply₁_of dot_S144x4096_S4096x512_S144x512_1_0_0_1_n_n (a := 1) rfl (K := 4096) rfl x w _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [(show (constant (F := Ideal) S144x512 .f32 0x00000000#32 : S144x512.Idx → EReal) j = 0 from Ideal.ofBits_zero_f32), zero_add]

theorem pay2_scale (v0 : Vec Ideal S1x4096x512 .f32) (v2 : Vec Ideal S4096x1 .f32) (x : Vec Ideal S144x4096 .bf16) (j : S144x512.Idx) :
    k0_pay2 v0 v2 x x j = prod x (k0_pay1 v0 v2) j * sc (fun k => x (ix2 (j 0) k)) := by
  unfold k0_pay2 prod
  generalize k0_pay1 v0 v2 = w
  generalize matmul dot_S144x4096_S4096x512_S144x512_1_0_0_1_n_n none x w (constant S144x512 .f32 0x00000000#32) = M
  unfold sc
  pointwise

theorem pay2_apply (v0 : Vec Ideal S1x4096x512 .f32) (v2 : Vec Ideal S4096x1 .f32) (x : Vec Ideal S144x4096 .bf16) (j : S144x512.Idx) :
    k0_pay2 v0 v2 x x j = ∑ k : Fin 4096, x (ix2 (j 0) k) * sc (fun l => x (ix2 (j 0) l)) * v2 (ix2 k 0) * v0 (ix3 0 k (j 1)) := by
  refine (pay2_scale v0 v2 x j).trans (Eq.trans ?_
    (scale_in (fun k => x (ix2 (j 0) k)) (fun k => v0 (ix3 0 k (j 1))) (fun k => v2 (ix2 k 0))))
  exact congrArg (fun a : EReal => a * sc (fun k => x (ix2 (j 0) k))) ((prod_apply x _ j).trans (Finset.sum_congr rfl fun k _ =>
    congrArg (fun a : EReal => x (ix2 (j 0) k) * a) (pay1_apply v0 v2 k (j 1))))

theorem idx0 : ∀ t : Fin cfg0.N, win0_0.index t 0 = 0 ∧ win0_0.index t 1 = 0 := by
  decide +kernel

theorem idx1 : ∀ t : Fin cfg0.N, win0_1.index t 0 = 0 ∧ win0_1.index t 1 = 0 ∧ win0_1.index t 2 = t.val := by
  decide +kernel

theorem idx2 : ∀ t : Fin cfg0.N, win0_2.index t 0 = 0 ∧ win0_2.index t 1 = 0 := by
  decide +kernel

theorem idx3 : ∀ t : Fin cfg0.N, win0_3.index t 0 = 0 ∧ win0_3.index t 1 = t.val := by
  decide +kernel

theorem idx4 : ∀ t : Fin cfg0.N, win0_4.index t 0 = 0 ∧ win0_4.index t 1 = t.val := by
  decide +kernel

theorem iblk0 (c : Dev nD) (t : Fin cfg0.N) (j : S144x4096.Idx) (i : S144x4096.Idx)
    (h0 : (i 0).val = (j 0).val) (h1 : (i 1).val = (j 1).val) :
    (iblk m c 0 t : Vec Ideal S144x4096 .bf16) j = m ((c : Thread nD τ).loc main_arg0) i := by
  obtain ⟨e0, e1⟩ := idx0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 144 + 1 * (j 0).val = (i 0).val; rw [e0, h0]; omega
  | ⟨1, _⟩ => show win0_0.index t 1 * 4096 + 1 * (j 1).val = (i 1).val; rw [e1, h1]; omega

theorem iblk1 (c : Dev nD) (t : Fin cfg0.N) (j : S1x4096x512.Idx) (i : S2x4096x18560.Idx)
    (h0 : (i 0).val = (j 0).val) (h1 : (i 1).val = (j 1).val) (h2 : (i 2).val = t.val * 512 + (j 2).val) :
    (X0_1 m c t : Vec Ideal S1x4096x512 .f32) j = m ((c : Thread nD τ).loc main_arg1) i := by
  obtain ⟨e0, e1, e2⟩ := idx1 t
  unfold X0_1 Pipeline.Window.fill
  rw [dif_pos (moved0_1 t _)]
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1 + 1 * (j 0).val = (i 0).val; rw [e0, h0]; omega
  | ⟨1, _⟩ => show win0_1.index t 1 * 4096 + 1 * (j 1).val = (i 1).val; rw [e1, h1]; omega
  | ⟨2, _⟩ => show win0_1.index t 2 * 512 + 1 * (j 2).val = (i 2).val; rw [e2, h2]; omega

/-- The norm's weights as the region finds them: the argument, laid out as a column. -/
theorem V_v0 (c : Dev nD) : (V m c main_v0 : S4096x1.Idx → EReal)
    = shapeCast S4096x1 (m ((c : Thread nD τ).loc main_arg2) : S4096.Idx → EReal) shapeCasts_S4096_S4096x1 := by
  show StableHlo.after hostOps0 (fun b => m (c, b)) main_v0 = _
  after_results
  rfl

theorem iblk2 (c : Dev nD) (t : Fin cfg0.N) (j : S4096x1.Idx) (k : Fin 4096) (hk : k.val = (j 0).val) :
    (iblk m c 2 t : Vec Ideal S4096x1 .f32) j = m ((c : Thread nD τ).loc main_arg2) (ix1 k) := by
  obtain ⟨e0, e1⟩ := idx2 t
  unfold iblk
  rw [View.read_apply]
  show (V m c main_v0 : S4096x1.Idx → EReal) _ = m (c.tc.loc main_arg2) _
  rw [V_v0]
  refine shapeCast_apply _ _ _ _ ?_
  refine (Shape.rowMajor_val_one _).trans (Eq.trans ?_ (Shape.rowMajor_val_two _).symm)
  have hj : (j 1 : Nat) < 1 := (j 1).isLt
  show k.val = (win0_2.index t 0 * 4096 + 1 * (j 0).val) * 1 + (win0_2.index t 1 * 1 + 1 * (j 1).val)
  rw [e0, e1, hk]; omega

/-- The block of the projection a point computes. -/
theorem point (c : Dev nD) (t : Fin cfg0.N) (j : S144x512.Idx) (i : S144x18432.Idx)
    (h0 : (i 0).val = (j 0).val) (h1 : (i 1).val = t.val * 512 + (j 1).val) :
    k0_pay2 (X0_1 m c t : Vec Ideal S1x4096x512 .f32) (iblk m c 2 t : Vec Ideal S4096x1 .f32)
      (iblk m c 0 t : Vec Ideal S144x4096 .bf16) (iblk m c 0 t : Vec Ideal S144x4096 .bf16) j = GM m c i := by
  have e : (fun k : Fin 4096 => (iblk m c 0 t : Vec Ideal S144x4096 .bf16) (ix2 (j 0) k))
      = fun k => m ((c : Thread nD τ).loc main_arg0) (ix2 (i 0) k) :=
    funext fun k => iblk0 m c t (ix2 (j 0) k) (ix2 (i 0) k) h0 rfl
  exact (pay2_apply _ _ _ j).trans (Finset.sum_congr rfl fun k _ => congrArg₂ (fun a b : EReal => a * b)
    (congrArg₂ (fun a b : EReal => a * b) (congrArg₂ (fun a b : EReal => a * b) (congrFun e k) (congrArg sc e))
      (iblk2 m c t (ix2 k 0) k rfl))
    (iblk1 m c t (ix3 0 k (j 1)) (ix3 0 k (col (i 1))) rfl rfl h1))

/-- The block of the weights a point stores. -/
theorem pointw (c : Dev nD) (t : Fin cfg0.N) (j : S4096x512.Idx) (i : S4096x18432.Idx)
    (h0 : (i 0).val = (j 0).val) (h1 : (i 1).val = t.val * 512 + (j 1).val) :
    k0_pay1 (X0_1 m c t : Vec Ideal S1x4096x512 .f32) (iblk m c 2 t : Vec Ideal S4096x1 .f32) j = GwM m c i := by
  have ej : j = ix2 (j 0) (j 1) := by funext a; match a with | ⟨0, _⟩ => rfl | ⟨1, _⟩ => rfl
  exact (congrArg (k0_pay1 (X0_1 m c t : Vec Ideal S1x4096x512 .f32) (iblk m c 2 t : Vec Ideal S4096x1 .f32)) ej).trans
    ((pay1_apply _ _ (j 0) (j 1)).trans (congrArg₂ (fun a b : EReal => a * b)
      (iblk1 m c t (ix3 0 (j 0) (j 1)) (ix3 0 (i 0) (col (i 1))) rfl h0 h1) (iblk2 m c t (ix2 (j 0) 0) (i 0) h0)))

theorem outs3 (c : Dev nD) (t : Fin cfg0.N) : (outsAt0 m c t).1 = k0_pay2 (X0_1 m c t) (iblk m c 2 t) (iblk m c 0 t) (iblk m c 0 t) := by
  unfold outsAt0 out0_A_3
  dsimp only
  rw [View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) (iblk m c 0 t) (X0_1 m c t) (iblk m c 2 t))]
  unfold kernelRun0_A
  dsimp only
  sl_unfold_words
  simp only [View.readAt_eq_ld, (hs0_0 t).read_unread, (hs0_1 t).read_unread, (hs0_2 t).read_unread]
  rw [View.canon_unit_zero hz]
  simp only [View.ld_unit_zero (S := S1x4096x512) hz3, View.ld_unit_zero (S := S4096x1) hz, View.ld_unit_zero (S := S144x4096) hz]

theorem outs4 (c : Dev nD) (t : Fin cfg0.N) : (outsAt0 m c t).2 = k0_pay1 (X0_1 m c t) (iblk m c 2 t) := by
  unfold outsAt0 out0_A_4
  dsimp only
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (X0_1 m c t) (iblk m c 2 t))]
  unfold kernelRun0_A
  dsimp only
  sl_unfold_words
  simp only [View.readAt_eq_ld, (hs0_0 t).read_unread, (hs0_1 t).read_unread, (hs0_2 t).read_unread]
  rw [View.canon_unit_zero hz]
  simp only [View.ld_unit_zero (S := S1x4096x512) hz3, View.ld_unit_zero (S := S4096x1) hz, View.ld_unit_zero (S := S144x4096) hz]

theorem flushed3_eq (c : Dev nD) (t : Fin cfg0.N) :
    (dats m 0 c).flushed 3 t = ((cfg0.win 3).blk t).view.read (Elt Ideal) (GM m c) := by
  obtain ⟨e0, e1⟩ := idx3 t
  rw [flushed3, outs3]
  funext j
  rw [View.read_apply]
  refine point m c t j _ ?_ ?_
  · show win0_3.index t 0 * 144 + 1 * (j 0).val = _; rw [e0]; omega
  · show win0_3.index t 1 * 512 + 1 * (j 1).val = _; rw [e1]; omega

theorem flushed4_eq (c : Dev nD) (t : Fin cfg0.N) :
    (dats m 0 c).flushed 4 t = ((cfg0.win 4).blk t).view.read (Elt Ideal) (GwM m c) := by
  obtain ⟨e0, e1⟩ := idx4 t
  rw [flushed4, outs4]
  funext j
  rw [View.read_apply]
  refine pointw m c t j _ ?_ ?_
  · show win0_4.index t 0 * 4096 + 1 * (j 0).val = _; rw [e0]; omega
  · show win0_4.index t 1 * 512 + 1 * (j 1).val = _; rw [e1]; omega

/-- The point whose output block holds an element. -/
def pt (i : S144x18432.Idx) : Fin cfg0.N :=
  ⟨(i 1).val / 512, by
    have h0 : (i 0 : Nat) < 144 := (i 0).isLt
    have h1 : (i 1 : Nat) < 18432 := (i 1).isLt
    rw [show cfg0.N = 36 from N_0]; omega⟩

theorem pt_div (i : S144x18432.Idx) : (pt i).val = (i 1).val / 512 := by
  have h0 : (i 0 : Nat) < 144 := (i 0).isLt
  have h1 : (i 1 : Nat) < 18432 := (i 1).isLt
  rfl

/-- The point whose output block holds an element. -/
def ptw (i : S4096x18432.Idx) : Fin cfg0.N :=
  ⟨(i 1).val / 512, by
    have h0 : (i 0 : Nat) < 4096 := (i 0).isLt
    have h1 : (i 1 : Nat) < 18432 := (i 1).isLt
    rw [show cfg0.N = 36 from N_0]; omega⟩

theorem ptw_div (i : S4096x18432.Idx) : (ptw i).val = (i 1).val / 512 := by
  have h0 : (i 0 : Nat) < 4096 := (i 0).isLt
  have h1 : (i 1 : Nat) < 18432 := (i 1).isLt
  rfl

theorem final3 (c : Dev nD) : (dats m 0 c).arrAt 3 cfg0.N = GM m c :=
  (dats m 0 c).arrAt_eq_of_cover 3 (GM m c) (fun t _ => flushed3_eq m c t) fun i =>
    ⟨pt i, flush0_3 _, by
      show i ∈ ((View.whole main_v1_0).slice (win0_3.rect (pt i))).set
      obtain ⟨e0, e1⟩ := idx3 (pt i)
      have p := pt_div i
      have h0 : (i 0 : Nat) < 144 := (i 0).isLt
      have h1 : (i 1 : Nat) < 18432 := (i 1).isLt
      rw [View.set_slice_whole, Rect.mem_set_unit]
      intro a
      match a with
      | ⟨0, _⟩ => show win0_3.index (pt i) 0 * 144 ≤ (i 0 : Nat) ∧ (i 0 : Nat) < win0_3.index (pt i) 0 * 144 + 144
                  rw [e0]; omega
      | ⟨1, _⟩ => show win0_3.index (pt i) 1 * 512 ≤ (i 1 : Nat) ∧ (i 1 : Nat) < win0_3.index (pt i) 1 * 512 + 512
                  rw [e1]; omega⟩

theorem final4 (c : Dev nD) : (dats m 0 c).arrAt 4 cfg0.N = GwM m c :=
  (dats m 0 c).arrAt_eq_of_cover 4 (GwM m c) (fun t _ => flushed4_eq m c t) fun i =>
    ⟨ptw i, flush0_4 _, by
      show i ∈ ((View.whole main_v1_1).slice (win0_4.rect (ptw i))).set
      obtain ⟨e0, e1⟩ := idx4 (ptw i)
      have p := ptw_div i
      have h0 : (i 0 : Nat) < 4096 := (i 0).isLt
      have h1 : (i 1 : Nat) < 18432 := (i 1).isLt
      rw [View.set_slice_whole, Rect.mem_set_unit]
      intro a
      match a with
      | ⟨0, _⟩ => show win0_4.index (ptw i) 0 * 4096 ≤ (i 0 : Nat) ∧ (i 0 : Nat) < win0_4.index (ptw i) 0 * 4096 + 4096
                  rw [e0]; omega
      | ⟨1, _⟩ => show win0_4.index (ptw i) 1 * 512 ≤ (i 1 : Nat) ∧ (i 1 : Nat) < win0_4.index (ptw i) 1 * 512 + 512
                  rw [e1]; omega⟩

/-- The kernel's run: the results named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v1_0) = GM m c
      ∧ r.2.mem ((c : Thread nD τ).loc main_v1_1) = GwM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (run_blocks m ρ)

end Cert.Kernel12Ideal.Value

namespace Cert.Reference12Ideal.Value

open Cert.Reference12Ideal Cert.Reference12Ideal.Gen Cert.Rms

/-- The reference's normalised rows. -/
def U (h : FVec Ideal S144x4096 .f32) (n : FVec Ideal S4096 .f32) : FVec Ideal S144x4096 .f32 :=
  mulf (mulf h (broadcastInDim S144x4096 ![0, 1] bcast_S144x1_S144x4096_0_1 (Host.rsqrt (addf (Host.divf (broadcastInDim S144x1 ![0] bcast_S144_S144x1_0 (Host.reduceAdd (mulf h h) (constant S_ .f32 0x00000000#32) reducesTo_S144x4096_S144_d1 h_S_)) (broadcastInDim S144x1 ![] bcast_S_S144x1 (constant S_ .f32 0x45800000#32))) (broadcastInDim S144x1 ![] bcast_S_S144x1 (constant S_ .f32 0x3727C5AC#32)))))) (broadcastInDim S144x4096 ![0, 1] bcast_S1x4096_S144x4096_0_1 (broadcastInDim S1x4096 ![1] bcast_S4096_S1x4096_1 n))

theorem U_apply (h : FVec Ideal S144x4096 .f32) (n : FVec Ideal S4096 .f32) (p : Fin 144) (q : Fin 4096) :
    U h n (ix2 p q) = h (ix2 p q) * sc (fun l => h (ix2 p l)) * n (ix1 q) := by
  unfold U sc
  pointwise

/-- The reference's weights. -/
def W (w : FVec Ideal S2x4096x18560 .f32) : FVec Ideal S4096x18432 .f32 :=
  shapeCast _ (extractStridedSlice S1x4096x18432 ![0, 0, 0] w slices_S2x4096x18560_S1x4096x18432_0_0_0) shapeCasts_S1x4096x18432_S4096x18432

theorem W_apply (w : FVec Ideal S2x4096x18560 .f32) (p : Fin 4096) (q : Fin 18432) :
    W w (ix2 p q) = w (ix3 0 p (Cert.Kernel12Ideal.Value.col q)) := by
  unfold W
  pointwise
  rfl

/-- The reference's weights times the norm's. -/
def Wn (w : FVec Ideal S2x4096x18560 .f32) (n : FVec Ideal S4096 .f32) : FVec Ideal S4096x18432 .f32 :=
  mulf (W w) (broadcastInDim S4096x18432 ![0, 1] bcast_S4096x1_S4096x18432_0_1 (broadcastInDim S4096x1 ![0] bcast_S4096_S4096x1_0 n))

theorem Wn_apply (w : FVec Ideal S2x4096x18560 .f32) (n : FVec Ideal S4096 .f32) (p : Fin 4096) (q : Fin 18432) :
    Wn w n (ix2 p q) = w (ix3 0 p (Cert.Kernel12Ideal.Value.col q)) * n (ix1 p) := by
  rw [← W_apply w p q]
  unfold Wn
  generalize W w = w'
  pointwise

theorem Wn_eq (w : FVec Ideal S2x4096x18560 .f32) (n : FVec Ideal S4096 .f32) : Wn w n = Cert.Kernel12Ideal.Value.Gw w n := by
  funext i
  have ei : i = ix2 (i 0) (i 1) := by funext a; match a with | ⟨0, _⟩ => rfl | ⟨1, _⟩ => rfl
  exact (congrArg (Wn w n) ei).trans (Wn_apply w n (i 0) (i 1))

/-- The reference's value, element by element: the same. -/
theorem ref_eq (h : FVec Ideal S144x4096 .f32) (w : FVec Ideal S2x4096x18560 .f32) (n : FVec Ideal S4096 .f32) :
    Host.dotGeneral dot_S144x4096_S4096x18432_S144x18432_1_0_0_1_n_n none (U h n) (W w) = Cert.Kernel12Ideal.Value.G h w n := by
  funext i
  show Ideal.matmul dot_S144x4096_S4096x18432_S144x18432_1_0_0_1_n_n (U h n) (W w) (fun _ => 0) i = _
  rw [Ideal.matmul_apply₁_of dot_S144x4096_S4096x18432_S144x18432_1_0_0_1_n_n (a := 1) rfl (K := 4096) rfl (U h n) (W w) _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl)]
  rw [zero_add]
  exact Finset.sum_congr rfl fun k _ => congrArg₂ (fun a b : EReal => a * b) (U_apply h n (i 0) k) (W_apply w k (i 1))

end Cert.Reference12Ideal.Value

end
-- ==== Proof.SampleStep.lean ====
/-
  The value of the sample batch's time step columns (`kernel13`: `_matmul_cast_norm`): one result is the product of the normalised rows
  with the layer's weights, the other the weights times the norm's, and the reference's are the same.
-/
module

public import proofs.«01_k».proof.Proof.Gen.Kernel13Ideal.Value
public import proofs.«01_k».proof.Proof.Gen.Reference13Ideal.Run
public import proofs.«01_k».proof.Proof.RowScale
public import Idealize.ShloMosaic.Lib.Pipeline.Value
public import Idealize.ShloMosaic.Lib.KernelVsHost
public import Idealize.ShloMosaic.Lib.Pointwise
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen Cert.Rms

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- A column of the projection, in the weights. -/
def col (q : Fin 128) : Fin 18560 := ⟨18432 + q.val, by omega⟩

/-- The projection, element by element. -/
def G (h : S144x4096.Idx → EReal) (w : S2x4096x18560.Idx → EReal) (n : S4096.Idx → EReal) : S144x128.Idx → EReal :=
  fun i => ∑ k : Fin 4096, h (ix2 (i 0) k) * sc (fun l => h (ix2 (i 0) l)) * n (ix1 k) * w (ix3 0 k (col (i 1)))

/-- The layer's weights, their rows times the norm's weights. -/
def Gw (w : S2x4096x18560.Idx → EReal) (n : S4096.Idx → EReal) : S4096x128.Idx → EReal :=
  fun i => w (ix3 0 (i 0) (col (i 1))) * n (ix1 (i 0))

/-- The results over the launch's arguments. -/
def GM (c : Dev nD) : S144x128.Idx → EReal :=
  G (m ((c : Thread nD τ).loc main_arg0)) (m ((c : Thread nD τ).loc main_arg1)) (m ((c : Thread nD τ).loc main_arg2))
def GwM (c : Dev nD) : S4096x128.Idx → EReal := Gw (m ((c : Thread nD τ).loc main_arg1)) (m ((c : Thread nD τ).loc main_arg2))

/-- The scale goes into the sum, next to the row. -/
theorem scale_in (x w n : Fin 4096 → EReal) :
    (∑ k, x k * (w k * n k)) * sc x = ∑ k, x k * sc x * n k * w k := by
  rw [dot_scale x fun k => w k * n k]
  exact Finset.sum_congr rfl fun k _ => by rw [mul_assoc (x k * sc x), mul_comm (n k)]

/-- The weights the body multiplies with. -/
theorem pay1_apply (v0 : Vec Ideal S1x4096x128 .f32) (v2 : Vec Ideal S4096x1 .f32) (p : Fin 4096) (q : Fin 128) :
    k0_pay1 v0 v2 (ix2 p q) = v0 (ix3 0 p q) * v2 (ix2 p 0) := by
  unfold_payloads
  pointwise

/-- What the body computes of a block and its weights. -/
def prod (x : FVec Ideal S144x4096 .bf16) (w : FVec Ideal S4096x128 .bf16) : FVec Ideal S144x128 .f32 :=
  matmul dot_S144x4096_S4096x128_S144x128_1_0_0_1_n_n none x w (constant S144x128 .f32 0x00000000#32)

theorem prod_apply (x : FVec Ideal S144x4096 .bf16) (w : FVec Ideal S4096x128 .bf16) (j : S144x128.Idx) :
    prod x w j = ∑ k : Fin 4096, x (ix2 (j 0) k) * w (ix2 k (j 1)) := by
  show Ideal.matmul dot_S144x4096_S4096x128_S144x128_1_0_0_1_n_n x w
    (constant (F := Ideal) S144x128 .f32 0x00000000#32) j = _
  rw [Ideal.matmul_apply₁_of dot_S144x4096_S4096x128_S144x128_1_0_0_1_n_n (a := 1) rfl (K := 4096) rfl x w _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [(show (constant (F := Ideal) S144x128 .f32 0x00000000#32 : S144x128.Idx → EReal) j = 0 from Ideal.ofBits_zero_f32), zero_add]

theorem pay2_scale (v0 : Vec Ideal S1x4096x128 .f32) (v2 : Vec Ideal S4096x1 .f32) (x : Vec Ideal S144x4096 .bf16) (j : S144x128.Idx) :
    k0_pay2 v0 v2 x x j = prod x (k0_pay1 v0 v2) j * sc (fun k => x (ix2 (j 0) k)) := by
  unfold k0_pay2 prod
  generalize k0_pay1 v0 v2 = w
  generalize matmul dot_S144x4096_S4096x128_S144x128_1_0_0_1_n_n none x w (constant S144x128 .f32 0x00000000#32) = M
  unfold sc
  pointwise

theorem pay2_apply (v0 : Vec Ideal S1x4096x128 .f32) (v2 : Vec Ideal S4096x1 .f32) (x : Vec Ideal S144x4096 .bf16) (j : S144x128.Idx) :
    k0_pay2 v0 v2 x x j = ∑ k : Fin 4096, x (ix2 (j 0) k) * sc (fun l => x (ix2 (j 0) l)) * v2 (ix2 k 0) * v0 (ix3 0 k (j 1)) := by
  refine (pay2_scale v0 v2 x j).trans (Eq.trans ?_
    (scale_in (fun k => x (ix2 (j 0) k)) (fun k => v0 (ix3 0 k (j 1))) (fun k => v2 (ix2 k 0))))
  exact congrArg (fun a : EReal => a * sc (fun k => x (ix2 (j 0) k))) ((prod_apply x _ j).trans (Finset.sum_congr rfl fun k _ =>
    congrArg (fun a : EReal => x (ix2 (j 0) k) * a) (pay1_apply v0 v2 k (j 1))))

theorem idx0 : ∀ t : Fin cfg0.N, win0_0.index t 0 = 0 ∧ win0_0.index t 1 = 0 := by
  decide +kernel

theorem idx1 : ∀ t : Fin cfg0.N, win0_1.index t 0 = 0 ∧ win0_1.index t 1 = 0 ∧ win0_1.index t 2 = 144 := by
  decide +kernel

theorem idx2 : ∀ t : Fin cfg0.N, win0_2.index t 0 = 0 ∧ win0_2.index t 1 = 0 := by
  decide +kernel

theorem idx3 : ∀ t : Fin cfg0.N, win0_3.index t 0 = 0 ∧ win0_3.index t 1 = 0 := by
  decide +kernel

theorem idx4 : ∀ t : Fin cfg0.N, win0_4.index t 0 = 0 ∧ win0_4.index t 1 = 0 := by
  decide +kernel

theorem iblk0 (c : Dev nD) (t : Fin cfg0.N) (j : S144x4096.Idx) (i : S144x4096.Idx)
    (h0 : (i 0).val = (j 0).val) (h1 : (i 1).val = (j 1).val) :
    (iblk m c 0 t : Vec Ideal S144x4096 .bf16) j = m ((c : Thread nD τ).loc main_arg0) i := by
  obtain ⟨e0, e1⟩ := idx0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 144 + 1 * (j 0).val = (i 0).val; rw [e0, h0]; omega
  | ⟨1, _⟩ => show win0_0.index t 1 * 4096 + 1 * (j 1).val = (i 1).val; rw [e1, h1]; omega

theorem iblk1 (c : Dev nD) (t : Fin cfg0.N) (j : S1x4096x128.Idx) (i : S2x4096x18560.Idx)
    (h0 : (i 0).val = (j 0).val) (h1 : (i 1).val = (j 1).val) (h2 : (i 2).val = 144 * 128 + (j 2).val) :
    (iblk m c 1 t : Vec Ideal S1x4096x128 .f32) j = m ((c : Thread nD τ).loc main_arg1) i := by
  obtain ⟨e0, e1, e2⟩ := idx1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1 + 1 * (j 0).val = (i 0).val; rw [e0, h0]; omega
  | ⟨1, _⟩ => show win0_1.index t 1 * 4096 + 1 * (j 1).val = (i 1).val; rw [e1, h1]; omega
  | ⟨2, _⟩ => show win0_1.index t 2 * 128 + 1 * (j 2).val = (i 2).val; rw [e2, h2]; omega

/-- The norm's weights as the region finds them: the argument, laid out as a column. -/
theorem V_v0 (c : Dev nD) : (V m c main_v0 : S4096x1.Idx → EReal)
    = shapeCast S4096x1 (m ((c : Thread nD τ).loc main_arg2) : S4096.Idx → EReal) shapeCasts_S4096_S4096x1 := by
  show StableHlo.after hostOps0 (fun b => m (c, b)) main_v0 = _
  after_results
  rfl

theorem iblk2 (c : Dev nD) (t : Fin cfg0.N) (j : S4096x1.Idx) (k : Fin 4096) (hk : k.val = (j 0).val) :
    (iblk m c 2 t : Vec Ideal S4096x1 .f32) j = m ((c : Thread nD τ).loc main_arg2) (ix1 k) := by
  obtain ⟨e0, e1⟩ := idx2 t
  unfold iblk
  rw [View.read_apply]
  show (V m c main_v0 : S4096x1.Idx → EReal) _ = m (c.tc.loc main_arg2) _
  rw [V_v0]
  refine shapeCast_apply _ _ _ _ ?_
  refine (Shape.rowMajor_val_one _).trans (Eq.trans ?_ (Shape.rowMajor_val_two _).symm)
  have hj : (j 1 : Nat) < 1 := (j 1).isLt
  show k.val = (win0_2.index t 0 * 4096 + 1 * (j 0).val) * 1 + (win0_2.index t 1 * 1 + 1 * (j 1).val)
  rw [e0, e1, hk]; omega

/-- The block of the projection a point computes. -/
theorem point (c : Dev nD) (t : Fin cfg0.N) (j : S144x128.Idx) (i : S144x128.Idx)
    (h0 : (i 0).val = (j 0).val) (h1 : (i 1).val = (j 1).val) :
    k0_pay2 (iblk m c 1 t : Vec Ideal S1x4096x128 .f32) (iblk m c 2 t : Vec Ideal S4096x1 .f32)
      (iblk m c 0 t : Vec Ideal S144x4096 .bf16) (iblk m c 0 t : Vec Ideal S144x4096 .bf16) j = GM m c i := by
  have e : (fun k : Fin 4096 => (iblk m c 0 t : Vec Ideal S144x4096 .bf16) (ix2 (j 0) k))
      = fun k => m ((c : Thread nD τ).loc main_arg0) (ix2 (i 0) k) :=
    funext fun k => iblk0 m c t (ix2 (j 0) k) (ix2 (i 0) k) h0 rfl
  exact (pay2_apply _ _ _ j).trans (Finset.sum_congr rfl fun k _ => congrArg₂ (fun a b : EReal => a * b)
    (congrArg₂ (fun a b : EReal => a * b) (congrArg₂ (fun a b : EReal => a * b) (congrFun e k) (congrArg sc e))
      (iblk2 m c t (ix2 k 0) k rfl))
    (iblk1 m c t (ix3 0 k (j 1)) (ix3 0 k (col (i 1))) rfl rfl (by show 18432 + (i 1).val = 144 * 128 + (j 1).val; omega)))

/-- The block of the weights a point stores. -/
theorem pointw (c : Dev nD) (t : Fin cfg0.N) (j : S4096x128.Idx) (i : S4096x128.Idx)
    (h0 : (i 0).val = (j 0).val) (h1 : (i 1).val = (j 1).val) :
    k0_pay1 (iblk m c 1 t : Vec Ideal S1x4096x128 .f32) (iblk m c 2 t : Vec Ideal S4096x1 .f32) j = GwM m c i := by
  have ej : j = ix2 (j 0) (j 1) := by funext a; match a with | ⟨0, _⟩ => rfl | ⟨1, _⟩ => rfl
  exact (congrArg (k0_pay1 (iblk m c 1 t : Vec Ideal S1x4096x128 .f32) (iblk m c 2 t : Vec Ideal S4096x1 .f32)) ej).trans
    ((pay1_apply _ _ (j 0) (j 1)).trans (congrArg₂ (fun a b : EReal => a * b)
      (iblk1 m c t (ix3 0 (j 0) (j 1)) (ix3 0 (i 0) (col (i 1))) rfl h0 (by show 18432 + (i 1).val = 144 * 128 + (j 1).val; omega)) (iblk2 m c t (ix2 (j 0) 0) (i 0) h0)))

theorem outs3 (x0 : Vec Ideal S144x4096 .bf16) (x1 : Vec Ideal S1x4096x128 .f32) (x2 : Vec Ideal S4096x1 .f32) :
    out0_3 x0 x1 x2 = k0_pay2 x1 x2 x0 x0 := by
  unfold out0_3
  rw [View.canon_unit_zero hz]
  simp only [View.ld_unit_zero (S := S1x4096x128) hz3, View.ld_unit_zero (S := S4096x1) hz, View.ld_unit_zero (S := S144x4096) hz]

theorem outs4 (x0 : Vec Ideal S144x4096 .bf16) (x1 : Vec Ideal S1x4096x128 .f32) (x2 : Vec Ideal S4096x1 .f32) :
    out0_4 x0 x1 x2 = k0_pay1 x1 x2 := by
  unfold out0_4
  rw [View.canon_unit_zero hz]
  simp only [View.ld_unit_zero (S := S1x4096x128) hz3, View.ld_unit_zero (S := S4096x1) hz, View.ld_unit_zero (S := S144x4096) hz]

theorem flushed3_eq (c : Dev nD) (t : Fin cfg0.N) :
    (dats m 0 c).flushed 3 t = ((cfg0.win 3).blk t).view.read (Elt Ideal) (GM m c) := by
  obtain ⟨e0, e1⟩ := idx3 t
  rw [flushed3, outs3]
  funext j
  rw [View.read_apply]
  refine point m c t j _ ?_ ?_
  · show win0_3.index t 0 * 144 + 1 * (j 0).val = _; rw [e0]; omega
  · show win0_3.index t 1 * 128 + 1 * (j 1).val = _; rw [e1]; omega

theorem flushed4_eq (c : Dev nD) (t : Fin cfg0.N) :
    (dats m 0 c).flushed 4 t = ((cfg0.win 4).blk t).view.read (Elt Ideal) (GwM m c) := by
  obtain ⟨e0, e1⟩ := idx4 t
  rw [flushed4, outs4]
  funext j
  rw [View.read_apply]
  refine pointw m c t j _ ?_ ?_
  · show win0_4.index t 0 * 4096 + 1 * (j 0).val = _; rw [e0]; omega
  · show win0_4.index t 1 * 128 + 1 * (j 1).val = _; rw [e1]; omega

/-- The point whose output block holds an element. -/
def pt (i : S144x128.Idx) : Fin cfg0.N :=
  ⟨0, by
    have h0 : (i 0 : Nat) < 144 := (i 0).isLt
    have h1 : (i 1 : Nat) < 128 := (i 1).isLt
    rw [show cfg0.N = 1 from N_0]; omega⟩

theorem pt_div (i : S144x128.Idx) : (pt i).val = 0 := by
  have h0 : (i 0 : Nat) < 144 := (i 0).isLt
  have h1 : (i 1 : Nat) < 128 := (i 1).isLt
  rfl

/-- The point whose output block holds an element. -/
def ptw (i : S4096x128.Idx) : Fin cfg0.N :=
  ⟨0, by
    have h0 : (i 0 : Nat) < 4096 := (i 0).isLt
    have h1 : (i 1 : Nat) < 128 := (i 1).isLt
    rw [show cfg0.N = 1 from N_0]; omega⟩

theorem ptw_div (i : S4096x128.Idx) : (ptw i).val = 0 := by
  have h0 : (i 0 : Nat) < 4096 := (i 0).isLt
  have h1 : (i 1 : Nat) < 128 := (i 1).isLt
  rfl

theorem final3 (c : Dev nD) : (dats m 0 c).arrAt 3 cfg0.N = GM m c :=
  (dats m 0 c).arrAt_eq_of_cover 3 (GM m c) (fun t _ => flushed3_eq m c t) fun i =>
    ⟨pt i, flush0_3 _, by
      show i ∈ ((View.whole main_v1_0).slice (win0_3.rect (pt i))).set
      obtain ⟨e0, e1⟩ := idx3 (pt i)
      have p := pt_div i
      have h0 : (i 0 : Nat) < 144 := (i 0).isLt
      have h1 : (i 1 : Nat) < 128 := (i 1).isLt
      rw [View.set_slice_whole, Rect.mem_set_unit]
      intro a
      match a with
      | ⟨0, _⟩ => show win0_3.index (pt i) 0 * 144 ≤ (i 0 : Nat) ∧ (i 0 : Nat) < win0_3.index (pt i) 0 * 144 + 144
                  rw [e0]; omega
      | ⟨1, _⟩ => show win0_3.index (pt i) 1 * 128 ≤ (i 1 : Nat) ∧ (i 1 : Nat) < win0_3.index (pt i) 1 * 128 + 128
                  rw [e1]; omega⟩

theorem final4 (c : Dev nD) : (dats m 0 c).arrAt 4 cfg0.N = GwM m c :=
  (dats m 0 c).arrAt_eq_of_cover 4 (GwM m c) (fun t _ => flushed4_eq m c t) fun i =>
    ⟨ptw i, flush0_4 _, by
      show i ∈ ((View.whole main_v1_1).slice (win0_4.rect (ptw i))).set
      obtain ⟨e0, e1⟩ := idx4 (ptw i)
      have p := ptw_div i
      have h0 : (i 0 : Nat) < 4096 := (i 0).isLt
      have h1 : (i 1 : Nat) < 128 := (i 1).isLt
      rw [View.set_slice_whole, Rect.mem_set_unit]
      intro a
      match a with
      | ⟨0, _⟩ => show win0_4.index (ptw i) 0 * 4096 ≤ (i 0 : Nat) ∧ (i 0 : Nat) < win0_4.index (ptw i) 0 * 4096 + 4096
                  rw [e0]; omega
      | ⟨1, _⟩ => show win0_4.index (ptw i) 1 * 128 ≤ (i 1 : Nat) ∧ (i 1 : Nat) < win0_4.index (ptw i) 1 * 128 + 128
                  rw [e1]; omega⟩

/-- The kernel's run: the results named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v1_0) = GM m c
      ∧ r.2.mem ((c : Thread nD τ).loc main_v1_1) = GwM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (run_blocks m ρ)

end Cert.Kernel13Ideal.Value

namespace Cert.Reference13Ideal.Value

open Cert.Reference13Ideal Cert.Reference13Ideal.Gen Cert.Rms

/-- The reference's normalised rows. -/
def U (h : FVec Ideal S144x4096 .f32) (n : FVec Ideal S4096 .f32) : FVec Ideal S144x4096 .f32 :=
  mulf (mulf h (broadcastInDim S144x4096 ![0, 1] bcast_S144x1_S144x4096_0_1 (Host.rsqrt (addf (Host.divf (broadcastInDim S144x1 ![0] bcast_S144_S144x1_0 (Host.reduceAdd (mulf h h) (constant S_ .f32 0x00000000#32) reducesTo_S144x4096_S144_d1 h_S_)) (broadcastInDim S144x1 ![] bcast_S_S144x1 (constant S_ .f32 0x45800000#32))) (broadcastInDim S144x1 ![] bcast_S_S144x1 (constant S_ .f32 0x3727C5AC#32)))))) (broadcastInDim S144x4096 ![0, 1] bcast_S1x4096_S144x4096_0_1 (broadcastInDim S1x4096 ![1] bcast_S4096_S1x4096_1 n))

theorem U_apply (h : FVec Ideal S144x4096 .f32) (n : FVec Ideal S4096 .f32) (p : Fin 144) (q : Fin 4096) :
    U h n (ix2 p q) = h (ix2 p q) * sc (fun l => h (ix2 p l)) * n (ix1 q) := by
  unfold U sc
  pointwise

/-- The reference's weights. -/
def W (w : FVec Ideal S2x4096x18560 .f32) : FVec Ideal S4096x128 .f32 :=
  shapeCast _ (extractStridedSlice S1x4096x128 ![0, 0, 18432] w slices_S2x4096x18560_S1x4096x128_0_0_18432) shapeCasts_S1x4096x128_S4096x128

theorem W_apply (w : FVec Ideal S2x4096x18560 .f32) (p : Fin 4096) (q : Fin 128) :
    W w (ix2 p q) = w (ix3 0 p (Cert.Kernel13Ideal.Value.col q)) := by
  unfold W
  pointwise
  rfl

/-- The reference's weights times the norm's. -/
def Wn (w : FVec Ideal S2x4096x18560 .f32) (n : FVec Ideal S4096 .f32) : FVec Ideal S4096x128 .f32 :=
  mulf (W w) (broadcastInDim S4096x128 ![0, 1] bcast_S4096x1_S4096x128_0_1 (broadcastInDim S4096x1 ![0] bcast_S4096_S4096x1_0 n))

theorem Wn_apply (w : FVec Ideal S2x4096x18560 .f32) (n : FVec Ideal S4096 .f32) (p : Fin 4096) (q : Fin 128) :
    Wn w n (ix2 p q) = w (ix3 0 p (Cert.Kernel13Ideal.Value.col q)) * n (ix1 p) := by
  rw [← W_apply w p q]
  unfold Wn
  generalize W w = w'
  pointwise

theorem Wn_eq (w : FVec Ideal S2x4096x18560 .f32) (n : FVec Ideal S4096 .f32) : Wn w n = Cert.Kernel13Ideal.Value.Gw w n := by
  funext i
  have ei : i = ix2 (i 0) (i 1) := by funext a; match a with | ⟨0, _⟩ => rfl | ⟨1, _⟩ => rfl
  exact (congrArg (Wn w n) ei).trans (Wn_apply w n (i 0) (i 1))

/-- The reference's value, element by element: the same. -/
theorem ref_eq (h : FVec Ideal S144x4096 .f32) (w : FVec Ideal S2x4096x18560 .f32) (n : FVec Ideal S4096 .f32) :
    Host.dotGeneral dot_S144x4096_S4096x128_S144x128_1_0_0_1_n_n none (U h n) (W w) = Cert.Kernel13Ideal.Value.G h w n := by
  funext i
  show Ideal.matmul dot_S144x4096_S4096x128_S144x128_1_0_0_1_n_n (U h n) (W w) (fun _ => 0) i = _
  rw [Ideal.matmul_apply₁_of dot_S144x4096_S4096x128_S144x128_1_0_0_1_n_n (a := 1) rfl (K := 4096) rfl (U h n) (W w) _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl)]
  rw [zero_add]
  exact Finset.sum_congr rfl fun k _ => congrArg₂ (fun a b : EReal => a * b) (U_apply h n (i 0) k) (W_apply w k (i 1))

end Cert.Reference13Ideal.Value

end
-- ==== Proof.SampleRes14.lean ====
/-
  The value of the sample batch's other output projection with its residual (`kernel14`: `_matmul_res`): both result arrays are
  `res + x·w`, the product summed over the whole contracted axis, and the reference's are the same.
-/
module

public import proofs.«01_k».proof.Proof.Gen.Kernel14Ideal.Value
public import proofs.«01_k».proof.Proof.Gen.Reference14Ideal.Run
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

variable (m : (ℓ : Loc nD τ sig) → Buf (Elt Ideal) ℓ)

theorem hz : (![0, 0] : Fin 2 → Nat) = fun _ => 0 := funext fun a => by fin_cases a <;> rfl

/-- The result: the residual plus the product, element by element. -/
def G (x : S144x4096.Idx → EReal) (w : S4096x4096.Idx → EReal) (res : S144x4096.Idx → EReal) :
    S144x4096.Idx → EReal :=
  fun i => res i + ∑ k : Fin 4096, x (ix2 (i 0) k) * w (ix2 k (i 1))

/-- The result over the launch's arguments. -/
def GM (c : Dev nD) : S144x4096.Idx → EReal :=
  G (m ((c : Thread nD τ).loc main_arg0)) (m ((c : Thread nD τ).loc main_arg1)) (m ((c : Thread nD τ).loc main_arg2))

/-- What the body computes of its three blocks. -/
theorem pay1_apply (v0 : Vec Ideal S144x1024 .f32) (v1 : Vec Ideal S144x4096 .bf16) (v2 : Vec Ideal S4096x1024 .bf16)
    (j : S144x1024.Idx) :
    k0_pay1 v0 v1 v2 j = v0 j + ∑ k : Fin 4096, v1 (ix2 (j 0) k) * v2 (ix2 k (j 1)) := by
  show v0 j + Ideal.matmul dot_S144x4096_S4096x1024_S144x1024_1_0_0_1_n_n v1 v2
    (constant (F := Ideal) S144x1024 .f32 0x00000000#32) j = _
  rw [Ideal.matmul_apply₁_of dot_S144x4096_S4096x1024_S144x1024_1_0_0_1_n_n (a := 1) rfl (K := 4096) rfl v1 v2 _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [show (constant (F := Ideal) S144x1024 .f32 0x00000000#32 : S144x1024.Idx → EReal) j = 0 from Ideal.ofBits_zero_f32, zero_add]

theorem idx : ∀ t : Fin cfg0.N, win0_0.index t 0 = 0 ∧ win0_0.index t 1 = 0 ∧ win0_1.index t 0 = 0
    ∧ win0_1.index t 1 = t.val ∧ win0_2.index t 0 = 0 ∧ win0_2.index t 1 = t.val
    ∧ win0_3.index t 0 = 0 ∧ win0_3.index t 1 = t.val
    ∧ win0_4.index t 0 = 0 ∧ win0_4.index t 1 = t.val := by
  decide +kernel

theorem iblk0 (c : Dev nD) (t : Fin cfg0.N) (j : S144x4096.Idx) (i : S144x4096.Idx)
    (h0 : (i 0).val = (j 0).val) (h1 : (i 1).val = (j 1).val) :
    (iblk m c 0 t : Vec Ideal S144x4096 .bf16) j = m ((c : Thread nD τ).loc main_arg0) i := by
  obtain ⟨e0, e1, -⟩ := idx t
  unfold iblk
  rw [View.read_apply]
  show V m c main_arg0 _ = m (c.tc.loc main_arg0) _
  unfold V
  congr 1
  funext a
  apply Fin.ext
  match a with
  | ⟨0, _⟩ => show win0_0.index t 0 * 144 + 1 * (j 0).val = (i 0).val; rw [e0, h0]; omega
  | ⟨1, _⟩ => show win0_0.index t 1 * 4096 + 1 * (j 1).val = (i 1).val; rw [e1, h1]; omega

theorem iblk1 (c : Dev nD) (t : Fin cfg0.N) (j : S4096x1024.Idx) (i : S4096x4096.Idx)
    (h0 : (i 0).val = (j 0).val) (h1 : (i 1).val = t.val * 1024 + (j 1).val) :
    (iblk m c 1 t : Vec Ideal S4096x1024 .bf16) j = m ((c : Thread nD τ).loc main_arg1) i := by
  obtain ⟨-, -, e0, e1, -⟩ := idx t
  unfold iblk
  rw [View.read_apply]
  show V m c main_arg1 _ = m (c.tc.loc main_arg1) _
  unfold V
  congr 1
  funext a
  apply Fin.ext
  match a with
  | ⟨0, _⟩ => show win0_1.index t 0 * 4096 + 1 * (j 0).val = (i 0).val; rw [e0, h0]; omega
  | ⟨1, _⟩ => show win0_1.index t 1 * 1024 + 1 * (j 1).val = (i 1).val; rw [e1, h1]; omega

theorem iblk2 (c : Dev nD) (t : Fin cfg0.N) (j : S144x1024.Idx) (i : S144x4096.Idx)
    (h0 : (i 0).val = (j 0).val) (h1 : (i 1).val = t.val * 1024 + (j 1).val) :
    (iblk m c 2 t : Vec Ideal S144x1024 .f32) j = m ((c : Thread nD τ).loc main_arg2) i := by
  obtain ⟨-, -, -, -, e0, e1, -⟩ := idx t
  unfold iblk
  rw [View.read_apply]
  show V m c main_arg2 _ = m (c.tc.loc main_arg2) _
  unfold V
  congr 1
  funext a
  apply Fin.ext
  match a with
  | ⟨0, _⟩ => show win0_2.index t 0 * 144 + 1 * (j 0).val = (i 0).val; rw [e0, h0]; omega
  | ⟨1, _⟩ => show win0_2.index t 1 * 1024 + 1 * (j 1).val = (i 1).val; rw [e1, h1]; omega

/-- The block of the result a point computes. -/
theorem point (c : Dev nD) (t : Fin cfg0.N) (j : S144x1024.Idx) (i : S144x4096.Idx)
    (h0 : (i 0).val = (j 0).val) (h1 : (i 1).val = t.val * 1024 + (j 1).val) :
    k0_pay1 (iblk m c 2 t : Vec Ideal S144x1024 .f32) (iblk m c 0 t : Vec Ideal S144x4096 .bf16)
      (iblk m c 1 t : Vec Ideal S4096x1024 .bf16) j = GM m c i := by
  exact (pay1_apply _ _ _ j).trans (congrArg₂ (fun a b : EReal => a + b) (iblk2 m c t j i h0 h1)
    (Finset.sum_congr rfl fun k _ => congrArg₂ (fun a b : EReal => a * b)
      (iblk0 m c t (ix2 (j 0) k) (ix2 (i 0) k) h0 rfl) (iblk1 m c t (ix2 k (j 1)) (ix2 k (i 1)) rfl h1)))

theorem out3_eq (x0 : Vec Ideal S144x4096 .bf16) (x1 : Vec Ideal S4096x1024 .bf16) (x2 : Vec Ideal S144x1024 .f32) :
    out0_3 x0 x1 x2 = k0_pay1 x2 x0 x1 := by
  unfold out0_3
  rw [View.canon_unit_zero hz, View.ld_unit_zero hz, View.ld_unit_zero hz, View.ld_unit_zero hz]

theorem out4_eq (x0 : Vec Ideal S144x4096 .bf16) (x1 : Vec Ideal S4096x1024 .bf16) (x2 : Vec Ideal S144x1024 .f32) :
    out0_4 x0 x1 x2 = k0_pay1 x2 x0 x1 := by
  unfold out0_4
  rw [View.canon_unit_zero hz, View.ld_unit_zero hz, View.ld_unit_zero hz, View.ld_unit_zero hz]
  rfl

theorem flushed3_eq (c : Dev nD) (t : Fin cfg0.N) :
    (dats m 0 c).flushed 3 t = ((cfg0.win 3).blk t).view.read (Elt Ideal) (GM m c) := by
  obtain ⟨-, -, -, -, -, -, e0, e1, -⟩ := idx t
  rw [flushed3, out3_eq]
  funext j
  rw [View.read_apply]
  refine point m c t j _ ?_ ?_
  · show win0_3.index t 0 * 144 + 1 * (j 0).val = _; rw [e0]; omega
  · show win0_3.index t 1 * 1024 + 1 * (j 1).val = _; rw [e1]; omega

theorem flushed4_eq (c : Dev nD) (t : Fin cfg0.N) :
    (dats m 0 c).flushed 4 t = ((cfg0.win 4).blk t).view.read (Elt Ideal) (GM m c) := by
  obtain ⟨-, -, -, -, -, -, -, -, e0, e1⟩ := idx t
  rw [flushed4, out4_eq]
  funext j
  rw [View.read_apply]
  refine point m c t j _ ?_ ?_
  · show win0_4.index t 0 * 144 + 1 * (j 0).val = _; rw [e0]; omega
  · show win0_4.index t 1 * 1024 + 1 * (j 1).val = _; rw [e1]; omega

/-- The point whose output block holds an element. -/
def pt (i : S144x4096.Idx) : Fin cfg0.N :=
  ⟨(i 1).val / 1024, by
    have h0 : (i 0 : Nat) < 144 := (i 0).isLt
    have h1 : (i 1 : Nat) < 4096 := (i 1).isLt
    rw [show cfg0.N = 4 from N_0]; omega⟩

theorem pt_div (i : S144x4096.Idx) : (pt i).val = (i 1).val / 1024 := rfl

theorem final3 (c : Dev nD) : (dats m 0 c).arrAt 3 cfg0.N = GM m c :=
  (dats m 0 c).arrAt_eq_of_cover 3 (GM m c) (fun t _ => flushed3_eq m c t) fun i =>
    ⟨pt i, flush0_3 _, by
      show i ∈ ((View.whole main_v0_0).slice (win0_3.rect (pt i))).set
      obtain ⟨-, -, -, -, -, -, e0, e1, -⟩ := idx (pt i)
      have p1 := pt_div i
      have h0 : (i 0 : Nat) < 144 := (i 0).isLt
      rw [View.set_slice_whole, Rect.mem_set_unit]
      intro a
      match a with
      | ⟨0, _⟩ => show win0_3.index (pt i) 0 * 144 ≤ (i 0 : Nat) ∧ (i 0 : Nat) < win0_3.index (pt i) 0 * 144 + 144
                  rw [e0]; omega
      | ⟨1, _⟩ => show win0_3.index (pt i) 1 * 1024 ≤ (i 1 : Nat) ∧ (i 1 : Nat) < win0_3.index (pt i) 1 * 1024 + 1024
                  rw [e1, p1]; omega⟩

theorem final4 (c : Dev nD) : (dats m 0 c).arrAt 4 cfg0.N = GM m c :=
  (dats m 0 c).arrAt_eq_of_cover 4 (GM m c) (fun t _ => flushed4_eq m c t) fun i =>
    ⟨pt i, flush0_4 _, by
      show i ∈ ((View.whole main_v0_1).slice (win0_4.rect (pt i))).set
      obtain ⟨-, -, -, -, -, -, -, -, e0, e1⟩ := idx (pt i)
      have p1 := pt_div i
      have h0 : (i 0 : Nat) < 144 := (i 0).isLt
      rw [View.set_slice_whole, Rect.mem_set_unit]
      intro a
      match a with
      | ⟨0, _⟩ => show win0_4.index (pt i) 0 * 144 ≤ (i 0 : Nat) ∧ (i 0 : Nat) < win0_4.index (pt i) 0 * 144 + 144
                  rw [e0]; omega
      | ⟨1, _⟩ => show win0_4.index (pt i) 1 * 1024 ≤ (i 1 : Nat) ∧ (i 1 : Nat) < win0_4.index (pt i) 1 * 1024 + 1024
                  rw [e1, p1]; omega⟩

/-- The kernel's run: both result arrays are `GM`, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0_0) = GM m c
      ∧ r.2.mem ((c : Thread nD τ).loc main_v0_1) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans (final3 m c), (h c).2.1.trans (final4 m c), (h c).2.2⟩) (run_blocks m ρ)

end Cert.Kernel14Ideal.Value

namespace Cert.Reference14Ideal.Value

open Cert.Reference14Ideal Cert.Reference14Ideal.Gen

/-- The reference's value, element by element: the same. -/
theorem ref_eq (x : FVec Ideal S144x4096 .f32) (w : FVec Ideal S4096x4096 .f32) (res : FVec Ideal S144x4096 .f32) :
    addf res (Host.dotGeneral dot_S144x4096_S4096x4096_S144x4096_1_0_0_1_n_n none x w) = Cert.Kernel14Ideal.Value.G x w res := by
  funext i
  show res i + Ideal.matmul dot_S144x4096_S4096x4096_S144x4096_1_0_0_1_n_n x w (fun _ => 0) i = _
  rw [Ideal.matmul_apply₁_of dot_S144x4096_S4096x4096_S144x4096_1_0_0_1_n_n (a := 1) rfl (K := 4096) rfl x w _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl), zero_add]
  rfl

end Cert.Reference14Ideal.Value

end
-- ==== Proof.SampleNormW.lean ====
/-
  The value of the sample batch's short convolution in-projection (`kernel15`: `_matmul_norm`): every element of the
  result is the product of the normalised row with a column of the weights, and the reference's is the same.
-/
module

public import proofs.«01_k».proof.Proof.Gen.Kernel15Ideal.Value
public import proofs.«01_k».proof.Proof.Gen.Reference15Ideal.Run
public import proofs.«01_k».proof.Proof.RowScale
public import Idealize.ShloMosaic.Lib.Pipeline.Value
public import Idealize.ShloMosaic.Lib.KernelVsHost
public import Idealize.ShloMosaic.Lib.Pointwise.Contract
public import Idealize.ShloMosaic.Lib.Tactic

@[expose] public section

noncomputable section

open Idealize.ShloMosaic Idealize.ShloMosaic.TcCoe Idealize.ShloMosaic.Tactic Idealize.SL.Sem
open Idealize.ShloMosaic.Pipeline (Dat)

namespace Cert.Kernel15Ideal.Value

open Cert.Kernel15Ideal Cert.Kernel15Ideal.Gen Cert.Rms

variable (m : (ℓ : Loc nD τ sig) → Buf (Elt Ideal) ℓ)

theorem hz : (![0, 0] : Fin 2 → Nat) = fun _ => 0 := funext fun a => by fin_cases a <;> rfl

/-- The projection: the normalised row times a column of the weights. -/
def G (h : S144x4096.Idx → EReal) (w : S4096x16384.Idx → EReal) : S144x16384.Idx → EReal :=
  fun i => ∑ k : Fin 4096, h (ix2 (i 0) k) * sc (fun k => h (ix2 (i 0) k)) * w (ix2 k (i 1))

/-- The result over the launch's arguments. -/
def GM (c : Dev nD) : S144x16384.Idx → EReal :=
  G (m ((c : Thread nD τ).loc main_arg0)) (m ((c : Thread nD τ).loc main_arg1))

/-- The row scale of a block. -/
theorem pay1_apply (x : Vec Ideal S144x4096 .bf16) (j : S144x1.Idx) :
    k0_pay1 x j = sc (fun k => x (ix2 (j 0) k)) := by
  unfold_payloads
  unfold sc
  pointwise

/-- The tile that a point stores, from its blocks and a row scale. -/
theorem pay2_apply (x : Vec Ideal S144x4096 .bf16) (w : Vec Ideal S4096x1024 .bf16) (r : Vec Ideal S144x1 .f32)
    (j : S144x1024.Idx) :
    k0_pay2 x w r j = (∑ k : Fin 4096, x (ix2 (j 0) k) * w (ix2 k (j 1))) * r (ix2 (j 0) 0) := by
  have e : broadcastTo S144x1024 r broadcasts_S144x1_S144x1024 j = r (ix2 (j 0) 0) := by pointwise
  show Ideal.matmul dot_S144x4096_S4096x1024_S144x1024_1_0_0_1_n_n x w
    (constant (F := Ideal) S144x1024 .f32 0x00000000#32) j * broadcastTo S144x1024 r broadcasts_S144x1_S144x1024 j = _
  rw [Ideal.matmul_apply₁_of dot_S144x4096_S4096x1024_S144x1024_1_0_0_1_n_n (a := 1) rfl (K := 4096) rfl x w _ j
    (fun k => ix2 (j 0) k) (fun k => ix2 k (j 1))
    (fun k => by funext a; match a with | ⟨0, _⟩ => rfl | ⟨1, _⟩ => rfl)
    (fun k => by funext a; match a with | ⟨0, _⟩ => rfl | ⟨1, _⟩ => rfl)]
  rw [show (constant (F := Ideal) S144x1024 .f32 0x00000000#32 : S144x1024.Idx → EReal) j = 0 from Ideal.ofBits_zero_f32, zero_add, e]

/-- What the first point leaves in the scratch. -/
theorem souts_first (c : Dev nD) (t : Fin cfg0.N) (h0 : t.val % 16 = 0) :
    (outsAt0 m c t.val t.isLt).2 = k0_pay1 (iblk m c 0 t) := by
  rw [outsAt0_A m c t h0]
  dsimp only
  unfold sout0_A_0
  rw [View.read_writes_eq_canon _ _ _ (scover0_A_0 c _ _ _ _ _ _ _ _ _ _ _ _)]
  unfold kernelRun0_A
  dsimp only
  sl_unfold_words
  simp only [View.readAt_eq_ld, (hs0_0 t).read_unread]
  refine (View.canon_unit_zero hz _ _).trans ?_
  rw [View.ld_unit_zero (S := S144x4096) hz]

/-- A later point leaves the scratch as it was. -/
theorem souts_next (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The tile of the first point. -/
theorem outs_first (c : Dev nD) (t : Fin cfg0.N) (h0 : t.val % 16 = 0) :
    (outsAt0 m c t.val t.isLt).1 = k0_pay2 (iblk m c 0 t) (iblk m c 1 t) (k0_pay1 (iblk m c 0 t)) := by
  rw [outsAt0_A m c t h0]
  dsimp only
  unfold out0_A_2
  rw [View.read_writes_eq_canon _ _ _ (cover0_A_2 c _ _ _ _ _ _ _ _ _ _ _ _)]
  unfold kernelRun0_A
  dsimp only
  sl_unfold_words
  simp only [View.readAt_eq_ld, (hs0_0 t).read_unread, (hs0_1 t).read_unread]
  refine (View.canon_unit_zero hz _ _).trans ?_
  rw [View.ld_unit_zero (S := S144x4096) hz, View.ld_unit_zero (S := S4096x1024) hz]
  exact congrArg (k0_pay2 (iblk m c 0 t) (iblk m c 1 t)) (View.readCov_unit_zero _ hz _ _)

/-- The tile of a later point. -/
theorem outs_next (c : Dev nD) (t : Fin cfg0.N) (h0 : ¬t.val % 16 = 0) :
    (outsAt0 m c t.val t.isLt).1 = k0_pay2 (iblk m c 0 t) (iblk m c 1 t)
      (outsAt0 m c (t.val - 1) (Nat.lt_of_le_of_lt (Nat.sub_le _ _) t.isLt)).2 := by
  rw [outsAt0_B m c t h0]
  dsimp only
  generalize (outsAt0 m c (t.val - 1) (Nat.lt_of_le_of_lt (Nat.sub_le _ _) t.isLt)).2 = xs
  unfold out0_B_2
  rw [View.read_writes_eq_canon _ _ _ (cover0_B_2 c _ _ _ _ _ _ _ _ _ _ _ _ _)]
  unfold kernelRun0_B
  dsimp only
  sl_unfold_words
  simp only [View.readAt_eq_ld, (hs0_0 t).read_unread, (hs0_1 t).read_unread]
  refine (View.canon_unit_zero hz _ _).trans ?_
  rw [View.ld_unit_zero (S := S144x4096) hz, View.ld_unit_zero (S := S4096x1024) hz]
  refine congrArg (k0_pay2 (iblk m c 0 t) (iblk m c 1 t)) ?_
  rw [(Memref.isWhole_whole _).read_unread]
  exact View.ld_unit_zero (S := S144x1) hz _ _

theorem idx : ∀ t : Fin cfg0.N, win0_0.index t 0 = 0 ∧ win0_0.index t 1 = 0 ∧ win0_1.index t 0 = 0
    ∧ win0_1.index t 1 = t.val ∧ win0_2.index t 0 = 0 ∧ win0_2.index t 1 = t.val := by
  decide +kernel

theorem iblk0 (c : Dev nD) (t : Fin cfg0.N) (j : S144x4096.Idx) (i : S144x4096.Idx)
    (h0 : (i 0).val = (j 0).val) (h1 : (i 1).val = (j 1).val) :
    (iblk m c 0 t : Vec Ideal S144x4096 .bf16) j = m ((c : Thread nD τ).loc main_arg0) i := by
  obtain ⟨e0, e1, -⟩ := idx t
  unfold iblk
  rw [View.read_apply]
  show V m c main_arg0 _ = m (c.tc.loc main_arg0) _
  unfold V
  congr 1
  funext a
  apply Fin.ext
  match a with
  | ⟨0, _⟩ => show win0_0.index t 0 * 144 + 1 * (j 0).val = (i 0).val; rw [e0, h0]; omega
  | ⟨1, _⟩ => show win0_0.index t 1 * 4096 + 1 * (j 1).val = (i 1).val; rw [e1, h1]; omega

theorem iblk1 (c : Dev nD) (t : Fin cfg0.N) (j : S4096x1024.Idx) (i : S4096x16384.Idx)
    (h0 : (i 0).val = (j 0).val) (h1 : (i 1).val = t.val * 1024 + (j 1).val) :
    (iblk m c 1 t : Vec Ideal S4096x1024 .bf16) j = m ((c : Thread nD τ).loc main_arg1) i := by
  obtain ⟨-, -, e0, e1, -⟩ := idx t
  unfold iblk
  rw [View.read_apply]
  show V m c main_arg1 _ = m (c.tc.loc main_arg1) _
  unfold V
  congr 1
  funext a
  apply Fin.ext
  match a with
  | ⟨0, _⟩ => show win0_1.index t 0 * 4096 + 1 * (j 0).val = (i 0).val; rw [e0, h0]; omega
  | ⟨1, _⟩ => show win0_1.index t 1 * 1024 + 1 * (j 1).val = (i 1).val; rw [e1, h1]; omega

/-- The row scale that the scratch holds after any point. -/
theorem scale_apply (c : Dev nD) : ∀ (n : ℕ) (hn : n < cfg0.N) (p : Fin 144),
    (outsAt0 m c n hn).2 (ix2 p 0) = sc (fun k => m ((c : Thread nD τ).loc main_arg0) (ix2 p k))
  | 0, hn, p => by
    rw [souts_first m c ⟨0, hn⟩ rfl]
    refine (pay1_apply _ _).trans (congrArg sc (funext fun k => ?_))
    exact iblk0 m c ⟨0, hn⟩ (ix2 p k) (ix2 p k) rfl rfl
  | n + 1, hn, p => by
    have hN : n + 1 < 16 := lt_of_lt_of_eq hn (show cfg0.N = 16 from N_0)
    rw [souts_next m c ⟨n + 1, hn⟩ (by show ¬(n + 1) % 16 = 0; omega)]
    exact scale_apply c n (Nat.lt_of_succ_lt hn) p

/-- The tile that a point computes, with its own rows' scale. -/
theorem tile (c : Dev nD) (t : Fin cfg0.N) : ∃ r : Vec Ideal S144x1 .f32,
    (∀ p : Fin 144, r (ix2 p 0) = sc (fun k => m ((c : Thread nD τ).loc main_arg0) (ix2 p k)))
    ∧ (outsAt0 m c t.val t.isLt).1 = k0_pay2 (iblk m c 0 t) (iblk m c 1 t) r := by
  by_cases h0 : t.val % 16 = 0
  · exact ⟨_, fun p => (congrFun (souts_first m c t h0) (ix2 p 0)).symm.trans (scale_apply m c t.val t.isLt p), outs_first m c t h0⟩
  · exact ⟨_, fun p => scale_apply m c (t.val - 1) _ p, outs_next m c t h0⟩

/-- The block of the projection that a point computes. -/
theorem point (c : Dev nD) (t : Fin cfg0.N) (j : S144x1024.Idx) (i : S144x16384.Idx)
    (h0 : (i 0).val = (j 0).val) (h1 : (i 1).val = t.val * 1024 + (j 1).val) :
    (outsAt0 m c t.val t.isLt).1 j = GM m c i := by
  obtain ⟨r, hr, e⟩ := tile m c t
  have e0 : j 0 = i 0 := Fin.ext h0.symm
  rw [e]
  refine (pay2_apply _ _ _ j).trans ?_
  refine (congrArg₂ (fun a b : EReal => a * b)
    (Finset.sum_congr rfl fun k _ => congrArg₂ (fun a b : EReal => a * b)
      (iblk0 m c t (ix2 (j 0) k) (ix2 (i 0) k) h0 rfl) (iblk1 m c t (ix2 k (j 1)) (ix2 k (i 1)) rfl h1))
    ((hr (j 0)).trans (congrArg (fun p : Fin 144 => sc (fun k => m ((c : Thread nD τ).loc main_arg0) (ix2 p k))) e0))).trans ?_
  exact dot_scale (fun k => m ((c : Thread nD τ).loc main_arg0) (ix2 (i 0) k))
    (fun k => m ((c : Thread nD τ).loc main_arg1) (ix2 k (i 1)))

theorem blocks_eq (c : Dev nD) (t : Fin cfg0.N) :
    (dats m 0 c).flushed 2 t = ((cfg0.win 2).blk t).view.read (Elt Ideal) (GM m c) := by
  obtain ⟨-, -, -, -, e0, e1⟩ := idx t
  rw [flushed2]
  funext j
  rw [View.read_apply]
  refine point m c t j _ ?_ ?_
  · show win0_2.index t 0 * 144 + 1 * (j 0).val = _; rw [e0]; omega
  · show win0_2.index t 1 * 1024 + 1 * (j 1).val = _; rw [e1]; omega

theorem final (c : Dev nD) : (dats m 0 c).arrAt 2 cfg0.N = GM m c :=
  (dats m 0 c).arrAt_eq_of_cover 2 (GM m c) (fun t _ => blocks_eq m c t) fun i => (covered_iff2 i).2 (by
    have h0 : (i 0).val < 144 := (i 0).isLt
    have h1 : (i 1).val < 16384 := (i 1).isLt
    omega)

/-- The kernel's run: the result array named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v0) = GM m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Kernel15Ideal.Value

namespace Cert.Reference15Ideal.Value

open Cert.Reference15Ideal Cert.Reference15Ideal.Gen Cert.Rms

/-- The reference's normalised rows. -/
def U (h : FVec Ideal S144x4096 .f32) : FVec Ideal S144x4096 .f32 :=
  mulf h (broadcastInDim S144x4096 ![0, 1] bcast_S144x1_S144x4096_0_1 (Host.rsqrt (addf (Host.divf (broadcastInDim S144x1 ![0] bcast_S144_S144x1_0 (Host.reduceAdd (mulf h h) (constant S_ .f32 0x00000000#32) reducesTo_S144x4096_S144_d1 h_S_)) (broadcastInDim S144x1 ![] bcast_S_S144x1 (constant S_ .f32 0x45800000#32))) (broadcastInDim S144x1 ![] bcast_S_S144x1 (constant S_ .f32 0x3727C5AC#32)))))

theorem U_apply (h : FVec Ideal S144x4096 .f32) (i : S144x4096.Idx) :
    U h i = h i * sc (fun k => h (ix2 (i 0) k)) := by
  unfold U sc
  pointwise

theorem ref_eq (h : FVec Ideal S144x4096 .f32) (w : FVec Ideal S4096x16384 .f32) :
    Host.dotGeneral dot_S144x4096_S4096x16384_S144x16384_1_0_0_1_n_n none (U h) w = Cert.Kernel15Ideal.Value.G h w := by
  funext i
  show Ideal.matmul dot_S144x4096_S4096x16384_S144x16384_1_0_0_1_n_n (U h) w (fun _ => 0) i = _
  rw [Ideal.matmul_apply₁_of dot_S144x4096_S4096x16384_S144x16384_1_0_0_1_n_n (a := 1) rfl (K := 4096) rfl (U h) w _ i
    (fun k => ix2 (i 0) k) (fun k => ix2 k (i 1))
    (fun k => by funext a; match a with | ⟨0, _⟩ => rfl | ⟨1, _⟩ => rfl)
    (fun k => by funext a; match a with | ⟨0, _⟩ => rfl | ⟨1, _⟩ => rfl), zero_add]
  exact Finset.sum_congr rfl fun k _ => congrArg (fun a : EReal => a * w (ix2 k (i 1))) (U_apply h (ix2 (i 0) k))

end Cert.Reference15Ideal.Value

end
-- ==== Proof.Claims10.lean ====
/-
  The value claims of the output projection with its casts on the side, and of the sample batch's projections.
-/
module

public import proofs.«01_k».proof.Defs
public import proofs.«01_k».proof.Proof.SideCasts
public import proofs.«01_k».proof.Proof.SampleRes
public import proofs.«01_k».proof.Proof.SampleNorm
public import proofs.«01_k».proof.Proof.SampleStep
public import proofs.«01_k».proof.Proof.SampleRes14
public import proofs.«01_k».proof.Proof.SampleNormW
public import proofs.«01_k».proof.Proof.Gen.Kernel10Ideal
public import proofs.«01_k».proof.Proof.Gen.Reference10Ideal
public import proofs.«01_k».proof.Proof.Gen.Reference10Ideal.Run
public import proofs.«01_k».proof.Proof.Gen.Kernel11Ideal
public import proofs.«01_k».proof.Proof.Gen.Reference11Ideal
public import proofs.«01_k».proof.Proof.Gen.Reference11Ideal.Run
public import proofs.«01_k».proof.Proof.Gen.Kernel12Ideal
public import proofs.«01_k».proof.Proof.Gen.Reference12Ideal
public import proofs.«01_k».proof.Proof.Gen.Reference12Ideal.Run
public import proofs.«01_k».proof.Proof.Gen.Kernel13Ideal
public import proofs.«01_k».proof.Proof.Gen.Reference13Ideal
public import proofs.«01_k».proof.Proof.Gen.Reference13Ideal.Run
public import proofs.«01_k».proof.Proof.Gen.Kernel14Ideal
public import proofs.«01_k».proof.Proof.Gen.Reference14Ideal
public import proofs.«01_k».proof.Proof.Gen.Reference14Ideal.Run
public import proofs.«01_k».proof.Proof.Gen.Kernel15Ideal
public import proofs.«01_k».proof.Proof.Gen.Reference15Ideal
public import proofs.«01_k».proof.Proof.Gen.Reference15Ideal.Run

@[expose] public section

noncomputable section

open Idealize.ShloMosaic Idealize.ShloMosaic.TcCoe Idealize.SL.Sem

namespace Cert.Proof

/-- The results of the output projection with the casts on its side are the reference's. -/
theorem algebraic10 :
    Cert.algebraic_Kernel10Ideal_Reference10Ideal (hKernel10Ideal := Cert.Kernel10Ideal.Gen.facts) (hReference10Ideal := Cert.Reference10Ideal.Gen.facts) := by
  intro m g m' g' _ hargs
  refine ⟨fun c => Cert.Kernel10Ideal.Value.GM m c, fun c => Cert.Kernel10Ideal.Value.GM m c, fun c => Cert.Kernel10Ideal.Value.GiM m c, fun c => Cert.Kernel10Ideal.Value.GoM m c, Cert.Kernel10Ideal.Value.run_value m g, ?_⟩
  refine (θ_run _ _ _).mono (fun r h c => ?_) (Cert.Reference10Ideal.Value.run m' g')
  obtain ⟨h0, h1, h2, h3, hk⟩ := h c
  obtain ⟨a0, a1, a2, a3, a4, a5⟩ := hargs c
  have e0 : Cert.Kernel10Ideal.Value.G (m' ((c.tc : Thread Cert.Reference10Ideal.nD Cert.Reference10Ideal.τ).loc Cert.Reference10Ideal.main_arg0))
      (m' ((c.tc : Thread Cert.Reference10Ideal.nD Cert.Reference10Ideal.τ).loc Cert.Reference10Ideal.main_arg1))
      (m' ((c.tc : Thread Cert.Reference10Ideal.nD Cert.Reference10Ideal.τ).loc Cert.Reference10Ideal.main_arg2)) = Cert.Kernel10Ideal.Value.GM m c := by
    rw [a0, a1, a2]; rfl
  have f0 := (Cert.Reference10Ideal.Value.ref_eq _ _ _ ).trans e0
  have e1 : Cert.Kernel10Ideal.Value.Gi (m' ((c.tc : Thread Cert.Reference10Ideal.nD Cert.Reference10Ideal.τ).loc Cert.Reference10Ideal.main_arg3))
      (m' ((c.tc : Thread Cert.Reference10Ideal.nD Cert.Reference10Ideal.τ).loc Cert.Reference10Ideal.main_arg4)) = Cert.Kernel10Ideal.Value.GiM m c := by
    rw [a3, a4]; rfl
  have f1 := (Cert.Reference10Ideal.Value.Wi_eq _ _ ).trans e1
  have e2 : Cert.Kernel10Ideal.Value.Go (m' ((c.tc : Thread Cert.Reference10Ideal.nD Cert.Reference10Ideal.τ).loc Cert.Reference10Ideal.main_arg5)) = Cert.Kernel10Ideal.Value.GoM m c := by
    rw [a5]; rfl
  have f2 := (Cert.Reference10Ideal.Value.Wo_eq _ ).trans e2
  exact ⟨h0.trans f0, h1.trans f0, h2.trans f1, h3.trans f2, hk⟩

/-- The results of the sample batch's output projection are the reference's. -/
theorem algebraic11 :
    Cert.algebraic_Kernel11Ideal_Reference11Ideal (hKernel11Ideal := Cert.Kernel11Ideal.Gen.facts) (hReference11Ideal := Cert.Reference11Ideal.Gen.facts) := by
  intro m g m' g' _ hargs
  refine ⟨fun c => Cert.Kernel11Ideal.Value.GM m c, fun c => Cert.Kernel11Ideal.Value.GM m c, fun c => Cert.Kernel11Ideal.Value.GwM m c, Cert.Kernel11Ideal.Value.run_value m g, ?_⟩
  refine (θ_run _ _ _).mono (fun r h c => ?_) (Cert.Reference11Ideal.Value.run m' g')
  obtain ⟨h0, h1, h2, hk⟩ := h c
  obtain ⟨a0, a1, a2⟩ := hargs c
  have e0 : Cert.Kernel11Ideal.Value.G (m' ((c.tc : Thread Cert.Reference11Ideal.nD Cert.Reference11Ideal.τ).loc Cert.Reference11Ideal.main_arg0))
      (m' ((c.tc : Thread Cert.Reference11Ideal.nD Cert.Reference11Ideal.τ).loc Cert.Reference11Ideal.main_arg1))
      (m' ((c.tc : Thread Cert.Reference11Ideal.nD Cert.Reference11Ideal.τ).loc Cert.Reference11Ideal.main_arg2)) = Cert.Kernel11Ideal.Value.GM m c := by
    rw [a0, a1, a2]; rfl
  have f0 := (Cert.Reference11Ideal.Value.ref_eq _ _ _ ).trans e0
  have e1 : Cert.Kernel11Ideal.Value.Gw (m' ((c.tc : Thread Cert.Reference11Ideal.nD Cert.Reference11Ideal.τ).loc Cert.Reference11Ideal.main_arg1)) = Cert.Kernel11Ideal.Value.GwM m c := by
    rw [a1]; rfl
  have f1 := (Cert.Reference11Ideal.Value.W_eq _ ).trans e1
  exact ⟨h0.trans f0, h1.trans f0, h2.trans f1, hk⟩

/-- The results of the sample batch's input projection are the reference's. -/
theorem algebraic12 :
    Cert.algebraic_Kernel12Ideal_Reference12Ideal (hKernel12Ideal := Cert.Kernel12Ideal.Gen.facts) (hReference12Ideal := Cert.Reference12Ideal.Gen.facts) := by
  intro m g m' g' _ hargs
  refine ⟨fun c => Cert.Kernel12Ideal.Value.GM m c, fun c => Cert.Kernel12Ideal.Value.GwM m c, Cert.Kernel12Ideal.Value.run_value m g, ?_⟩
  refine (θ_run _ _ _).mono (fun r h c => ?_) (Cert.Reference12Ideal.Value.run m' g')
  obtain ⟨h0, h1, hk⟩ := h c
  obtain ⟨a0, a1, a2⟩ := hargs c
  have e0 : Cert.Kernel12Ideal.Value.G (m' ((c.tc : Thread Cert.Reference12Ideal.nD Cert.Reference12Ideal.τ).loc Cert.Reference12Ideal.main_arg0))
      (m' ((c.tc : Thread Cert.Reference12Ideal.nD Cert.Reference12Ideal.τ).loc Cert.Reference12Ideal.main_arg1))
      (m' ((c.tc : Thread Cert.Reference12Ideal.nD Cert.Reference12Ideal.τ).loc Cert.Reference12Ideal.main_arg2)) = Cert.Kernel12Ideal.Value.GM m c := by
    rw [a0, a1, a2]; rfl
  have f0 := (Cert.Reference12Ideal.Value.ref_eq _ _ _ ).trans e0
  have e1 : Cert.Kernel12Ideal.Value.Gw (m' ((c.tc : Thread Cert.Reference12Ideal.nD Cert.Reference12Ideal.τ).loc Cert.Reference12Ideal.main_arg1))
      (m' ((c.tc : Thread Cert.Reference12Ideal.nD Cert.Reference12Ideal.τ).loc Cert.Reference12Ideal.main_arg2)) = Cert.Kernel12Ideal.Value.GwM m c := by
    rw [a1, a2]; rfl
  have f1 := (Cert.Reference12Ideal.Value.Wn_eq _ _ ).trans e1
  exact ⟨h0.trans f0, h1.trans f1, hk⟩

/-- The sample batch's time step columns are the reference's. -/
theorem algebraic13 :
    Cert.algebraic_Kernel13Ideal_Reference13Ideal (hKernel13Ideal := Cert.Kernel13Ideal.Gen.facts) (hReference13Ideal := Cert.Reference13Ideal.Gen.facts) := by
  intro m g m' g' _ hargs
  refine ⟨fun c => Cert.Kernel13Ideal.Value.GM m c, fun c => Cert.Kernel13Ideal.Value.GwM m c, Cert.Kernel13Ideal.Value.run_value m g, ?_⟩
  refine (θ_run _ _ _).mono (fun r h c => ?_) (Cert.Reference13Ideal.Value.run m' g')
  obtain ⟨h0, h1, hk⟩ := h c
  obtain ⟨a0, a1, a2⟩ := hargs c
  have e0 : Cert.Kernel13Ideal.Value.G (m' ((c.tc : Thread Cert.Reference13Ideal.nD Cert.Reference13Ideal.τ).loc Cert.Reference13Ideal.main_arg0))
      (m' ((c.tc : Thread Cert.Reference13Ideal.nD Cert.Reference13Ideal.τ).loc Cert.Reference13Ideal.main_arg1))
      (m' ((c.tc : Thread Cert.Reference13Ideal.nD Cert.Reference13Ideal.τ).loc Cert.Reference13Ideal.main_arg2)) = Cert.Kernel13Ideal.Value.GM m c := by
    rw [a0, a1, a2]; rfl
  have f0 := (Cert.Reference13Ideal.Value.ref_eq _ _ _ ).trans e0
  have e1 : Cert.Kernel13Ideal.Value.Gw (m' ((c.tc : Thread Cert.Reference13Ideal.nD Cert.Reference13Ideal.τ).loc Cert.Reference13Ideal.main_arg1))
      (m' ((c.tc : Thread Cert.Reference13Ideal.nD Cert.Reference13Ideal.τ).loc Cert.Reference13Ideal.main_arg2)) = Cert.Kernel13Ideal.Value.GwM m c := by
    rw [a1, a2]; rfl
  have f1 := (Cert.Reference13Ideal.Value.Wn_eq _ _ ).trans e1
  exact ⟨h0.trans f0, h1.trans f1, hk⟩

/-- The results of the sample batch's other output projection are the reference's. -/
theorem algebraic14 :
    Cert.algebraic_Kernel14Ideal_Reference14Ideal (hKernel14Ideal := Cert.Kernel14Ideal.Gen.facts) (hReference14Ideal := Cert.Reference14Ideal.Gen.facts) := by
  intro m g m' g' _ hargs
  refine ⟨fun c => Cert.Kernel14Ideal.Value.GM m c, fun c => Cert.Kernel14Ideal.Value.GM m c, Cert.Kernel14Ideal.Value.run_value m g, ?_⟩
  refine (θ_run _ _ _).mono (fun r h c => ?_) (Cert.Reference14Ideal.Value.run m' g')
  obtain ⟨h0, h1, hk⟩ := h c
  obtain ⟨a0, a1, a2⟩ := hargs c
  have e0 : Cert.Kernel14Ideal.Value.G (m' ((c.tc : Thread Cert.Reference14Ideal.nD Cert.Reference14Ideal.τ).loc Cert.Reference14Ideal.main_arg0))
      (m' ((c.tc : Thread Cert.Reference14Ideal.nD Cert.Reference14Ideal.τ).loc Cert.Reference14Ideal.main_arg1))
      (m' ((c.tc : Thread Cert.Reference14Ideal.nD Cert.Reference14Ideal.τ).loc Cert.Reference14Ideal.main_arg2)) = Cert.Kernel14Ideal.Value.GM m c := by
    rw [a0, a1, a2]; rfl
  have f0 := (Cert.Reference14Ideal.Value.ref_eq _ _ _ ).trans e0
  exact ⟨h0.trans f0, h1.trans f0, hk⟩

/-- The result of the sample batch's short convolution in-projection is the reference's. -/
theorem algebraic15 :
    Cert.algebraic_Kernel15Ideal_Reference15Ideal (hKernel15Ideal := Cert.Kernel15Ideal.Gen.facts) (hReference15Ideal := Cert.Reference15Ideal.Gen.facts) := by
  intro m g m' g' _ hargs
  refine ⟨fun c => Cert.Kernel15Ideal.Value.GM m c, Cert.Kernel15Ideal.Value.run_value m g, ?_⟩
  refine (θ_run _ _ _).mono (fun r h c => ?_) (Cert.Reference15Ideal.Value.run m' g')
  obtain ⟨h0, hk⟩ := h c
  obtain ⟨a0, a1⟩ := hargs c
  have e0 : Cert.Kernel15Ideal.Value.G (m' ((c.tc : Thread Cert.Reference15Ideal.nD Cert.Reference15Ideal.τ).loc Cert.Reference15Ideal.main_arg0))
      (m' ((c.tc : Thread Cert.Reference15Ideal.nD Cert.Reference15Ideal.τ).loc Cert.Reference15Ideal.main_arg1)) = Cert.Kernel15Ideal.Value.GM m c := by
    rw [a0, a1]; rfl
  have f0 := (Cert.Reference15Ideal.Value.ref_eq _ _ ).trans e0
  exact ⟨h0.trans f0, hk⟩

end Cert.Proof

end
-- ==== Proof.Kernel16IdealRun.Value.lean ====
/-
  The frame of `Kernel16Ideal`: what the run leaves in the convolution states, block by block.
-/
module

public import proofs.«01_k».proof.Proof.Kernel16IdealRun.Frame
public import Idealize.ShloMosaic.Lib.Pipeline.Value

@[expose] public section

noncomputable section

namespace Cert.Kernel16Ideal.Value

open Cert.Kernel16Ideal Cert.Kernel16Ideal.Gen Cert.Kernel16Ideal.Fgt Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem flushed17 (c : Dev nD) (t : Fin cfg0.N) :
    (dats m 0 c).flushed 17 t = (cfg0.win 17).cut (grid0.coords t) ((outsAt0 m c t.val t.isLt).1) := by
  show (cfg0.win 17).cut (grid0.coords t) ((dats m 0 c).after 17 t) = _
  rw [after0_17]

theorem flushed17_A (c : Dev nD) (t : Fin cfg0.N) (h1 : t.val % 9 = 0) (h3 : t.val % 9 = 0) (h4 : ¬1 ≤ t.val) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) ((hcond0_1 t).mpr h1) (hcond0_2 t) ((hcond0_3 t).mpr h3) (fun h => h4 ((hcond0_4 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed17, outsAt0_A m c t h1 h3 h4]

theorem flushed17_B (c : Dev nD) (t : Fin cfg0.N) (h1 : ¬t.val % 9 = 0) (h3 : ¬t.val % 9 = 0) (h4 : 1 ≤ t.val) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) (fun h => h1 ((hcond0_1 t).mp h)) (hcond0_2 t) (fun h => h3 ((hcond0_3 t).mp h)) ((hcond0_4 t).mpr h4) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed17, outsAt0_B m c t h1 h3 h4]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem entry17 (c : Dev nD) (i : S9x8x8192.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

theorem flushed18 (c : Dev nD) (t : Fin cfg0.N) :
    (dats m 0 c).flushed 18 t = (cfg0.win 18).cut (grid0.coords t) ((outsAt0 m c t.val t.isLt).2) := by
  show (cfg0.win 18).cut (grid0.coords t) ((dats m 0 c).after 18 t) = _
  rw [after0_18]

theorem flushed18_A (c : Dev nD) (t : Fin cfg0.N) (h1 : t.val % 9 = 0) (h3 : t.val % 9 = 0) (h4 : ¬1 ≤ t.val) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) ((hcond0_1 t).mpr h1) (hcond0_2 t) ((hcond0_3 t).mpr h3) (fun h => h4 ((hcond0_4 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed18, outsAt0_A m c t h1 h3 h4]

theorem flushed18_B (c : Dev nD) (t : Fin cfg0.N) (h1 : ¬t.val % 9 = 0) (h3 : ¬t.val % 9 = 0) (h4 : 1 ≤ t.val) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) (fun h => h1 ((hcond0_1 t).mp h)) (hcond0_2 t) (fun h => h3 ((hcond0_3 t).mp h)) ((hcond0_4 t).mpr h4) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed18, outsAt0_B m c t h1 h3 h4]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem entry18 (c : Dev nD) (i : S9x8x2048.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem finalR_out0 (r : PUnit × MemSt nD τ sig (Elt F)) (h : Pipeline.RDat.FramePost (cfgs 0) (fun c => (dats m 0 c).toRForget forgets0) (V m) r) (c : Dev nD) (w : Fin 21) (hw : forgets0 w = false) :
    r.2.mem ((cfg0.spec w).arr.view.loc (c : Thread nD τ)) = (dats m 0 c).arrAt w cfg0.N :=
  ((dats m 0 c).toRForget_arrAt_iff hw _ _).mp ((h c).1 w)

theorem post17 (r : PUnit × MemSt nD τ sig (Elt F)) (h : Pipeline.RDat.FramePost (cfgs 0) (fun c => (dats m 0 c).toRForget forgets0) (V m) r) (c : Dev nD) :
    r.2.mem ((c : Thread nD τ).loc main_v38_1) = (dats m 0 c).arrAt 17 cfg0.N :=
  finalR_out0 m r h c 17 forgets0_17

theorem post18 (r : PUnit × MemSt nD τ sig (Elt F)) (h : Pipeline.RDat.FramePost (cfgs 0) (fun c => (dats m 0 c).toRForget forgets0) (V m) r) (c : Dev nD) :
    r.2.mem ((c : Thread nD τ).loc main_v38_2) = (dats m 0 c).arrAt 18 cfg0.N :=
  finalR_out0 m r h c 18 forgets0_18

theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 2 rfl).trans ((A_eq m c 2).trans (V_main_arg0 m c))

theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 3 rfl).trans ((A_eq m c 3).trans (V_main_arg1 m c))

theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 4 rfl).trans ((A_eq m c 4).trans (V_main_arg2 m c))

theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 5 rfl).trans ((A_eq m c 5).trans (V_main_arg3 m c))

theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  (Pipeline.RDat.FramePost.arr_in h c 6 rfl).trans ((A_eq m c 6).trans (V_main_arg4 m c))

theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.RDat.FramePost (cfgs 0) (fun c => (dats m 0 c).toRForget forgets0) (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.RDat.FramePost (cfgs 0) (fun c => (dats m 0 c).toRForget forgets0) (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.RDat.FramePost (cfgs 0) (fun c => (dats m 0 c).toRForget forgets0) (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.RDat.FramePost (cfgs 0) (fun c => (dats m 0 c).toRForget forgets0) (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem run_blocks : θ_run defs (onTc (τ := τ) (main (F := F))) ⟨m, fun _ => 0, ρ⟩ fun r => ∀ c : Dev nD,
      r.2.mem ((c : Thread nD τ).loc main_v38_1) = (dats m 0 c).arrAt 17 cfg0.N
      ∧ r.2.mem ((c : Thread nD τ).loc main_v38_2) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Kernel16Ideal.Value

end
-- ==== Proof.SsdTail16.Tile.lean ====
/-
  What the SSD call leaves of its convolutions' inputs for the sample batch: the last rows of every stream's block.
-/
module

public import proofs.«01_k».proof.Proof.Kernel16IdealRun.Value
public import Idealize.ShloMosaic.Lib.Pipeline.Value
public import Idealize.ShloMosaic.Lib.KernelVsHost
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen Cert.Kernel16Ideal.Fgt

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- Stores of which the last ones cover a view and agree with one function, read back whole. -/
theorem readCov_whole {κ : Kind} {sp : Space} {S : Shape} {e : EltTy} (v : View sig κ sp S e) (L : List (View.Piece (Elt Ideal) S e)) (n : ℕ) (G : S.Idx → Elt Ideal e)
    {off : Fin S.rank → Nat} (h : off = fun _ => 0) (inb : ∀ a, off a + S.size a ≤ S.size a)
    (hp : ∀ p ∈ L.take n, ∀ x : p.1.shape.Idx, p.2 x = G (p.1.emb x)) (hc : ∀ y : S.Idx, ∃ p ∈ L.take n, y ∈ p.1.set) :
    v.readCov L (Rect.unit off S.size inb).toLoadRect = G := by
  subst h
  funext y
  have ey : (Rect.unit (s := S) (fun _ => 0) S.size inb).idx y = y := funext fun a => Fin.ext (by
    show 0 + 1 * (y a).val = (y a).val; omega)
  show v.read (Elt Ideal) (v.writes (Elt Ideal) v.junk L) ((Rect.unit (s := S) (fun _ => 0) S.size inb).idx y) = G y
  rw [ey]
  have e := View.read_writes_apply_of_pieces v (v.writes (Elt Ideal) v.junk (L.drop n)) G (L.take n) hp y (hc y)
  rwa [← View.writes_append, List.take_append_drop] at e

theorem forall_take_succ {α : Type} {P : α → Prop} {a : α} {l : List α} {n : ℕ} (h : P a) (h' : ∀ p ∈ l.take n, P p) :
    ∀ p ∈ (a :: l).take (n + 1), P p := fun p hp =>
  (List.mem_cons.mp hp).elim (fun e => e ▸ h) (h' p)

theorem forall_take_zero {α : Type} {P : α → Prop} {l : List α} : ∀ p ∈ l.take 0, P p := fun _ hp => absurd hp List.not_mem_nil

/-- The last eight rows of a block of the first convolution's input. -/
def tailX (X : Vec Ideal S1x16x8192 .bf16) : Vec Ideal S8x8192 .f32 := fun y => X (ix3 0 ⟨8 + (y 0).val, by have h : (y 0).val < 8 := (y 0).isLt; omega⟩ (y 1))

/-- The last eight rows of a block of the second convolution's input. -/
def tailBC (X : Vec Ideal S1x16x2048 .bf16) : Vec Ideal S8x2048 .f32 := fun y => X (ix3 0 ⟨8 + (y 0).val, by have h : (y 0).val < 8 := (y 0).isLt; omega⟩ (y 1))

theorem padX_apply (v : Vec Ideal S1x16x512 .bf16) (p : Fin 8) (q : Fin 512) :
    k0_pay236 (F := Ideal) (k0_pay233 (F := Ideal) v) (ix2 p q) = v (ix3 0 ⟨8 + p.val, by omega⟩ q) := by
  unfold_payloads
  pointwise
  exact dif_pos (by omega)

/-- One of the sixteen stores of the first convolution's rows. -/
theorem pieceX (o : ℕ) (X Y : Vec Ideal S1x16x8192 .bf16) (hY : Y = X) (inb : ∀ a, (![0, 0, o] : Fin 3 → Nat) a + S1x16x512.size a ≤ S1x16x8192.size a)
    (inb' : ∀ a, (![0, o] : Fin 2 → Nat) a + S8x512.size a ≤ S8x8192.size a) (x : S8x512.Idx) :
    k0_pay236 (F := Ideal) (k0_pay233 (F := Ideal) (View.ld Y (Rect.unit ![0, 0, o] S1x16x512.size inb))) x
      = tailX X ((Rect.unit (s := S8x8192) ![0, o] S8x512.size inb').emb x) := by
  have ex : x = ix2 (x 0) (x 1) := by funext a; match a with | ⟨0, _⟩ => rfl | ⟨1, _⟩ => rfl
  subst hY
  rw [ex]
  refine (padX_apply _ (x 0) (x 1)).trans ?_
  refine congrArg Y (funext fun a => ?_)
  match a with
  | ⟨0, _⟩ => rfl
  | ⟨1, _⟩ => exact Fin.ext (by show 0 + 1 * (8 + (x 0).val) = 8 + (0 + 1 * (x 0).val); omega)
  | ⟨2, _⟩ => exact Fin.ext (by show o + 1 * (x 1).val = o + 1 * (x 1).val; rfl)

theorem padBC1_apply (X : Vec Ideal S1x16x2048 .bf16) (p : Fin 8) (q : Fin 1024) :
    k0_pay226 (F := Ideal) (k0_pay222 (F := Ideal) (k0_pay213 (F := Ideal) X)) (ix2 p q) = X (ix3 0 ⟨8 + p.val, by omega⟩ ⟨1024 + q.val, by omega⟩) := by
  unfold_payloads
  pointwise
  exact dif_pos (by omega)

theorem padBC0_apply (X : Vec Ideal S1x16x2048 .bf16) (p : Fin 8) (q : Fin 1024) :
    k0_pay225 (F := Ideal) (k0_pay220 (F := Ideal) (k0_pay215 (F := Ideal) X)) (ix2 p q) = X (ix3 0 ⟨8 + p.val, by omega⟩ ⟨q.val, by omega⟩) := by
  unfold_payloads
  pointwise
  exact dif_pos (by omega)

/-- The two stores of the second convolution's rows. -/
theorem pieceBC1 (X Y : Vec Ideal S1x16x2048 .bf16) (hY : Y = X) (inbY : ∀ a, (![0, 0, 0] : Fin 3 → Nat) a + S1x16x2048.size a ≤ S1x16x2048.size a) (inb : ∀ a, (![0, 1024] : Fin 2 → Nat) a + S8x1024.size a ≤ S8x2048.size a) (x : S8x1024.Idx) :
    k0_pay226 (F := Ideal) (k0_pay222 (F := Ideal) (k0_pay213 (F := Ideal) (View.ld Y (Rect.unit ![0, 0, 0] S1x16x2048.size inbY)))) x
      = tailBC X ((Rect.unit (s := S8x2048) ![0, 1024] S8x1024.size inb).emb x) := by
  have ex : x = ix2 (x 0) (x 1) := by funext a; match a with | ⟨0, _⟩ => rfl | ⟨1, _⟩ => rfl
  subst hY
  rw [ex, View.ld_unit_zero (S := S1x16x2048) hz3]
  refine (padBC1_apply Y (x 0) (x 1)).trans ?_
  refine congrArg Y (funext fun a => ?_)
  match a with
  | ⟨0, _⟩ => rfl
  | ⟨1, _⟩ => exact Fin.ext (by show 8 + (x 0).val = 8 + (0 + 1 * (x 0).val); omega)
  | ⟨2, _⟩ => exact Fin.ext (by show 1024 + (x 1).val = 1024 + 1 * (x 1).val; omega)

theorem pieceBC0 (X Y : Vec Ideal S1x16x2048 .bf16) (hY : Y = X) (inbY : ∀ a, (![0, 0, 0] : Fin 3 → Nat) a + S1x16x2048.size a ≤ S1x16x2048.size a) (inb : ∀ a, (![0, 0] : Fin 2 → Nat) a + S8x1024.size a ≤ S8x2048.size a) (x : S8x1024.Idx) :
    k0_pay225 (F := Ideal) (k0_pay220 (F := Ideal) (k0_pay215 (F := Ideal) (View.ld Y (Rect.unit ![0, 0, 0] S1x16x2048.size inbY)))) x
      = tailBC X ((Rect.unit (s := S8x2048) ![0, 0] S8x1024.size inb).emb x) := by
  have ex : x = ix2 (x 0) (x 1) := by funext a; match a with | ⟨0, _⟩ => rfl | ⟨1, _⟩ => rfl
  subst hY
  rw [ex, View.ld_unit_zero (S := S1x16x2048) hz3]
  refine (padBC0_apply Y (x 0) (x 1)).trans ?_
  refine congrArg Y (funext fun a => ?_)
  match a with
  | ⟨0, _⟩ => rfl
  | ⟨1, _⟩ => exact Fin.ext (by show 8 + (x 0).val = 8 + (0 + 1 * (x 0).val); omega)
  | ⟨2, _⟩ => exact Fin.ext (by show (x 1).val = 0 + 1 * (x 1).val; omega)

/-- The rows left for the first convolution at the first point. -/
theorem outs17_A (c : Dev nD) (t : Fin cfg0.N) (h1 : t.val % 9 = 0) (h3 : t.val % 9 = 0) (h4 : ¬1 ≤ t.val) :
    (outsAt0 m c t.val t.isLt).1 = k0_pay3 (F := Ideal) (tailX (X0_1 m c t)) := by
  rw [outsAt0_A m c t h1 h3 h4]
  dsimp only
  unfold out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld]
  refine (View.canon_unit_zero (S := S1x8x8192) hz3 _ _).trans ?_
  refine congrArg (k0_pay3 (F := Ideal)) ?_
  refine (readCov_whole (S := S8x8192) _ _ 16 (tailX (X0_1 m c t)) hz _ ?_ ?_)
  rotate_left
  · exact View.cover_of_tiledL (s := S8x8192) _ S8x512.size (by sl_kernel_rfl)
  refine forall_take_succ (fun x => pieceX 7680 (X0_1 m c t) _ ((hs0_1 t).read_unread _) (by decide) (by decide) x) ?_
  refine forall_take_succ (fun x => pieceX 7168 (X0_1 m c t) _ ((hs0_1 t).read_unread _) (by decide) (by decide) x) ?_
  refine forall_take_succ (fun x => pieceX 6656 (X0_1 m c t) _ ((hs0_1 t).read_unread _) (by decide) (by decide) x) ?_
  refine forall_take_succ (fun x => pieceX 6144 (X0_1 m c t) _ ((hs0_1 t).read_unread _) (by decide) (by decide) x) ?_
  refine forall_take_succ (fun x => pieceX 5632 (X0_1 m c t) _ ((hs0_1 t).read_unread _) (by decide) (by decide) x) ?_
  refine forall_take_succ (fun x => pieceX 5120 (X0_1 m c t) _ ((hs0_1 t).read_unread _) (by decide) (by decide) x) ?_
  refine forall_take_succ (fun x => pieceX 4608 (X0_1 m c t) _ ((hs0_1 t).read_unread _) (by decide) (by decide) x) ?_
  refine forall_take_succ (fun x => pieceX 4096 (X0_1 m c t) _ ((hs0_1 t).read_unread _) (by decide) (by decide) x) ?_
  refine forall_take_succ (fun x => pieceX 3584 (X0_1 m c t) _ ((hs0_1 t).read_unread _) (by decide) (by decide) x) ?_
  refine forall_take_succ (fun x => pieceX 3072 (X0_1 m c t) _ ((hs0_1 t).read_unread _) (by decide) (by decide) x) ?_
  refine forall_take_succ (fun x => pieceX 2560 (X0_1 m c t) _ ((hs0_1 t).read_unread _) (by decide) (by decide) x) ?_
  refine forall_take_succ (fun x => pieceX 2048 (X0_1 m c t) _ ((hs0_1 t).read_unread _) (by decide) (by decide) x) ?_
  refine forall_take_succ (fun x => pieceX 1536 (X0_1 m c t) _ ((hs0_1 t).read_unread _) (by decide) (by decide) x) ?_
  refine forall_take_succ (fun x => pieceX 1024 (X0_1 m c t) _ ((hs0_1 t).read_unread _) (by decide) (by decide) x) ?_
  refine forall_take_succ (fun x => pieceX 512 (X0_1 m c t) _ ((hs0_1 t).read_unread _) (by decide) (by decide) x) ?_
  refine forall_take_succ (fun x => pieceX 0 (X0_1 m c t) _ ((hs0_1 t).read_unread _) (by decide) (by decide) x) ?_
  exact forall_take_zero

/-- The rows left for the second convolution at the first point. -/
theorem outs18_A (c : Dev nD) (t : Fin cfg0.N) (h1 : t.val % 9 = 0) (h3 : t.val % 9 = 0) (h4 : ¬1 ≤ t.val) :
    (outsAt0 m c t.val t.isLt).2 = k0_pay4 (F := Ideal) (tailBC (iblk m c 2 t)) := by
  rw [outsAt0_A m c t h1 h3 h4]
  dsimp only
  unfold out0_A_18
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld]
  refine (View.canon_unit_zero (S := S1x8x2048) hz3 _ _).trans ?_
  refine congrArg (k0_pay4 (F := Ideal)) ?_
  refine (readCov_whole (S := S8x2048) _ _ 2 (tailBC (iblk m c 2 t)) hz _ ?_ ?_)
  rotate_left
  · exact View.cover_of_tiledL (s := S8x2048) _ S8x1024.size (by sl_kernel_rfl)
  refine forall_take_succ (fun x => pieceBC1 (iblk m c 2 t) _ ((hs0_2 t).read_unread _) (by decide) (by decide) x) ?_
  refine forall_take_succ (fun x => pieceBC0 (iblk m c 2 t) _ ((hs0_2 t).read_unread _) (by decide) (by decide) x) ?_
  exact forall_take_zero

/-- The rows left for the first convolution at a later point. -/
theorem outs17_B (c : Dev nD) (t : Fin cfg0.N) (h1 : ¬t.val % 9 = 0) (h3 : ¬t.val % 9 = 0) (h4 : 1 ≤ t.val) :
    (outsAt0 m c t.val t.isLt).1 = k0_pay3 (F := Ideal) (tailX (X0_1 m c t)) := by
  rw [outsAt0_B m c t h1 h3 h4]
  dsimp only
  unfold out0_B_17
  rw [View.read_writes_eq_canon _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld]
  refine (View.canon_unit_zero (S := S1x8x8192) hz3 _ _).trans ?_
  refine congrArg (k0_pay3 (F := Ideal)) ?_
  refine (readCov_whole (S := S8x8192) _ _ 16 (tailX (X0_1 m c t)) hz _ ?_ ?_)
  rotate_left
  · exact View.cover_of_tiledL (s := S8x8192) _ S8x512.size (by sl_kernel_rfl)
  refine forall_take_succ (fun x => pieceX 7680 (X0_1 m c t) _ ((hs0_1 t).read_unread _) (by decide) (by decide) x) ?_
  refine forall_take_succ (fun x => pieceX 7168 (X0_1 m c t) _ ((hs0_1 t).read_unread _) (by decide) (by decide) x) ?_
  refine forall_take_succ (fun x => pieceX 6656 (X0_1 m c t) _ ((hs0_1 t).read_unread _) (by decide) (by decide) x) ?_
  refine forall_take_succ (fun x => pieceX 6144 (X0_1 m c t) _ ((hs0_1 t).read_unread _) (by decide) (by decide) x) ?_
  refine forall_take_succ (fun x => pieceX 5632 (X0_1 m c t) _ ((hs0_1 t).read_unread _) (by decide) (by decide) x) ?_
  refine forall_take_succ (fun x => pieceX 5120 (X0_1 m c t) _ ((hs0_1 t).read_unread _) (by decide) (by decide) x) ?_
  refine forall_take_succ (fun x => pieceX 4608 (X0_1 m c t) _ ((hs0_1 t).read_unread _) (by decide) (by decide) x) ?_
  refine forall_take_succ (fun x => pieceX 4096 (X0_1 m c t) _ ((hs0_1 t).read_unread _) (by decide) (by decide) x) ?_
  refine forall_take_succ (fun x => pieceX 3584 (X0_1 m c t) _ ((hs0_1 t).read_unread _) (by decide) (by decide) x) ?_
  refine forall_take_succ (fun x => pieceX 3072 (X0_1 m c t) _ ((hs0_1 t).read_unread _) (by decide) (by decide) x) ?_
  refine forall_take_succ (fun x => pieceX 2560 (X0_1 m c t) _ ((hs0_1 t).read_unread _) (by decide) (by decide) x) ?_
  refine forall_take_succ (fun x => pieceX 2048 (X0_1 m c t) _ ((hs0_1 t).read_unread _) (by decide) (by decide) x) ?_
  refine forall_take_succ (fun x => pieceX 1536 (X0_1 m c t) _ ((hs0_1 t).read_unread _) (by decide) (by decide) x) ?_
  refine forall_take_succ (fun x => pieceX 1024 (X0_1 m c t) _ ((hs0_1 t).read_unread _) (by decide) (by decide) x) ?_
  refine forall_take_succ (fun x => pieceX 512 (X0_1 m c t) _ ((hs0_1 t).read_unread _) (by decide) (by decide) x) ?_
  refine forall_take_succ (fun x => pieceX 0 (X0_1 m c t) _ ((hs0_1 t).read_unread _) (by decide) (by decide) x) ?_
  exact forall_take_zero

/-- The rows left for the second convolution at a later point. -/
theorem outs18_B (c : Dev nD) (t : Fin cfg0.N) (h1 : ¬t.val % 9 = 0) (h3 : ¬t.val % 9 = 0) (h4 : 1 ≤ t.val) :
    (outsAt0 m c t.val t.isLt).2 = k0_pay4 (F := Ideal) (tailBC (iblk m c 2 t)) := by
  rw [outsAt0_B m c t h1 h3 h4]
  dsimp only
  unfold out0_B_18
  rw [View.read_writes_eq_canon _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld]
  refine (View.canon_unit_zero (S := S1x8x2048) hz3 _ _).trans ?_
  refine congrArg (k0_pay4 (F := Ideal)) ?_
  refine (readCov_whole (S := S8x2048) _ _ 2 (tailBC (iblk m c 2 t)) hz _ ?_ ?_)
  rotate_left
  · exact View.cover_of_tiledL (s := S8x2048) _ S8x1024.size (by sl_kernel_rfl)
  refine forall_take_succ (fun x => pieceBC1 (iblk m c 2 t) _ ((hs0_2 t).read_unread _) (by decide) (by decide) x) ?_
  refine forall_take_succ (fun x => pieceBC0 (iblk m c 2 t) _ ((hs0_2 t).read_unread _) (by decide) (by decide) x) ?_
  exact forall_take_zero

theorem cases9 (t : Fin cfg0.N) : (t.val % 9 = 0 ∧ ¬1 ≤ t.val) ∨ (¬t.val % 9 = 0 ∧ 1 ≤ t.val) := by
  have h : t.val < 9 := lt_of_lt_of_eq t.isLt N_0
  omega

theorem outs17 (c : Dev nD) (t : Fin cfg0.N) : (outsAt0 m c t.val t.isLt).1 = k0_pay3 (F := Ideal) (tailX (X0_1 m c t)) :=
  (cases9 t).elim (fun h => outs17_A m c t h.1 h.1 h.2) fun h => outs17_B m c t h.1 h.1 h.2

theorem outs18 (c : Dev nD) (t : Fin cfg0.N) : (outsAt0 m c t.val t.isLt).2 = k0_pay4 (F := Ideal) (tailBC (iblk m c 2 t)) :=
  (cases9 t).elim (fun h => outs18_A m c t h.1 h.1 h.2) fun h => outs18_B m c t h.1 h.1 h.2

theorem pay3_apply (v : Vec Ideal S8x8192 .f32) (s : Fin 8) (q : Fin 8192) : k0_pay3 (F := Ideal) v (ix3 0 s q) = v (ix2 s q) := by
  unfold_payloads
  pointwise

theorem pay4_apply (v : Vec Ideal S8x2048 .f32) (s : Fin 8) (q : Fin 2048) : k0_pay4 (F := Ideal) v (ix3 0 s q) = v (ix2 s q) := by
  unfold_payloads
  pointwise

theorem tail17 (c : Dev nD) (t : Fin cfg0.N) (s : Fin 8) (q : Fin 8192) :
    (outsAt0 m c t.val t.isLt).1 (ix3 0 s q) = (X0_1 m c t : Vec Ideal S1x16x8192 .bf16) (ix3 0 ⟨8 + s.val, by omega⟩ q) :=
  (congrFun (outs17 m c t) (ix3 0 s q)).trans (pay3_apply _ s q)

theorem tail18 (c : Dev nD) (t : Fin cfg0.N) (s : Fin 8) (q : Fin 2048) :
    (outsAt0 m c t.val t.isLt).2 (ix3 0 s q) = (iblk m c 2 t : Vec Ideal S1x16x2048 .bf16) (ix3 0 ⟨8 + s.val, by omega⟩ q) :=
  (congrFun (outs18 m c t) (ix3 0 s q)).trans (pay4_apply _ s q)

end Cert.Kernel16Ideal.Value

end
-- ==== Proof.SsdTail16.Value.lean ====
/-
  What the SSD call leaves of its convolutions' inputs for the sample batch (`kernel16`), element by element, and what its run leaves.
-/
module

public import proofs.«01_k».proof.Proof.SsdTail16.Tile

@[expose] public section

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen Cert.Kernel16Ideal.Fgt

variable (m : (ℓ : Loc nD τ sig) → Buf (Elt Ideal) ℓ)

/-- The first result: the last eight rows of the first convolution's input. -/
def Gx (P : S9x16x18432.Idx → EReal) : S9x8x8192.Idx → EReal :=
  fun i => P (ix3 (i 0) ⟨8 + (i 1).val, by have h : (i 1).val < 8 := (i 1).isLt; omega⟩
    ⟨8192 + (i 2).val, by have h : (i 2).val < 8192 := (i 2).isLt; omega⟩)

/-- The second result: the last eight rows of the second convolution's input. -/
def Gbc (P : S9x16x18432.Idx → EReal) : S9x8x2048.Idx → EReal :=
  fun i => P (ix3 (i 0) ⟨8 + (i 1).val, by have h : (i 1).val < 8 := (i 1).isLt; omega⟩
    ⟨8192 + (8192 + (i 2).val), by have h : (i 2).val < 2048 := (i 2).isLt; omega⟩)

/-- The first result over the launch's arguments. -/
def GxM (c : Dev nD) : S9x8x8192.Idx → EReal := Gx (m ((c : Thread nD τ).loc main_arg0))

/-- The second result over the launch's arguments. -/
def GbcM (c : Dev nD) : S9x8x2048.Idx → EReal := Gbc (m ((c : Thread nD τ).loc main_arg0))

theorem idx1 : ∀ t : Fin cfg0.N, win0_1.index t 0 = t.val ∧ win0_1.index t 1 = 0 ∧ win0_1.index t 2 = 1 := by
  decide +kernel

theorem idx2 : ∀ t : Fin cfg0.N, win0_2.index t 0 = t.val ∧ win0_2.index t 1 = 0 ∧ win0_2.index t 2 = 8 := by
  decide +kernel

theorem idx17 : ∀ t : Fin cfg0.N, win0_17.index t 0 = t.val ∧ win0_17.index t 1 = 0 ∧ win0_17.index t 2 = 0 := by
  decide +kernel

theorem idx18 : ∀ t : Fin cfg0.N, win0_18.index t 0 = t.val ∧ win0_18.index t 1 = 0 ∧ win0_18.index t 2 = 0 := by
  decide +kernel

theorem lt_9 (t : Fin cfg0.N) : t.val < 9 := lt_of_lt_of_eq t.isLt N_0

theorem xblk (c : Dev nD) (t : Fin cfg0.N) (p : Fin 16) (q : Fin 8192) :
    (X0_1 m c t : Vec Ideal S1x16x8192 .bf16) (ix3 0 p q)
      = m ((c : Thread nD τ).loc main_arg0) (ix3 ⟨t.val, lt_9 t⟩ p ⟨8192 + q.val, by omega⟩) := by
  obtain ⟨e0, e1, e2⟩ := idx1 t
  unfold X0_1 Pipeline.Window.fill
  rw [dif_pos (moved0_1 t _)]
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_1.index t 0 * 1 + 1 * 0 = t.val; rw [e0]; omega
  | ⟨1, _⟩ => show win0_1.index t 1 * 16 + 1 * p.val = p.val; rw [e1]; omega
  | ⟨2, _⟩ => show win0_1.index t 2 * 8192 + 1 * q.val = 8192 + q.val; rw [e2]; omega

theorem bcblk (c : Dev nD) (t : Fin cfg0.N) (p : Fin 16) (q : Fin 2048) :
    (iblk m c 2 t : Vec Ideal S1x16x2048 .bf16) (ix3 0 p q)
      = m ((c : Thread nD τ).loc main_arg0) (ix3 ⟨t.val, lt_9 t⟩ p ⟨8192 + (8192 + q.val), by omega⟩) := by
  obtain ⟨e0, e1, e2⟩ := idx2 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_2.index t 0 * 1 + 1 * 0 = t.val; rw [e0]; omega
  | ⟨1, _⟩ => show win0_2.index t 1 * 16 + 1 * p.val = p.val; rw [e1]; omega
  | ⟨2, _⟩ => show win0_2.index t 2 * 2048 + 1 * q.val = 8192 + (8192 + q.val); rw [e2]; omega

/-- A stream's point. -/
def pt (b : Fin 9) : Fin cfg0.N := ⟨b.val, by have := b.isLt; rw [show cfg0.N = 9 from N_0]; omega⟩

/-- The last rows a stream's point leaves for window 17, at an element of the array. -/
theorem point17 (c : Dev nD) (t : Fin cfg0.N) (j : S1x8x8192.Idx) (i : S9x8x8192.Idx)
    (h0 : (i 0).val = t.val) (h1 : (i 1).val = (j 1).val) (h2 : (i 2).val = (j 2).val) :
    (outsAt0 m c t.val t.isLt).1 j = GxM m c i := by
  have ej : j = ix3 0 (j 1) (j 2) := by
    funext a
    match a with
    | ⟨0, _⟩ => exact Fin.ext (by show (j 0).val = 0; have h : (j 0).val < 1 := (j 0).isLt; omega)
    | ⟨1, _⟩ => rfl
    | ⟨2, _⟩ => rfl
  have hj : (j 1).val < 8 := (j 1).isLt
  rw [ej]
  refine (tail17 m c t (j 1) (j 2)).trans ((xblk m c t _ (j 2)).trans ?_)
  show m (c.tc.loc main_arg0) _ = m (c.tc.loc main_arg0) _
  refine congrArg (m (c.tc.loc main_arg0)) (funext fun a => ?_)
  match a with
  | ⟨0, _⟩ => exact Fin.ext h0.symm
  | ⟨1, _⟩ => exact Fin.ext (by show 8 + (j 1).val = 8 + (i 1).val; omega)
  | ⟨2, _⟩ => exact Fin.ext (by show 8192 + (j 2).val = 8192 + (i 2).val; omega)

theorem flushed17_eq (c : Dev nD) (t : Fin cfg0.N) :
    (dats m 0 c).flushed 17 t = ((cfg0.win 17).blk t).view.read (Elt Ideal) (GxM m c) := by
  obtain ⟨e0, e1, e2⟩ := idx17 t
  rw [flushed17]
  funext j
  rw [View.read_apply]
  refine point17 m c t j _ ?_ ?_ ?_
  · show win0_17.index t 0 * 1 + 1 * (j 0).val = _
    have hj : (j 0).val < 1 := (j 0).isLt
    rw [e0]; omega
  · show win0_17.index t 1 * 8 + 1 * (j 1).val = _; rw [e1]; omega
  · show win0_17.index t 2 * 8192 + 1 * (j 2).val = _; rw [e2]; omega

theorem final17 (c : Dev nD) : (dats m 0 c).arrAt 17 cfg0.N = GxM m c :=
  (dats m 0 c).arrAt_eq_of_cover 17 (GxM m c) (fun t _ => flushed17_eq m c t) fun i => by
    refine ⟨pt (i 0), flush0_17 _, ?_⟩
    show i ∈ ((View.whole main_v38_1).slice (win0_17.rect (pt (i 0)))).set
    obtain ⟨e0, e1, e2⟩ := idx17 (pt (i 0))
    have p0 : (pt (i 0)).val = (i 0).val := rfl
    have h1 : (i 1 : Nat) < 8 := (i 1).isLt
    have h2 : (i 2 : Nat) < 8192 := (i 2).isLt
    rw [View.set_slice_whole, Rect.mem_set_unit]
    intro a
    match a with
    | ⟨0, _⟩ => show win0_17.index (pt (i 0)) 0 * 1 ≤ (i 0 : Nat) ∧ (i 0 : Nat) < win0_17.index (pt (i 0)) 0 * 1 + 1
                rw [e0, p0]; omega
    | ⟨1, _⟩ => show win0_17.index (pt (i 0)) 1 * 8 ≤ (i 1 : Nat) ∧ (i 1 : Nat) < win0_17.index (pt (i 0)) 1 * 8 + 8
                rw [e1]; omega
    | ⟨2, _⟩ => show win0_17.index (pt (i 0)) 2 * 8192 ≤ (i 2 : Nat) ∧ (i 2 : Nat) < win0_17.index (pt (i 0)) 2 * 8192 + 8192
                rw [e2]; omega

/-- The last rows a stream's point leaves for window 18, at an element of the array. -/
theorem point18 (c : Dev nD) (t : Fin cfg0.N) (j : S1x8x2048.Idx) (i : S9x8x2048.Idx)
    (h0 : (i 0).val = t.val) (h1 : (i 1).val = (j 1).val) (h2 : (i 2).val = (j 2).val) :
    (outsAt0 m c t.val t.isLt).2 j = GbcM m c i := by
  have ej : j = ix3 0 (j 1) (j 2) := by
    funext a
    match a with
    | ⟨0, _⟩ => exact Fin.ext (by show (j 0).val = 0; have h : (j 0).val < 1 := (j 0).isLt; omega)
    | ⟨1, _⟩ => rfl
    | ⟨2, _⟩ => rfl
  have hj : (j 1).val < 8 := (j 1).isLt
  rw [ej]
  refine (tail18 m c t (j 1) (j 2)).trans ((bcblk m c t _ (j 2)).trans ?_)
  show m (c.tc.loc main_arg0) _ = m (c.tc.loc main_arg0) _
  refine congrArg (m (c.tc.loc main_arg0)) (funext fun a => ?_)
  match a with
  | ⟨0, _⟩ => exact Fin.ext h0.symm
  | ⟨1, _⟩ => exact Fin.ext (by show 8 + (j 1).val = 8 + (i 1).val; omega)
  | ⟨2, _⟩ => exact Fin.ext (by show 8192 + (8192 + (j 2).val) = 8192 + (8192 + (i 2).val); omega)

theorem flushed18_eq (c : Dev nD) (t : Fin cfg0.N) :
    (dats m 0 c).flushed 18 t = ((cfg0.win 18).blk t).view.read (Elt Ideal) (GbcM m c) := by
  obtain ⟨e0, e1, e2⟩ := idx18 t
  rw [flushed18]
  funext j
  rw [View.read_apply]
  refine point18 m c t j _ ?_ ?_ ?_
  · show win0_18.index t 0 * 1 + 1 * (j 0).val = _
    have hj : (j 0).val < 1 := (j 0).isLt
    rw [e0]; omega
  · show win0_18.index t 1 * 8 + 1 * (j 1).val = _; rw [e1]; omega
  · show win0_18.index t 2 * 2048 + 1 * (j 2).val = _; rw [e2]; omega

theorem final18 (c : Dev nD) : (dats m 0 c).arrAt 18 cfg0.N = GbcM m c :=
  (dats m 0 c).arrAt_eq_of_cover 18 (GbcM m c) (fun t _ => flushed18_eq m c t) fun i => by
    refine ⟨pt (i 0), flush0_18 _, ?_⟩
    show i ∈ ((View.whole main_v38_2).slice (win0_18.rect (pt (i 0)))).set
    obtain ⟨e0, e1, e2⟩ := idx18 (pt (i 0))
    have p0 : (pt (i 0)).val = (i 0).val := rfl
    have h1 : (i 1 : Nat) < 8 := (i 1).isLt
    have h2 : (i 2 : Nat) < 2048 := (i 2).isLt
    rw [View.set_slice_whole, Rect.mem_set_unit]
    intro a
    match a with
    | ⟨0, _⟩ => show win0_18.index (pt (i 0)) 0 * 1 ≤ (i 0 : Nat) ∧ (i 0 : Nat) < win0_18.index (pt (i 0)) 0 * 1 + 1
                rw [e0, p0]; omega
    | ⟨1, _⟩ => show win0_18.index (pt (i 0)) 1 * 8 ≤ (i 1 : Nat) ∧ (i 1 : Nat) < win0_18.index (pt (i 0)) 1 * 8 + 8
                rw [e1]; omega
    | ⟨2, _⟩ => show win0_18.index (pt (i 0)) 2 * 2048 ≤ (i 2 : Nat) ∧ (i 2 : Nat) < win0_18.index (pt (i 0)) 2 * 2048 + 2048
                rw [e2]; omega

/-- The kernel's run: the two results named, the arguments as launched. -/
theorem run_value (ρ : Dev nD → PrngReg) :
    θ_run defs (onTc (τ := τ) (main (F := Ideal))) ⟨m, fun _ => 0, ρ⟩ fun r => ∀ c : Dev nD,
      r.2.mem ((c : Thread nD τ).loc main_v38_1) = GxM m c
      ∧ r.2.mem ((c : Thread nD τ).loc main_v38_2) = GbcM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final17 m c), (h c).2.1.trans (final18 m c), (h c).2.2⟩) (run_blocks m ρ)

end Cert.Kernel16Ideal.Value

end
-- ==== Proof.Claims16.lean ====
/-
  The value claim of the convolution states the SSD call leaves for the sample batch.
-/
module

public import proofs.«01_k».proof.Defs
public import proofs.«01_k».proof.Proof.SsdTail16.Value
public import proofs.«01_k».proof.Proof.Gen.Kernel16Ideal
public import proofs.«01_k».proof.Proof.Gen.Reference16Ideal
public import proofs.«01_k».proof.Proof.Gen.Reference16Ideal.Run

@[expose] public section

noncomputable section

open Idealize.ShloMosaic Idealize.ShloMosaic.TcCoe Idealize.SL.Sem

namespace Cert.Reference16Ideal.Value

open Cert.Reference16Ideal Cert.Reference16Ideal.Gen

/-- The reference's first result. -/
def R0 (P : FVec Ideal S9x16x18432 .f32) : FVec Ideal S9x8x8192 .f32 :=
  extractStridedSlice S9x8x8192 ![0, 8, 0] (extractStridedSlice S9x16x10240 ![0, 0, 8192] P slices_S9x16x18432_S9x16x10240_0_0_8192) slices_S9x16x10240_S9x8x8192_0_8_0

/-- The reference's second result. -/
def R1 (P : FVec Ideal S9x16x18432 .f32) : FVec Ideal S9x8x2048 .f32 :=
  extractStridedSlice S9x8x2048 ![0, 8, 8192] (extractStridedSlice S9x16x10240 ![0, 0, 8192] P slices_S9x16x18432_S9x16x10240_0_0_8192) slices_S9x16x10240_S9x8x2048_0_8_8192

theorem R0_apply (P : FVec Ideal S9x16x18432 .f32) (b : Fin 9) (s : Fin 8) (q : Fin 8192) :
    R0 P (ix3 b s q) = P (ix3 b ⟨8 + s.val, by omega⟩ ⟨8192 + q.val, by omega⟩) := by
  unfold R0
  pointwise

theorem R1_apply (P : FVec Ideal S9x16x18432 .f32) (b : Fin 9) (s : Fin 8) (q : Fin 2048) :
    R1 P (ix3 b s q) = P (ix3 b ⟨8 + s.val, by omega⟩ ⟨8192 + (8192 + q.val), by omega⟩) := by
  unfold R1
  pointwise

theorem ref_eqx (P : FVec Ideal S9x16x18432 .f32) : R0 P = Cert.Kernel16Ideal.Value.Gx P := by
  funext i
  have ei : i = ix3 (i 0) (i 1) (i 2) := by funext a; match a with | ⟨0, _⟩ => rfl | ⟨1, _⟩ => rfl | ⟨2, _⟩ => rfl
  exact (congrArg (R0 P) ei).trans (R0_apply P (i 0) (i 1) (i 2))

theorem ref_eqbc (P : FVec Ideal S9x16x18432 .f32) : R1 P = Cert.Kernel16Ideal.Value.Gbc P := by
  funext i
  have ei : i = ix3 (i 0) (i 1) (i 2) := by funext a; match a with | ⟨0, _⟩ => rfl | ⟨1, _⟩ => rfl | ⟨2, _⟩ => rfl
  exact (congrArg (R1 P) ei).trans (R1_apply P (i 0) (i 1) (i 2))

end Cert.Reference16Ideal.Value

namespace Cert.Proof

/-- The convolution states the SSD call leaves for the sample batch are the reference's. -/
theorem algebraic16 :
    Cert.algebraic_Kernel16Ideal_Reference16Ideal (hKernel16Ideal := Cert.Kernel16Ideal.Gen.facts) (hReference16Ideal := Cert.Reference16Ideal.Gen.facts) := by
  intro m g m' g' _ hargs
  refine ⟨fun c => Cert.Kernel16Ideal.Value.GxM m c, fun c => Cert.Kernel16Ideal.Value.GbcM m c, Cert.Kernel16Ideal.Value.run_value m g, ?_⟩
  refine (θ_run _ _ _).mono (fun r h c => ?_) (Cert.Reference16Ideal.Value.run m' g')
  obtain ⟨h3, h4, hk⟩ := h c
  have a0 := (hargs c).1
  have e : Cert.Kernel16Ideal.Value.Gx (m' ((c.tc : Thread Cert.Reference16Ideal.nD Cert.Reference16Ideal.τ).loc Cert.Reference16Ideal.main_arg0)) = Cert.Kernel16Ideal.Value.GxM m c := by
    rw [a0]; rfl
  have e' : Cert.Kernel16Ideal.Value.Gbc (m' ((c.tc : Thread Cert.Reference16Ideal.nD Cert.Reference16Ideal.τ).loc Cert.Reference16Ideal.main_arg0)) = Cert.Kernel16Ideal.Value.GbcM m c := by
    rw [a0]; rfl
  have h0 : r.2.mem ((c.tc : Thread Cert.Reference16Ideal.nD Cert.Reference16Ideal.τ).loc Cert.Reference16Ideal.main_v2)
      = Cert.Reference16Ideal.Value.R0 (extf .f32 (m' ((c.tc : Thread Cert.Reference16Ideal.nD Cert.Reference16Ideal.τ).loc Cert.Reference16Ideal.main_arg0)) Cert.Reference16Ideal.Gen.bitsLt_bf16_f32) := h3
  have h1 : r.2.mem ((c.tc : Thread Cert.Reference16Ideal.nD Cert.Reference16Ideal.τ).loc Cert.Reference16Ideal.main_v3)
      = Cert.Reference16Ideal.Value.R1 (extf .f32 (m' ((c.tc : Thread Cert.Reference16Ideal.nD Cert.Reference16Ideal.τ).loc Cert.Reference16Ideal.main_arg0)) Cert.Reference16Ideal.Gen.bitsLt_bf16_f32) := h4
  exact ⟨h0.trans ((Cert.Reference16Ideal.Value.ref_eqx _).trans e), h1.trans ((Cert.Reference16Ideal.Value.ref_eqbc _).trans e'), hk⟩

end Cert.Proof

end
-- ==== Proof.lean ====
/-
  The proof of `Cert.Claim`: the frames, what the idealised programs keep, and the values.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Kernel2Run.Frame
public import proofs.«01_k».proof.Proof.Gen.Kernel2Ideal
public import proofs.«01_k».proof.Proof.Kernel2IdealRun.Frame
public import proofs.«01_k».proof.Proof.Gen.Reference2Ideal
public import proofs.«01_k».proof.Proof.Gen.Kernel3
public import proofs.«01_k».proof.Proof.Kernel3Run.Frame
public import proofs.«01_k».proof.Proof.Gen.Kernel3Ideal
public import proofs.«01_k».proof.Proof.Kernel3IdealRun.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Kernel16Run.Frame
public import proofs.«01_k».proof.Proof.Gen.Kernel16Ideal
public import proofs.«01_k».proof.Proof.Kernel16IdealRun.Frame
public import proofs.«01_k».proof.Proof.Gen.Reference16Ideal
public import proofs.«01_k».proof.Proof.Gen.Reference16Ideal.Run
public import proofs.«01_k».proof.Proof.References
public import proofs.«01_k».proof.Proof.Claims
public import proofs.«01_k».proof.Proof.Claims2
public import proofs.«01_k».proof.Proof.Claims3
public import proofs.«01_k».proof.Proof.Claims7
public import proofs.«01_k».proof.Proof.Claims9
public import proofs.«01_k».proof.Proof.Claims10
public import proofs.«01_k».proof.Proof.Claims16
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   fun m ρ _ => Cert.Kernel.Gen.frame m ρ,
   fun m ρ _ => Cert.KernelIdeal.Gen.frame m ρ,
   Cert.Proof.frame_ReferenceIdeal,
   fun m ρ _ => Cert.Kernel2.Fgt.frame m ρ,
   fun m ρ _ => Cert.Kernel2Ideal.Fgt.frame m ρ,
   Cert.Proof.frame_Reference2Ideal,
   fun m ρ _ => Cert.Kernel3.Fgt.frame m ρ,
   fun m ρ _ => Cert.Kernel3Ideal.Fgt.frame m ρ,
   Cert.Proof.frame_Reference3Ideal,
   fun m ρ _ => Cert.Kernel4.Gen.frame m ρ,
   fun m ρ _ => Cert.Kernel4Ideal.Gen.frame m ρ,
   Cert.Proof.frame_Reference4Ideal,
   fun m ρ _ => Cert.Kernel5.Gen.frame m ρ,
   fun m ρ _ => Cert.Kernel5Ideal.Gen.frame m ρ,
   Cert.Proof.frame_Reference5Ideal,
   fun m ρ _ => Cert.Kernel6.Gen.frame m ρ,
   fun m ρ _ => Cert.Kernel6Ideal.Gen.frame m ρ,
   Cert.Proof.frame_Reference6Ideal,
   fun m ρ _ => Cert.Kernel7.Gen.frame m ρ,
   fun m ρ _ => Cert.Kernel7Ideal.Gen.frame m ρ,
   Cert.Proof.frame_Reference7Ideal,
   fun m ρ _ => Cert.Kernel8.Gen.frame m ρ,
   fun m ρ _ => Cert.Kernel8Ideal.Gen.frame m ρ,
   Cert.Proof.frame_Reference8Ideal,
   fun m ρ _ => Cert.Kernel9.Gen.frame m ρ,
   fun m ρ _ => Cert.Kernel9Ideal.Gen.frame m ρ,
   Cert.Proof.frame_Reference9Ideal,
   fun m ρ _ => Cert.Kernel10.Gen.frame m ρ,
   fun m ρ _ => Cert.Kernel10Ideal.Gen.frame m ρ,
   Cert.Proof.frame_Reference10Ideal,
   fun m ρ _ => Cert.Kernel11.Gen.frame m ρ,
   fun m ρ _ => Cert.Kernel11Ideal.Gen.frame m ρ,
   Cert.Proof.frame_Reference11Ideal,
   fun m ρ _ => Cert.Kernel12.Gen.frame m ρ,
   fun m ρ _ => Cert.Kernel12Ideal.Gen.frame m ρ,
   Cert.Proof.frame_Reference12Ideal,
   fun m ρ _ => Cert.Kernel13.Gen.frame m ρ,
   fun m ρ _ => Cert.Kernel13Ideal.Gen.frame m ρ,
   Cert.Proof.frame_Reference13Ideal,
   fun m ρ _ => Cert.Kernel14.Gen.frame m ρ,
   fun m ρ _ => Cert.Kernel14Ideal.Gen.frame m ρ,
   Cert.Proof.frame_Reference14Ideal,
   fun m ρ _ => Cert.Kernel15.Gen.frame m ρ,
   fun m ρ _ => Cert.Kernel15Ideal.Gen.frame m ρ,
   Cert.Proof.frame_Reference15Ideal,
   fun m ρ _ => Cert.Kernel16.Fgt.frame m ρ,
   fun m ρ _ => Cert.Kernel16Ideal.Fgt.frame m ρ,
   Cert.Proof.frame_Reference16Ideal,
   ⟨IdealRules.named_const.statement Cert.KernelIdeal.κ "log2e" .f32 0x3FB8AA3B#32 _ rfl,
    IdealRules.named_const.statement Cert.KernelIdeal.κ "neg_log2e" .f32 0xBFB8AA3B#32 _ rfl⟩,
   trivial,
   Cert.Proof.algebraic2,
   IdealRules.named_const.statement Cert.Kernel3Ideal.κ "neg_log2e" .f32 0xBFB8AA3B#32 _ rfl,
   Cert.Proof.algebraic3,
   trivial,
   Cert.Proof.algebraic4,
   trivial,
   Cert.Proof.algebraic5,
   trivial,
   Cert.Proof.algebraic6,
   IdealRules.named_const.statement Cert.Kernel7Ideal.κ "neg_log2e" .f32 0xBFB8AA3B#32 _ rfl,
   Cert.Proof.algebraic7,
   trivial,
   Cert.Proof.algebraic8,
   ⟨IdealRules.named_const.statement Cert.Kernel9Ideal.κ "log2e" .f32 0x3FB8AA3B#32 _ rfl,
    IdealRules.named_const.statement Cert.Kernel9Ideal.κ "neg_log2e" .f32 0xBFB8AA3B#32 _ rfl⟩,
   Cert.Proof.algebraic9,
   trivial,
   Cert.Proof.algebraic10,
   trivial,
   Cert.Proof.algebraic11,
   trivial,
   Cert.Proof.algebraic12,
   trivial,
   Cert.Proof.algebraic13,
   trivial,
   Cert.Proof.algebraic14,
   trivial,
   Cert.Proof.algebraic15,
   ⟨IdealRules.named_const.statement Cert.Kernel16Ideal.κ "log2e" .f32 0x3FB8AA3B#32 _ rfl,
    IdealRules.named_const.statement Cert.Kernel16Ideal.κ "neg_log2e" .f32 0xBFB8AA3B#32 _ rfl⟩,
   Cert.Proof.algebraic16⟩

end Cert.Proof

end
